-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1700) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x28x28x256 : Shape := ⟨4, ![2, 28, 28, 256]⟩
abbrev S2x14x14x256 : Shape := ⟨4, ![2, 14, 14, 256]⟩
abbrev S2x7x7x256 : Shape := ⟨4, ![2, 7, 7, 256]⟩
abbrev S4x3x3x256x256 : Shape := ⟨5, ![4, 3, 3, 256, 256]⟩
abbrev S4x256 : Shape := ⟨2, ![4, 256]⟩
abbrev S3x3x256x720 : Shape := ⟨4, ![3, 3, 256, 720]⟩
abbrev S720 : Shape := ⟨1, ![720]⟩
abbrev S3x3x256x36 : Shape := ⟨4, ![3, 3, 256, 36]⟩
abbrev S36 : Shape := ⟨1, ![36]⟩
abbrev S1800 : Shape := ⟨1, ![1800]⟩
abbrev S1800x1 : Shape := ⟨2, ![1800, 1]⟩
abbrev S512 : Shape := ⟨1, ![512]⟩
abbrev S512x1 : Shape := ⟨2, ![512, 1]⟩
abbrev S162 : Shape := ⟨1, ![162]⟩
abbrev S162x1 : Shape := ⟨2, ![162, 1]⟩
abbrev S9261x4 : Shape := ⟨2, ![9261, 4]⟩
abbrev S4x9x256x256 : Shape := ⟨4, ![4, 9, 256, 256]⟩
abbrev S9x256x720 : Shape := ⟨3, ![9, 256, 720]⟩
abbrev S9x256x36 : Shape := ⟨3, ![9, 256, 36]⟩
abbrev S1x720 : Shape := ⟨2, ![1, 720]⟩
abbrev S1x36 : Shape := ⟨2, ![1, 36]⟩
abbrev S_ : Shape := ⟨0, ![]⟩
abbrev S2x30x30x256 : Shape := ⟨4, ![2, 30, 30, 256]⟩
abbrev S1800x256 : Shape := ⟨2, ![1800, 256]⟩
abbrev S1800x720 : Shape := ⟨2, ![1800, 720]⟩
abbrev S31x256 : Shape := ⟨2, ![31, 256]⟩
abbrev S32x256 : Shape := ⟨2, ![32, 256]⟩
abbrev S1738x1 : Shape := ⟨2, ![1738, 1]⟩
abbrev S1738x256 : Shape := ⟨2, ![1738, 256]⟩
abbrev S1x1x256x256 : Shape := ⟨4, ![1, 1, 256, 256]⟩
abbrev S256x256 : Shape := ⟨2, ![256, 256]⟩
abbrev S1x256 : Shape := ⟨2, ![1, 256]⟩
abbrev S1740x256 : Shape := ⟨2, ![1740, 256]⟩
abbrev S1x256x720 : Shape := ⟨3, ![1, 256, 720]⟩
abbrev S256x720 : Shape := ⟨2, ![256, 720]⟩
abbrev S1738x720 : Shape := ⟨2, ![1738, 720]⟩
abbrev S1800x36 : Shape := ⟨2, ![1800, 36]⟩
abbrev S1x256x36 : Shape := ⟨3, ![1, 256, 36]⟩
abbrev S256x36 : Shape := ⟨2, ![256, 36]⟩
abbrev S1738x36 : Shape := ⟨2, ![1738, 36]⟩
abbrev S2x30x30x720 : Shape := ⟨4, ![2, 30, 30, 720]⟩
abbrev S2x28x28x720 : Shape := ⟨4, ![2, 28, 28, 720]⟩
abbrev S2x30x30x36 : Shape := ⟨4, ![2, 30, 30, 36]⟩
abbrev S2x28x28x36 : Shape := ⟨4, ![2, 28, 28, 36]⟩
abbrev S2x7056x80 : Shape := ⟨3, ![2, 7056, 80]⟩
abbrev S2x7056x4 : Shape := ⟨3, ![2, 7056, 4]⟩
abbrev S2x16x16x256 : Shape := ⟨4, ![2, 16, 16, 256]⟩
abbrev S512x256 : Shape := ⟨2, ![512, 256]⟩
abbrev S512x720 : Shape := ⟨2, ![512, 720]⟩
abbrev S17x256 : Shape := ⟨2, ![17, 256]⟩
abbrev S18x256 : Shape := ⟨2, ![18, 256]⟩
abbrev S478x1 : Shape := ⟨2, ![478, 1]⟩
abbrev S478x256 : Shape := ⟨2, ![478, 256]⟩
abbrev S480x256 : Shape := ⟨2, ![480, 256]⟩
abbrev S478x720 : Shape := ⟨2, ![478, 720]⟩
abbrev S512x36 : Shape := ⟨2, ![512, 36]⟩
abbrev S478x36 : Shape := ⟨2, ![478, 36]⟩
abbrev S2x16x16x720 : Shape := ⟨4, ![2, 16, 16, 720]⟩
abbrev S2x14x14x720 : Shape := ⟨4, ![2, 14, 14, 720]⟩
abbrev S2x16x16x36 : Shape := ⟨4, ![2, 16, 16, 36]⟩
abbrev S2x14x14x36 : Shape := ⟨4, ![2, 14, 14, 36]⟩
abbrev S2x1764x80 : Shape := ⟨3, ![2, 1764, 80]⟩
abbrev S2x1764x4 : Shape := ⟨3, ![2, 1764, 4]⟩
abbrev S2x9x9x256 : Shape := ⟨4, ![2, 9, 9, 256]⟩
abbrev S162x256 : Shape := ⟨2, ![162, 256]⟩
abbrev S162x720 : Shape := ⟨2, ![162, 720]⟩
abbrev S10x256 : Shape := ⟨2, ![10, 256]⟩
abbrev S142x1 : Shape := ⟨2, ![142, 1]⟩
abbrev S142x256 : Shape := ⟨2, ![142, 256]⟩
abbrev S142x720 : Shape := ⟨2, ![142, 720]⟩
abbrev S162x36 : Shape := ⟨2, ![162, 36]⟩
abbrev S142x36 : Shape := ⟨2, ![142, 36]⟩
abbrev S2x9x9x720 : Shape := ⟨4, ![2, 9, 9, 720]⟩
abbrev S2x7x7x720 : Shape := ⟨4, ![2, 7, 7, 720]⟩
abbrev S2x9x9x36 : Shape := ⟨4, ![2, 9, 9, 36]⟩
abbrev S2x7x7x36 : Shape := ⟨4, ![2, 7, 7, 36]⟩
abbrev S2x441x80 : Shape := ⟨3, ![2, 441, 80]⟩
abbrev S2x441x4 : Shape := ⟨3, ![2, 441, 4]⟩
abbrev S2x9261x80 : Shape := ⟨3, ![2, 9261, 80]⟩
abbrev S2x9261x4 : Shape := ⟨3, ![2, 9261, 4]⟩
abbrev S1x9261x4 : Shape := ⟨3, ![1, 9261, 4]⟩
abbrev S1x9261x1 : Shape := ⟨3, ![1, 9261, 1]⟩
abbrev S1x9261 : Shape := ⟨2, ![1, 9261]⟩
abbrev S2x9261x1 : Shape := ⟨3, ![2, 9261, 1]⟩
abbrev S2x9261 : Shape := ⟨2, ![2, 9261]⟩
abbrev S2x200 : Shape := ⟨2, ![2, 200]⟩
abbrev S2x200x1 : Shape := ⟨3, ![2, 200, 1]⟩
abbrev S1 : Shape := ⟨1, ![1]⟩
abbrev S1x1x1 : Shape := ⟨3, ![1, 1, 1]⟩
abbrev S2x200x4 : Shape := ⟨3, ![2, 200, 4]⟩
abbrev S2x200x5 : Shape := ⟨3, ![2, 200, 5]⟩

abbrev nBuf : Space → Nat
  | .hbm => 185
  | .vmem => 66
  | .smem => 0
  | _ => 0

abbrev hbmTy0_0 (i : Nat) : BufTy := match i % 128 with
  | 0 => ⟨S2x28x28x256, .f32⟩
  | 1 => ⟨S2x14x14x256, .f32⟩
  | 2 => ⟨S2x7x7x256, .f32⟩
  | 3 => ⟨S4x3x3x256x256, .f32⟩
  | 4 => ⟨S4x256, .f32⟩
  | 5 => ⟨S3x3x256x720, .f32⟩
  | 6 => ⟨S720, .f32⟩
  | 7 => ⟨S4x3x3x256x256, .f32⟩
  | 8 => ⟨S4x256, .f32⟩
  | 9 => ⟨S3x3x256x36, .f32⟩
  | 10 => ⟨S36, .f32⟩
  | 11 => ⟨S1800, .f32⟩
  | 12 => ⟨S1800x1, .f32⟩
  | 13 => ⟨S512, .f32⟩
  | 14 => ⟨S512x1, .f32⟩
  | 15 => ⟨S162, .f32⟩
  | 16 => ⟨S162x1, .f32⟩
  | 17 => ⟨S9261x4, .f32⟩
  | 18 => ⟨S4x9x256x256, .f32⟩
  | 19 => ⟨S4x9x256x256, .bf16⟩
  | 20 => ⟨S4x9x256x256, .f32⟩
  | 21 => ⟨S4x9x256x256, .bf16⟩
  | 22 => ⟨S9x256x720, .f32⟩
  | 23 => ⟨S9x256x720, .bf16⟩
  | 24 => ⟨S9x256x36, .f32⟩
  | 25 => ⟨S9x256x36, .bf16⟩
  | 26 => ⟨S1x720, .f32⟩
  | 27 => ⟨S1x36, .f32⟩
  | 28 => ⟨S_, .i32⟩
  | 29 => ⟨S_, .f32⟩
  | 30 => ⟨S2x30x30x256, .f32⟩
  | 31 => ⟨S1800x256, .f32⟩
  | 32 => ⟨S1800x720, .f32⟩
  | 33 => ⟨S1800x36, .f32⟩
  | 34 => ⟨S2x30x30x720, .f32⟩
  | 35 => ⟨S2x28x28x720, .f32⟩
  | 36 => ⟨S2x30x30x36, .f32⟩
  | 37 => ⟨S2x28x28x36, .f32⟩
  | 38 => ⟨S2x7056x80, .f32⟩
  | 39 => ⟨S2x7056x4, .f32⟩
  | 40 => ⟨S_, .i32⟩
  | 41 => ⟨S_, .f32⟩
  | 42 => ⟨S2x16x16x256, .f32⟩
  | 43 => ⟨S512x256, .f32⟩
  | 44 => ⟨S512x720, .f32⟩
  | 45 => ⟨S512x36, .f32⟩
  | 46 => ⟨S2x16x16x720, .f32⟩
  | 47 => ⟨S2x14x14x720, .f32⟩
  | 48 => ⟨S2x16x16x36, .f32⟩
  | 49 => ⟨S2x14x14x36, .f32⟩
  | 50 => ⟨S2x1764x80, .f32⟩
  | 51 => ⟨S2x1764x4, .f32⟩
  | 52 => ⟨S_, .i32⟩
  | 53 => ⟨S_, .f32⟩
  | 54 => ⟨S2x9x9x256, .f32⟩
  | 55 => ⟨S162x256, .f32⟩
  | 56 => ⟨S162x720, .f32⟩
  | 57 => ⟨S162x36, .f32⟩
  | 58 => ⟨S2x9x9x720, .f32⟩
  | 59 => ⟨S2x7x7x720, .f32⟩
  | 60 => ⟨S2x9x9x36, .f32⟩
  | 61 => ⟨S2x7x7x36, .f32⟩
  | 62 => ⟨S2x441x80, .f32⟩
  | 63 => ⟨S2x441x4, .f32⟩
  | 64 => ⟨S2x9261x80, .f32⟩
  | 65 => ⟨S2x9261x4, .f32⟩
  | 66 => ⟨S1x9261x4, .f32⟩
  | 67 => ⟨S1x9261x1, .f32⟩
  | 68 => ⟨S1x9261, .f32⟩
  | 69 => ⟨S1x9261x1, .f32⟩
  | 70 => ⟨S1x9261, .f32⟩
  | 71 => ⟨S1x9261, .f32⟩
  | 72 => ⟨S1x9261x1, .f32⟩
  | 73 => ⟨S1x9261, .f32⟩
  | 74 => ⟨S1x9261x1, .f32⟩
  | 75 => ⟨S1x9261, .f32⟩
  | 76 => ⟨S1x9261, .f32⟩
  | 77 => ⟨S1x9261x1, .f32⟩
  | 78 => ⟨S1x9261, .f32⟩
  | 79 => ⟨S_, .f32⟩
  | 80 => ⟨S1x9261, .f32⟩
  | 81 => ⟨S1x9261, .f32⟩
  | 82 => ⟨S1x9261, .f32⟩
  | 83 => ⟨S1x9261x1, .f32⟩
  | 84 => ⟨S1x9261, .f32⟩
  | 85 => ⟨S_, .f32⟩
  | 86 => ⟨S1x9261, .f32⟩
  | 87 => ⟨S1x9261, .f32⟩
  | 88 => ⟨S1x9261, .f32⟩
  | 89 => ⟨S2x9261x1, .f32⟩
  | 90 => ⟨S2x9261, .f32⟩
  | 91 => ⟨S2x9261x1, .f32⟩
  | 92 => ⟨S2x9261, .f32⟩
  | 93 => ⟨S2x9261x1, .f32⟩
  | 94 => ⟨S2x9261, .f32⟩
  | 95 => ⟨S2x9261x1, .f32⟩
  | 96 => ⟨S2x9261, .f32⟩
  | 97 => ⟨S2x9261, .f32⟩
  | 98 => ⟨S2x9261, .f32⟩
  | 99 => ⟨S2x9261, .f32⟩
  | 100 => ⟨S2x9261, .f32⟩
  | 101 => ⟨S2x9261, .f32⟩
  | 102 => ⟨S2x9261, .f32⟩
  | 103 => ⟨S2x9261, .f32⟩
  | 104 => ⟨S2x9261, .f32⟩
  | 105 => ⟨S_, .f32⟩
  | 106 => ⟨S_, .f32⟩
  | 107 => ⟨S_, .f32⟩
  | 108 => ⟨S2x9261, .f32⟩
  | 109 => ⟨S2x9261, .f32⟩
  | 110 => ⟨S_, .f32⟩
  | 111 => ⟨S2x9261, .f32⟩
  | 112 => ⟨S2x9261, .f32⟩
  | 113 => ⟨S2x9261, .f32⟩
  | 114 => ⟨S2x9261, .f32⟩
  | 115 => ⟨S2x9261, .f32⟩
  | 116 => ⟨S_, .f32⟩
  | 117 => ⟨S_, .f32⟩
  | 118 => ⟨S_, .f32⟩
  | 119 => ⟨S2x9261, .f32⟩
  | 120 => ⟨S2x9261, .f32⟩
  | 121 => ⟨S_, .f32⟩
  | 122 => ⟨S2x9261, .f32⟩
  | 123 => ⟨S2x9261, .f32⟩
  | 124 => ⟨S2x9261, .f32⟩
  | 125 => ⟨S2x9261, .f32⟩
  | 126 => ⟨S2x9261, .f32⟩
  | 127 => ⟨S_, .f32⟩
  | _ => ⟨S2x28x28x256, .f32⟩

abbrev hbmTy0_1 (i : Nat) : BufTy := match i % 128 with
  | 0 => ⟨S2x9261, .f32⟩
  | 1 => ⟨S2x9261, .f32⟩
  | 2 => ⟨S2x9261, .f32⟩
  | 3 => ⟨S_, .f32⟩
  | 4 => ⟨S2x9261, .f32⟩
  | 5 => ⟨S2x9261, .f32⟩
  | 6 => ⟨S2x9261, .f32⟩
  | 7 => ⟨S_, .f32⟩
  | 8 => ⟨S2x9261, .f32⟩
  | 9 => ⟨S2x9261, .f32⟩
  | 10 => ⟨S2x9261, .f32⟩
  | 11 => ⟨S_, .f32⟩
  | 12 => ⟨S2x9261, .f32⟩
  | 13 => ⟨S2x9261, .f32⟩
  | 14 => ⟨S2x9261, .f32⟩
  | 15 => ⟨S2x9261x1, .f32⟩
  | 16 => ⟨S2x9261x1, .f32⟩
  | 17 => ⟨S2x9261x1, .f32⟩
  | 18 => ⟨S2x9261x1, .f32⟩
  | 19 => ⟨S2x9261x4, .f32⟩
  | 20 => ⟨S2x9261x80, .f32⟩
  | 21 => ⟨S2x9261x80, .f32⟩
  | 22 => ⟨S_, .f32⟩
  | 23 => ⟨S2x9261x80, .f32⟩
  | 24 => ⟨S2x9261x80, .f32⟩
  | 25 => ⟨S_, .f32⟩
  | 26 => ⟨S2x9261x80, .f32⟩
  | 27 => ⟨S2x9261x80, .f32⟩
  | 28 => ⟨S_, .f32⟩
  | 29 => ⟨S2x9261, .f32⟩
  | 30 => ⟨S2x200, .f32⟩
  | 31 => ⟨S2x200, .i32⟩
  | 32 => ⟨S2x200x1, .i32⟩
  | 33 => ⟨S_, .i32⟩
  | 34 => ⟨S2x200x1, .i32⟩
  | 35 => ⟨S2x200x1, .i1⟩
  | 36 => ⟨S_, .i32⟩
  | 37 => ⟨S2x200x1, .i32⟩
  | 38 => ⟨S2x200x1, .i32⟩
  | 39 => ⟨S2x200x1, .i32⟩
  | 40 => ⟨S1, .i32⟩
  | 41 => ⟨S_, .i32⟩
  | 42 => ⟨S2x200x1, .i32⟩
  | 43 => ⟨S2x200x1, .i1⟩
  | 44 => ⟨S1x1x1, .i32⟩
  | 45 => ⟨S2x200x1, .i32⟩
  | 46 => ⟨S2x200x1, .i1⟩
  | 47 => ⟨S2x200x1, .i1⟩
  | 48 => ⟨S_, .i1⟩
  | 49 => ⟨S2x200, .i1⟩
  | 50 => ⟨S2x200x4, .f32⟩
  | 51 => ⟨S2x200x4, .i1⟩
  | 52 => ⟨S_, .f32⟩
  | 53 => ⟨S2x200x4, .f32⟩
  | 54 => ⟨S2x200x4, .f32⟩
  | 55 => ⟨S2x200x1, .f32⟩
  | 56 => ⟨S2x200x5, .f32⟩
  | _ => ⟨S2x28x28x256, .f32⟩

abbrev hbmTy (i : Nat) : BufTy := match i / 128 with
  | 0 => hbmTy0_0 i
  | 1 => hbmTy0_1 i
  | _ => ⟨S2x28x28x256, .f32⟩

abbrev bufTy : (tb : Table) → Fin (tcTables nBuf tb) → BufTy
  | .hbm, ⟨i, _⟩ => hbmTy i
  | .local _ .vmem, ⟨0, _⟩ => ⟨S1800x256, .f32⟩
  | .local _ .vmem, ⟨1, _⟩ => ⟨S4x9x256x256, .bf16⟩
  | .local _ .vmem, ⟨2, _⟩ => ⟨S4x256, .f32⟩
  | .local _ .vmem, ⟨3, _⟩ => ⟨S9x256x720, .bf16⟩
  | .local _ .vmem, ⟨4, _⟩ => ⟨S1x720, .f32⟩
  | .local _ .vmem, ⟨5, _⟩ => ⟨S1800x1, .f32⟩
  | .local _ .vmem, ⟨6, _⟩ => ⟨S1800x720, .f32⟩
  | .local _ .vmem, ⟨7, _⟩ => ⟨S1800x256, .bf16⟩
  | .local _ .vmem, ⟨8, _⟩ => ⟨S1800x256, .bf16⟩
  | .local _ .vmem, ⟨9, _⟩ => ⟨S1800x256, .bf16⟩
  | .local _ .vmem, ⟨10, _⟩ => ⟨S1800x256, .f32⟩
  | .local _ .vmem, ⟨11, _⟩ => ⟨S1800x256, .f32⟩
  | .local _ .vmem, ⟨12, _⟩ => ⟨S4x9x256x256, .bf16⟩
  | .local _ .vmem, ⟨13, _⟩ => ⟨S4x256, .f32⟩
  | .local _ .vmem, ⟨14, _⟩ => ⟨S9x256x36, .bf16⟩
  | .local _ .vmem, ⟨15, _⟩ => ⟨S1x36, .f32⟩
  | .local _ .vmem, ⟨16, _⟩ => ⟨S1800x1, .f32⟩
  | .local _ .vmem, ⟨17, _⟩ => ⟨S1800x36, .f32⟩
  | .local _ .vmem, ⟨18, _⟩ => ⟨S1800x256, .bf16⟩
  | .local _ .vmem, ⟨19, _⟩ => ⟨S1800x256, .bf16⟩
  | .local _ .vmem, ⟨20, _⟩ => ⟨S1800x256, .bf16⟩
  | .local _ .vmem, ⟨21, _⟩ => ⟨S1800x256, .f32⟩
  | .local _ .vmem, ⟨22, _⟩ => ⟨S512x256, .f32⟩
  | .local _ .vmem, ⟨23, _⟩ => ⟨S4x9x256x256, .bf16⟩
  | .local _ .vmem, ⟨24, _⟩ => ⟨S4x256, .f32⟩
  | .local _ .vmem, ⟨25, _⟩ => ⟨S9x256x720, .bf16⟩
  | .local _ .vmem, ⟨26, _⟩ => ⟨S1x720, .f32⟩
  | .local _ .vmem, ⟨27, _⟩ => ⟨S512x1, .f32⟩
  | .local _ .vmem, ⟨28, _⟩ => ⟨S512x720, .f32⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S512x256, .f32⟩
  | .local _ .vmem, ⟨33, _⟩ => ⟨S512x256, .f32⟩
  | .local _ .vmem, ⟨34, _⟩ => ⟨S4x9x256x256, .bf16⟩
  | .local _ .vmem, ⟨35, _⟩ => ⟨S4x256, .f32⟩
  | .local _ .vmem, ⟨36, _⟩ => ⟨S9x256x36, .bf16⟩
  | .local _ .vmem, ⟨37, _⟩ => ⟨S1x36, .f32⟩
  | .local _ .vmem, ⟨38, _⟩ => ⟨S512x1, .f32⟩
  | .local _ .vmem, ⟨39, _⟩ => ⟨S512x36, .f32⟩
  | .local _ .vmem, ⟨40, _⟩ => ⟨S512x256, .bf16⟩
  | .local _ .vmem, ⟨41, _⟩ => ⟨S512x256, .bf16⟩
  | .local _ .vmem, ⟨42, _⟩ => ⟨S512x256, .bf16⟩
  | .local _ .vmem, ⟨43, _⟩ => ⟨S512x256, .f32⟩
  | .local _ .vmem, ⟨44, _⟩ => ⟨S162x256, .f32⟩
  | .local _ .vmem, ⟨45, _⟩ => ⟨S4x9x256x256, .bf16⟩
  | .local _ .vmem, ⟨46, _⟩ => ⟨S4x256, .f32⟩
  | .local _ .vmem, ⟨47, _⟩ => ⟨S9x256x720, .bf16⟩
  | .local _ .vmem, ⟨48, _⟩ => ⟨S1x720, .f32⟩
  | .local _ .vmem, ⟨49, _⟩ => ⟨S162x1, .f32⟩
  | .local _ .vmem, ⟨50, _⟩ => ⟨S162x720, .f32⟩
  | .local _ .vmem, ⟨51, _⟩ => ⟨S162x256, .bf16⟩
  | .local _ .vmem, ⟨52, _⟩ => ⟨S162x256, .bf16⟩
  | .local _ .vmem, ⟨53, _⟩ => ⟨S162x256, .bf16⟩
  | .local _ .vmem, ⟨54, _⟩ => ⟨S162x256, .f32⟩
  | .local _ .vmem, ⟨55, _⟩ => ⟨S162x256, .f32⟩
  | .local _ .vmem, ⟨56, _⟩ => ⟨S4x9x256x256, .bf16⟩
  | .local _ .vmem, ⟨57, _⟩ => ⟨S4x256, .f32⟩
  | .local _ .vmem, ⟨58, _⟩ => ⟨S9x256x36, .bf16⟩
  | .local _ .vmem, ⟨59, _⟩ => ⟨S1x36, .f32⟩
  | .local _ .vmem, ⟨60, _⟩ => ⟨S162x1, .f32⟩
  | .local _ .vmem, ⟨61, _⟩ => ⟨S162x36, .f32⟩
  | .local _ .vmem, ⟨62, _⟩ => ⟨S162x256, .bf16⟩
  | .local _ .vmem, ⟨63, _⟩ => ⟨S162x256, .bf16⟩
  | .local _ .vmem, ⟨64, _⟩ => ⟨S162x256, .bf16⟩
  | .local _ .vmem, ⟨65, _⟩ => ⟨S162x256, .f32⟩
  | _, _ => ⟨S2x28x28x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_call3_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_call6_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_7 : Ref sig .tc := ⟨.hbm, 105, rfl⟩
abbrev main_cst_8 : Ref sig .tc := ⟨.hbm, 106, rfl⟩
abbrev main_call9_v0 : Ref sig .tc := ⟨.hbm, 107, rfl⟩
abbrev main_call9_v1 : Ref sig .tc := ⟨.hbm, 108, rfl⟩
abbrev main_call9_v2 : Ref sig .tc := ⟨.hbm, 109, rfl⟩
abbrev main_call9_v3 : Ref sig .tc := ⟨.hbm, 110, rfl⟩
abbrev main_call9_v4 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_9 : Ref sig .tc := ⟨.hbm, 116, rfl⟩
abbrev main_cst_10 : Ref sig .tc := ⟨.hbm, 117, rfl⟩
abbrev main_call10_v0 : Ref sig .tc := ⟨.hbm, 118, rfl⟩
abbrev main_call10_v1 : Ref sig .tc := ⟨.hbm, 119, rfl⟩
abbrev main_call10_v2 : Ref sig .tc := ⟨.hbm, 120, rfl⟩
abbrev main_call10_v3 : Ref sig .tc := ⟨.hbm, 121, rfl⟩
abbrev main_call10_v4 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_11 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_12 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_13 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_14 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_15 : Ref sig .tc := ⟨.hbm, 150, rfl⟩
abbrev main_v109 : Ref sig .tc := ⟨.hbm, 151, rfl⟩
abbrev main_v110 : Ref sig .tc := ⟨.hbm, 152, rfl⟩
abbrev main_cst_16 : Ref sig .tc := ⟨.hbm, 153, rfl⟩
abbrev main_v111 : Ref sig .tc := ⟨.hbm, 154, rfl⟩
abbrev main_v112 : Ref sig .tc := ⟨.hbm, 155, rfl⟩
abbrev main_cst_17 : Ref sig .tc := ⟨.hbm, 156, rfl⟩
abbrev main_v113 : Ref sig .tc := ⟨.hbm, 157, rfl⟩
abbrev main_values : Ref sig .tc := ⟨.hbm, 158, rfl⟩
abbrev main_indices : Ref sig .tc := ⟨.hbm, 159, rfl⟩
abbrev main_v114 : Ref sig .tc := ⟨.hbm, 160, rfl⟩
abbrev main_call11_c : Ref sig .tc := ⟨.hbm, 161, rfl⟩
abbrev main_call11_v0 : Ref sig .tc := ⟨.hbm, 162, rfl⟩
abbrev main_call11_v1 : Ref sig .tc := ⟨.hbm, 163, rfl⟩
abbrev main_call11_c_0 : Ref sig .tc := ⟨.hbm, 164, rfl⟩
abbrev main_call11_v2 : Ref sig .tc := ⟨.hbm, 165, rfl⟩
abbrev main_call11_v3 : Ref sig .tc := ⟨.hbm, 166, rfl⟩
abbrev main_call11_v4 : Ref sig .tc := ⟨.hbm, 167, rfl⟩
abbrev main_call11_c_1 : Ref sig .tc := ⟨.hbm, 168, rfl⟩
abbrev main_call11_c_2 : Ref sig .tc := ⟨.hbm, 169, rfl⟩
abbrev main_call11_v5 : Ref sig .tc := ⟨.hbm, 170, rfl⟩
abbrev main_call11_v6 : Ref sig .tc := ⟨.hbm, 171, rfl⟩
abbrev main_call11_v7 : Ref sig .tc := ⟨.hbm, 172, rfl⟩
abbrev main_call11_v8 : Ref sig .tc := ⟨.hbm, 173, rfl⟩
abbrev main_call11_v9 : Ref sig .tc := ⟨.hbm, 174, rfl⟩
abbrev main_call11_v10 : Ref sig .tc := ⟨.hbm, 175, rfl⟩
abbrev main_call11_c_3 : Ref sig .tc := ⟨.hbm, 176, rfl⟩
abbrev main_call11_v11 : Ref sig .tc := ⟨.hbm, 177, rfl⟩
abbrev main_call11_v12 : Ref sig .tc := ⟨.hbm, 178, rfl⟩
abbrev main_call11_v13 : Ref sig .tc := ⟨.hbm, 179, rfl⟩
abbrev main_call11_cst : Ref sig .tc := ⟨.hbm, 180, rfl⟩
abbrev main_call11_v14 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_scratch0 : Ref sig .tc := ⟨.vmem, 29, rfl⟩
abbrev cc2_scratch1 : Ref sig .tc := ⟨.vmem, 30, rfl⟩
abbrev cc2_scratch2 : Ref sig .tc := ⟨.vmem, 31, rfl⟩
abbrev cc2_scratch3 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_scratch0 : Ref sig .tc := ⟨.vmem, 40, rfl⟩
abbrev cc3_scratch1 : Ref sig .tc := ⟨.vmem, 41, rfl⟩
abbrev cc3_scratch2 : Ref sig .tc := ⟨.vmem, 42, rfl⟩
abbrev cc3_scratch3 : Ref sig .tc := ⟨.vmem, 43, rfl⟩
abbrev cc4_stg0_0 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_scratch0 : Ref sig .tc := ⟨.vmem, 51, rfl⟩
abbrev cc4_scratch1 : Ref sig .tc := ⟨.vmem, 52, rfl⟩
abbrev cc4_scratch2 : Ref sig .tc := ⟨.vmem, 53, rfl⟩
abbrev cc4_scratch3 : Ref sig .tc := ⟨.vmem, 54, rfl⟩
abbrev cc5_stg0_0 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_scratch0 : Ref sig .tc := ⟨.vmem, 62, rfl⟩
abbrev cc5_scratch1 : Ref sig .tc := ⟨.vmem, 63, rfl⟩
abbrev cc5_scratch2 : Ref sig .tc := ⟨.vmem, 64, rfl⟩
abbrev cc5_scratch3 : Ref sig .tc := ⟨.vmem, 65, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41

abbrev nD : Nat := 1
abbrev τ : Topo := Topo.v7x

variable {F : FTy → Type} [FloatOps F]

abbrev grid0 : Pipeline.Grid := .none

abbrev stage0_0 : Fin 1 → Memref sig .tc .vmem S1800x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x9x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x256x720 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x720 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1800x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1800x720 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S1800x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x9x256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S9x256x36 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x36 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1800x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1800x36 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := .none

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4x9x256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S9x256x720 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x720 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S512x720 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := .none

abbrev stage3_0 : Fin 1 → Memref sig .tc .vmem S512x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S4x9x256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S4x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S9x256x36 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x36 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S512x36 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev grid4 : Pipeline.Grid := .none

abbrev stage4_0 : Fin 1 → Memref sig .tc .vmem S162x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4x9x256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S4x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S9x256x720 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x720 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S162x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S162x720 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev grid5 : Pipeline.Grid := .none

abbrev stage5_0 : Fin 1 → Memref sig .tc .vmem S162x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S4x9x256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S4x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S9x256x36 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x36 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S162x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S162x36 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
-- ==== ReferenceIdeal.lean ====
abbrev S2x28x28x256 : Shape := ⟨4, ![2, 28, 28, 256]⟩
abbrev S2x14x14x256 : Shape := ⟨4, ![2, 14, 14, 256]⟩
abbrev S2x7x7x256 : Shape := ⟨4, ![2, 7, 7, 256]⟩
abbrev S4x3x3x256x256 : Shape := ⟨5, ![4, 3, 3, 256, 256]⟩
abbrev S4x256 : Shape := ⟨2, ![4, 256]⟩
abbrev S3x3x256x720 : Shape := ⟨4, ![3, 3, 256, 720]⟩
abbrev S720 : Shape := ⟨1, ![720]⟩
abbrev S3x3x256x36 : Shape := ⟨4, ![3, 3, 256, 36]⟩
abbrev S36 : Shape := ⟨1, ![36]⟩
abbrev S9261x4 : Shape := ⟨2, ![9261, 4]⟩
abbrev S1x3x3x256x256 : Shape := ⟨5, ![1, 3, 3, 256, 256]⟩
abbrev S3x3x256x256 : Shape := ⟨4, ![3, 3, 256, 256]⟩
abbrev S1x256 : Shape := ⟨2, ![1, 256]⟩
abbrev S256 : Shape := ⟨1, ![256]⟩
abbrev S_ : Shape := ⟨0, ![]⟩
abbrev S2x30x30x256 : Shape := ⟨4, ![2, 30, 30, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S2x28x28x720 : Shape := ⟨4, ![2, 28, 28, 720]⟩
abbrev S1x1x256x720 : Shape := ⟨4, ![1, 1, 256, 720]⟩
abbrev S256x720 : Shape := ⟨2, ![256, 720]⟩
abbrev S1x1x1x720 : Shape := ⟨4, ![1, 1, 1, 720]⟩
abbrev S2x28x28x36 : Shape := ⟨4, ![2, 28, 28, 36]⟩
abbrev S1x1x256x36 : Shape := ⟨4, ![1, 1, 256, 36]⟩
abbrev S256x36 : Shape := ⟨2, ![256, 36]⟩
abbrev S1x1x1x36 : Shape := ⟨4, ![1, 1, 1, 36]⟩
abbrev S2x7056x80 : Shape := ⟨3, ![2, 7056, 80]⟩
abbrev S2x7056x4 : Shape := ⟨3, ![2, 7056, 4]⟩
abbrev S2x16x16x256 : Shape := ⟨4, ![2, 16, 16, 256]⟩
abbrev S2x14x14x720 : Shape := ⟨4, ![2, 14, 14, 720]⟩
abbrev S2x14x14x36 : Shape := ⟨4, ![2, 14, 14, 36]⟩
abbrev S2x1764x80 : Shape := ⟨3, ![2, 1764, 80]⟩
abbrev S2x1764x4 : Shape := ⟨3, ![2, 1764, 4]⟩
abbrev S2x9x9x256 : Shape := ⟨4, ![2, 9, 9, 256]⟩
abbrev S2x7x7x720 : Shape := ⟨4, ![2, 7, 7, 720]⟩
abbrev S2x7x7x36 : Shape := ⟨4, ![2, 7, 7, 36]⟩
abbrev S2x441x80 : Shape := ⟨3, ![2, 441, 80]⟩
abbrev S2x441x4 : Shape := ⟨3, ![2, 441, 4]⟩
abbrev S2x9261x80 : Shape := ⟨3, ![2, 9261, 80]⟩
abbrev S2x9261x4 : Shape := ⟨3, ![2, 9261, 4]⟩
abbrev S1x9261x4 : Shape := ⟨3, ![1, 9261, 4]⟩
abbrev S1x9261x1 : Shape := ⟨3, ![1, 9261, 1]⟩
abbrev S1x9261 : Shape := ⟨2, ![1, 9261]⟩
abbrev S2x9261x1 : Shape := ⟨3, ![2, 9261, 1]⟩
abbrev S2x9261 : Shape := ⟨2, ![2, 9261]⟩
abbrev S2x200 : Shape := ⟨2, ![2, 200]⟩
abbrev S2x200x1 : Shape := ⟨3, ![2, 200, 1]⟩
abbrev S1 : Shape := ⟨1, ![1]⟩
abbrev S1x1x1 : Shape := ⟨3, ![1, 1, 1]⟩
abbrev S2x200x4 : Shape := ⟨3, ![2, 200, 4]⟩
abbrev S2x200x5 : Shape := ⟨3, ![2, 200, 5]⟩

abbrev nBuf : Space → Nat
  | .hbm => 1897
  | .vmem => 0
  | .smem => 0
  | _ => 0

abbrev hbmTy0_0 (i : Nat) : BufTy := match i % 128 with
  | 0 => ⟨S2x28x28x256, .f32⟩
  | 1 => ⟨S2x14x14x256, .f32⟩
  | 2 => ⟨S2x7x7x256, .f32⟩
  | 3 => ⟨S4x3x3x256x256, .f32⟩
  | 4 => ⟨S4x256, .f32⟩
  | 5 => ⟨S3x3x256x720, .f32⟩
  | 6 => ⟨S720, .f32⟩
  | 7 => ⟨S4x3x3x256x256, .f32⟩
  | 8 => ⟨S4x256, .f32⟩
  | 9 => ⟨S3x3x256x36, .f32⟩
  | 10 => ⟨S36, .f32⟩
  | 11 => ⟨S9261x4, .f32⟩
  | 12 => ⟨S1x3x3x256x256, .f32⟩
  | 13 => ⟨S3x3x256x256, .f32⟩
  | 14 => ⟨S1x256, .f32⟩
  | 15 => ⟨S256, .f32⟩
  | 16 => ⟨S_, .i32⟩
  | 17 => ⟨S_, .f32⟩
  | 18 => ⟨S2x30x30x256, .f32⟩
  | 19 => ⟨S_, .f32⟩
  | 20 => ⟨S2x28x28x256, .f32⟩
  | 21 => ⟨S2x28x28x256, .f32⟩
  | 22 => ⟨S1x1x256x256, .f32⟩
  | 23 => ⟨S256x256, .f32⟩
  | 24 => ⟨S2x28x28x256, .f32⟩
  | 25 => ⟨S2x28x28x256, .f32⟩
  | 26 => ⟨S2x28x28x256, .f32⟩
  | 27 => ⟨S1x1x256x256, .f32⟩
  | 28 => ⟨S256x256, .f32⟩
  | 29 => ⟨S2x28x28x256, .f32⟩
  | 30 => ⟨S2x28x28x256, .f32⟩
  | 31 => ⟨S2x28x28x256, .f32⟩
  | 32 => ⟨S1x1x256x256, .f32⟩
  | 33 => ⟨S256x256, .f32⟩
  | 34 => ⟨S2x28x28x256, .f32⟩
  | 35 => ⟨S2x28x28x256, .f32⟩
  | 36 => ⟨S2x28x28x256, .f32⟩
  | 37 => ⟨S1x1x256x256, .f32⟩
  | 38 => ⟨S256x256, .f32⟩
  | 39 => ⟨S2x28x28x256, .f32⟩
  | 40 => ⟨S2x28x28x256, .f32⟩
  | 41 => ⟨S2x28x28x256, .f32⟩
  | 42 => ⟨S1x1x256x256, .f32⟩
  | 43 => ⟨S256x256, .f32⟩
  | 44 => ⟨S2x28x28x256, .f32⟩
  | 45 => ⟨S2x28x28x256, .f32⟩
  | 46 => ⟨S2x28x28x256, .f32⟩
  | 47 => ⟨S1x1x256x256, .f32⟩
  | 48 => ⟨S256x256, .f32⟩
  | 49 => ⟨S2x28x28x256, .f32⟩
  | 50 => ⟨S2x28x28x256, .f32⟩
  | 51 => ⟨S2x28x28x256, .f32⟩
  | 52 => ⟨S1x1x256x256, .f32⟩
  | 53 => ⟨S256x256, .f32⟩
  | 54 => ⟨S2x28x28x256, .f32⟩
  | 55 => ⟨S2x28x28x256, .f32⟩
  | 56 => ⟨S2x28x28x256, .f32⟩
  | 57 => ⟨S1x1x256x256, .f32⟩
  | 58 => ⟨S256x256, .f32⟩
  | 59 => ⟨S2x28x28x256, .f32⟩
  | 60 => ⟨S2x28x28x256, .f32⟩
  | 61 => ⟨S2x28x28x256, .f32⟩
  | 62 => ⟨S1x1x256x256, .f32⟩
  | 63 => ⟨S256x256, .f32⟩
  | 64 => ⟨S2x28x28x256, .f32⟩
  | 65 => ⟨S2x28x28x256, .f32⟩
  | 66 => ⟨S1x1x1x256, .f32⟩
  | 67 => ⟨S2x28x28x256, .f32⟩
  | 68 => ⟨S2x28x28x256, .f32⟩
  | 69 => ⟨S_, .f32⟩
  | 70 => ⟨S2x28x28x256, .f32⟩
  | 71 => ⟨S2x28x28x256, .f32⟩
  | 72 => ⟨S1x3x3x256x256, .f32⟩
  | 73 => ⟨S3x3x256x256, .f32⟩
  | 74 => ⟨S1x256, .f32⟩
  | 75 => ⟨S256, .f32⟩
  | 76 => ⟨S_, .i32⟩
  | 77 => ⟨S_, .f32⟩
  | 78 => ⟨S2x30x30x256, .f32⟩
  | 79 => ⟨S_, .f32⟩
  | 80 => ⟨S2x28x28x256, .f32⟩
  | 81 => ⟨S2x28x28x256, .f32⟩
  | 82 => ⟨S1x1x256x256, .f32⟩
  | 83 => ⟨S256x256, .f32⟩
  | 84 => ⟨S2x28x28x256, .f32⟩
  | 85 => ⟨S2x28x28x256, .f32⟩
  | 86 => ⟨S2x28x28x256, .f32⟩
  | 87 => ⟨S1x1x256x256, .f32⟩
  | 88 => ⟨S256x256, .f32⟩
  | 89 => ⟨S2x28x28x256, .f32⟩
  | 90 => ⟨S2x28x28x256, .f32⟩
  | 91 => ⟨S2x28x28x256, .f32⟩
  | 92 => ⟨S1x1x256x256, .f32⟩
  | 93 => ⟨S256x256, .f32⟩
  | 94 => ⟨S2x28x28x256, .f32⟩
  | 95 => ⟨S2x28x28x256, .f32⟩
  | 96 => ⟨S2x28x28x256, .f32⟩
  | 97 => ⟨S1x1x256x256, .f32⟩
  | 98 => ⟨S256x256, .f32⟩
  | 99 => ⟨S2x28x28x256, .f32⟩
  | 100 => ⟨S2x28x28x256, .f32⟩
  | 101 => ⟨S2x28x28x256, .f32⟩
  | 102 => ⟨S1x1x256x256, .f32⟩
  | 103 => ⟨S256x256, .f32⟩
  | 104 => ⟨S2x28x28x256, .f32⟩
  | 105 => ⟨S2x28x28x256, .f32⟩
  | 106 => ⟨S2x28x28x256, .f32⟩
  | 107 => ⟨S1x1x256x256, .f32⟩
  | 108 => ⟨S256x256, .f32⟩
  | 109 => ⟨S2x28x28x256, .f32⟩
  | 110 => ⟨S2x28x28x256, .f32⟩
  | 111 => ⟨S2x28x28x256, .f32⟩
  | 112 => ⟨S1x1x256x256, .f32⟩
  | 113 => ⟨S256x256, .f32⟩
  | 114 => ⟨S2x28x28x256, .f32⟩
  | 115 => ⟨S2x28x28x256, .f32⟩
  | 116 => ⟨S2x28x28x256, .f32⟩
  | 117 => ⟨S1x1x256x256, .f32⟩
  | 118 => ⟨S256x256, .f32⟩
  | 119 => ⟨S2x28x28x256, .f32⟩
  | 120 => ⟨S2x28x28x256, .f32⟩
  | 121 => ⟨S2x28x28x256, .f32⟩
  | 122 => ⟨S1x1x256x256, .f32⟩
  | 123 => ⟨S256x256, .f32⟩
  | 124 => ⟨S2x28x28x256, .f32⟩
  | 125 => ⟨S2x28x28x256, .f32⟩
  | 126 => ⟨S1x1x1x256, .f32⟩
  | 127 => ⟨S2x28x28x256, .f32⟩
  | _ => ⟨S2x28x28x256, .f32⟩

abbrev hbmTy0_1 (i : Nat) : BufTy := match i % 128 with
  | 0 => ⟨S2x28x28x256, .f32⟩
  | 1 => ⟨S_, .f32⟩
  | 2 => ⟨S2x28x28x256, .f32⟩
  | 3 => ⟨S2x28x28x256, .f32⟩
  | 4 => ⟨S1x3x3x256x256, .f32⟩
  | 5 => ⟨S3x3x256x256, .f32⟩
  | 6 => ⟨S1x256, .f32⟩
  | 7 => ⟨S256, .f32⟩
  | 8 => ⟨S_, .i32⟩
  | 9 => ⟨S_, .f32⟩
  | 10 => ⟨S2x30x30x256, .f32⟩
  | 11 => ⟨S_, .f32⟩
  | 12 => ⟨S2x28x28x256, .f32⟩
  | 13 => ⟨S2x28x28x256, .f32⟩
  | 14 => ⟨S1x1x256x256, .f32⟩
  | 15 => ⟨S256x256, .f32⟩
  | 16 => ⟨S2x28x28x256, .f32⟩
  | 17 => ⟨S2x28x28x256, .f32⟩
  | 18 => ⟨S2x28x28x256, .f32⟩
  | 19 => ⟨S1x1x256x256, .f32⟩
  | 20 => ⟨S256x256, .f32⟩
  | 21 => ⟨S2x28x28x256, .f32⟩
  | 22 => ⟨S2x28x28x256, .f32⟩
  | 23 => ⟨S2x28x28x256, .f32⟩
  | 24 => ⟨S1x1x256x256, .f32⟩
  | 25 => ⟨S256x256, .f32⟩
  | 26 => ⟨S2x28x28x256, .f32⟩
  | 27 => ⟨S2x28x28x256, .f32⟩
  | 28 => ⟨S2x28x28x256, .f32⟩
  | 29 => ⟨S1x1x256x256, .f32⟩
  | 30 => ⟨S256x256, .f32⟩
  | 31 => ⟨S2x28x28x256, .f32⟩
  | 32 => ⟨S2x28x28x256, .f32⟩
  | 33 => ⟨S2x28x28x256, .f32⟩
  | 34 => ⟨S1x1x256x256, .f32⟩
  | 35 => ⟨S256x256, .f32⟩
  | 36 => ⟨S2x28x28x256, .f32⟩
  | 37 => ⟨S2x28x28x256, .f32⟩
  | 38 => ⟨S2x28x28x256, .f32⟩
  | 39 => ⟨S1x1x256x256, .f32⟩
  | 40 => ⟨S256x256, .f32⟩
  | 41 => ⟨S2x28x28x256, .f32⟩
  | 42 => ⟨S2x28x28x256, .f32⟩
  | 43 => ⟨S2x28x28x256, .f32⟩
  | 44 => ⟨S1x1x256x256, .f32⟩
  | 45 => ⟨S256x256, .f32⟩
  | 46 => ⟨S2x28x28x256, .f32⟩
  | 47 => ⟨S2x28x28x256, .f32⟩
  | 48 => ⟨S2x28x28x256, .f32⟩
  | 49 => ⟨S1x1x256x256, .f32⟩
  | 50 => ⟨S256x256, .f32⟩
  | 51 => ⟨S2x28x28x256, .f32⟩
  | 52 => ⟨S2x28x28x256, .f32⟩
  | 53 => ⟨S2x28x28x256, .f32⟩
  | 54 => ⟨S1x1x256x256, .f32⟩
  | 55 => ⟨S256x256, .f32⟩
  | 56 => ⟨S2x28x28x256, .f32⟩
  | 57 => ⟨S2x28x28x256, .f32⟩
  | 58 => ⟨S1x1x1x256, .f32⟩
  | 59 => ⟨S2x28x28x256, .f32⟩
  | 60 => ⟨S2x28x28x256, .f32⟩
  | 61 => ⟨S_, .f32⟩
  | 62 => ⟨S2x28x28x256, .f32⟩
  | 63 => ⟨S2x28x28x256, .f32⟩
  | 64 => ⟨S1x3x3x256x256, .f32⟩
  | 65 => ⟨S3x3x256x256, .f32⟩
  | 66 => ⟨S1x256, .f32⟩
  | 67 => ⟨S256, .f32⟩
  | 68 => ⟨S_, .i32⟩
  | 69 => ⟨S_, .f32⟩
  | 70 => ⟨S2x30x30x256, .f32⟩
  | 71 => ⟨S_, .f32⟩
  | 72 => ⟨S2x28x28x256, .f32⟩
  | 73 => ⟨S2x28x28x256, .f32⟩
  | 74 => ⟨S1x1x256x256, .f32⟩
  | 75 => ⟨S256x256, .f32⟩
  | 76 => ⟨S2x28x28x256, .f32⟩
  | 77 => ⟨S2x28x28x256, .f32⟩
  | 78 => ⟨S2x28x28x256, .f32⟩
  | 79 => ⟨S1x1x256x256, .f32⟩
  | 80 => ⟨S256x256, .f32⟩
  | 81 => ⟨S2x28x28x256, .f32⟩
  | 82 => ⟨S2x28x28x256, .f32⟩
  | 83 => ⟨S2x28x28x256, .f32⟩
  | 84 => ⟨S1x1x256x256, .f32⟩
  | 85 => ⟨S256x256, .f32⟩
  | 86 => ⟨S2x28x28x256, .f32⟩
  | 87 => ⟨S2x28x28x256, .f32⟩
  | 88 => ⟨S2x28x28x256, .f32⟩
  | 89 => ⟨S1x1x256x256, .f32⟩
  | 90 => ⟨S256x256, .f32⟩
  | 91 => ⟨S2x28x28x256, .f32⟩
  | 92 => ⟨S2x28x28x256, .f32⟩
  | 93 => ⟨S2x28x28x256, .f32⟩
  | 94 => ⟨S1x1x256x256, .f32⟩
  | 95 => ⟨S256x256, .f32⟩
  | 96 => ⟨S2x28x28x256, .f32⟩
  | 97 => ⟨S2x28x28x256, .f32⟩
  | 98 => ⟨S2x28x28x256, .f32⟩
  | 99 => ⟨S1x1x256x256, .f32⟩
  | 100 => ⟨S256x256, .f32⟩
  | 101 => ⟨S2x28x28x256, .f32⟩
  | 102 => ⟨S2x28x28x256, .f32⟩
  | 103 => ⟨S2x28x28x256, .f32⟩
  | 104 => ⟨S1x1x256x256, .f32⟩
  | 105 => ⟨S256x256, .f32⟩
  | 106 => ⟨S2x28x28x256, .f32⟩
  | 107 => ⟨S2x28x28x256, .f32⟩
  | 108 => ⟨S2x28x28x256, .f32⟩
  | 109 => ⟨S1x1x256x256, .f32⟩
  | 110 => ⟨S256x256, .f32⟩
  | 111 => ⟨S2x28x28x256, .f32⟩
  | 112 => ⟨S2x28x28x256, .f32⟩
  | 113 => ⟨S2x28x28x256, .f32⟩
  | 114 => ⟨S1x1x256x256, .f32⟩
  | 115 => ⟨S256x256, .f32⟩
  | 116 => ⟨S2x28x28x256, .f32⟩
  | 117 => ⟨S2x28x28x256, .f32⟩
  | 118 => ⟨S1x1x1x256, .f32⟩
  | 119 => ⟨S2x28x28x256, .f32⟩
  | 120 => ⟨S2x28x28x256, .f32⟩
  | 121 => ⟨S_, .f32⟩
  | 122 => ⟨S2x28x28x256, .f32⟩
  | 123 => ⟨S2x28x28x256, .f32⟩
  | 124 => ⟨S_, .i32⟩
  | 125 => ⟨S_, .f32⟩
  | 126 => ⟨S2x30x30x256, .f32⟩
  | 127 => ⟨S_, .f32⟩
  | _ => ⟨S2x28x28x256, .f32⟩

abbrev hbmTy0_2 (i : Nat) : BufTy := match i % 128 with
  | 0 => ⟨S2x28x28x720, .f32⟩
  | 1 => ⟨S2x28x28x256, .f32⟩
  | 2 => ⟨S1x1x256x720, .f32⟩
  | 3 => ⟨S256x720, .f32⟩
  | 4 => ⟨S2x28x28x720, .f32⟩
  | 5 => ⟨S2x28x28x720, .f32⟩
  | 6 => ⟨S2x28x28x256, .f32⟩
  | 7 => ⟨S1x1x256x720, .f32⟩
  | 8 => ⟨S256x720, .f32⟩
  | 9 => ⟨S2x28x28x720, .f32⟩
  | 10 => ⟨S2x28x28x720, .f32⟩
  | 11 => ⟨S2x28x28x256, .f32⟩
  | 12 => ⟨S1x1x256x720, .f32⟩
  | 13 => ⟨S256x720, .f32⟩
  | 14 => ⟨S2x28x28x720, .f32⟩
  | 15 => ⟨S2x28x28x720, .f32⟩
  | 16 => ⟨S2x28x28x256, .f32⟩
  | 17 => ⟨S1x1x256x720, .f32⟩
  | 18 => ⟨S256x720, .f32⟩
  | 19 => ⟨S2x28x28x720, .f32⟩
  | 20 => ⟨S2x28x28x720, .f32⟩
  | 21 => ⟨S2x28x28x256, .f32⟩
  | 22 => ⟨S1x1x256x720, .f32⟩
  | 23 => ⟨S256x720, .f32⟩
  | 24 => ⟨S2x28x28x720, .f32⟩
  | 25 => ⟨S2x28x28x720, .f32⟩
  | 26 => ⟨S2x28x28x256, .f32⟩
  | 27 => ⟨S1x1x256x720, .f32⟩
  | 28 => ⟨S256x720, .f32⟩
  | 29 => ⟨S2x28x28x720, .f32⟩
  | 30 => ⟨S2x28x28x720, .f32⟩
  | 31 => ⟨S2x28x28x256, .f32⟩
  | 32 => ⟨S1x1x256x720, .f32⟩
  | 33 => ⟨S256x720, .f32⟩
  | 34 => ⟨S2x28x28x720, .f32⟩
  | 35 => ⟨S2x28x28x720, .f32⟩
  | 36 => ⟨S2x28x28x256, .f32⟩
  | 37 => ⟨S1x1x256x720, .f32⟩
  | 38 => ⟨S256x720, .f32⟩
  | 39 => ⟨S2x28x28x720, .f32⟩
  | 40 => ⟨S2x28x28x720, .f32⟩
  | 41 => ⟨S2x28x28x256, .f32⟩
  | 42 => ⟨S1x1x256x720, .f32⟩
  | 43 => ⟨S256x720, .f32⟩
  | 44 => ⟨S2x28x28x720, .f32⟩
  | 45 => ⟨S2x28x28x720, .f32⟩
  | 46 => ⟨S1x1x1x720, .f32⟩
  | 47 => ⟨S2x28x28x720, .f32⟩
  | 48 => ⟨S2x28x28x720, .f32⟩
  | 49 => ⟨S1x3x3x256x256, .f32⟩
  | 50 => ⟨S3x3x256x256, .f32⟩
  | 51 => ⟨S1x256, .f32⟩
  | 52 => ⟨S256, .f32⟩
  | 53 => ⟨S_, .i32⟩
  | 54 => ⟨S_, .f32⟩
  | 55 => ⟨S2x30x30x256, .f32⟩
  | 56 => ⟨S_, .f32⟩
  | 57 => ⟨S2x28x28x256, .f32⟩
  | 58 => ⟨S2x28x28x256, .f32⟩
  | 59 => ⟨S1x1x256x256, .f32⟩
  | 60 => ⟨S256x256, .f32⟩
  | 61 => ⟨S2x28x28x256, .f32⟩
  | 62 => ⟨S2x28x28x256, .f32⟩
  | 63 => ⟨S2x28x28x256, .f32⟩
  | 64 => ⟨S1x1x256x256, .f32⟩
  | 65 => ⟨S256x256, .f32⟩
  | 66 => ⟨S2x28x28x256, .f32⟩
  | 67 => ⟨S2x28x28x256, .f32⟩
  | 68 => ⟨S2x28x28x256, .f32⟩
  | 69 => ⟨S1x1x256x256, .f32⟩
  | 70 => ⟨S256x256, .f32⟩
  | 71 => ⟨S2x28x28x256, .f32⟩
  | 72 => ⟨S2x28x28x256, .f32⟩
  | 73 => ⟨S2x28x28x256, .f32⟩
  | 74 => ⟨S1x1x256x256, .f32⟩
  | 75 => ⟨S256x256, .f32⟩
  | 76 => ⟨S2x28x28x256, .f32⟩
  | 77 => ⟨S2x28x28x256, .f32⟩
  | 78 => ⟨S2x28x28x256, .f32⟩
  | 79 => ⟨S1x1x256x256, .f32⟩
  | 80 => ⟨S256x256, .f32⟩
  | 81 => ⟨S2x28x28x256, .f32⟩
  | 82 => ⟨S2x28x28x256, .f32⟩
  | 83 => ⟨S2x28x28x256, .f32⟩
  | 84 => ⟨S1x1x256x256, .f32⟩
  | 85 => ⟨S256x256, .f32⟩
  | 86 => ⟨S2x28x28x256, .f32⟩
  | 87 => ⟨S2x28x28x256, .f32⟩
  | 88 => ⟨S2x28x28x256, .f32⟩
  | 89 => ⟨S1x1x256x256, .f32⟩
  | 90 => ⟨S256x256, .f32⟩
  | 91 => ⟨S2x28x28x256, .f32⟩
  | 92 => ⟨S2x28x28x256, .f32⟩
  | 93 => ⟨S2x28x28x256, .f32⟩
  | 94 => ⟨S1x1x256x256, .f32⟩
  | 95 => ⟨S256x256, .f32⟩
  | 96 => ⟨S2x28x28x256, .f32⟩
  | 97 => ⟨S2x28x28x256, .f32⟩
  | 98 => ⟨S2x28x28x256, .f32⟩
  | 99 => ⟨S1x1x256x256, .f32⟩
  | 100 => ⟨S256x256, .f32⟩
  | 101 => ⟨S2x28x28x256, .f32⟩
  | 102 => ⟨S2x28x28x256, .f32⟩
  | 103 => ⟨S1x1x1x256, .f32⟩
  | 104 => ⟨S2x28x28x256, .f32⟩
  | 105 => ⟨S2x28x28x256, .f32⟩
  | 106 => ⟨S_, .f32⟩
  | 107 => ⟨S2x28x28x256, .f32⟩
  | 108 => ⟨S2x28x28x256, .f32⟩
  | 109 => ⟨S1x3x3x256x256, .f32⟩
  | 110 => ⟨S3x3x256x256, .f32⟩
  | 111 => ⟨S1x256, .f32⟩
  | 112 => ⟨S256, .f32⟩
  | 113 => ⟨S_, .i32⟩
  | 114 => ⟨S_, .f32⟩
  | 115 => ⟨S2x30x30x256, .f32⟩
  | 116 => ⟨S_, .f32⟩
  | 117 => ⟨S2x28x28x256, .f32⟩
  | 118 => ⟨S2x28x28x256, .f32⟩
  | 119 => ⟨S1x1x256x256, .f32⟩
  | 120 => ⟨S256x256, .f32⟩
  | 121 => ⟨S2x28x28x256, .f32⟩
  | 122 => ⟨S2x28x28x256, .f32⟩
  | 123 => ⟨S2x28x28x256, .f32⟩
  | 124 => ⟨S1x1x256x256, .f32⟩
  | 125 => ⟨S256x256, .f32⟩
  | 126 => ⟨S2x28x28x256, .f32⟩
  | 127 => ⟨S2x28x28x256, .f32⟩
  | _ => ⟨S2x28x28x256, .f32⟩

abbrev hbmTy0_3 (i : Nat) : BufTy := match i % 128 with
  | 0 => ⟨S2x28x28x256, .f32⟩
  | 1 => ⟨S1x1x256x256, .f32⟩
  | 2 => ⟨S256x256, .f32⟩
  | 3 => ⟨S2x28x28x256, .f32⟩
  | 4 => ⟨S2x28x28x256, .f32⟩
  | 5 => ⟨S2x28x28x256, .f32⟩
  | 6 => ⟨S1x1x256x256, .f32⟩
  | 7 => ⟨S256x256, .f32⟩
  | 8 => ⟨S2x28x28x256, .f32⟩
  | 9 => ⟨S2x28x28x256, .f32⟩
  | 10 => ⟨S2x28x28x256, .f32⟩
  | 11 => ⟨S1x1x256x256, .f32⟩
  | 12 => ⟨S256x256, .f32⟩
  | 13 => ⟨S2x28x28x256, .f32⟩
  | 14 => ⟨S2x28x28x256, .f32⟩
  | 15 => ⟨S2x28x28x256, .f32⟩
  | 16 => ⟨S1x1x256x256, .f32⟩
  | 17 => ⟨S256x256, .f32⟩
  | 18 => ⟨S2x28x28x256, .f32⟩
  | 19 => ⟨S2x28x28x256, .f32⟩
  | 20 => ⟨S2x28x28x256, .f32⟩
  | 21 => ⟨S1x1x256x256, .f32⟩
  | 22 => ⟨S256x256, .f32⟩
  | 23 => ⟨S2x28x28x256, .f32⟩
  | 24 => ⟨S2x28x28x256, .f32⟩
  | 25 => ⟨S2x28x28x256, .f32⟩
  | 26 => ⟨S1x1x256x256, .f32⟩
  | 27 => ⟨S256x256, .f32⟩
  | 28 => ⟨S2x28x28x256, .f32⟩
  | 29 => ⟨S2x28x28x256, .f32⟩
  | 30 => ⟨S2x28x28x256, .f32⟩
  | 31 => ⟨S1x1x256x256, .f32⟩
  | 32 => ⟨S256x256, .f32⟩
  | 33 => ⟨S2x28x28x256, .f32⟩
  | 34 => ⟨S2x28x28x256, .f32⟩
  | 35 => ⟨S1x1x1x256, .f32⟩
  | 36 => ⟨S2x28x28x256, .f32⟩
  | 37 => ⟨S2x28x28x256, .f32⟩
  | 38 => ⟨S_, .f32⟩
  | 39 => ⟨S2x28x28x256, .f32⟩
  | 40 => ⟨S2x28x28x256, .f32⟩
  | 41 => ⟨S1x3x3x256x256, .f32⟩
  | 42 => ⟨S3x3x256x256, .f32⟩
  | 43 => ⟨S1x256, .f32⟩
  | 44 => ⟨S256, .f32⟩
  | 45 => ⟨S_, .i32⟩
  | 46 => ⟨S_, .f32⟩
  | 47 => ⟨S2x30x30x256, .f32⟩
  | 48 => ⟨S_, .f32⟩
  | 49 => ⟨S2x28x28x256, .f32⟩
  | 50 => ⟨S2x28x28x256, .f32⟩
  | 51 => ⟨S1x1x256x256, .f32⟩
  | 52 => ⟨S256x256, .f32⟩
  | 53 => ⟨S2x28x28x256, .f32⟩
  | 54 => ⟨S2x28x28x256, .f32⟩
  | 55 => ⟨S2x28x28x256, .f32⟩
  | 56 => ⟨S1x1x256x256, .f32⟩
  | 57 => ⟨S256x256, .f32⟩
  | 58 => ⟨S2x28x28x256, .f32⟩
  | 59 => ⟨S2x28x28x256, .f32⟩
  | 60 => ⟨S2x28x28x256, .f32⟩
  | 61 => ⟨S1x1x256x256, .f32⟩
  | 62 => ⟨S256x256, .f32⟩
  | 63 => ⟨S2x28x28x256, .f32⟩
  | 64 => ⟨S2x28x28x256, .f32⟩
  | 65 => ⟨S2x28x28x256, .f32⟩
  | 66 => ⟨S1x1x256x256, .f32⟩
  | 67 => ⟨S256x256, .f32⟩
  | 68 => ⟨S2x28x28x256, .f32⟩
  | 69 => ⟨S2x28x28x256, .f32⟩
  | 70 => ⟨S2x28x28x256, .f32⟩
  | 71 => ⟨S1x1x256x256, .f32⟩
  | 72 => ⟨S256x256, .f32⟩
  | 73 => ⟨S2x28x28x256, .f32⟩
  | 74 => ⟨S2x28x28x256, .f32⟩
  | 75 => ⟨S2x28x28x256, .f32⟩
  | 76 => ⟨S1x1x256x256, .f32⟩
  | 77 => ⟨S256x256, .f32⟩
  | 78 => ⟨S2x28x28x256, .f32⟩
  | 79 => ⟨S2x28x28x256, .f32⟩
  | 80 => ⟨S2x28x28x256, .f32⟩
  | 81 => ⟨S1x1x256x256, .f32⟩
  | 82 => ⟨S256x256, .f32⟩
  | 83 => ⟨S2x28x28x256, .f32⟩
  | 84 => ⟨S2x28x28x256, .f32⟩
  | 85 => ⟨S2x28x28x256, .f32⟩
  | 86 => ⟨S1x1x256x256, .f32⟩
  | 87 => ⟨S256x256, .f32⟩
  | 88 => ⟨S2x28x28x256, .f32⟩
  | 89 => ⟨S2x28x28x256, .f32⟩
  | 90 => ⟨S2x28x28x256, .f32⟩
  | 91 => ⟨S1x1x256x256, .f32⟩
  | 92 => ⟨S256x256, .f32⟩
  | 93 => ⟨S2x28x28x256, .f32⟩
  | 94 => ⟨S2x28x28x256, .f32⟩
  | 95 => ⟨S1x1x1x256, .f32⟩
  | 96 => ⟨S2x28x28x256, .f32⟩
  | 97 => ⟨S2x28x28x256, .f32⟩
  | 98 => ⟨S_, .f32⟩
  | 99 => ⟨S2x28x28x256, .f32⟩
  | 100 => ⟨S2x28x28x256, .f32⟩
  | 101 => ⟨S1x3x3x256x256, .f32⟩
  | 102 => ⟨S3x3x256x256, .f32⟩
  | 103 => ⟨S1x256, .f32⟩
  | 104 => ⟨S256, .f32⟩
  | 105 => ⟨S_, .i32⟩
  | 106 => ⟨S_, .f32⟩
  | 107 => ⟨S2x30x30x256, .f32⟩
  | 108 => ⟨S_, .f32⟩
  | 109 => ⟨S2x28x28x256, .f32⟩
  | 110 => ⟨S2x28x28x256, .f32⟩
  | 111 => ⟨S1x1x256x256, .f32⟩
  | 112 => ⟨S256x256, .f32⟩
  | 113 => ⟨S2x28x28x256, .f32⟩
  | 114 => ⟨S2x28x28x256, .f32⟩
  | 115 => ⟨S2x28x28x256, .f32⟩
  | 116 => ⟨S1x1x256x256, .f32⟩
  | 117 => ⟨S256x256, .f32⟩
  | 118 => ⟨S2x28x28x256, .f32⟩
  | 119 => ⟨S2x28x28x256, .f32⟩
  | 120 => ⟨S2x28x28x256, .f32⟩
  | 121 => ⟨S1x1x256x256, .f32⟩
  | 122 => ⟨S256x256, .f32⟩
  | 123 => ⟨S2x28x28x256, .f32⟩
  | 124 => ⟨S2x28x28x256, .f32⟩
  | 125 => ⟨S2x28x28x256, .f32⟩
  | 126 => ⟨S1x1x256x256, .f32⟩
  | 127 => ⟨S256x256, .f32⟩
  | _ => ⟨S2x28x28x256, .f32⟩

abbrev hbmTy0_4 (i : Nat) : BufTy := match i % 128 with
  | 0 => ⟨S2x28x28x256, .f32⟩
  | 1 => ⟨S2x28x28x256, .f32⟩
  | 2 => ⟨S2x28x28x256, .f32⟩
  | 3 => ⟨S1x1x256x256, .f32⟩
  | 4 => ⟨S256x256, .f32⟩
  | 5 => ⟨S2x28x28x256, .f32⟩
  | 6 => ⟨S2x28x28x256, .f32⟩
  | 7 => ⟨S2x28x28x256, .f32⟩
  | 8 => ⟨S1x1x256x256, .f32⟩
  | 9 => ⟨S256x256, .f32⟩
  | 10 => ⟨S2x28x28x256, .f32⟩
  | 11 => ⟨S2x28x28x256, .f32⟩
  | 12 => ⟨S2x28x28x256, .f32⟩
  | 13 => ⟨S1x1x256x256, .f32⟩
  | 14 => ⟨S256x256, .f32⟩
  | 15 => ⟨S2x28x28x256, .f32⟩
  | 16 => ⟨S2x28x28x256, .f32⟩
  | 17 => ⟨S2x28x28x256, .f32⟩
  | 18 => ⟨S1x1x256x256, .f32⟩
  | 19 => ⟨S256x256, .f32⟩
  | 20 => ⟨S2x28x28x256, .f32⟩
  | 21 => ⟨S2x28x28x256, .f32⟩
  | 22 => ⟨S2x28x28x256, .f32⟩
  | 23 => ⟨S1x1x256x256, .f32⟩
  | 24 => ⟨S256x256, .f32⟩
  | 25 => ⟨S2x28x28x256, .f32⟩
  | 26 => ⟨S2x28x28x256, .f32⟩
  | 27 => ⟨S1x1x1x256, .f32⟩
  | 28 => ⟨S2x28x28x256, .f32⟩
  | 29 => ⟨S2x28x28x256, .f32⟩
  | 30 => ⟨S_, .f32⟩
  | 31 => ⟨S2x28x28x256, .f32⟩
  | 32 => ⟨S2x28x28x256, .f32⟩
  | 33 => ⟨S_, .i32⟩
  | 34 => ⟨S_, .f32⟩
  | 35 => ⟨S2x30x30x256, .f32⟩
  | 36 => ⟨S_, .f32⟩
  | 37 => ⟨S2x28x28x36, .f32⟩
  | 38 => ⟨S2x28x28x256, .f32⟩
  | 39 => ⟨S1x1x256x36, .f32⟩
  | 40 => ⟨S256x36, .f32⟩
  | 41 => ⟨S2x28x28x36, .f32⟩
  | 42 => ⟨S2x28x28x36, .f32⟩
  | 43 => ⟨S2x28x28x256, .f32⟩
  | 44 => ⟨S1x1x256x36, .f32⟩
  | 45 => ⟨S256x36, .f32⟩
  | 46 => ⟨S2x28x28x36, .f32⟩
  | 47 => ⟨S2x28x28x36, .f32⟩
  | 48 => ⟨S2x28x28x256, .f32⟩
  | 49 => ⟨S1x1x256x36, .f32⟩
  | 50 => ⟨S256x36, .f32⟩
  | 51 => ⟨S2x28x28x36, .f32⟩
  | 52 => ⟨S2x28x28x36, .f32⟩
  | 53 => ⟨S2x28x28x256, .f32⟩
  | 54 => ⟨S1x1x256x36, .f32⟩
  | 55 => ⟨S256x36, .f32⟩
  | 56 => ⟨S2x28x28x36, .f32⟩
  | 57 => ⟨S2x28x28x36, .f32⟩
  | 58 => ⟨S2x28x28x256, .f32⟩
  | 59 => ⟨S1x1x256x36, .f32⟩
  | 60 => ⟨S256x36, .f32⟩
  | 61 => ⟨S2x28x28x36, .f32⟩
  | 62 => ⟨S2x28x28x36, .f32⟩
  | 63 => ⟨S2x28x28x256, .f32⟩
  | 64 => ⟨S1x1x256x36, .f32⟩
  | 65 => ⟨S256x36, .f32⟩
  | 66 => ⟨S2x28x28x36, .f32⟩
  | 67 => ⟨S2x28x28x36, .f32⟩
  | 68 => ⟨S2x28x28x256, .f32⟩
  | 69 => ⟨S1x1x256x36, .f32⟩
  | 70 => ⟨S256x36, .f32⟩
  | 71 => ⟨S2x28x28x36, .f32⟩
  | 72 => ⟨S2x28x28x36, .f32⟩
  | 73 => ⟨S2x28x28x256, .f32⟩
  | 74 => ⟨S1x1x256x36, .f32⟩
  | 75 => ⟨S256x36, .f32⟩
  | 76 => ⟨S2x28x28x36, .f32⟩
  | 77 => ⟨S2x28x28x36, .f32⟩
  | 78 => ⟨S2x28x28x256, .f32⟩
  | 79 => ⟨S1x1x256x36, .f32⟩
  | 80 => ⟨S256x36, .f32⟩
  | 81 => ⟨S2x28x28x36, .f32⟩
  | 82 => ⟨S2x28x28x36, .f32⟩
  | 83 => ⟨S1x1x1x36, .f32⟩
  | 84 => ⟨S2x28x28x36, .f32⟩
  | 85 => ⟨S2x28x28x36, .f32⟩
  | 86 => ⟨S2x7056x80, .f32⟩
  | 87 => ⟨S2x7056x4, .f32⟩
  | 88 => ⟨S1x3x3x256x256, .f32⟩
  | 89 => ⟨S3x3x256x256, .f32⟩
  | 90 => ⟨S1x256, .f32⟩
  | 91 => ⟨S256, .f32⟩
  | 92 => ⟨S_, .i32⟩
  | 93 => ⟨S_, .f32⟩
  | 94 => ⟨S2x16x16x256, .f32⟩
  | 95 => ⟨S_, .f32⟩
  | 96 => ⟨S2x14x14x256, .f32⟩
  | 97 => ⟨S2x14x14x256, .f32⟩
  | 98 => ⟨S1x1x256x256, .f32⟩
  | 99 => ⟨S256x256, .f32⟩
  | 100 => ⟨S2x14x14x256, .f32⟩
  | 101 => ⟨S2x14x14x256, .f32⟩
  | 102 => ⟨S2x14x14x256, .f32⟩
  | 103 => ⟨S1x1x256x256, .f32⟩
  | 104 => ⟨S256x256, .f32⟩
  | 105 => ⟨S2x14x14x256, .f32⟩
  | 106 => ⟨S2x14x14x256, .f32⟩
  | 107 => ⟨S2x14x14x256, .f32⟩
  | 108 => ⟨S1x1x256x256, .f32⟩
  | 109 => ⟨S256x256, .f32⟩
  | 110 => ⟨S2x14x14x256, .f32⟩
  | 111 => ⟨S2x14x14x256, .f32⟩
  | 112 => ⟨S2x14x14x256, .f32⟩
  | 113 => ⟨S1x1x256x256, .f32⟩
  | 114 => ⟨S256x256, .f32⟩
  | 115 => ⟨S2x14x14x256, .f32⟩
  | 116 => ⟨S2x14x14x256, .f32⟩
  | 117 => ⟨S2x14x14x256, .f32⟩
  | 118 => ⟨S1x1x256x256, .f32⟩
  | 119 => ⟨S256x256, .f32⟩
  | 120 => ⟨S2x14x14x256, .f32⟩
  | 121 => ⟨S2x14x14x256, .f32⟩
  | 122 => ⟨S2x14x14x256, .f32⟩
  | 123 => ⟨S1x1x256x256, .f32⟩
  | 124 => ⟨S256x256, .f32⟩
  | 125 => ⟨S2x14x14x256, .f32⟩
  | 126 => ⟨S2x14x14x256, .f32⟩
  | 127 => ⟨S2x14x14x256, .f32⟩
  | _ => ⟨S2x28x28x256, .f32⟩

abbrev hbmTy0_5 (i : Nat) : BufTy := match i % 128 with
  | 0 => ⟨S1x1x256x256, .f32⟩
  | 1 => ⟨S256x256, .f32⟩
  | 2 => ⟨S2x14x14x256, .f32⟩
  | 3 => ⟨S2x14x14x256, .f32⟩
  | 4 => ⟨S2x14x14x256, .f32⟩
  | 5 => ⟨S1x1x256x256, .f32⟩
  | 6 => ⟨S256x256, .f32⟩
  | 7 => ⟨S2x14x14x256, .f32⟩
  | 8 => ⟨S2x14x14x256, .f32⟩
  | 9 => ⟨S2x14x14x256, .f32⟩
  | 10 => ⟨S1x1x256x256, .f32⟩
  | 11 => ⟨S256x256, .f32⟩
  | 12 => ⟨S2x14x14x256, .f32⟩
  | 13 => ⟨S2x14x14x256, .f32⟩
  | 14 => ⟨S1x1x1x256, .f32⟩
  | 15 => ⟨S2x14x14x256, .f32⟩
  | 16 => ⟨S2x14x14x256, .f32⟩
  | 17 => ⟨S_, .f32⟩
  | 18 => ⟨S2x14x14x256, .f32⟩
  | 19 => ⟨S2x14x14x256, .f32⟩
  | 20 => ⟨S1x3x3x256x256, .f32⟩
  | 21 => ⟨S3x3x256x256, .f32⟩
  | 22 => ⟨S1x256, .f32⟩
  | 23 => ⟨S256, .f32⟩
  | 24 => ⟨S_, .i32⟩
  | 25 => ⟨S_, .f32⟩
  | 26 => ⟨S2x16x16x256, .f32⟩
  | 27 => ⟨S_, .f32⟩
  | 28 => ⟨S2x14x14x256, .f32⟩
  | 29 => ⟨S2x14x14x256, .f32⟩
  | 30 => ⟨S1x1x256x256, .f32⟩
  | 31 => ⟨S256x256, .f32⟩
  | 32 => ⟨S2x14x14x256, .f32⟩
  | 33 => ⟨S2x14x14x256, .f32⟩
  | 34 => ⟨S2x14x14x256, .f32⟩
  | 35 => ⟨S1x1x256x256, .f32⟩
  | 36 => ⟨S256x256, .f32⟩
  | 37 => ⟨S2x14x14x256, .f32⟩
  | 38 => ⟨S2x14x14x256, .f32⟩
  | 39 => ⟨S2x14x14x256, .f32⟩
  | 40 => ⟨S1x1x256x256, .f32⟩
  | 41 => ⟨S256x256, .f32⟩
  | 42 => ⟨S2x14x14x256, .f32⟩
  | 43 => ⟨S2x14x14x256, .f32⟩
  | 44 => ⟨S2x14x14x256, .f32⟩
  | 45 => ⟨S1x1x256x256, .f32⟩
  | 46 => ⟨S256x256, .f32⟩
  | 47 => ⟨S2x14x14x256, .f32⟩
  | 48 => ⟨S2x14x14x256, .f32⟩
  | 49 => ⟨S2x14x14x256, .f32⟩
  | 50 => ⟨S1x1x256x256, .f32⟩
  | 51 => ⟨S256x256, .f32⟩
  | 52 => ⟨S2x14x14x256, .f32⟩
  | 53 => ⟨S2x14x14x256, .f32⟩
  | 54 => ⟨S2x14x14x256, .f32⟩
  | 55 => ⟨S1x1x256x256, .f32⟩
  | 56 => ⟨S256x256, .f32⟩
  | 57 => ⟨S2x14x14x256, .f32⟩
  | 58 => ⟨S2x14x14x256, .f32⟩
  | 59 => ⟨S2x14x14x256, .f32⟩
  | 60 => ⟨S1x1x256x256, .f32⟩
  | 61 => ⟨S256x256, .f32⟩
  | 62 => ⟨S2x14x14x256, .f32⟩
  | 63 => ⟨S2x14x14x256, .f32⟩
  | 64 => ⟨S2x14x14x256, .f32⟩
  | 65 => ⟨S1x1x256x256, .f32⟩
  | 66 => ⟨S256x256, .f32⟩
  | 67 => ⟨S2x14x14x256, .f32⟩
  | 68 => ⟨S2x14x14x256, .f32⟩
  | 69 => ⟨S2x14x14x256, .f32⟩
  | 70 => ⟨S1x1x256x256, .f32⟩
  | 71 => ⟨S256x256, .f32⟩
  | 72 => ⟨S2x14x14x256, .f32⟩
  | 73 => ⟨S2x14x14x256, .f32⟩
  | 74 => ⟨S1x1x1x256, .f32⟩
  | 75 => ⟨S2x14x14x256, .f32⟩
  | 76 => ⟨S2x14x14x256, .f32⟩
  | 77 => ⟨S_, .f32⟩
  | 78 => ⟨S2x14x14x256, .f32⟩
  | 79 => ⟨S2x14x14x256, .f32⟩
  | 80 => ⟨S1x3x3x256x256, .f32⟩
  | 81 => ⟨S3x3x256x256, .f32⟩
  | 82 => ⟨S1x256, .f32⟩
  | 83 => ⟨S256, .f32⟩
  | 84 => ⟨S_, .i32⟩
  | 85 => ⟨S_, .f32⟩
  | 86 => ⟨S2x16x16x256, .f32⟩
  | 87 => ⟨S_, .f32⟩
  | 88 => ⟨S2x14x14x256, .f32⟩
  | 89 => ⟨S2x14x14x256, .f32⟩
  | 90 => ⟨S1x1x256x256, .f32⟩
  | 91 => ⟨S256x256, .f32⟩
  | 92 => ⟨S2x14x14x256, .f32⟩
  | 93 => ⟨S2x14x14x256, .f32⟩
  | 94 => ⟨S2x14x14x256, .f32⟩
  | 95 => ⟨S1x1x256x256, .f32⟩
  | 96 => ⟨S256x256, .f32⟩
  | 97 => ⟨S2x14x14x256, .f32⟩
  | 98 => ⟨S2x14x14x256, .f32⟩
  | 99 => ⟨S2x14x14x256, .f32⟩
  | 100 => ⟨S1x1x256x256, .f32⟩
  | 101 => ⟨S256x256, .f32⟩
  | 102 => ⟨S2x14x14x256, .f32⟩
  | 103 => ⟨S2x14x14x256, .f32⟩
  | 104 => ⟨S2x14x14x256, .f32⟩
  | 105 => ⟨S1x1x256x256, .f32⟩
  | 106 => ⟨S256x256, .f32⟩
  | 107 => ⟨S2x14x14x256, .f32⟩
  | 108 => ⟨S2x14x14x256, .f32⟩
  | 109 => ⟨S2x14x14x256, .f32⟩
  | 110 => ⟨S1x1x256x256, .f32⟩
  | 111 => ⟨S256x256, .f32⟩
  | 112 => ⟨S2x14x14x256, .f32⟩
  | 113 => ⟨S2x14x14x256, .f32⟩
  | 114 => ⟨S2x14x14x256, .f32⟩
  | 115 => ⟨S1x1x256x256, .f32⟩
  | 116 => ⟨S256x256, .f32⟩
  | 117 => ⟨S2x14x14x256, .f32⟩
  | 118 => ⟨S2x14x14x256, .f32⟩
  | 119 => ⟨S2x14x14x256, .f32⟩
  | 120 => ⟨S1x1x256x256, .f32⟩
  | 121 => ⟨S256x256, .f32⟩
  | 122 => ⟨S2x14x14x256, .f32⟩
  | 123 => ⟨S2x14x14x256, .f32⟩
  | 124 => ⟨S2x14x14x256, .f32⟩
  | 125 => ⟨S1x1x256x256, .f32⟩
  | 126 => ⟨S256x256, .f32⟩
  | 127 => ⟨S2x14x14x256, .f32⟩
  | _ => ⟨S2x28x28x256, .f32⟩

abbrev hbmTy0_6 (i : Nat) : BufTy := match i % 128 with
  | 0 => ⟨S2x14x14x256, .f32⟩
  | 1 => ⟨S2x14x14x256, .f32⟩
  | 2 => ⟨S1x1x256x256, .f32⟩
  | 3 => ⟨S256x256, .f32⟩
  | 4 => ⟨S2x14x14x256, .f32⟩
  | 5 => ⟨S2x14x14x256, .f32⟩
  | 6 => ⟨S1x1x1x256, .f32⟩
  | 7 => ⟨S2x14x14x256, .f32⟩
  | 8 => ⟨S2x14x14x256, .f32⟩
  | 9 => ⟨S_, .f32⟩
  | 10 => ⟨S2x14x14x256, .f32⟩
  | 11 => ⟨S2x14x14x256, .f32⟩
  | 12 => ⟨S1x3x3x256x256, .f32⟩
  | 13 => ⟨S3x3x256x256, .f32⟩
  | 14 => ⟨S1x256, .f32⟩
  | 15 => ⟨S256, .f32⟩
  | 16 => ⟨S_, .i32⟩
  | 17 => ⟨S_, .f32⟩
  | 18 => ⟨S2x16x16x256, .f32⟩
  | 19 => ⟨S_, .f32⟩
  | 20 => ⟨S2x14x14x256, .f32⟩
  | 21 => ⟨S2x14x14x256, .f32⟩
  | 22 => ⟨S1x1x256x256, .f32⟩
  | 23 => ⟨S256x256, .f32⟩
  | 24 => ⟨S2x14x14x256, .f32⟩
  | 25 => ⟨S2x14x14x256, .f32⟩
  | 26 => ⟨S2x14x14x256, .f32⟩
  | 27 => ⟨S1x1x256x256, .f32⟩
  | 28 => ⟨S256x256, .f32⟩
  | 29 => ⟨S2x14x14x256, .f32⟩
  | 30 => ⟨S2x14x14x256, .f32⟩
  | 31 => ⟨S2x14x14x256, .f32⟩
  | 32 => ⟨S1x1x256x256, .f32⟩
  | 33 => ⟨S256x256, .f32⟩
  | 34 => ⟨S2x14x14x256, .f32⟩
  | 35 => ⟨S2x14x14x256, .f32⟩
  | 36 => ⟨S2x14x14x256, .f32⟩
  | 37 => ⟨S1x1x256x256, .f32⟩
  | 38 => ⟨S256x256, .f32⟩
  | 39 => ⟨S2x14x14x256, .f32⟩
  | 40 => ⟨S2x14x14x256, .f32⟩
  | 41 => ⟨S2x14x14x256, .f32⟩
  | 42 => ⟨S1x1x256x256, .f32⟩
  | 43 => ⟨S256x256, .f32⟩
  | 44 => ⟨S2x14x14x256, .f32⟩
  | 45 => ⟨S2x14x14x256, .f32⟩
  | 46 => ⟨S2x14x14x256, .f32⟩
  | 47 => ⟨S1x1x256x256, .f32⟩
  | 48 => ⟨S256x256, .f32⟩
  | 49 => ⟨S2x14x14x256, .f32⟩
  | 50 => ⟨S2x14x14x256, .f32⟩
  | 51 => ⟨S2x14x14x256, .f32⟩
  | 52 => ⟨S1x1x256x256, .f32⟩
  | 53 => ⟨S256x256, .f32⟩
  | 54 => ⟨S2x14x14x256, .f32⟩
  | 55 => ⟨S2x14x14x256, .f32⟩
  | 56 => ⟨S2x14x14x256, .f32⟩
  | 57 => ⟨S1x1x256x256, .f32⟩
  | 58 => ⟨S256x256, .f32⟩
  | 59 => ⟨S2x14x14x256, .f32⟩
  | 60 => ⟨S2x14x14x256, .f32⟩
  | 61 => ⟨S2x14x14x256, .f32⟩
  | 62 => ⟨S1x1x256x256, .f32⟩
  | 63 => ⟨S256x256, .f32⟩
  | 64 => ⟨S2x14x14x256, .f32⟩
  | 65 => ⟨S2x14x14x256, .f32⟩
  | 66 => ⟨S1x1x1x256, .f32⟩
  | 67 => ⟨S2x14x14x256, .f32⟩
  | 68 => ⟨S2x14x14x256, .f32⟩
  | 69 => ⟨S_, .f32⟩
  | 70 => ⟨S2x14x14x256, .f32⟩
  | 71 => ⟨S2x14x14x256, .f32⟩
  | 72 => ⟨S_, .i32⟩
  | 73 => ⟨S_, .f32⟩
  | 74 => ⟨S2x16x16x256, .f32⟩
  | 75 => ⟨S_, .f32⟩
  | 76 => ⟨S2x14x14x720, .f32⟩
  | 77 => ⟨S2x14x14x256, .f32⟩
  | 78 => ⟨S1x1x256x720, .f32⟩
  | 79 => ⟨S256x720, .f32⟩
  | 80 => ⟨S2x14x14x720, .f32⟩
  | 81 => ⟨S2x14x14x720, .f32⟩
  | 82 => ⟨S2x14x14x256, .f32⟩
  | 83 => ⟨S1x1x256x720, .f32⟩
  | 84 => ⟨S256x720, .f32⟩
  | 85 => ⟨S2x14x14x720, .f32⟩
  | 86 => ⟨S2x14x14x720, .f32⟩
  | 87 => ⟨S2x14x14x256, .f32⟩
  | 88 => ⟨S1x1x256x720, .f32⟩
  | 89 => ⟨S256x720, .f32⟩
  | 90 => ⟨S2x14x14x720, .f32⟩
  | 91 => ⟨S2x14x14x720, .f32⟩
  | 92 => ⟨S2x14x14x256, .f32⟩
  | 93 => ⟨S1x1x256x720, .f32⟩
  | 94 => ⟨S256x720, .f32⟩
  | 95 => ⟨S2x14x14x720, .f32⟩
  | 96 => ⟨S2x14x14x720, .f32⟩
  | 97 => ⟨S2x14x14x256, .f32⟩
  | 98 => ⟨S1x1x256x720, .f32⟩
  | 99 => ⟨S256x720, .f32⟩
  | 100 => ⟨S2x14x14x720, .f32⟩
  | 101 => ⟨S2x14x14x720, .f32⟩
  | 102 => ⟨S2x14x14x256, .f32⟩
  | 103 => ⟨S1x1x256x720, .f32⟩
  | 104 => ⟨S256x720, .f32⟩
  | 105 => ⟨S2x14x14x720, .f32⟩
  | 106 => ⟨S2x14x14x720, .f32⟩
  | 107 => ⟨S2x14x14x256, .f32⟩
  | 108 => ⟨S1x1x256x720, .f32⟩
  | 109 => ⟨S256x720, .f32⟩
  | 110 => ⟨S2x14x14x720, .f32⟩
  | 111 => ⟨S2x14x14x720, .f32⟩
  | 112 => ⟨S2x14x14x256, .f32⟩
  | 113 => ⟨S1x1x256x720, .f32⟩
  | 114 => ⟨S256x720, .f32⟩
  | 115 => ⟨S2x14x14x720, .f32⟩
  | 116 => ⟨S2x14x14x720, .f32⟩
  | 117 => ⟨S2x14x14x256, .f32⟩
  | 118 => ⟨S1x1x256x720, .f32⟩
  | 119 => ⟨S256x720, .f32⟩
  | 120 => ⟨S2x14x14x720, .f32⟩
  | 121 => ⟨S2x14x14x720, .f32⟩
  | 122 => ⟨S1x1x1x720, .f32⟩
  | 123 => ⟨S2x14x14x720, .f32⟩
  | 124 => ⟨S2x14x14x720, .f32⟩
  | 125 => ⟨S1x3x3x256x256, .f32⟩
  | 126 => ⟨S3x3x256x256, .f32⟩
  | 127 => ⟨S1x256, .f32⟩
  | _ => ⟨S2x28x28x256, .f32⟩

abbrev hbmTy0_7 (i : Nat) : BufTy := match i % 128 with
  | 0 => ⟨S256, .f32⟩
  | 1 => ⟨S_, .i32⟩
  | 2 => ⟨S_, .f32⟩
  | 3 => ⟨S2x16x16x256, .f32⟩
  | 4 => ⟨S_, .f32⟩
  | 5 => ⟨S2x14x14x256, .f32⟩
  | 6 => ⟨S2x14x14x256, .f32⟩
  | 7 => ⟨S1x1x256x256, .f32⟩
  | 8 => ⟨S256x256, .f32⟩
  | 9 => ⟨S2x14x14x256, .f32⟩
  | 10 => ⟨S2x14x14x256, .f32⟩
  | 11 => ⟨S2x14x14x256, .f32⟩
  | 12 => ⟨S1x1x256x256, .f32⟩
  | 13 => ⟨S256x256, .f32⟩
  | 14 => ⟨S2x14x14x256, .f32⟩
  | 15 => ⟨S2x14x14x256, .f32⟩
  | 16 => ⟨S2x14x14x256, .f32⟩
  | 17 => ⟨S1x1x256x256, .f32⟩
  | 18 => ⟨S256x256, .f32⟩
  | 19 => ⟨S2x14x14x256, .f32⟩
  | 20 => ⟨S2x14x14x256, .f32⟩
  | 21 => ⟨S2x14x14x256, .f32⟩
  | 22 => ⟨S1x1x256x256, .f32⟩
  | 23 => ⟨S256x256, .f32⟩
  | 24 => ⟨S2x14x14x256, .f32⟩
  | 25 => ⟨S2x14x14x256, .f32⟩
  | 26 => ⟨S2x14x14x256, .f32⟩
  | 27 => ⟨S1x1x256x256, .f32⟩
  | 28 => ⟨S256x256, .f32⟩
  | 29 => ⟨S2x14x14x256, .f32⟩
  | 30 => ⟨S2x14x14x256, .f32⟩
  | 31 => ⟨S2x14x14x256, .f32⟩
  | 32 => ⟨S1x1x256x256, .f32⟩
  | 33 => ⟨S256x256, .f32⟩
  | 34 => ⟨S2x14x14x256, .f32⟩
  | 35 => ⟨S2x14x14x256, .f32⟩
  | 36 => ⟨S2x14x14x256, .f32⟩
  | 37 => ⟨S1x1x256x256, .f32⟩
  | 38 => ⟨S256x256, .f32⟩
  | 39 => ⟨S2x14x14x256, .f32⟩
  | 40 => ⟨S2x14x14x256, .f32⟩
  | 41 => ⟨S2x14x14x256, .f32⟩
  | 42 => ⟨S1x1x256x256, .f32⟩
  | 43 => ⟨S256x256, .f32⟩
  | 44 => ⟨S2x14x14x256, .f32⟩
  | 45 => ⟨S2x14x14x256, .f32⟩
  | 46 => ⟨S2x14x14x256, .f32⟩
  | 47 => ⟨S1x1x256x256, .f32⟩
  | 48 => ⟨S256x256, .f32⟩
  | 49 => ⟨S2x14x14x256, .f32⟩
  | 50 => ⟨S2x14x14x256, .f32⟩
  | 51 => ⟨S1x1x1x256, .f32⟩
  | 52 => ⟨S2x14x14x256, .f32⟩
  | 53 => ⟨S2x14x14x256, .f32⟩
  | 54 => ⟨S_, .f32⟩
  | 55 => ⟨S2x14x14x256, .f32⟩
  | 56 => ⟨S2x14x14x256, .f32⟩
  | 57 => ⟨S1x3x3x256x256, .f32⟩
  | 58 => ⟨S3x3x256x256, .f32⟩
  | 59 => ⟨S1x256, .f32⟩
  | 60 => ⟨S256, .f32⟩
  | 61 => ⟨S_, .i32⟩
  | 62 => ⟨S_, .f32⟩
  | 63 => ⟨S2x16x16x256, .f32⟩
  | 64 => ⟨S_, .f32⟩
  | 65 => ⟨S2x14x14x256, .f32⟩
  | 66 => ⟨S2x14x14x256, .f32⟩
  | 67 => ⟨S1x1x256x256, .f32⟩
  | 68 => ⟨S256x256, .f32⟩
  | 69 => ⟨S2x14x14x256, .f32⟩
  | 70 => ⟨S2x14x14x256, .f32⟩
  | 71 => ⟨S2x14x14x256, .f32⟩
  | 72 => ⟨S1x1x256x256, .f32⟩
  | 73 => ⟨S256x256, .f32⟩
  | 74 => ⟨S2x14x14x256, .f32⟩
  | 75 => ⟨S2x14x14x256, .f32⟩
  | 76 => ⟨S2x14x14x256, .f32⟩
  | 77 => ⟨S1x1x256x256, .f32⟩
  | 78 => ⟨S256x256, .f32⟩
  | 79 => ⟨S2x14x14x256, .f32⟩
  | 80 => ⟨S2x14x14x256, .f32⟩
  | 81 => ⟨S2x14x14x256, .f32⟩
  | 82 => ⟨S1x1x256x256, .f32⟩
  | 83 => ⟨S256x256, .f32⟩
  | 84 => ⟨S2x14x14x256, .f32⟩
  | 85 => ⟨S2x14x14x256, .f32⟩
  | 86 => ⟨S2x14x14x256, .f32⟩
  | 87 => ⟨S1x1x256x256, .f32⟩
  | 88 => ⟨S256x256, .f32⟩
  | 89 => ⟨S2x14x14x256, .f32⟩
  | 90 => ⟨S2x14x14x256, .f32⟩
  | 91 => ⟨S2x14x14x256, .f32⟩
  | 92 => ⟨S1x1x256x256, .f32⟩
  | 93 => ⟨S256x256, .f32⟩
  | 94 => ⟨S2x14x14x256, .f32⟩
  | 95 => ⟨S2x14x14x256, .f32⟩
  | 96 => ⟨S2x14x14x256, .f32⟩
  | 97 => ⟨S1x1x256x256, .f32⟩
  | 98 => ⟨S256x256, .f32⟩
  | 99 => ⟨S2x14x14x256, .f32⟩
  | 100 => ⟨S2x14x14x256, .f32⟩
  | 101 => ⟨S2x14x14x256, .f32⟩
  | 102 => ⟨S1x1x256x256, .f32⟩
  | 103 => ⟨S256x256, .f32⟩
  | 104 => ⟨S2x14x14x256, .f32⟩
  | 105 => ⟨S2x14x14x256, .f32⟩
  | 106 => ⟨S2x14x14x256, .f32⟩
  | 107 => ⟨S1x1x256x256, .f32⟩
  | 108 => ⟨S256x256, .f32⟩
  | 109 => ⟨S2x14x14x256, .f32⟩
  | 110 => ⟨S2x14x14x256, .f32⟩
  | 111 => ⟨S1x1x1x256, .f32⟩
  | 112 => ⟨S2x14x14x256, .f32⟩
  | 113 => ⟨S2x14x14x256, .f32⟩
  | 114 => ⟨S_, .f32⟩
  | 115 => ⟨S2x14x14x256, .f32⟩
  | 116 => ⟨S2x14x14x256, .f32⟩
  | 117 => ⟨S1x3x3x256x256, .f32⟩
  | 118 => ⟨S3x3x256x256, .f32⟩
  | 119 => ⟨S1x256, .f32⟩
  | 120 => ⟨S256, .f32⟩
  | 121 => ⟨S_, .i32⟩
  | 122 => ⟨S_, .f32⟩
  | 123 => ⟨S2x16x16x256, .f32⟩
  | 124 => ⟨S_, .f32⟩
  | 125 => ⟨S2x14x14x256, .f32⟩
  | 126 => ⟨S2x14x14x256, .f32⟩
  | 127 => ⟨S1x1x256x256, .f32⟩
  | _ => ⟨S2x28x28x256, .f32⟩

abbrev hbmTy0_8 (i : Nat) : BufTy := match i % 128 with
  | 0 => ⟨S256x256, .f32⟩
  | 1 => ⟨S2x14x14x256, .f32⟩
  | 2 => ⟨S2x14x14x256, .f32⟩
  | 3 => ⟨S2x14x14x256, .f32⟩
  | 4 => ⟨S1x1x256x256, .f32⟩
  | 5 => ⟨S256x256, .f32⟩
  | 6 => ⟨S2x14x14x256, .f32⟩
  | 7 => ⟨S2x14x14x256, .f32⟩
  | 8 => ⟨S2x14x14x256, .f32⟩
  | 9 => ⟨S1x1x256x256, .f32⟩
  | 10 => ⟨S256x256, .f32⟩
  | 11 => ⟨S2x14x14x256, .f32⟩
  | 12 => ⟨S2x14x14x256, .f32⟩
  | 13 => ⟨S2x14x14x256, .f32⟩
  | 14 => ⟨S1x1x256x256, .f32⟩
  | 15 => ⟨S256x256, .f32⟩
  | 16 => ⟨S2x14x14x256, .f32⟩
  | 17 => ⟨S2x14x14x256, .f32⟩
  | 18 => ⟨S2x14x14x256, .f32⟩
  | 19 => ⟨S1x1x256x256, .f32⟩
  | 20 => ⟨S256x256, .f32⟩
  | 21 => ⟨S2x14x14x256, .f32⟩
  | 22 => ⟨S2x14x14x256, .f32⟩
  | 23 => ⟨S2x14x14x256, .f32⟩
  | 24 => ⟨S1x1x256x256, .f32⟩
  | 25 => ⟨S256x256, .f32⟩
  | 26 => ⟨S2x14x14x256, .f32⟩
  | 27 => ⟨S2x14x14x256, .f32⟩
  | 28 => ⟨S2x14x14x256, .f32⟩
  | 29 => ⟨S1x1x256x256, .f32⟩
  | 30 => ⟨S256x256, .f32⟩
  | 31 => ⟨S2x14x14x256, .f32⟩
  | 32 => ⟨S2x14x14x256, .f32⟩
  | 33 => ⟨S2x14x14x256, .f32⟩
  | 34 => ⟨S1x1x256x256, .f32⟩
  | 35 => ⟨S256x256, .f32⟩
  | 36 => ⟨S2x14x14x256, .f32⟩
  | 37 => ⟨S2x14x14x256, .f32⟩
  | 38 => ⟨S2x14x14x256, .f32⟩
  | 39 => ⟨S1x1x256x256, .f32⟩
  | 40 => ⟨S256x256, .f32⟩
  | 41 => ⟨S2x14x14x256, .f32⟩
  | 42 => ⟨S2x14x14x256, .f32⟩
  | 43 => ⟨S1x1x1x256, .f32⟩
  | 44 => ⟨S2x14x14x256, .f32⟩
  | 45 => ⟨S2x14x14x256, .f32⟩
  | 46 => ⟨S_, .f32⟩
  | 47 => ⟨S2x14x14x256, .f32⟩
  | 48 => ⟨S2x14x14x256, .f32⟩
  | 49 => ⟨S1x3x3x256x256, .f32⟩
  | 50 => ⟨S3x3x256x256, .f32⟩
  | 51 => ⟨S1x256, .f32⟩
  | 52 => ⟨S256, .f32⟩
  | 53 => ⟨S_, .i32⟩
  | 54 => ⟨S_, .f32⟩
  | 55 => ⟨S2x16x16x256, .f32⟩
  | 56 => ⟨S_, .f32⟩
  | 57 => ⟨S2x14x14x256, .f32⟩
  | 58 => ⟨S2x14x14x256, .f32⟩
  | 59 => ⟨S1x1x256x256, .f32⟩
  | 60 => ⟨S256x256, .f32⟩
  | 61 => ⟨S2x14x14x256, .f32⟩
  | 62 => ⟨S2x14x14x256, .f32⟩
  | 63 => ⟨S2x14x14x256, .f32⟩
  | 64 => ⟨S1x1x256x256, .f32⟩
  | 65 => ⟨S256x256, .f32⟩
  | 66 => ⟨S2x14x14x256, .f32⟩
  | 67 => ⟨S2x14x14x256, .f32⟩
  | 68 => ⟨S2x14x14x256, .f32⟩
  | 69 => ⟨S1x1x256x256, .f32⟩
  | 70 => ⟨S256x256, .f32⟩
  | 71 => ⟨S2x14x14x256, .f32⟩
  | 72 => ⟨S2x14x14x256, .f32⟩
  | 73 => ⟨S2x14x14x256, .f32⟩
  | 74 => ⟨S1x1x256x256, .f32⟩
  | 75 => ⟨S256x256, .f32⟩
  | 76 => ⟨S2x14x14x256, .f32⟩
  | 77 => ⟨S2x14x14x256, .f32⟩
  | 78 => ⟨S2x14x14x256, .f32⟩
  | 79 => ⟨S1x1x256x256, .f32⟩
  | 80 => ⟨S256x256, .f32⟩
  | 81 => ⟨S2x14x14x256, .f32⟩
  | 82 => ⟨S2x14x14x256, .f32⟩
  | 83 => ⟨S2x14x14x256, .f32⟩
  | 84 => ⟨S1x1x256x256, .f32⟩
  | 85 => ⟨S256x256, .f32⟩
  | 86 => ⟨S2x14x14x256, .f32⟩
  | 87 => ⟨S2x14x14x256, .f32⟩
  | 88 => ⟨S2x14x14x256, .f32⟩
  | 89 => ⟨S1x1x256x256, .f32⟩
  | 90 => ⟨S256x256, .f32⟩
  | 91 => ⟨S2x14x14x256, .f32⟩
  | 92 => ⟨S2x14x14x256, .f32⟩
  | 93 => ⟨S2x14x14x256, .f32⟩
  | 94 => ⟨S1x1x256x256, .f32⟩
  | 95 => ⟨S256x256, .f32⟩
  | 96 => ⟨S2x14x14x256, .f32⟩
  | 97 => ⟨S2x14x14x256, .f32⟩
  | 98 => ⟨S2x14x14x256, .f32⟩
  | 99 => ⟨S1x1x256x256, .f32⟩
  | 100 => ⟨S256x256, .f32⟩
  | 101 => ⟨S2x14x14x256, .f32⟩
  | 102 => ⟨S2x14x14x256, .f32⟩
  | 103 => ⟨S1x1x1x256, .f32⟩
  | 104 => ⟨S2x14x14x256, .f32⟩
  | 105 => ⟨S2x14x14x256, .f32⟩
  | 106 => ⟨S_, .f32⟩
  | 107 => ⟨S2x14x14x256, .f32⟩
  | 108 => ⟨S2x14x14x256, .f32⟩
  | 109 => ⟨S_, .i32⟩
  | 110 => ⟨S_, .f32⟩
  | 111 => ⟨S2x16x16x256, .f32⟩
  | 112 => ⟨S_, .f32⟩
  | 113 => ⟨S2x14x14x36, .f32⟩
  | 114 => ⟨S2x14x14x256, .f32⟩
  | 115 => ⟨S1x1x256x36, .f32⟩
  | 116 => ⟨S256x36, .f32⟩
  | 117 => ⟨S2x14x14x36, .f32⟩
  | 118 => ⟨S2x14x14x36, .f32⟩
  | 119 => ⟨S2x14x14x256, .f32⟩
  | 120 => ⟨S1x1x256x36, .f32⟩
  | 121 => ⟨S256x36, .f32⟩
  | 122 => ⟨S2x14x14x36, .f32⟩
  | 123 => ⟨S2x14x14x36, .f32⟩
  | 124 => ⟨S2x14x14x256, .f32⟩
  | 125 => ⟨S1x1x256x36, .f32⟩
  | 126 => ⟨S256x36, .f32⟩
  | 127 => ⟨S2x14x14x36, .f32⟩
  | _ => ⟨S2x28x28x256, .f32⟩

abbrev hbmTy0_9 (i : Nat) : BufTy := match i % 128 with
  | 0 => ⟨S2x14x14x36, .f32⟩
  | 1 => ⟨S2x14x14x256, .f32⟩
  | 2 => ⟨S1x1x256x36, .f32⟩
  | 3 => ⟨S256x36, .f32⟩
  | 4 => ⟨S2x14x14x36, .f32⟩
  | 5 => ⟨S2x14x14x36, .f32⟩
  | 6 => ⟨S2x14x14x256, .f32⟩
  | 7 => ⟨S1x1x256x36, .f32⟩
  | 8 => ⟨S256x36, .f32⟩
  | 9 => ⟨S2x14x14x36, .f32⟩
  | 10 => ⟨S2x14x14x36, .f32⟩
  | 11 => ⟨S2x14x14x256, .f32⟩
  | 12 => ⟨S1x1x256x36, .f32⟩
  | 13 => ⟨S256x36, .f32⟩
  | 14 => ⟨S2x14x14x36, .f32⟩
  | 15 => ⟨S2x14x14x36, .f32⟩
  | 16 => ⟨S2x14x14x256, .f32⟩
  | 17 => ⟨S1x1x256x36, .f32⟩
  | 18 => ⟨S256x36, .f32⟩
  | 19 => ⟨S2x14x14x36, .f32⟩
  | 20 => ⟨S2x14x14x36, .f32⟩
  | 21 => ⟨S2x14x14x256, .f32⟩
  | 22 => ⟨S1x1x256x36, .f32⟩
  | 23 => ⟨S256x36, .f32⟩
  | 24 => ⟨S2x14x14x36, .f32⟩
  | 25 => ⟨S2x14x14x36, .f32⟩
  | 26 => ⟨S2x14x14x256, .f32⟩
  | 27 => ⟨S1x1x256x36, .f32⟩
  | 28 => ⟨S256x36, .f32⟩
  | 29 => ⟨S2x14x14x36, .f32⟩
  | 30 => ⟨S2x14x14x36, .f32⟩
  | 31 => ⟨S1x1x1x36, .f32⟩
  | 32 => ⟨S2x14x14x36, .f32⟩
  | 33 => ⟨S2x14x14x36, .f32⟩
  | 34 => ⟨S2x1764x80, .f32⟩
  | 35 => ⟨S2x1764x4, .f32⟩
  | 36 => ⟨S1x3x3x256x256, .f32⟩
  | 37 => ⟨S3x3x256x256, .f32⟩
  | 38 => ⟨S1x256, .f32⟩
  | 39 => ⟨S256, .f32⟩
  | 40 => ⟨S_, .i32⟩
  | 41 => ⟨S_, .f32⟩
  | 42 => ⟨S2x9x9x256, .f32⟩
  | 43 => ⟨S_, .f32⟩
  | 44 => ⟨S2x7x7x256, .f32⟩
  | 45 => ⟨S2x7x7x256, .f32⟩
  | 46 => ⟨S1x1x256x256, .f32⟩
  | 47 => ⟨S256x256, .f32⟩
  | 48 => ⟨S2x7x7x256, .f32⟩
  | 49 => ⟨S2x7x7x256, .f32⟩
  | 50 => ⟨S2x7x7x256, .f32⟩
  | 51 => ⟨S1x1x256x256, .f32⟩
  | 52 => ⟨S256x256, .f32⟩
  | 53 => ⟨S2x7x7x256, .f32⟩
  | 54 => ⟨S2x7x7x256, .f32⟩
  | 55 => ⟨S2x7x7x256, .f32⟩
  | 56 => ⟨S1x1x256x256, .f32⟩
  | 57 => ⟨S256x256, .f32⟩
  | 58 => ⟨S2x7x7x256, .f32⟩
  | 59 => ⟨S2x7x7x256, .f32⟩
  | 60 => ⟨S2x7x7x256, .f32⟩
  | 61 => ⟨S1x1x256x256, .f32⟩
  | 62 => ⟨S256x256, .f32⟩
  | 63 => ⟨S2x7x7x256, .f32⟩
  | 64 => ⟨S2x7x7x256, .f32⟩
  | 65 => ⟨S2x7x7x256, .f32⟩
  | 66 => ⟨S1x1x256x256, .f32⟩
  | 67 => ⟨S256x256, .f32⟩
  | 68 => ⟨S2x7x7x256, .f32⟩
  | 69 => ⟨S2x7x7x256, .f32⟩
  | 70 => ⟨S2x7x7x256, .f32⟩
  | 71 => ⟨S1x1x256x256, .f32⟩
  | 72 => ⟨S256x256, .f32⟩
  | 73 => ⟨S2x7x7x256, .f32⟩
  | 74 => ⟨S2x7x7x256, .f32⟩
  | 75 => ⟨S2x7x7x256, .f32⟩
  | 76 => ⟨S1x1x256x256, .f32⟩
  | 77 => ⟨S256x256, .f32⟩
  | 78 => ⟨S2x7x7x256, .f32⟩
  | 79 => ⟨S2x7x7x256, .f32⟩
  | 80 => ⟨S2x7x7x256, .f32⟩
  | 81 => ⟨S1x1x256x256, .f32⟩
  | 82 => ⟨S256x256, .f32⟩
  | 83 => ⟨S2x7x7x256, .f32⟩
  | 84 => ⟨S2x7x7x256, .f32⟩
  | 85 => ⟨S2x7x7x256, .f32⟩
  | 86 => ⟨S1x1x256x256, .f32⟩
  | 87 => ⟨S256x256, .f32⟩
  | 88 => ⟨S2x7x7x256, .f32⟩
  | 89 => ⟨S2x7x7x256, .f32⟩
  | 90 => ⟨S1x1x1x256, .f32⟩
  | 91 => ⟨S2x7x7x256, .f32⟩
  | 92 => ⟨S2x7x7x256, .f32⟩
  | 93 => ⟨S_, .f32⟩
  | 94 => ⟨S2x7x7x256, .f32⟩
  | 95 => ⟨S2x7x7x256, .f32⟩
  | 96 => ⟨S1x3x3x256x256, .f32⟩
  | 97 => ⟨S3x3x256x256, .f32⟩
  | 98 => ⟨S1x256, .f32⟩
  | 99 => ⟨S256, .f32⟩
  | 100 => ⟨S_, .i32⟩
  | 101 => ⟨S_, .f32⟩
  | 102 => ⟨S2x9x9x256, .f32⟩
  | 103 => ⟨S_, .f32⟩
  | 104 => ⟨S2x7x7x256, .f32⟩
  | 105 => ⟨S2x7x7x256, .f32⟩
  | 106 => ⟨S1x1x256x256, .f32⟩
  | 107 => ⟨S256x256, .f32⟩
  | 108 => ⟨S2x7x7x256, .f32⟩
  | 109 => ⟨S2x7x7x256, .f32⟩
  | 110 => ⟨S2x7x7x256, .f32⟩
  | 111 => ⟨S1x1x256x256, .f32⟩
  | 112 => ⟨S256x256, .f32⟩
  | 113 => ⟨S2x7x7x256, .f32⟩
  | 114 => ⟨S2x7x7x256, .f32⟩
  | 115 => ⟨S2x7x7x256, .f32⟩
  | 116 => ⟨S1x1x256x256, .f32⟩
  | 117 => ⟨S256x256, .f32⟩
  | 118 => ⟨S2x7x7x256, .f32⟩
  | 119 => ⟨S2x7x7x256, .f32⟩
  | 120 => ⟨S2x7x7x256, .f32⟩
  | 121 => ⟨S1x1x256x256, .f32⟩
  | 122 => ⟨S256x256, .f32⟩
  | 123 => ⟨S2x7x7x256, .f32⟩
  | 124 => ⟨S2x7x7x256, .f32⟩
  | 125 => ⟨S2x7x7x256, .f32⟩
  | 126 => ⟨S1x1x256x256, .f32⟩
  | 127 => ⟨S256x256, .f32⟩
  | _ => ⟨S2x28x28x256, .f32⟩

abbrev hbmTy0_10 (i : Nat) : BufTy := match i % 128 with
  | 0 => ⟨S2x7x7x256, .f32⟩
  | 1 => ⟨S2x7x7x256, .f32⟩
  | 2 => ⟨S2x7x7x256, .f32⟩
  | 3 => ⟨S1x1x256x256, .f32⟩
  | 4 => ⟨S256x256, .f32⟩
  | 5 => ⟨S2x7x7x256, .f32⟩
  | 6 => ⟨S2x7x7x256, .f32⟩
  | 7 => ⟨S2x7x7x256, .f32⟩
  | 8 => ⟨S1x1x256x256, .f32⟩
  | 9 => ⟨S256x256, .f32⟩
  | 10 => ⟨S2x7x7x256, .f32⟩
  | 11 => ⟨S2x7x7x256, .f32⟩
  | 12 => ⟨S2x7x7x256, .f32⟩
  | 13 => ⟨S1x1x256x256, .f32⟩
  | 14 => ⟨S256x256, .f32⟩
  | 15 => ⟨S2x7x7x256, .f32⟩
  | 16 => ⟨S2x7x7x256, .f32⟩
  | 17 => ⟨S2x7x7x256, .f32⟩
  | 18 => ⟨S1x1x256x256, .f32⟩
  | 19 => ⟨S256x256, .f32⟩
  | 20 => ⟨S2x7x7x256, .f32⟩
  | 21 => ⟨S2x7x7x256, .f32⟩
  | 22 => ⟨S1x1x1x256, .f32⟩
  | 23 => ⟨S2x7x7x256, .f32⟩
  | 24 => ⟨S2x7x7x256, .f32⟩
  | 25 => ⟨S_, .f32⟩
  | 26 => ⟨S2x7x7x256, .f32⟩
  | 27 => ⟨S2x7x7x256, .f32⟩
  | 28 => ⟨S1x3x3x256x256, .f32⟩
  | 29 => ⟨S3x3x256x256, .f32⟩
  | 30 => ⟨S1x256, .f32⟩
  | 31 => ⟨S256, .f32⟩
  | 32 => ⟨S_, .i32⟩
  | 33 => ⟨S_, .f32⟩
  | 34 => ⟨S2x9x9x256, .f32⟩
  | 35 => ⟨S_, .f32⟩
  | 36 => ⟨S2x7x7x256, .f32⟩
  | 37 => ⟨S2x7x7x256, .f32⟩
  | 38 => ⟨S1x1x256x256, .f32⟩
  | 39 => ⟨S256x256, .f32⟩
  | 40 => ⟨S2x7x7x256, .f32⟩
  | 41 => ⟨S2x7x7x256, .f32⟩
  | 42 => ⟨S2x7x7x256, .f32⟩
  | 43 => ⟨S1x1x256x256, .f32⟩
  | 44 => ⟨S256x256, .f32⟩
  | 45 => ⟨S2x7x7x256, .f32⟩
  | 46 => ⟨S2x7x7x256, .f32⟩
  | 47 => ⟨S2x7x7x256, .f32⟩
  | 48 => ⟨S1x1x256x256, .f32⟩
  | 49 => ⟨S256x256, .f32⟩
  | 50 => ⟨S2x7x7x256, .f32⟩
  | 51 => ⟨S2x7x7x256, .f32⟩
  | 52 => ⟨S2x7x7x256, .f32⟩
  | 53 => ⟨S1x1x256x256, .f32⟩
  | 54 => ⟨S256x256, .f32⟩
  | 55 => ⟨S2x7x7x256, .f32⟩
  | 56 => ⟨S2x7x7x256, .f32⟩
  | 57 => ⟨S2x7x7x256, .f32⟩
  | 58 => ⟨S1x1x256x256, .f32⟩
  | 59 => ⟨S256x256, .f32⟩
  | 60 => ⟨S2x7x7x256, .f32⟩
  | 61 => ⟨S2x7x7x256, .f32⟩
  | 62 => ⟨S2x7x7x256, .f32⟩
  | 63 => ⟨S1x1x256x256, .f32⟩
  | 64 => ⟨S256x256, .f32⟩
  | 65 => ⟨S2x7x7x256, .f32⟩
  | 66 => ⟨S2x7x7x256, .f32⟩
  | 67 => ⟨S2x7x7x256, .f32⟩
  | 68 => ⟨S1x1x256x256, .f32⟩
  | 69 => ⟨S256x256, .f32⟩
  | 70 => ⟨S2x7x7x256, .f32⟩
  | 71 => ⟨S2x7x7x256, .f32⟩
  | 72 => ⟨S2x7x7x256, .f32⟩
  | 73 => ⟨S1x1x256x256, .f32⟩
  | 74 => ⟨S256x256, .f32⟩
  | 75 => ⟨S2x7x7x256, .f32⟩
  | 76 => ⟨S2x7x7x256, .f32⟩
  | 77 => ⟨S2x7x7x256, .f32⟩
  | 78 => ⟨S1x1x256x256, .f32⟩
  | 79 => ⟨S256x256, .f32⟩
  | 80 => ⟨S2x7x7x256, .f32⟩
  | 81 => ⟨S2x7x7x256, .f32⟩
  | 82 => ⟨S1x1x1x256, .f32⟩
  | 83 => ⟨S2x7x7x256, .f32⟩
  | 84 => ⟨S2x7x7x256, .f32⟩
  | 85 => ⟨S_, .f32⟩
  | 86 => ⟨S2x7x7x256, .f32⟩
  | 87 => ⟨S2x7x7x256, .f32⟩
  | 88 => ⟨S1x3x3x256x256, .f32⟩
  | 89 => ⟨S3x3x256x256, .f32⟩
  | 90 => ⟨S1x256, .f32⟩
  | 91 => ⟨S256, .f32⟩
  | 92 => ⟨S_, .i32⟩
  | 93 => ⟨S_, .f32⟩
  | 94 => ⟨S2x9x9x256, .f32⟩
  | 95 => ⟨S_, .f32⟩
  | 96 => ⟨S2x7x7x256, .f32⟩
  | 97 => ⟨S2x7x7x256, .f32⟩
  | 98 => ⟨S1x1x256x256, .f32⟩
  | 99 => ⟨S256x256, .f32⟩
  | 100 => ⟨S2x7x7x256, .f32⟩
  | 101 => ⟨S2x7x7x256, .f32⟩
  | 102 => ⟨S2x7x7x256, .f32⟩
  | 103 => ⟨S1x1x256x256, .f32⟩
  | 104 => ⟨S256x256, .f32⟩
  | 105 => ⟨S2x7x7x256, .f32⟩
  | 106 => ⟨S2x7x7x256, .f32⟩
  | 107 => ⟨S2x7x7x256, .f32⟩
  | 108 => ⟨S1x1x256x256, .f32⟩
  | 109 => ⟨S256x256, .f32⟩
  | 110 => ⟨S2x7x7x256, .f32⟩
  | 111 => ⟨S2x7x7x256, .f32⟩
  | 112 => ⟨S2x7x7x256, .f32⟩
  | 113 => ⟨S1x1x256x256, .f32⟩
  | 114 => ⟨S256x256, .f32⟩
  | 115 => ⟨S2x7x7x256, .f32⟩
  | 116 => ⟨S2x7x7x256, .f32⟩
  | 117 => ⟨S2x7x7x256, .f32⟩
  | 118 => ⟨S1x1x256x256, .f32⟩
  | 119 => ⟨S256x256, .f32⟩
  | 120 => ⟨S2x7x7x256, .f32⟩
  | 121 => ⟨S2x7x7x256, .f32⟩
  | 122 => ⟨S2x7x7x256, .f32⟩
  | 123 => ⟨S1x1x256x256, .f32⟩
  | 124 => ⟨S256x256, .f32⟩
  | 125 => ⟨S2x7x7x256, .f32⟩
  | 126 => ⟨S2x7x7x256, .f32⟩
  | 127 => ⟨S2x7x7x256, .f32⟩
  | _ => ⟨S2x28x28x256, .f32⟩

abbrev hbmTy0_11 (i : Nat) : BufTy := match i % 128 with
  | 0 => ⟨S1x1x256x256, .f32⟩
  | 1 => ⟨S256x256, .f32⟩
  | 2 => ⟨S2x7x7x256, .f32⟩
  | 3 => ⟨S2x7x7x256, .f32⟩
  | 4 => ⟨S2x7x7x256, .f32⟩
  | 5 => ⟨S1x1x256x256, .f32⟩
  | 6 => ⟨S256x256, .f32⟩
  | 7 => ⟨S2x7x7x256, .f32⟩
  | 8 => ⟨S2x7x7x256, .f32⟩
  | 9 => ⟨S2x7x7x256, .f32⟩
  | 10 => ⟨S1x1x256x256, .f32⟩
  | 11 => ⟨S256x256, .f32⟩
  | 12 => ⟨S2x7x7x256, .f32⟩
  | 13 => ⟨S2x7x7x256, .f32⟩
  | 14 => ⟨S1x1x1x256, .f32⟩
  | 15 => ⟨S2x7x7x256, .f32⟩
  | 16 => ⟨S2x7x7x256, .f32⟩
  | 17 => ⟨S_, .f32⟩
  | 18 => ⟨S2x7x7x256, .f32⟩
  | 19 => ⟨S2x7x7x256, .f32⟩
  | 20 => ⟨S_, .i32⟩
  | 21 => ⟨S_, .f32⟩
  | 22 => ⟨S2x9x9x256, .f32⟩
  | 23 => ⟨S_, .f32⟩
  | 24 => ⟨S2x7x7x720, .f32⟩
  | 25 => ⟨S2x7x7x256, .f32⟩
  | 26 => ⟨S1x1x256x720, .f32⟩
  | 27 => ⟨S256x720, .f32⟩
  | 28 => ⟨S2x7x7x720, .f32⟩
  | 29 => ⟨S2x7x7x720, .f32⟩
  | 30 => ⟨S2x7x7x256, .f32⟩
  | 31 => ⟨S1x1x256x720, .f32⟩
  | 32 => ⟨S256x720, .f32⟩
  | 33 => ⟨S2x7x7x720, .f32⟩
  | 34 => ⟨S2x7x7x720, .f32⟩
  | 35 => ⟨S2x7x7x256, .f32⟩
  | 36 => ⟨S1x1x256x720, .f32⟩
  | 37 => ⟨S256x720, .f32⟩
  | 38 => ⟨S2x7x7x720, .f32⟩
  | 39 => ⟨S2x7x7x720, .f32⟩
  | 40 => ⟨S2x7x7x256, .f32⟩
  | 41 => ⟨S1x1x256x720, .f32⟩
  | 42 => ⟨S256x720, .f32⟩
  | 43 => ⟨S2x7x7x720, .f32⟩
  | 44 => ⟨S2x7x7x720, .f32⟩
  | 45 => ⟨S2x7x7x256, .f32⟩
  | 46 => ⟨S1x1x256x720, .f32⟩
  | 47 => ⟨S256x720, .f32⟩
  | 48 => ⟨S2x7x7x720, .f32⟩
  | 49 => ⟨S2x7x7x720, .f32⟩
  | 50 => ⟨S2x7x7x256, .f32⟩
  | 51 => ⟨S1x1x256x720, .f32⟩
  | 52 => ⟨S256x720, .f32⟩
  | 53 => ⟨S2x7x7x720, .f32⟩
  | 54 => ⟨S2x7x7x720, .f32⟩
  | 55 => ⟨S2x7x7x256, .f32⟩
  | 56 => ⟨S1x1x256x720, .f32⟩
  | 57 => ⟨S256x720, .f32⟩
  | 58 => ⟨S2x7x7x720, .f32⟩
  | 59 => ⟨S2x7x7x720, .f32⟩
  | 60 => ⟨S2x7x7x256, .f32⟩
  | 61 => ⟨S1x1x256x720, .f32⟩
  | 62 => ⟨S256x720, .f32⟩
  | 63 => ⟨S2x7x7x720, .f32⟩
  | 64 => ⟨S2x7x7x720, .f32⟩
  | 65 => ⟨S2x7x7x256, .f32⟩
  | 66 => ⟨S1x1x256x720, .f32⟩
  | 67 => ⟨S256x720, .f32⟩
  | 68 => ⟨S2x7x7x720, .f32⟩
  | 69 => ⟨S2x7x7x720, .f32⟩
  | 70 => ⟨S1x1x1x720, .f32⟩
  | 71 => ⟨S2x7x7x720, .f32⟩
  | 72 => ⟨S2x7x7x720, .f32⟩
  | 73 => ⟨S1x3x3x256x256, .f32⟩
  | 74 => ⟨S3x3x256x256, .f32⟩
  | 75 => ⟨S1x256, .f32⟩
  | 76 => ⟨S256, .f32⟩
  | 77 => ⟨S_, .i32⟩
  | 78 => ⟨S_, .f32⟩
  | 79 => ⟨S2x9x9x256, .f32⟩
  | 80 => ⟨S_, .f32⟩
  | 81 => ⟨S2x7x7x256, .f32⟩
  | 82 => ⟨S2x7x7x256, .f32⟩
  | 83 => ⟨S1x1x256x256, .f32⟩
  | 84 => ⟨S256x256, .f32⟩
  | 85 => ⟨S2x7x7x256, .f32⟩
  | 86 => ⟨S2x7x7x256, .f32⟩
  | 87 => ⟨S2x7x7x256, .f32⟩
  | 88 => ⟨S1x1x256x256, .f32⟩
  | 89 => ⟨S256x256, .f32⟩
  | 90 => ⟨S2x7x7x256, .f32⟩
  | 91 => ⟨S2x7x7x256, .f32⟩
  | 92 => ⟨S2x7x7x256, .f32⟩
  | 93 => ⟨S1x1x256x256, .f32⟩
  | 94 => ⟨S256x256, .f32⟩
  | 95 => ⟨S2x7x7x256, .f32⟩
  | 96 => ⟨S2x7x7x256, .f32⟩
  | 97 => ⟨S2x7x7x256, .f32⟩
  | 98 => ⟨S1x1x256x256, .f32⟩
  | 99 => ⟨S256x256, .f32⟩
  | 100 => ⟨S2x7x7x256, .f32⟩
  | 101 => ⟨S2x7x7x256, .f32⟩
  | 102 => ⟨S2x7x7x256, .f32⟩
  | 103 => ⟨S1x1x256x256, .f32⟩
  | 104 => ⟨S256x256, .f32⟩
  | 105 => ⟨S2x7x7x256, .f32⟩
  | 106 => ⟨S2x7x7x256, .f32⟩
  | 107 => ⟨S2x7x7x256, .f32⟩
  | 108 => ⟨S1x1x256x256, .f32⟩
  | 109 => ⟨S256x256, .f32⟩
  | 110 => ⟨S2x7x7x256, .f32⟩
  | 111 => ⟨S2x7x7x256, .f32⟩
  | 112 => ⟨S2x7x7x256, .f32⟩
  | 113 => ⟨S1x1x256x256, .f32⟩
  | 114 => ⟨S256x256, .f32⟩
  | 115 => ⟨S2x7x7x256, .f32⟩
  | 116 => ⟨S2x7x7x256, .f32⟩
  | 117 => ⟨S2x7x7x256, .f32⟩
  | 118 => ⟨S1x1x256x256, .f32⟩
  | 119 => ⟨S256x256, .f32⟩
  | 120 => ⟨S2x7x7x256, .f32⟩
  | 121 => ⟨S2x7x7x256, .f32⟩
  | 122 => ⟨S2x7x7x256, .f32⟩
  | 123 => ⟨S1x1x256x256, .f32⟩
  | 124 => ⟨S256x256, .f32⟩
  | 125 => ⟨S2x7x7x256, .f32⟩
  | 126 => ⟨S2x7x7x256, .f32⟩
  | 127 => ⟨S1x1x1x256, .f32⟩
  | _ => ⟨S2x28x28x256, .f32⟩

abbrev hbmTy0_12 (i : Nat) : BufTy := match i % 128 with
  | 0 => ⟨S2x7x7x256, .f32⟩
  | 1 => ⟨S2x7x7x256, .f32⟩
  | 2 => ⟨S_, .f32⟩
  | 3 => ⟨S2x7x7x256, .f32⟩
  | 4 => ⟨S2x7x7x256, .f32⟩
  | 5 => ⟨S1x3x3x256x256, .f32⟩
  | 6 => ⟨S3x3x256x256, .f32⟩
  | 7 => ⟨S1x256, .f32⟩
  | 8 => ⟨S256, .f32⟩
  | 9 => ⟨S_, .i32⟩
  | 10 => ⟨S_, .f32⟩
  | 11 => ⟨S2x9x9x256, .f32⟩
  | 12 => ⟨S_, .f32⟩
  | 13 => ⟨S2x7x7x256, .f32⟩
  | 14 => ⟨S2x7x7x256, .f32⟩
  | 15 => ⟨S1x1x256x256, .f32⟩
  | 16 => ⟨S256x256, .f32⟩
  | 17 => ⟨S2x7x7x256, .f32⟩
  | 18 => ⟨S2x7x7x256, .f32⟩
  | 19 => ⟨S2x7x7x256, .f32⟩
  | 20 => ⟨S1x1x256x256, .f32⟩
  | 21 => ⟨S256x256, .f32⟩
  | 22 => ⟨S2x7x7x256, .f32⟩
  | 23 => ⟨S2x7x7x256, .f32⟩
  | 24 => ⟨S2x7x7x256, .f32⟩
  | 25 => ⟨S1x1x256x256, .f32⟩
  | 26 => ⟨S256x256, .f32⟩
  | 27 => ⟨S2x7x7x256, .f32⟩
  | 28 => ⟨S2x7x7x256, .f32⟩
  | 29 => ⟨S2x7x7x256, .f32⟩
  | 30 => ⟨S1x1x256x256, .f32⟩
  | 31 => ⟨S256x256, .f32⟩
  | 32 => ⟨S2x7x7x256, .f32⟩
  | 33 => ⟨S2x7x7x256, .f32⟩
  | 34 => ⟨S2x7x7x256, .f32⟩
  | 35 => ⟨S1x1x256x256, .f32⟩
  | 36 => ⟨S256x256, .f32⟩
  | 37 => ⟨S2x7x7x256, .f32⟩
  | 38 => ⟨S2x7x7x256, .f32⟩
  | 39 => ⟨S2x7x7x256, .f32⟩
  | 40 => ⟨S1x1x256x256, .f32⟩
  | 41 => ⟨S256x256, .f32⟩
  | 42 => ⟨S2x7x7x256, .f32⟩
  | 43 => ⟨S2x7x7x256, .f32⟩
  | 44 => ⟨S2x7x7x256, .f32⟩
  | 45 => ⟨S1x1x256x256, .f32⟩
  | 46 => ⟨S256x256, .f32⟩
  | 47 => ⟨S2x7x7x256, .f32⟩
  | 48 => ⟨S2x7x7x256, .f32⟩
  | 49 => ⟨S2x7x7x256, .f32⟩
  | 50 => ⟨S1x1x256x256, .f32⟩
  | 51 => ⟨S256x256, .f32⟩
  | 52 => ⟨S2x7x7x256, .f32⟩
  | 53 => ⟨S2x7x7x256, .f32⟩
  | 54 => ⟨S2x7x7x256, .f32⟩
  | 55 => ⟨S1x1x256x256, .f32⟩
  | 56 => ⟨S256x256, .f32⟩
  | 57 => ⟨S2x7x7x256, .f32⟩
  | 58 => ⟨S2x7x7x256, .f32⟩
  | 59 => ⟨S1x1x1x256, .f32⟩
  | 60 => ⟨S2x7x7x256, .f32⟩
  | 61 => ⟨S2x7x7x256, .f32⟩
  | 62 => ⟨S_, .f32⟩
  | 63 => ⟨S2x7x7x256, .f32⟩
  | 64 => ⟨S2x7x7x256, .f32⟩
  | 65 => ⟨S1x3x3x256x256, .f32⟩
  | 66 => ⟨S3x3x256x256, .f32⟩
  | 67 => ⟨S1x256, .f32⟩
  | 68 => ⟨S256, .f32⟩
  | 69 => ⟨S_, .i32⟩
  | 70 => ⟨S_, .f32⟩
  | 71 => ⟨S2x9x9x256, .f32⟩
  | 72 => ⟨S_, .f32⟩
  | 73 => ⟨S2x7x7x256, .f32⟩
  | 74 => ⟨S2x7x7x256, .f32⟩
  | 75 => ⟨S1x1x256x256, .f32⟩
  | 76 => ⟨S256x256, .f32⟩
  | 77 => ⟨S2x7x7x256, .f32⟩
  | 78 => ⟨S2x7x7x256, .f32⟩
  | 79 => ⟨S2x7x7x256, .f32⟩
  | 80 => ⟨S1x1x256x256, .f32⟩
  | 81 => ⟨S256x256, .f32⟩
  | 82 => ⟨S2x7x7x256, .f32⟩
  | 83 => ⟨S2x7x7x256, .f32⟩
  | 84 => ⟨S2x7x7x256, .f32⟩
  | 85 => ⟨S1x1x256x256, .f32⟩
  | 86 => ⟨S256x256, .f32⟩
  | 87 => ⟨S2x7x7x256, .f32⟩
  | 88 => ⟨S2x7x7x256, .f32⟩
  | 89 => ⟨S2x7x7x256, .f32⟩
  | 90 => ⟨S1x1x256x256, .f32⟩
  | 91 => ⟨S256x256, .f32⟩
  | 92 => ⟨S2x7x7x256, .f32⟩
  | 93 => ⟨S2x7x7x256, .f32⟩
  | 94 => ⟨S2x7x7x256, .f32⟩
  | 95 => ⟨S1x1x256x256, .f32⟩
  | 96 => ⟨S256x256, .f32⟩
  | 97 => ⟨S2x7x7x256, .f32⟩
  | 98 => ⟨S2x7x7x256, .f32⟩
  | 99 => ⟨S2x7x7x256, .f32⟩
  | 100 => ⟨S1x1x256x256, .f32⟩
  | 101 => ⟨S256x256, .f32⟩
  | 102 => ⟨S2x7x7x256, .f32⟩
  | 103 => ⟨S2x7x7x256, .f32⟩
  | 104 => ⟨S2x7x7x256, .f32⟩
  | 105 => ⟨S1x1x256x256, .f32⟩
  | 106 => ⟨S256x256, .f32⟩
  | 107 => ⟨S2x7x7x256, .f32⟩
  | 108 => ⟨S2x7x7x256, .f32⟩
  | 109 => ⟨S2x7x7x256, .f32⟩
  | 110 => ⟨S1x1x256x256, .f32⟩
  | 111 => ⟨S256x256, .f32⟩
  | 112 => ⟨S2x7x7x256, .f32⟩
  | 113 => ⟨S2x7x7x256, .f32⟩
  | 114 => ⟨S2x7x7x256, .f32⟩
  | 115 => ⟨S1x1x256x256, .f32⟩
  | 116 => ⟨S256x256, .f32⟩
  | 117 => ⟨S2x7x7x256, .f32⟩
  | 118 => ⟨S2x7x7x256, .f32⟩
  | 119 => ⟨S1x1x1x256, .f32⟩
  | 120 => ⟨S2x7x7x256, .f32⟩
  | 121 => ⟨S2x7x7x256, .f32⟩
  | 122 => ⟨S_, .f32⟩
  | 123 => ⟨S2x7x7x256, .f32⟩
  | 124 => ⟨S2x7x7x256, .f32⟩
  | 125 => ⟨S1x3x3x256x256, .f32⟩
  | 126 => ⟨S3x3x256x256, .f32⟩
  | 127 => ⟨S1x256, .f32⟩
  | _ => ⟨S2x28x28x256, .f32⟩

abbrev hbmTy0_13 (i : Nat) : BufTy := match i % 128 with
  | 0 => ⟨S256, .f32⟩
  | 1 => ⟨S_, .i32⟩
  | 2 => ⟨S_, .f32⟩
  | 3 => ⟨S2x9x9x256, .f32⟩
  | 4 => ⟨S_, .f32⟩
  | 5 => ⟨S2x7x7x256, .f32⟩
  | 6 => ⟨S2x7x7x256, .f32⟩
  | 7 => ⟨S1x1x256x256, .f32⟩
  | 8 => ⟨S256x256, .f32⟩
  | 9 => ⟨S2x7x7x256, .f32⟩
  | 10 => ⟨S2x7x7x256, .f32⟩
  | 11 => ⟨S2x7x7x256, .f32⟩
  | 12 => ⟨S1x1x256x256, .f32⟩
  | 13 => ⟨S256x256, .f32⟩
  | 14 => ⟨S2x7x7x256, .f32⟩
  | 15 => ⟨S2x7x7x256, .f32⟩
  | 16 => ⟨S2x7x7x256, .f32⟩
  | 17 => ⟨S1x1x256x256, .f32⟩
  | 18 => ⟨S256x256, .f32⟩
  | 19 => ⟨S2x7x7x256, .f32⟩
  | 20 => ⟨S2x7x7x256, .f32⟩
  | 21 => ⟨S2x7x7x256, .f32⟩
  | 22 => ⟨S1x1x256x256, .f32⟩
  | 23 => ⟨S256x256, .f32⟩
  | 24 => ⟨S2x7x7x256, .f32⟩
  | 25 => ⟨S2x7x7x256, .f32⟩
  | 26 => ⟨S2x7x7x256, .f32⟩
  | 27 => ⟨S1x1x256x256, .f32⟩
  | 28 => ⟨S256x256, .f32⟩
  | 29 => ⟨S2x7x7x256, .f32⟩
  | 30 => ⟨S2x7x7x256, .f32⟩
  | 31 => ⟨S2x7x7x256, .f32⟩
  | 32 => ⟨S1x1x256x256, .f32⟩
  | 33 => ⟨S256x256, .f32⟩
  | 34 => ⟨S2x7x7x256, .f32⟩
  | 35 => ⟨S2x7x7x256, .f32⟩
  | 36 => ⟨S2x7x7x256, .f32⟩
  | 37 => ⟨S1x1x256x256, .f32⟩
  | 38 => ⟨S256x256, .f32⟩
  | 39 => ⟨S2x7x7x256, .f32⟩
  | 40 => ⟨S2x7x7x256, .f32⟩
  | 41 => ⟨S2x7x7x256, .f32⟩
  | 42 => ⟨S1x1x256x256, .f32⟩
  | 43 => ⟨S256x256, .f32⟩
  | 44 => ⟨S2x7x7x256, .f32⟩
  | 45 => ⟨S2x7x7x256, .f32⟩
  | 46 => ⟨S2x7x7x256, .f32⟩
  | 47 => ⟨S1x1x256x256, .f32⟩
  | 48 => ⟨S256x256, .f32⟩
  | 49 => ⟨S2x7x7x256, .f32⟩
  | 50 => ⟨S2x7x7x256, .f32⟩
  | 51 => ⟨S1x1x1x256, .f32⟩
  | 52 => ⟨S2x7x7x256, .f32⟩
  | 53 => ⟨S2x7x7x256, .f32⟩
  | 54 => ⟨S_, .f32⟩
  | 55 => ⟨S2x7x7x256, .f32⟩
  | 56 => ⟨S2x7x7x256, .f32⟩
  | 57 => ⟨S_, .i32⟩
  | 58 => ⟨S_, .f32⟩
  | 59 => ⟨S2x9x9x256, .f32⟩
  | 60 => ⟨S_, .f32⟩
  | 61 => ⟨S2x7x7x36, .f32⟩
  | 62 => ⟨S2x7x7x256, .f32⟩
  | 63 => ⟨S1x1x256x36, .f32⟩
  | 64 => ⟨S256x36, .f32⟩
  | 65 => ⟨S2x7x7x36, .f32⟩
  | 66 => ⟨S2x7x7x36, .f32⟩
  | 67 => ⟨S2x7x7x256, .f32⟩
  | 68 => ⟨S1x1x256x36, .f32⟩
  | 69 => ⟨S256x36, .f32⟩
  | 70 => ⟨S2x7x7x36, .f32⟩
  | 71 => ⟨S2x7x7x36, .f32⟩
  | 72 => ⟨S2x7x7x256, .f32⟩
  | 73 => ⟨S1x1x256x36, .f32⟩
  | 74 => ⟨S256x36, .f32⟩
  | 75 => ⟨S2x7x7x36, .f32⟩
  | 76 => ⟨S2x7x7x36, .f32⟩
  | 77 => ⟨S2x7x7x256, .f32⟩
  | 78 => ⟨S1x1x256x36, .f32⟩
  | 79 => ⟨S256x36, .f32⟩
  | 80 => ⟨S2x7x7x36, .f32⟩
  | 81 => ⟨S2x7x7x36, .f32⟩
  | 82 => ⟨S2x7x7x256, .f32⟩
  | 83 => ⟨S1x1x256x36, .f32⟩
  | 84 => ⟨S256x36, .f32⟩
  | 85 => ⟨S2x7x7x36, .f32⟩
  | 86 => ⟨S2x7x7x36, .f32⟩
  | 87 => ⟨S2x7x7x256, .f32⟩
  | 88 => ⟨S1x1x256x36, .f32⟩
  | 89 => ⟨S256x36, .f32⟩
  | 90 => ⟨S2x7x7x36, .f32⟩
  | 91 => ⟨S2x7x7x36, .f32⟩
  | 92 => ⟨S2x7x7x256, .f32⟩
  | 93 => ⟨S1x1x256x36, .f32⟩
  | 94 => ⟨S256x36, .f32⟩
  | 95 => ⟨S2x7x7x36, .f32⟩
  | 96 => ⟨S2x7x7x36, .f32⟩
  | 97 => ⟨S2x7x7x256, .f32⟩
  | 98 => ⟨S1x1x256x36, .f32⟩
  | 99 => ⟨S256x36, .f32⟩
  | 100 => ⟨S2x7x7x36, .f32⟩
  | 101 => ⟨S2x7x7x36, .f32⟩
  | 102 => ⟨S2x7x7x256, .f32⟩
  | 103 => ⟨S1x1x256x36, .f32⟩
  | 104 => ⟨S256x36, .f32⟩
  | 105 => ⟨S2x7x7x36, .f32⟩
  | 106 => ⟨S2x7x7x36, .f32⟩
  | 107 => ⟨S1x1x1x36, .f32⟩
  | 108 => ⟨S2x7x7x36, .f32⟩
  | 109 => ⟨S2x7x7x36, .f32⟩
  | 110 => ⟨S2x441x80, .f32⟩
  | 111 => ⟨S2x441x4, .f32⟩
  | 112 => ⟨S2x9261x80, .f32⟩
  | 113 => ⟨S2x9261x4, .f32⟩
  | 114 => ⟨S1x9261x4, .f32⟩
  | 115 => ⟨S1x9261x1, .f32⟩
  | 116 => ⟨S1x9261, .f32⟩
  | 117 => ⟨S1x9261x1, .f32⟩
  | 118 => ⟨S1x9261, .f32⟩
  | 119 => ⟨S1x9261, .f32⟩
  | 120 => ⟨S1x9261x1, .f32⟩
  | 121 => ⟨S1x9261, .f32⟩
  | 122 => ⟨S1x9261x1, .f32⟩
  | 123 => ⟨S1x9261, .f32⟩
  | 124 => ⟨S1x9261, .f32⟩
  | 125 => ⟨S1x9261x1, .f32⟩
  | 126 => ⟨S1x9261, .f32⟩
  | 127 => ⟨S_, .f32⟩
  | _ => ⟨S2x28x28x256, .f32⟩

abbrev hbmTy0_14 (i : Nat) : BufTy := match i % 128 with
  | 0 => ⟨S1x9261, .f32⟩
  | 1 => ⟨S1x9261, .f32⟩
  | 2 => ⟨S1x9261, .f32⟩
  | 3 => ⟨S1x9261x1, .f32⟩
  | 4 => ⟨S1x9261, .f32⟩
  | 5 => ⟨S_, .f32⟩
  | 6 => ⟨S1x9261, .f32⟩
  | 7 => ⟨S1x9261, .f32⟩
  | 8 => ⟨S1x9261, .f32⟩
  | 9 => ⟨S2x9261x1, .f32⟩
  | 10 => ⟨S2x9261, .f32⟩
  | 11 => ⟨S2x9261x1, .f32⟩
  | 12 => ⟨S2x9261, .f32⟩
  | 13 => ⟨S2x9261x1, .f32⟩
  | 14 => ⟨S2x9261, .f32⟩
  | 15 => ⟨S2x9261x1, .f32⟩
  | 16 => ⟨S2x9261, .f32⟩
  | 17 => ⟨S2x9261, .f32⟩
  | 18 => ⟨S2x9261, .f32⟩
  | 19 => ⟨S2x9261, .f32⟩
  | 20 => ⟨S2x9261, .f32⟩
  | 21 => ⟨S2x9261, .f32⟩
  | 22 => ⟨S2x9261, .f32⟩
  | 23 => ⟨S2x9261, .f32⟩
  | 24 => ⟨S2x9261, .f32⟩
  | 25 => ⟨S_, .f32⟩
  | 26 => ⟨S_, .f32⟩
  | 27 => ⟨S_, .f32⟩
  | 28 => ⟨S2x9261, .f32⟩
  | 29 => ⟨S2x9261, .f32⟩
  | 30 => ⟨S_, .f32⟩
  | 31 => ⟨S2x9261, .f32⟩
  | 32 => ⟨S2x9261, .f32⟩
  | 33 => ⟨S2x9261, .f32⟩
  | 34 => ⟨S2x9261, .f32⟩
  | 35 => ⟨S2x9261, .f32⟩
  | 36 => ⟨S_, .f32⟩
  | 37 => ⟨S_, .f32⟩
  | 38 => ⟨S_, .f32⟩
  | 39 => ⟨S2x9261, .f32⟩
  | 40 => ⟨S2x9261, .f32⟩
  | 41 => ⟨S_, .f32⟩
  | 42 => ⟨S2x9261, .f32⟩
  | 43 => ⟨S2x9261, .f32⟩
  | 44 => ⟨S2x9261, .f32⟩
  | 45 => ⟨S2x9261, .f32⟩
  | 46 => ⟨S2x9261, .f32⟩
  | 47 => ⟨S_, .f32⟩
  | 48 => ⟨S2x9261, .f32⟩
  | 49 => ⟨S2x9261, .f32⟩
  | 50 => ⟨S2x9261, .f32⟩
  | 51 => ⟨S_, .f32⟩
  | 52 => ⟨S2x9261, .f32⟩
  | 53 => ⟨S2x9261, .f32⟩
  | 54 => ⟨S2x9261, .f32⟩
  | 55 => ⟨S_, .f32⟩
  | 56 => ⟨S2x9261, .f32⟩
  | 57 => ⟨S2x9261, .f32⟩
  | 58 => ⟨S2x9261, .f32⟩
  | 59 => ⟨S_, .f32⟩
  | 60 => ⟨S2x9261, .f32⟩
  | 61 => ⟨S2x9261, .f32⟩
  | 62 => ⟨S2x9261, .f32⟩
  | 63 => ⟨S2x9261x1, .f32⟩
  | 64 => ⟨S2x9261x1, .f32⟩
  | 65 => ⟨S2x9261x1, .f32⟩
  | 66 => ⟨S2x9261x1, .f32⟩
  | 67 => ⟨S2x9261x4, .f32⟩
  | 68 => ⟨S2x9261x80, .f32⟩
  | 69 => ⟨S2x9261x80, .f32⟩
  | 70 => ⟨S_, .f32⟩
  | 71 => ⟨S2x9261x80, .f32⟩
  | 72 => ⟨S2x9261x80, .f32⟩
  | 73 => ⟨S_, .f32⟩
  | 74 => ⟨S2x9261x80, .f32⟩
  | 75 => ⟨S2x9261x80, .f32⟩
  | 76 => ⟨S_, .f32⟩
  | 77 => ⟨S2x9261, .f32⟩
  | 78 => ⟨S2x200, .f32⟩
  | 79 => ⟨S2x200, .i32⟩
  | 80 => ⟨S2x200x1, .i32⟩
  | 81 => ⟨S_, .i32⟩
  | 82 => ⟨S2x200x1, .i32⟩
  | 83 => ⟨S2x200x1, .i1⟩
  | 84 => ⟨S_, .i32⟩
  | 85 => ⟨S2x200x1, .i32⟩
  | 86 => ⟨S2x200x1, .i32⟩
  | 87 => ⟨S2x200x1, .i32⟩
  | 88 => ⟨S1, .i32⟩
  | 89 => ⟨S_, .i32⟩
  | 90 => ⟨S2x200x1, .i32⟩
  | 91 => ⟨S2x200x1, .i1⟩
  | 92 => ⟨S1x1x1, .i32⟩
  | 93 => ⟨S2x200x1, .i32⟩
  | 94 => ⟨S2x200x1, .i1⟩
  | 95 => ⟨S2x200x1, .i1⟩
  | 96 => ⟨S_, .i1⟩
  | 97 => ⟨S2x200, .i1⟩
  | 98 => ⟨S2x200x4, .f32⟩
  | 99 => ⟨S2x200x4, .i1⟩
  | 100 => ⟨S_, .f32⟩
  | 101 => ⟨S2x200x4, .f32⟩
  | 102 => ⟨S2x200x4, .f32⟩
  | 103 => ⟨S2x200x1, .f32⟩
  | 104 => ⟨S2x200x5, .f32⟩
  | _ => ⟨S2x28x28x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S2x28x28x256, .f32⟩

abbrev bufTy : (tb : Table) → Fin (tcTables nBuf tb) → BufTy
  | .hbm, ⟨i, _⟩ => hbmTy i
  | _, _ => ⟨S2x28x28x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_cst : Ref sig .tc := ⟨.hbm, 69, rfl⟩
abbrev main_call1_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_1 : Ref sig .tc := ⟨.hbm, 76, rfl⟩
abbrev main_call2_v0 : Ref sig .tc := ⟨.hbm, 77, rfl⟩
abbrev main_v59 : Ref sig .tc := ⟨.hbm, 78, rfl⟩
abbrev main_cst_2 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_call3_cst : Ref sig .tc := ⟨.hbm, 129, rfl⟩
abbrev main_call3_v0 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_c_3 : Ref sig .tc := ⟨.hbm, 136, rfl⟩
abbrev main_call4_v0 : Ref sig .tc := ⟨.hbm, 137, rfl⟩
abbrev main_v114 : Ref sig .tc := ⟨.hbm, 138, rfl⟩
abbrev main_cst_4 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_call5_cst : Ref sig .tc := ⟨.hbm, 189, rfl⟩
abbrev main_call5_v0 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_c_5 : Ref sig .tc := ⟨.hbm, 196, rfl⟩
abbrev main_call6_v0 : Ref sig .tc := ⟨.hbm, 197, rfl⟩
abbrev main_v169 : Ref sig .tc := ⟨.hbm, 198, rfl⟩
abbrev main_cst_6 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_call7_cst : Ref sig .tc := ⟨.hbm, 249, rfl⟩
abbrev main_call7_v0 : Ref sig .tc := ⟨.hbm, 250, rfl⟩
abbrev main_v219 : Ref sig .tc := ⟨.hbm, 251, rfl⟩
abbrev main_c_7 : Ref sig .tc := ⟨.hbm, 252, rfl⟩
abbrev main_call8_v0 : Ref sig .tc := ⟨.hbm, 253, rfl⟩
abbrev main_v220 : Ref sig .tc := ⟨.hbm, 254, rfl⟩
abbrev main_cst_8 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_v273 : Ref sig .tc := ⟨.hbm, 308, rfl⟩
abbrev main_c_9 : Ref sig .tc := ⟨.hbm, 309, rfl⟩
abbrev main_call9_v0 : Ref sig .tc := ⟨.hbm, 310, rfl⟩
abbrev main_v274 : Ref sig .tc := ⟨.hbm, 311, rfl⟩
abbrev main_cst_10 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_call10_cst : Ref sig .tc := ⟨.hbm, 362, rfl⟩
abbrev main_call10_v0 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_c_11 : Ref sig .tc := ⟨.hbm, 369, rfl⟩
abbrev main_call11_v0 : Ref sig .tc := ⟨.hbm, 370, rfl⟩
abbrev main_v329 : Ref sig .tc := ⟨.hbm, 371, rfl⟩
abbrev main_cst_12 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩
abbrev main_v340 : Ref sig .tc := ⟨.hbm, 383, rfl⟩
abbrev main_v341 : Ref sig .tc := ⟨.hbm, 384, rfl⟩
abbrev main_v342 : Ref sig .tc := ⟨.hbm, 385, rfl⟩
abbrev main_v343 : Ref sig .tc := ⟨.hbm, 386, rfl⟩
abbrev main_v344 : Ref sig .tc := ⟨.hbm, 387, rfl⟩
abbrev main_v345 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_v349 : Ref sig .tc := ⟨.hbm, 392, rfl⟩
abbrev main_v350 : Ref sig .tc := ⟨.hbm, 393, rfl⟩
abbrev main_v351 : Ref sig .tc := ⟨.hbm, 394, rfl⟩
abbrev main_v352 : Ref sig .tc := ⟨.hbm, 395, rfl⟩
abbrev main_v353 : Ref sig .tc := ⟨.hbm, 396, rfl⟩
abbrev main_v354 : Ref sig .tc := ⟨.hbm, 397, rfl⟩
abbrev main_v355 : Ref sig .tc := ⟨.hbm, 398, rfl⟩
abbrev main_v356 : Ref sig .tc := ⟨.hbm, 399, rfl⟩
abbrev main_v357 : Ref sig .tc := ⟨.hbm, 400, rfl⟩
abbrev main_v358 : Ref sig .tc := ⟨.hbm, 401, rfl⟩
abbrev main_v359 : Ref sig .tc := ⟨.hbm, 402, rfl⟩
abbrev main_v360 : Ref sig .tc := ⟨.hbm, 403, rfl⟩
abbrev main_v361 : Ref sig .tc := ⟨.hbm, 404, rfl⟩
abbrev main_v362 : Ref sig .tc := ⟨.hbm, 405, rfl⟩
abbrev main_v363 : Ref sig .tc := ⟨.hbm, 406, rfl⟩
abbrev main_v364 : Ref sig .tc := ⟨.hbm, 407, rfl⟩
abbrev main_v365 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_v371 : Ref sig .tc := ⟨.hbm, 414, rfl⟩
abbrev main_v372 : Ref sig .tc := ⟨.hbm, 415, rfl⟩
abbrev main_v373 : Ref sig .tc := ⟨.hbm, 416, rfl⟩
abbrev main_v374 : Ref sig .tc := ⟨.hbm, 417, rfl⟩
abbrev main_v375 : Ref sig .tc := ⟨.hbm, 418, rfl⟩
abbrev main_v376 : Ref sig .tc := ⟨.hbm, 419, rfl⟩
abbrev main_v377 : Ref sig .tc := ⟨.hbm, 420, rfl⟩
abbrev main_v378 : Ref sig .tc := ⟨.hbm, 421, rfl⟩
abbrev main_call12_cst : Ref sig .tc := ⟨.hbm, 422, rfl⟩
abbrev main_call12_v0 : Ref sig .tc := ⟨.hbm, 423, rfl⟩
abbrev main_v379 : Ref sig .tc := ⟨.hbm, 424, rfl⟩
abbrev main_v380 : Ref sig .tc := ⟨.hbm, 425, rfl⟩
abbrev main_v381 : Ref sig .tc := ⟨.hbm, 426, rfl⟩
abbrev main_v382 : Ref sig .tc := ⟨.hbm, 427, rfl⟩
abbrev main_v383 : Ref sig .tc := ⟨.hbm, 428, rfl⟩
abbrev main_c_13 : Ref sig .tc := ⟨.hbm, 429, rfl⟩
abbrev main_call13_v0 : Ref sig .tc := ⟨.hbm, 430, rfl⟩
abbrev main_v384 : Ref sig .tc := ⟨.hbm, 431, rfl⟩
abbrev main_cst_14 : Ref sig .tc := ⟨.hbm, 432, rfl⟩
abbrev main_v385 : Ref sig .tc := ⟨.hbm, 433, rfl⟩
abbrev main_v386 : Ref sig .tc := ⟨.hbm, 434, rfl⟩
abbrev main_v387 : Ref sig .tc := ⟨.hbm, 435, rfl⟩
abbrev main_v388 : Ref sig .tc := ⟨.hbm, 436, rfl⟩
abbrev main_v389 : Ref sig .tc := ⟨.hbm, 437, rfl⟩
abbrev main_v390 : Ref sig .tc := ⟨.hbm, 438, rfl⟩
abbrev main_v391 : Ref sig .tc := ⟨.hbm, 439, rfl⟩
abbrev main_v392 : Ref sig .tc := ⟨.hbm, 440, rfl⟩
abbrev main_v393 : Ref sig .tc := ⟨.hbm, 441, rfl⟩
abbrev main_v394 : Ref sig .tc := ⟨.hbm, 442, rfl⟩
abbrev main_v395 : Ref sig .tc := ⟨.hbm, 443, rfl⟩
abbrev main_v396 : Ref sig .tc := ⟨.hbm, 444, rfl⟩
abbrev main_v397 : Ref sig .tc := ⟨.hbm, 445, rfl⟩
abbrev main_v398 : Ref sig .tc := ⟨.hbm, 446, rfl⟩
abbrev main_v399 : Ref sig .tc := ⟨.hbm, 447, rfl⟩
abbrev main_v400 : Ref sig .tc := ⟨.hbm, 448, rfl⟩
abbrev main_v401 : Ref sig .tc := ⟨.hbm, 449, rfl⟩
abbrev main_v402 : Ref sig .tc := ⟨.hbm, 450, rfl⟩
abbrev main_v403 : Ref sig .tc := ⟨.hbm, 451, rfl⟩
abbrev main_v404 : Ref sig .tc := ⟨.hbm, 452, rfl⟩
abbrev main_v405 : Ref sig .tc := ⟨.hbm, 453, rfl⟩
abbrev main_v406 : Ref sig .tc := ⟨.hbm, 454, rfl⟩
abbrev main_v407 : Ref sig .tc := ⟨.hbm, 455, rfl⟩
abbrev main_v408 : Ref sig .tc := ⟨.hbm, 456, rfl⟩
abbrev main_v409 : Ref sig .tc := ⟨.hbm, 457, rfl⟩
abbrev main_v410 : Ref sig .tc := ⟨.hbm, 458, rfl⟩
abbrev main_v411 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_v417 : Ref sig .tc := ⟨.hbm, 465, rfl⟩
abbrev main_v418 : Ref sig .tc := ⟨.hbm, 466, rfl⟩
abbrev main_v419 : Ref sig .tc := ⟨.hbm, 467, rfl⟩
abbrev main_v420 : Ref sig .tc := ⟨.hbm, 468, rfl⟩
abbrev main_v421 : Ref sig .tc := ⟨.hbm, 469, rfl⟩
abbrev main_v422 : Ref sig .tc := ⟨.hbm, 470, rfl⟩
abbrev main_v423 : Ref sig .tc := ⟨.hbm, 471, rfl⟩
abbrev main_v424 : Ref sig .tc := ⟨.hbm, 472, rfl⟩
abbrev main_v425 : Ref sig .tc := ⟨.hbm, 473, rfl⟩
abbrev main_v426 : Ref sig .tc := ⟨.hbm, 474, rfl⟩
abbrev main_v427 : Ref sig .tc := ⟨.hbm, 475, rfl⟩
abbrev main_v428 : Ref sig .tc := ⟨.hbm, 476, rfl⟩
abbrev main_v429 : Ref sig .tc := ⟨.hbm, 477, rfl⟩
abbrev main_v430 : Ref sig .tc := ⟨.hbm, 478, rfl⟩
abbrev main_v431 : Ref sig .tc := ⟨.hbm, 479, rfl⟩
abbrev main_v432 : Ref sig .tc := ⟨.hbm, 480, rfl⟩
abbrev main_v433 : Ref sig .tc := ⟨.hbm, 481, rfl⟩
abbrev main_call14_cst : Ref sig .tc := ⟨.hbm, 482, rfl⟩
abbrev main_call14_v0 : Ref sig .tc := ⟨.hbm, 483, rfl⟩
abbrev main_v434 : Ref sig .tc := ⟨.hbm, 484, rfl⟩
abbrev main_v435 : Ref sig .tc := ⟨.hbm, 485, rfl⟩
abbrev main_v436 : Ref sig .tc := ⟨.hbm, 486, rfl⟩
abbrev main_v437 : Ref sig .tc := ⟨.hbm, 487, rfl⟩
abbrev main_v438 : Ref sig .tc := ⟨.hbm, 488, rfl⟩
abbrev main_c_15 : Ref sig .tc := ⟨.hbm, 489, rfl⟩
abbrev main_call15_v0 : Ref sig .tc := ⟨.hbm, 490, rfl⟩
abbrev main_v439 : Ref sig .tc := ⟨.hbm, 491, rfl⟩
abbrev main_cst_16 : Ref sig .tc := ⟨.hbm, 492, rfl⟩
abbrev main_v440 : Ref sig .tc := ⟨.hbm, 493, rfl⟩
abbrev main_v441 : Ref sig .tc := ⟨.hbm, 494, rfl⟩
abbrev main_v442 : Ref sig .tc := ⟨.hbm, 495, rfl⟩
abbrev main_v443 : Ref sig .tc := ⟨.hbm, 496, rfl⟩
abbrev main_v444 : Ref sig .tc := ⟨.hbm, 497, rfl⟩
abbrev main_v445 : Ref sig .tc := ⟨.hbm, 498, rfl⟩
abbrev main_v446 : Ref sig .tc := ⟨.hbm, 499, rfl⟩
abbrev main_v447 : Ref sig .tc := ⟨.hbm, 500, rfl⟩
abbrev main_v448 : Ref sig .tc := ⟨.hbm, 501, rfl⟩
abbrev main_v449 : Ref sig .tc := ⟨.hbm, 502, rfl⟩
abbrev main_v450 : Ref sig .tc := ⟨.hbm, 503, rfl⟩
abbrev main_v451 : Ref sig .tc := ⟨.hbm, 504, rfl⟩
abbrev main_v452 : Ref sig .tc := ⟨.hbm, 505, rfl⟩
abbrev main_v453 : Ref sig .tc := ⟨.hbm, 506, rfl⟩
abbrev main_v454 : Ref sig .tc := ⟨.hbm, 507, rfl⟩
abbrev main_v455 : Ref sig .tc := ⟨.hbm, 508, rfl⟩
abbrev main_v456 : Ref sig .tc := ⟨.hbm, 509, rfl⟩
abbrev main_v457 : Ref sig .tc := ⟨.hbm, 510, rfl⟩
abbrev main_v458 : Ref sig .tc := ⟨.hbm, 511, rfl⟩
abbrev main_v459 : Ref sig .tc := ⟨.hbm, 512, rfl⟩
abbrev main_v460 : Ref sig .tc := ⟨.hbm, 513, rfl⟩
abbrev main_v461 : Ref sig .tc := ⟨.hbm, 514, rfl⟩
abbrev main_v462 : Ref sig .tc := ⟨.hbm, 515, rfl⟩
abbrev main_v463 : Ref sig .tc := ⟨.hbm, 516, rfl⟩
abbrev main_v464 : Ref sig .tc := ⟨.hbm, 517, rfl⟩
abbrev main_v465 : Ref sig .tc := ⟨.hbm, 518, rfl⟩
abbrev main_v466 : Ref sig .tc := ⟨.hbm, 519, rfl⟩
abbrev main_v467 : Ref sig .tc := ⟨.hbm, 520, rfl⟩
abbrev main_v468 : Ref sig .tc := ⟨.hbm, 521, rfl⟩
abbrev main_v469 : Ref sig .tc := ⟨.hbm, 522, rfl⟩
abbrev main_v470 : Ref sig .tc := ⟨.hbm, 523, rfl⟩
abbrev main_v471 : Ref sig .tc := ⟨.hbm, 524, rfl⟩
abbrev main_v472 : Ref sig .tc := ⟨.hbm, 525, rfl⟩
abbrev main_v473 : Ref sig .tc := ⟨.hbm, 526, rfl⟩
abbrev main_v474 : Ref sig .tc := ⟨.hbm, 527, rfl⟩
abbrev main_v475 : Ref sig .tc := ⟨.hbm, 528, rfl⟩
abbrev main_v476 : Ref sig .tc := ⟨.hbm, 529, rfl⟩
abbrev main_v477 : Ref sig .tc := ⟨.hbm, 530, rfl⟩
abbrev main_v478 : Ref sig .tc := ⟨.hbm, 531, rfl⟩
abbrev main_v479 : Ref sig .tc := ⟨.hbm, 532, rfl⟩
abbrev main_v480 : Ref sig .tc := ⟨.hbm, 533, rfl⟩
abbrev main_v481 : Ref sig .tc := ⟨.hbm, 534, rfl⟩
abbrev main_v482 : Ref sig .tc := ⟨.hbm, 535, rfl⟩
abbrev main_v483 : Ref sig .tc := ⟨.hbm, 536, rfl⟩
abbrev main_v484 : Ref sig .tc := ⟨.hbm, 537, rfl⟩
abbrev main_v485 : Ref sig .tc := ⟨.hbm, 538, rfl⟩
abbrev main_v486 : Ref sig .tc := ⟨.hbm, 539, rfl⟩
abbrev main_v487 : Ref sig .tc := ⟨.hbm, 540, rfl⟩
abbrev main_v488 : Ref sig .tc := ⟨.hbm, 541, rfl⟩
abbrev main_call16_cst : Ref sig .tc := ⟨.hbm, 542, rfl⟩
abbrev main_call16_v0 : Ref sig .tc := ⟨.hbm, 543, rfl⟩
abbrev main_v489 : Ref sig .tc := ⟨.hbm, 544, rfl⟩
abbrev main_c_17 : Ref sig .tc := ⟨.hbm, 545, rfl⟩
abbrev main_call17_v0 : Ref sig .tc := ⟨.hbm, 546, rfl⟩
abbrev main_v490 : Ref sig .tc := ⟨.hbm, 547, rfl⟩
abbrev main_cst_18 : Ref sig .tc := ⟨.hbm, 548, rfl⟩
abbrev main_v491 : Ref sig .tc := ⟨.hbm, 549, rfl⟩
abbrev main_v492 : Ref sig .tc := ⟨.hbm, 550, rfl⟩
abbrev main_v493 : Ref sig .tc := ⟨.hbm, 551, rfl⟩
abbrev main_v494 : Ref sig .tc := ⟨.hbm, 552, rfl⟩
abbrev main_v495 : Ref sig .tc := ⟨.hbm, 553, rfl⟩
abbrev main_v496 : Ref sig .tc := ⟨.hbm, 554, rfl⟩
abbrev main_v497 : Ref sig .tc := ⟨.hbm, 555, rfl⟩
abbrev main_v498 : Ref sig .tc := ⟨.hbm, 556, rfl⟩
abbrev main_v499 : Ref sig .tc := ⟨.hbm, 557, rfl⟩
abbrev main_v500 : Ref sig .tc := ⟨.hbm, 558, rfl⟩
abbrev main_v501 : Ref sig .tc := ⟨.hbm, 559, rfl⟩
abbrev main_v502 : Ref sig .tc := ⟨.hbm, 560, rfl⟩
abbrev main_v503 : Ref sig .tc := ⟨.hbm, 561, rfl⟩
abbrev main_v504 : Ref sig .tc := ⟨.hbm, 562, rfl⟩
abbrev main_v505 : Ref sig .tc := ⟨.hbm, 563, rfl⟩
abbrev main_v506 : Ref sig .tc := ⟨.hbm, 564, rfl⟩
abbrev main_v507 : Ref sig .tc := ⟨.hbm, 565, rfl⟩
abbrev main_v508 : Ref sig .tc := ⟨.hbm, 566, rfl⟩
abbrev main_v509 : Ref sig .tc := ⟨.hbm, 567, rfl⟩
abbrev main_v510 : Ref sig .tc := ⟨.hbm, 568, rfl⟩
abbrev main_v511 : Ref sig .tc := ⟨.hbm, 569, rfl⟩
abbrev main_v512 : Ref sig .tc := ⟨.hbm, 570, rfl⟩
abbrev main_v513 : Ref sig .tc := ⟨.hbm, 571, rfl⟩
abbrev main_v514 : Ref sig .tc := ⟨.hbm, 572, rfl⟩
abbrev main_v515 : Ref sig .tc := ⟨.hbm, 573, rfl⟩
abbrev main_v516 : Ref sig .tc := ⟨.hbm, 574, rfl⟩
abbrev main_v517 : Ref sig .tc := ⟨.hbm, 575, rfl⟩
abbrev main_v518 : Ref sig .tc := ⟨.hbm, 576, rfl⟩
abbrev main_v519 : Ref sig .tc := ⟨.hbm, 577, rfl⟩
abbrev main_v520 : Ref sig .tc := ⟨.hbm, 578, rfl⟩
abbrev main_v521 : Ref sig .tc := ⟨.hbm, 579, rfl⟩
abbrev main_v522 : Ref sig .tc := ⟨.hbm, 580, rfl⟩
abbrev main_v523 : Ref sig .tc := ⟨.hbm, 581, rfl⟩
abbrev main_v524 : Ref sig .tc := ⟨.hbm, 582, rfl⟩
abbrev main_v525 : Ref sig .tc := ⟨.hbm, 583, rfl⟩
abbrev main_v526 : Ref sig .tc := ⟨.hbm, 584, rfl⟩
abbrev main_v527 : Ref sig .tc := ⟨.hbm, 585, rfl⟩
abbrev main_v528 : Ref sig .tc := ⟨.hbm, 586, rfl⟩
abbrev main_v529 : Ref sig .tc := ⟨.hbm, 587, rfl⟩
abbrev main_v530 : Ref sig .tc := ⟨.hbm, 588, rfl⟩
abbrev main_v531 : Ref sig .tc := ⟨.hbm, 589, rfl⟩
abbrev main_v532 : Ref sig .tc := ⟨.hbm, 590, rfl⟩
abbrev main_v533 : Ref sig .tc := ⟨.hbm, 591, rfl⟩
abbrev main_v534 : Ref sig .tc := ⟨.hbm, 592, rfl⟩
abbrev main_v535 : Ref sig .tc := ⟨.hbm, 593, rfl⟩
abbrev main_v536 : Ref sig .tc := ⟨.hbm, 594, rfl⟩
abbrev main_v537 : Ref sig .tc := ⟨.hbm, 595, rfl⟩
abbrev main_v538 : Ref sig .tc := ⟨.hbm, 596, rfl⟩
abbrev main_v539 : Ref sig .tc := ⟨.hbm, 597, rfl⟩
abbrev main_v540 : Ref sig .tc := ⟨.hbm, 598, rfl⟩
abbrev main_v541 : Ref sig .tc := ⟨.hbm, 599, rfl⟩
abbrev main_v542 : Ref sig .tc := ⟨.hbm, 600, rfl⟩
abbrev main_v543 : Ref sig .tc := ⟨.hbm, 601, rfl⟩
abbrev main_v544 : Ref sig .tc := ⟨.hbm, 602, rfl⟩
abbrev main_v545 : Ref sig .tc := ⟨.hbm, 603, rfl⟩
abbrev main_c_19 : Ref sig .tc := ⟨.hbm, 604, rfl⟩
abbrev main_call18_v0 : Ref sig .tc := ⟨.hbm, 605, rfl⟩
abbrev main_v546 : Ref sig .tc := ⟨.hbm, 606, rfl⟩
abbrev main_cst_20 : Ref sig .tc := ⟨.hbm, 607, rfl⟩
abbrev main_v547 : Ref sig .tc := ⟨.hbm, 608, rfl⟩
abbrev main_v548 : Ref sig .tc := ⟨.hbm, 609, rfl⟩
abbrev main_v549 : Ref sig .tc := ⟨.hbm, 610, rfl⟩
abbrev main_v550 : Ref sig .tc := ⟨.hbm, 611, rfl⟩
abbrev main_v551 : Ref sig .tc := ⟨.hbm, 612, rfl⟩
abbrev main_v552 : Ref sig .tc := ⟨.hbm, 613, rfl⟩
abbrev main_v553 : Ref sig .tc := ⟨.hbm, 614, rfl⟩
abbrev main_v554 : Ref sig .tc := ⟨.hbm, 615, rfl⟩
abbrev main_v555 : Ref sig .tc := ⟨.hbm, 616, rfl⟩
abbrev main_v556 : Ref sig .tc := ⟨.hbm, 617, rfl⟩
abbrev main_v557 : Ref sig .tc := ⟨.hbm, 618, rfl⟩
abbrev main_v558 : Ref sig .tc := ⟨.hbm, 619, rfl⟩
abbrev main_v559 : Ref sig .tc := ⟨.hbm, 620, rfl⟩
abbrev main_v560 : Ref sig .tc := ⟨.hbm, 621, rfl⟩
abbrev main_v561 : Ref sig .tc := ⟨.hbm, 622, rfl⟩
abbrev main_v562 : Ref sig .tc := ⟨.hbm, 623, rfl⟩
abbrev main_v563 : Ref sig .tc := ⟨.hbm, 624, rfl⟩
abbrev main_v564 : Ref sig .tc := ⟨.hbm, 625, rfl⟩
abbrev main_v565 : Ref sig .tc := ⟨.hbm, 626, rfl⟩
abbrev main_v566 : Ref sig .tc := ⟨.hbm, 627, rfl⟩
abbrev main_v567 : Ref sig .tc := ⟨.hbm, 628, rfl⟩
abbrev main_v568 : Ref sig .tc := ⟨.hbm, 629, rfl⟩
abbrev main_v569 : Ref sig .tc := ⟨.hbm, 630, rfl⟩
abbrev main_v570 : Ref sig .tc := ⟨.hbm, 631, rfl⟩
abbrev main_v571 : Ref sig .tc := ⟨.hbm, 632, rfl⟩
abbrev main_v572 : Ref sig .tc := ⟨.hbm, 633, rfl⟩
abbrev main_v573 : Ref sig .tc := ⟨.hbm, 634, rfl⟩
abbrev main_v574 : Ref sig .tc := ⟨.hbm, 635, rfl⟩
abbrev main_v575 : Ref sig .tc := ⟨.hbm, 636, rfl⟩
abbrev main_v576 : Ref sig .tc := ⟨.hbm, 637, rfl⟩
abbrev main_v577 : Ref sig .tc := ⟨.hbm, 638, rfl⟩
abbrev main_v578 : Ref sig .tc := ⟨.hbm, 639, rfl⟩
abbrev main_v579 : Ref sig .tc := ⟨.hbm, 640, rfl⟩
abbrev main_v580 : Ref sig .tc := ⟨.hbm, 641, rfl⟩
abbrev main_v581 : Ref sig .tc := ⟨.hbm, 642, rfl⟩
abbrev main_v582 : Ref sig .tc := ⟨.hbm, 643, rfl⟩
abbrev main_v583 : Ref sig .tc := ⟨.hbm, 644, rfl⟩
abbrev main_v584 : Ref sig .tc := ⟨.hbm, 645, rfl⟩
abbrev main_v585 : Ref sig .tc := ⟨.hbm, 646, rfl⟩
abbrev main_v586 : Ref sig .tc := ⟨.hbm, 647, rfl⟩
abbrev main_v587 : Ref sig .tc := ⟨.hbm, 648, rfl⟩
abbrev main_v588 : Ref sig .tc := ⟨.hbm, 649, rfl⟩
abbrev main_v589 : Ref sig .tc := ⟨.hbm, 650, rfl⟩
abbrev main_v590 : Ref sig .tc := ⟨.hbm, 651, rfl⟩
abbrev main_v591 : Ref sig .tc := ⟨.hbm, 652, rfl⟩
abbrev main_v592 : Ref sig .tc := ⟨.hbm, 653, rfl⟩
abbrev main_v593 : Ref sig .tc := ⟨.hbm, 654, rfl⟩
abbrev main_v594 : Ref sig .tc := ⟨.hbm, 655, rfl⟩
abbrev main_v595 : Ref sig .tc := ⟨.hbm, 656, rfl⟩
abbrev main_call19_cst : Ref sig .tc := ⟨.hbm, 657, rfl⟩
abbrev main_call19_v0 : Ref sig .tc := ⟨.hbm, 658, rfl⟩
abbrev main_v596 : Ref sig .tc := ⟨.hbm, 659, rfl⟩
abbrev main_v597 : Ref sig .tc := ⟨.hbm, 660, rfl⟩
abbrev main_v598 : Ref sig .tc := ⟨.hbm, 661, rfl⟩
abbrev main_v599 : Ref sig .tc := ⟨.hbm, 662, rfl⟩
abbrev main_v600 : Ref sig .tc := ⟨.hbm, 663, rfl⟩
abbrev main_c_21 : Ref sig .tc := ⟨.hbm, 664, rfl⟩
abbrev main_call20_v0 : Ref sig .tc := ⟨.hbm, 665, rfl⟩
abbrev main_v601 : Ref sig .tc := ⟨.hbm, 666, rfl⟩
abbrev main_cst_22 : Ref sig .tc := ⟨.hbm, 667, rfl⟩
abbrev main_v602 : Ref sig .tc := ⟨.hbm, 668, rfl⟩
abbrev main_v603 : Ref sig .tc := ⟨.hbm, 669, rfl⟩
abbrev main_v604 : Ref sig .tc := ⟨.hbm, 670, rfl⟩
abbrev main_v605 : Ref sig .tc := ⟨.hbm, 671, rfl⟩
abbrev main_v606 : Ref sig .tc := ⟨.hbm, 672, rfl⟩
abbrev main_v607 : Ref sig .tc := ⟨.hbm, 673, rfl⟩
abbrev main_v608 : Ref sig .tc := ⟨.hbm, 674, rfl⟩
abbrev main_v609 : Ref sig .tc := ⟨.hbm, 675, rfl⟩
abbrev main_v610 : Ref sig .tc := ⟨.hbm, 676, rfl⟩
abbrev main_v611 : Ref sig .tc := ⟨.hbm, 677, rfl⟩
abbrev main_v612 : Ref sig .tc := ⟨.hbm, 678, rfl⟩
abbrev main_v613 : Ref sig .tc := ⟨.hbm, 679, rfl⟩
abbrev main_v614 : Ref sig .tc := ⟨.hbm, 680, rfl⟩
abbrev main_v615 : Ref sig .tc := ⟨.hbm, 681, rfl⟩
abbrev main_v616 : Ref sig .tc := ⟨.hbm, 682, rfl⟩
abbrev main_v617 : Ref sig .tc := ⟨.hbm, 683, rfl⟩
abbrev main_v618 : Ref sig .tc := ⟨.hbm, 684, rfl⟩
abbrev main_v619 : Ref sig .tc := ⟨.hbm, 685, rfl⟩
abbrev main_v620 : Ref sig .tc := ⟨.hbm, 686, rfl⟩
abbrev main_v621 : Ref sig .tc := ⟨.hbm, 687, rfl⟩
abbrev main_v622 : Ref sig .tc := ⟨.hbm, 688, rfl⟩
abbrev main_v623 : Ref sig .tc := ⟨.hbm, 689, rfl⟩
abbrev main_v624 : Ref sig .tc := ⟨.hbm, 690, rfl⟩
abbrev main_v625 : Ref sig .tc := ⟨.hbm, 691, rfl⟩
abbrev main_v626 : Ref sig .tc := ⟨.hbm, 692, rfl⟩
abbrev main_v627 : Ref sig .tc := ⟨.hbm, 693, rfl⟩
abbrev main_v628 : Ref sig .tc := ⟨.hbm, 694, rfl⟩
abbrev main_v629 : Ref sig .tc := ⟨.hbm, 695, rfl⟩
abbrev main_v630 : Ref sig .tc := ⟨.hbm, 696, rfl⟩
abbrev main_v631 : Ref sig .tc := ⟨.hbm, 697, rfl⟩
abbrev main_v632 : Ref sig .tc := ⟨.hbm, 698, rfl⟩
abbrev main_v633 : Ref sig .tc := ⟨.hbm, 699, rfl⟩
abbrev main_v634 : Ref sig .tc := ⟨.hbm, 700, rfl⟩
abbrev main_v635 : Ref sig .tc := ⟨.hbm, 701, rfl⟩
abbrev main_v636 : Ref sig .tc := ⟨.hbm, 702, rfl⟩
abbrev main_v637 : Ref sig .tc := ⟨.hbm, 703, rfl⟩
abbrev main_v638 : Ref sig .tc := ⟨.hbm, 704, rfl⟩
abbrev main_v639 : Ref sig .tc := ⟨.hbm, 705, rfl⟩
abbrev main_v640 : Ref sig .tc := ⟨.hbm, 706, rfl⟩
abbrev main_v641 : Ref sig .tc := ⟨.hbm, 707, rfl⟩
abbrev main_v642 : Ref sig .tc := ⟨.hbm, 708, rfl⟩
abbrev main_v643 : Ref sig .tc := ⟨.hbm, 709, rfl⟩
abbrev main_v644 : Ref sig .tc := ⟨.hbm, 710, rfl⟩
abbrev main_v645 : Ref sig .tc := ⟨.hbm, 711, rfl⟩
abbrev main_v646 : Ref sig .tc := ⟨.hbm, 712, rfl⟩
abbrev main_v647 : Ref sig .tc := ⟨.hbm, 713, rfl⟩
abbrev main_v648 : Ref sig .tc := ⟨.hbm, 714, rfl⟩
abbrev main_v649 : Ref sig .tc := ⟨.hbm, 715, rfl⟩
abbrev main_v650 : Ref sig .tc := ⟨.hbm, 716, rfl⟩
abbrev main_call21_cst : Ref sig .tc := ⟨.hbm, 717, rfl⟩
abbrev main_call21_v0 : Ref sig .tc := ⟨.hbm, 718, rfl⟩
abbrev main_v651 : Ref sig .tc := ⟨.hbm, 719, rfl⟩
abbrev main_v652 : Ref sig .tc := ⟨.hbm, 720, rfl⟩
abbrev main_v653 : Ref sig .tc := ⟨.hbm, 721, rfl⟩
abbrev main_v654 : Ref sig .tc := ⟨.hbm, 722, rfl⟩
abbrev main_v655 : Ref sig .tc := ⟨.hbm, 723, rfl⟩
abbrev main_c_23 : Ref sig .tc := ⟨.hbm, 724, rfl⟩
abbrev main_call22_v0 : Ref sig .tc := ⟨.hbm, 725, rfl⟩
abbrev main_v656 : Ref sig .tc := ⟨.hbm, 726, rfl⟩
abbrev main_cst_24 : Ref sig .tc := ⟨.hbm, 727, rfl⟩
abbrev main_v657 : Ref sig .tc := ⟨.hbm, 728, rfl⟩
abbrev main_v658 : Ref sig .tc := ⟨.hbm, 729, rfl⟩
abbrev main_v659 : Ref sig .tc := ⟨.hbm, 730, rfl⟩
abbrev main_v660 : Ref sig .tc := ⟨.hbm, 731, rfl⟩
abbrev main_v661 : Ref sig .tc := ⟨.hbm, 732, rfl⟩
abbrev main_v662 : Ref sig .tc := ⟨.hbm, 733, rfl⟩
abbrev main_v663 : Ref sig .tc := ⟨.hbm, 734, rfl⟩
abbrev main_v664 : Ref sig .tc := ⟨.hbm, 735, rfl⟩
abbrev main_v665 : Ref sig .tc := ⟨.hbm, 736, rfl⟩
abbrev main_v666 : Ref sig .tc := ⟨.hbm, 737, rfl⟩
abbrev main_v667 : Ref sig .tc := ⟨.hbm, 738, rfl⟩
abbrev main_v668 : Ref sig .tc := ⟨.hbm, 739, rfl⟩
abbrev main_v669 : Ref sig .tc := ⟨.hbm, 740, rfl⟩
abbrev main_v670 : Ref sig .tc := ⟨.hbm, 741, rfl⟩
abbrev main_v671 : Ref sig .tc := ⟨.hbm, 742, rfl⟩
abbrev main_v672 : Ref sig .tc := ⟨.hbm, 743, rfl⟩
abbrev main_v673 : Ref sig .tc := ⟨.hbm, 744, rfl⟩
abbrev main_v674 : Ref sig .tc := ⟨.hbm, 745, rfl⟩
abbrev main_v675 : Ref sig .tc := ⟨.hbm, 746, rfl⟩
abbrev main_v676 : Ref sig .tc := ⟨.hbm, 747, rfl⟩
abbrev main_v677 : Ref sig .tc := ⟨.hbm, 748, rfl⟩
abbrev main_v678 : Ref sig .tc := ⟨.hbm, 749, rfl⟩
abbrev main_v679 : Ref sig .tc := ⟨.hbm, 750, rfl⟩
abbrev main_v680 : Ref sig .tc := ⟨.hbm, 751, rfl⟩
abbrev main_v681 : Ref sig .tc := ⟨.hbm, 752, rfl⟩
abbrev main_v682 : Ref sig .tc := ⟨.hbm, 753, rfl⟩
abbrev main_v683 : Ref sig .tc := ⟨.hbm, 754, rfl⟩
abbrev main_v684 : Ref sig .tc := ⟨.hbm, 755, rfl⟩
abbrev main_v685 : Ref sig .tc := ⟨.hbm, 756, rfl⟩
abbrev main_v686 : Ref sig .tc := ⟨.hbm, 757, rfl⟩
abbrev main_v687 : Ref sig .tc := ⟨.hbm, 758, rfl⟩
abbrev main_v688 : Ref sig .tc := ⟨.hbm, 759, rfl⟩
abbrev main_v689 : Ref sig .tc := ⟨.hbm, 760, rfl⟩
abbrev main_v690 : Ref sig .tc := ⟨.hbm, 761, rfl⟩
abbrev main_v691 : Ref sig .tc := ⟨.hbm, 762, rfl⟩
abbrev main_v692 : Ref sig .tc := ⟨.hbm, 763, rfl⟩
abbrev main_v693 : Ref sig .tc := ⟨.hbm, 764, rfl⟩
abbrev main_v694 : Ref sig .tc := ⟨.hbm, 765, rfl⟩
abbrev main_v695 : Ref sig .tc := ⟨.hbm, 766, rfl⟩
abbrev main_v696 : Ref sig .tc := ⟨.hbm, 767, rfl⟩
abbrev main_v697 : Ref sig .tc := ⟨.hbm, 768, rfl⟩
abbrev main_v698 : Ref sig .tc := ⟨.hbm, 769, rfl⟩
abbrev main_v699 : Ref sig .tc := ⟨.hbm, 770, rfl⟩
abbrev main_v700 : Ref sig .tc := ⟨.hbm, 771, rfl⟩
abbrev main_v701 : Ref sig .tc := ⟨.hbm, 772, rfl⟩
abbrev main_v702 : Ref sig .tc := ⟨.hbm, 773, rfl⟩
abbrev main_v703 : Ref sig .tc := ⟨.hbm, 774, rfl⟩
abbrev main_v704 : Ref sig .tc := ⟨.hbm, 775, rfl⟩
abbrev main_v705 : Ref sig .tc := ⟨.hbm, 776, rfl⟩
abbrev main_call23_cst : Ref sig .tc := ⟨.hbm, 777, rfl⟩
abbrev main_call23_v0 : Ref sig .tc := ⟨.hbm, 778, rfl⟩
abbrev main_v706 : Ref sig .tc := ⟨.hbm, 779, rfl⟩
abbrev main_v707 : Ref sig .tc := ⟨.hbm, 780, rfl⟩
abbrev main_v708 : Ref sig .tc := ⟨.hbm, 781, rfl⟩
abbrev main_v709 : Ref sig .tc := ⟨.hbm, 782, rfl⟩
abbrev main_v710 : Ref sig .tc := ⟨.hbm, 783, rfl⟩
abbrev main_c_25 : Ref sig .tc := ⟨.hbm, 784, rfl⟩
abbrev main_call24_v0 : Ref sig .tc := ⟨.hbm, 785, rfl⟩
abbrev main_v711 : Ref sig .tc := ⟨.hbm, 786, rfl⟩
abbrev main_cst_26 : Ref sig .tc := ⟨.hbm, 787, rfl⟩
abbrev main_v712 : Ref sig .tc := ⟨.hbm, 788, rfl⟩
abbrev main_v713 : Ref sig .tc := ⟨.hbm, 789, rfl⟩
abbrev main_v714 : Ref sig .tc := ⟨.hbm, 790, rfl⟩
abbrev main_v715 : Ref sig .tc := ⟨.hbm, 791, rfl⟩
abbrev main_v716 : Ref sig .tc := ⟨.hbm, 792, rfl⟩
abbrev main_v717 : Ref sig .tc := ⟨.hbm, 793, rfl⟩
abbrev main_v718 : Ref sig .tc := ⟨.hbm, 794, rfl⟩
abbrev main_v719 : Ref sig .tc := ⟨.hbm, 795, rfl⟩
abbrev main_v720 : Ref sig .tc := ⟨.hbm, 796, rfl⟩
abbrev main_v721 : Ref sig .tc := ⟨.hbm, 797, rfl⟩
abbrev main_v722 : Ref sig .tc := ⟨.hbm, 798, rfl⟩
abbrev main_v723 : Ref sig .tc := ⟨.hbm, 799, rfl⟩
abbrev main_v724 : Ref sig .tc := ⟨.hbm, 800, rfl⟩
abbrev main_v725 : Ref sig .tc := ⟨.hbm, 801, rfl⟩
abbrev main_v726 : Ref sig .tc := ⟨.hbm, 802, rfl⟩
abbrev main_v727 : Ref sig .tc := ⟨.hbm, 803, rfl⟩
abbrev main_v728 : Ref sig .tc := ⟨.hbm, 804, rfl⟩
abbrev main_v729 : Ref sig .tc := ⟨.hbm, 805, rfl⟩
abbrev main_v730 : Ref sig .tc := ⟨.hbm, 806, rfl⟩
abbrev main_v731 : Ref sig .tc := ⟨.hbm, 807, rfl⟩
abbrev main_v732 : Ref sig .tc := ⟨.hbm, 808, rfl⟩
abbrev main_v733 : Ref sig .tc := ⟨.hbm, 809, rfl⟩
abbrev main_v734 : Ref sig .tc := ⟨.hbm, 810, rfl⟩
abbrev main_v735 : Ref sig .tc := ⟨.hbm, 811, rfl⟩
abbrev main_v736 : Ref sig .tc := ⟨.hbm, 812, rfl⟩
abbrev main_v737 : Ref sig .tc := ⟨.hbm, 813, rfl⟩
abbrev main_v738 : Ref sig .tc := ⟨.hbm, 814, rfl⟩
abbrev main_v739 : Ref sig .tc := ⟨.hbm, 815, rfl⟩
abbrev main_v740 : Ref sig .tc := ⟨.hbm, 816, rfl⟩
abbrev main_v741 : Ref sig .tc := ⟨.hbm, 817, rfl⟩
abbrev main_v742 : Ref sig .tc := ⟨.hbm, 818, rfl⟩
abbrev main_v743 : Ref sig .tc := ⟨.hbm, 819, rfl⟩
abbrev main_v744 : Ref sig .tc := ⟨.hbm, 820, rfl⟩
abbrev main_v745 : Ref sig .tc := ⟨.hbm, 821, rfl⟩
abbrev main_v746 : Ref sig .tc := ⟨.hbm, 822, rfl⟩
abbrev main_v747 : Ref sig .tc := ⟨.hbm, 823, rfl⟩
abbrev main_v748 : Ref sig .tc := ⟨.hbm, 824, rfl⟩
abbrev main_v749 : Ref sig .tc := ⟨.hbm, 825, rfl⟩
abbrev main_v750 : Ref sig .tc := ⟨.hbm, 826, rfl⟩
abbrev main_v751 : Ref sig .tc := ⟨.hbm, 827, rfl⟩
abbrev main_v752 : Ref sig .tc := ⟨.hbm, 828, rfl⟩
abbrev main_v753 : Ref sig .tc := ⟨.hbm, 829, rfl⟩
abbrev main_v754 : Ref sig .tc := ⟨.hbm, 830, rfl⟩
abbrev main_v755 : Ref sig .tc := ⟨.hbm, 831, rfl⟩
abbrev main_v756 : Ref sig .tc := ⟨.hbm, 832, rfl⟩
abbrev main_v757 : Ref sig .tc := ⟨.hbm, 833, rfl⟩
abbrev main_v758 : Ref sig .tc := ⟨.hbm, 834, rfl⟩
abbrev main_v759 : Ref sig .tc := ⟨.hbm, 835, rfl⟩
abbrev main_v760 : Ref sig .tc := ⟨.hbm, 836, rfl⟩
abbrev main_call25_cst : Ref sig .tc := ⟨.hbm, 837, rfl⟩
abbrev main_call25_v0 : Ref sig .tc := ⟨.hbm, 838, rfl⟩
abbrev main_v761 : Ref sig .tc := ⟨.hbm, 839, rfl⟩
abbrev main_c_27 : Ref sig .tc := ⟨.hbm, 840, rfl⟩
abbrev main_call26_v0 : Ref sig .tc := ⟨.hbm, 841, rfl⟩
abbrev main_v762 : Ref sig .tc := ⟨.hbm, 842, rfl⟩
abbrev main_cst_28 : Ref sig .tc := ⟨.hbm, 843, rfl⟩
abbrev main_v763 : Ref sig .tc := ⟨.hbm, 844, rfl⟩
abbrev main_v764 : Ref sig .tc := ⟨.hbm, 845, rfl⟩
abbrev main_v765 : Ref sig .tc := ⟨.hbm, 846, rfl⟩
abbrev main_v766 : Ref sig .tc := ⟨.hbm, 847, rfl⟩
abbrev main_v767 : Ref sig .tc := ⟨.hbm, 848, rfl⟩
abbrev main_v768 : Ref sig .tc := ⟨.hbm, 849, rfl⟩
abbrev main_v769 : Ref sig .tc := ⟨.hbm, 850, rfl⟩
abbrev main_v770 : Ref sig .tc := ⟨.hbm, 851, rfl⟩
abbrev main_v771 : Ref sig .tc := ⟨.hbm, 852, rfl⟩
abbrev main_v772 : Ref sig .tc := ⟨.hbm, 853, rfl⟩
abbrev main_v773 : Ref sig .tc := ⟨.hbm, 854, rfl⟩
abbrev main_v774 : Ref sig .tc := ⟨.hbm, 855, rfl⟩
abbrev main_v775 : Ref sig .tc := ⟨.hbm, 856, rfl⟩
abbrev main_v776 : Ref sig .tc := ⟨.hbm, 857, rfl⟩
abbrev main_v777 : Ref sig .tc := ⟨.hbm, 858, rfl⟩
abbrev main_v778 : Ref sig .tc := ⟨.hbm, 859, rfl⟩
abbrev main_v779 : Ref sig .tc := ⟨.hbm, 860, rfl⟩
abbrev main_v780 : Ref sig .tc := ⟨.hbm, 861, rfl⟩
abbrev main_v781 : Ref sig .tc := ⟨.hbm, 862, rfl⟩
abbrev main_v782 : Ref sig .tc := ⟨.hbm, 863, rfl⟩
abbrev main_v783 : Ref sig .tc := ⟨.hbm, 864, rfl⟩
abbrev main_v784 : Ref sig .tc := ⟨.hbm, 865, rfl⟩
abbrev main_v785 : Ref sig .tc := ⟨.hbm, 866, rfl⟩
abbrev main_v786 : Ref sig .tc := ⟨.hbm, 867, rfl⟩
abbrev main_v787 : Ref sig .tc := ⟨.hbm, 868, rfl⟩
abbrev main_v788 : Ref sig .tc := ⟨.hbm, 869, rfl⟩
abbrev main_v789 : Ref sig .tc := ⟨.hbm, 870, rfl⟩
abbrev main_v790 : Ref sig .tc := ⟨.hbm, 871, rfl⟩
abbrev main_v791 : Ref sig .tc := ⟨.hbm, 872, rfl⟩
abbrev main_v792 : Ref sig .tc := ⟨.hbm, 873, rfl⟩
abbrev main_v793 : Ref sig .tc := ⟨.hbm, 874, rfl⟩
abbrev main_v794 : Ref sig .tc := ⟨.hbm, 875, rfl⟩
abbrev main_v795 : Ref sig .tc := ⟨.hbm, 876, rfl⟩
abbrev main_v796 : Ref sig .tc := ⟨.hbm, 877, rfl⟩
abbrev main_v797 : Ref sig .tc := ⟨.hbm, 878, rfl⟩
abbrev main_v798 : Ref sig .tc := ⟨.hbm, 879, rfl⟩
abbrev main_v799 : Ref sig .tc := ⟨.hbm, 880, rfl⟩
abbrev main_v800 : Ref sig .tc := ⟨.hbm, 881, rfl⟩
abbrev main_v801 : Ref sig .tc := ⟨.hbm, 882, rfl⟩
abbrev main_v802 : Ref sig .tc := ⟨.hbm, 883, rfl⟩
abbrev main_v803 : Ref sig .tc := ⟨.hbm, 884, rfl⟩
abbrev main_v804 : Ref sig .tc := ⟨.hbm, 885, rfl⟩
abbrev main_v805 : Ref sig .tc := ⟨.hbm, 886, rfl⟩
abbrev main_v806 : Ref sig .tc := ⟨.hbm, 887, rfl⟩
abbrev main_v807 : Ref sig .tc := ⟨.hbm, 888, rfl⟩
abbrev main_v808 : Ref sig .tc := ⟨.hbm, 889, rfl⟩
abbrev main_v809 : Ref sig .tc := ⟨.hbm, 890, rfl⟩
abbrev main_v810 : Ref sig .tc := ⟨.hbm, 891, rfl⟩
abbrev main_v811 : Ref sig .tc := ⟨.hbm, 892, rfl⟩
abbrev main_v812 : Ref sig .tc := ⟨.hbm, 893, rfl⟩
abbrev main_v813 : Ref sig .tc := ⟨.hbm, 894, rfl⟩
abbrev main_v814 : Ref sig .tc := ⟨.hbm, 895, rfl⟩
abbrev main_v815 : Ref sig .tc := ⟨.hbm, 896, rfl⟩
abbrev main_c_29 : Ref sig .tc := ⟨.hbm, 897, rfl⟩
abbrev main_call27_v0 : Ref sig .tc := ⟨.hbm, 898, rfl⟩
abbrev main_v816 : Ref sig .tc := ⟨.hbm, 899, rfl⟩
abbrev main_cst_30 : Ref sig .tc := ⟨.hbm, 900, rfl⟩
abbrev main_v817 : Ref sig .tc := ⟨.hbm, 901, rfl⟩
abbrev main_v818 : Ref sig .tc := ⟨.hbm, 902, rfl⟩
abbrev main_v819 : Ref sig .tc := ⟨.hbm, 903, rfl⟩
abbrev main_v820 : Ref sig .tc := ⟨.hbm, 904, rfl⟩
abbrev main_v821 : Ref sig .tc := ⟨.hbm, 905, rfl⟩
abbrev main_v822 : Ref sig .tc := ⟨.hbm, 906, rfl⟩
abbrev main_v823 : Ref sig .tc := ⟨.hbm, 907, rfl⟩
abbrev main_v824 : Ref sig .tc := ⟨.hbm, 908, rfl⟩
abbrev main_v825 : Ref sig .tc := ⟨.hbm, 909, rfl⟩
abbrev main_v826 : Ref sig .tc := ⟨.hbm, 910, rfl⟩
abbrev main_v827 : Ref sig .tc := ⟨.hbm, 911, rfl⟩
abbrev main_v828 : Ref sig .tc := ⟨.hbm, 912, rfl⟩
abbrev main_v829 : Ref sig .tc := ⟨.hbm, 913, rfl⟩
abbrev main_v830 : Ref sig .tc := ⟨.hbm, 914, rfl⟩
abbrev main_v831 : Ref sig .tc := ⟨.hbm, 915, rfl⟩
abbrev main_v832 : Ref sig .tc := ⟨.hbm, 916, rfl⟩
abbrev main_v833 : Ref sig .tc := ⟨.hbm, 917, rfl⟩
abbrev main_v834 : Ref sig .tc := ⟨.hbm, 918, rfl⟩
abbrev main_v835 : Ref sig .tc := ⟨.hbm, 919, rfl⟩
abbrev main_v836 : Ref sig .tc := ⟨.hbm, 920, rfl⟩
abbrev main_v837 : Ref sig .tc := ⟨.hbm, 921, rfl⟩
abbrev main_v838 : Ref sig .tc := ⟨.hbm, 922, rfl⟩
abbrev main_v839 : Ref sig .tc := ⟨.hbm, 923, rfl⟩
abbrev main_v840 : Ref sig .tc := ⟨.hbm, 924, rfl⟩
abbrev main_v841 : Ref sig .tc := ⟨.hbm, 925, rfl⟩
abbrev main_v842 : Ref sig .tc := ⟨.hbm, 926, rfl⟩
abbrev main_v843 : Ref sig .tc := ⟨.hbm, 927, rfl⟩
abbrev main_v844 : Ref sig .tc := ⟨.hbm, 928, rfl⟩
abbrev main_v845 : Ref sig .tc := ⟨.hbm, 929, rfl⟩
abbrev main_v846 : Ref sig .tc := ⟨.hbm, 930, rfl⟩
abbrev main_v847 : Ref sig .tc := ⟨.hbm, 931, rfl⟩
abbrev main_v848 : Ref sig .tc := ⟨.hbm, 932, rfl⟩
abbrev main_v849 : Ref sig .tc := ⟨.hbm, 933, rfl⟩
abbrev main_v850 : Ref sig .tc := ⟨.hbm, 934, rfl⟩
abbrev main_v851 : Ref sig .tc := ⟨.hbm, 935, rfl⟩
abbrev main_v852 : Ref sig .tc := ⟨.hbm, 936, rfl⟩
abbrev main_v853 : Ref sig .tc := ⟨.hbm, 937, rfl⟩
abbrev main_v854 : Ref sig .tc := ⟨.hbm, 938, rfl⟩
abbrev main_v855 : Ref sig .tc := ⟨.hbm, 939, rfl⟩
abbrev main_v856 : Ref sig .tc := ⟨.hbm, 940, rfl⟩
abbrev main_v857 : Ref sig .tc := ⟨.hbm, 941, rfl⟩
abbrev main_v858 : Ref sig .tc := ⟨.hbm, 942, rfl⟩
abbrev main_v859 : Ref sig .tc := ⟨.hbm, 943, rfl⟩
abbrev main_v860 : Ref sig .tc := ⟨.hbm, 944, rfl⟩
abbrev main_v861 : Ref sig .tc := ⟨.hbm, 945, rfl⟩
abbrev main_v862 : Ref sig .tc := ⟨.hbm, 946, rfl⟩
abbrev main_v863 : Ref sig .tc := ⟨.hbm, 947, rfl⟩
abbrev main_v864 : Ref sig .tc := ⟨.hbm, 948, rfl⟩
abbrev main_v865 : Ref sig .tc := ⟨.hbm, 949, rfl⟩
abbrev main_call28_cst : Ref sig .tc := ⟨.hbm, 950, rfl⟩
abbrev main_call28_v0 : Ref sig .tc := ⟨.hbm, 951, rfl⟩
abbrev main_v866 : Ref sig .tc := ⟨.hbm, 952, rfl⟩
abbrev main_v867 : Ref sig .tc := ⟨.hbm, 953, rfl⟩
abbrev main_v868 : Ref sig .tc := ⟨.hbm, 954, rfl⟩
abbrev main_v869 : Ref sig .tc := ⟨.hbm, 955, rfl⟩
abbrev main_v870 : Ref sig .tc := ⟨.hbm, 956, rfl⟩
abbrev main_c_31 : Ref sig .tc := ⟨.hbm, 957, rfl⟩
abbrev main_call29_v0 : Ref sig .tc := ⟨.hbm, 958, rfl⟩
abbrev main_v871 : Ref sig .tc := ⟨.hbm, 959, rfl⟩
abbrev main_cst_32 : Ref sig .tc := ⟨.hbm, 960, rfl⟩
abbrev main_v872 : Ref sig .tc := ⟨.hbm, 961, rfl⟩
abbrev main_v873 : Ref sig .tc := ⟨.hbm, 962, rfl⟩
abbrev main_v874 : Ref sig .tc := ⟨.hbm, 963, rfl⟩
abbrev main_v875 : Ref sig .tc := ⟨.hbm, 964, rfl⟩
abbrev main_v876 : Ref sig .tc := ⟨.hbm, 965, rfl⟩
abbrev main_v877 : Ref sig .tc := ⟨.hbm, 966, rfl⟩
abbrev main_v878 : Ref sig .tc := ⟨.hbm, 967, rfl⟩
abbrev main_v879 : Ref sig .tc := ⟨.hbm, 968, rfl⟩
abbrev main_v880 : Ref sig .tc := ⟨.hbm, 969, rfl⟩
abbrev main_v881 : Ref sig .tc := ⟨.hbm, 970, rfl⟩
abbrev main_v882 : Ref sig .tc := ⟨.hbm, 971, rfl⟩
abbrev main_v883 : Ref sig .tc := ⟨.hbm, 972, rfl⟩
abbrev main_v884 : Ref sig .tc := ⟨.hbm, 973, rfl⟩
abbrev main_v885 : Ref sig .tc := ⟨.hbm, 974, rfl⟩
abbrev main_v886 : Ref sig .tc := ⟨.hbm, 975, rfl⟩
abbrev main_v887 : Ref sig .tc := ⟨.hbm, 976, rfl⟩
abbrev main_v888 : Ref sig .tc := ⟨.hbm, 977, rfl⟩
abbrev main_v889 : Ref sig .tc := ⟨.hbm, 978, rfl⟩
abbrev main_v890 : Ref sig .tc := ⟨.hbm, 979, rfl⟩
abbrev main_v891 : Ref sig .tc := ⟨.hbm, 980, rfl⟩
abbrev main_v892 : Ref sig .tc := ⟨.hbm, 981, rfl⟩
abbrev main_v893 : Ref sig .tc := ⟨.hbm, 982, rfl⟩
abbrev main_v894 : Ref sig .tc := ⟨.hbm, 983, rfl⟩
abbrev main_v895 : Ref sig .tc := ⟨.hbm, 984, rfl⟩
abbrev main_v896 : Ref sig .tc := ⟨.hbm, 985, rfl⟩
abbrev main_v897 : Ref sig .tc := ⟨.hbm, 986, rfl⟩
abbrev main_v898 : Ref sig .tc := ⟨.hbm, 987, rfl⟩
abbrev main_v899 : Ref sig .tc := ⟨.hbm, 988, rfl⟩
abbrev main_v900 : Ref sig .tc := ⟨.hbm, 989, rfl⟩
abbrev main_v901 : Ref sig .tc := ⟨.hbm, 990, rfl⟩
abbrev main_v902 : Ref sig .tc := ⟨.hbm, 991, rfl⟩
abbrev main_v903 : Ref sig .tc := ⟨.hbm, 992, rfl⟩
abbrev main_v904 : Ref sig .tc := ⟨.hbm, 993, rfl⟩
abbrev main_v905 : Ref sig .tc := ⟨.hbm, 994, rfl⟩
abbrev main_v906 : Ref sig .tc := ⟨.hbm, 995, rfl⟩
abbrev main_v907 : Ref sig .tc := ⟨.hbm, 996, rfl⟩
abbrev main_v908 : Ref sig .tc := ⟨.hbm, 997, rfl⟩
abbrev main_v909 : Ref sig .tc := ⟨.hbm, 998, rfl⟩
abbrev main_v910 : Ref sig .tc := ⟨.hbm, 999, rfl⟩
abbrev main_v911 : Ref sig .tc := ⟨.hbm, 1000, rfl⟩
abbrev main_v912 : Ref sig .tc := ⟨.hbm, 1001, rfl⟩
abbrev main_v913 : Ref sig .tc := ⟨.hbm, 1002, rfl⟩
abbrev main_v914 : Ref sig .tc := ⟨.hbm, 1003, rfl⟩
abbrev main_v915 : Ref sig .tc := ⟨.hbm, 1004, rfl⟩
abbrev main_v916 : Ref sig .tc := ⟨.hbm, 1005, rfl⟩
abbrev main_v917 : Ref sig .tc := ⟨.hbm, 1006, rfl⟩
abbrev main_v918 : Ref sig .tc := ⟨.hbm, 1007, rfl⟩
abbrev main_v919 : Ref sig .tc := ⟨.hbm, 1008, rfl⟩
abbrev main_v920 : Ref sig .tc := ⟨.hbm, 1009, rfl⟩
abbrev main_call30_cst : Ref sig .tc := ⟨.hbm, 1010, rfl⟩
abbrev main_call30_v0 : Ref sig .tc := ⟨.hbm, 1011, rfl⟩
abbrev main_v921 : Ref sig .tc := ⟨.hbm, 1012, rfl⟩
abbrev main_v922 : Ref sig .tc := ⟨.hbm, 1013, rfl⟩
abbrev main_v923 : Ref sig .tc := ⟨.hbm, 1014, rfl⟩
abbrev main_v924 : Ref sig .tc := ⟨.hbm, 1015, rfl⟩
abbrev main_v925 : Ref sig .tc := ⟨.hbm, 1016, rfl⟩
abbrev main_c_33 : Ref sig .tc := ⟨.hbm, 1017, rfl⟩
abbrev main_call31_v0 : Ref sig .tc := ⟨.hbm, 1018, rfl⟩
abbrev main_v926 : Ref sig .tc := ⟨.hbm, 1019, rfl⟩
abbrev main_cst_34 : Ref sig .tc := ⟨.hbm, 1020, rfl⟩
abbrev main_v927 : Ref sig .tc := ⟨.hbm, 1021, rfl⟩
abbrev main_v928 : Ref sig .tc := ⟨.hbm, 1022, rfl⟩
abbrev main_v929 : Ref sig .tc := ⟨.hbm, 1023, rfl⟩
abbrev main_v930 : Ref sig .tc := ⟨.hbm, 1024, rfl⟩
abbrev main_v931 : Ref sig .tc := ⟨.hbm, 1025, rfl⟩
abbrev main_v932 : Ref sig .tc := ⟨.hbm, 1026, rfl⟩
abbrev main_v933 : Ref sig .tc := ⟨.hbm, 1027, rfl⟩
abbrev main_v934 : Ref sig .tc := ⟨.hbm, 1028, rfl⟩
abbrev main_v935 : Ref sig .tc := ⟨.hbm, 1029, rfl⟩
abbrev main_v936 : Ref sig .tc := ⟨.hbm, 1030, rfl⟩
abbrev main_v937 : Ref sig .tc := ⟨.hbm, 1031, rfl⟩
abbrev main_v938 : Ref sig .tc := ⟨.hbm, 1032, rfl⟩
abbrev main_v939 : Ref sig .tc := ⟨.hbm, 1033, rfl⟩
abbrev main_v940 : Ref sig .tc := ⟨.hbm, 1034, rfl⟩
abbrev main_v941 : Ref sig .tc := ⟨.hbm, 1035, rfl⟩
abbrev main_v942 : Ref sig .tc := ⟨.hbm, 1036, rfl⟩
abbrev main_v943 : Ref sig .tc := ⟨.hbm, 1037, rfl⟩
abbrev main_v944 : Ref sig .tc := ⟨.hbm, 1038, rfl⟩
abbrev main_v945 : Ref sig .tc := ⟨.hbm, 1039, rfl⟩
abbrev main_v946 : Ref sig .tc := ⟨.hbm, 1040, rfl⟩
abbrev main_v947 : Ref sig .tc := ⟨.hbm, 1041, rfl⟩
abbrev main_v948 : Ref sig .tc := ⟨.hbm, 1042, rfl⟩
abbrev main_v949 : Ref sig .tc := ⟨.hbm, 1043, rfl⟩
abbrev main_v950 : Ref sig .tc := ⟨.hbm, 1044, rfl⟩
abbrev main_v951 : Ref sig .tc := ⟨.hbm, 1045, rfl⟩
abbrev main_v952 : Ref sig .tc := ⟨.hbm, 1046, rfl⟩
abbrev main_v953 : Ref sig .tc := ⟨.hbm, 1047, rfl⟩
abbrev main_v954 : Ref sig .tc := ⟨.hbm, 1048, rfl⟩
abbrev main_v955 : Ref sig .tc := ⟨.hbm, 1049, rfl⟩
abbrev main_v956 : Ref sig .tc := ⟨.hbm, 1050, rfl⟩
abbrev main_v957 : Ref sig .tc := ⟨.hbm, 1051, rfl⟩
abbrev main_v958 : Ref sig .tc := ⟨.hbm, 1052, rfl⟩
abbrev main_v959 : Ref sig .tc := ⟨.hbm, 1053, rfl⟩
abbrev main_v960 : Ref sig .tc := ⟨.hbm, 1054, rfl⟩
abbrev main_v961 : Ref sig .tc := ⟨.hbm, 1055, rfl⟩
abbrev main_v962 : Ref sig .tc := ⟨.hbm, 1056, rfl⟩
abbrev main_v963 : Ref sig .tc := ⟨.hbm, 1057, rfl⟩
abbrev main_v964 : Ref sig .tc := ⟨.hbm, 1058, rfl⟩
abbrev main_v965 : Ref sig .tc := ⟨.hbm, 1059, rfl⟩
abbrev main_v966 : Ref sig .tc := ⟨.hbm, 1060, rfl⟩
abbrev main_v967 : Ref sig .tc := ⟨.hbm, 1061, rfl⟩
abbrev main_v968 : Ref sig .tc := ⟨.hbm, 1062, rfl⟩
abbrev main_v969 : Ref sig .tc := ⟨.hbm, 1063, rfl⟩
abbrev main_v970 : Ref sig .tc := ⟨.hbm, 1064, rfl⟩
abbrev main_v971 : Ref sig .tc := ⟨.hbm, 1065, rfl⟩
abbrev main_v972 : Ref sig .tc := ⟨.hbm, 1066, rfl⟩
abbrev main_v973 : Ref sig .tc := ⟨.hbm, 1067, rfl⟩
abbrev main_v974 : Ref sig .tc := ⟨.hbm, 1068, rfl⟩
abbrev main_v975 : Ref sig .tc := ⟨.hbm, 1069, rfl⟩
abbrev main_call32_cst : Ref sig .tc := ⟨.hbm, 1070, rfl⟩
abbrev main_call32_v0 : Ref sig .tc := ⟨.hbm, 1071, rfl⟩
abbrev main_v976 : Ref sig .tc := ⟨.hbm, 1072, rfl⟩
abbrev main_v977 : Ref sig .tc := ⟨.hbm, 1073, rfl⟩
abbrev main_v978 : Ref sig .tc := ⟨.hbm, 1074, rfl⟩
abbrev main_v979 : Ref sig .tc := ⟨.hbm, 1075, rfl⟩
abbrev main_v980 : Ref sig .tc := ⟨.hbm, 1076, rfl⟩
abbrev main_c_35 : Ref sig .tc := ⟨.hbm, 1077, rfl⟩
abbrev main_call33_v0 : Ref sig .tc := ⟨.hbm, 1078, rfl⟩
abbrev main_v981 : Ref sig .tc := ⟨.hbm, 1079, rfl⟩
abbrev main_cst_36 : Ref sig .tc := ⟨.hbm, 1080, rfl⟩
abbrev main_v982 : Ref sig .tc := ⟨.hbm, 1081, rfl⟩
abbrev main_v983 : Ref sig .tc := ⟨.hbm, 1082, rfl⟩
abbrev main_v984 : Ref sig .tc := ⟨.hbm, 1083, rfl⟩
abbrev main_v985 : Ref sig .tc := ⟨.hbm, 1084, rfl⟩
abbrev main_v986 : Ref sig .tc := ⟨.hbm, 1085, rfl⟩
abbrev main_v987 : Ref sig .tc := ⟨.hbm, 1086, rfl⟩
abbrev main_v988 : Ref sig .tc := ⟨.hbm, 1087, rfl⟩
abbrev main_v989 : Ref sig .tc := ⟨.hbm, 1088, rfl⟩
abbrev main_v990 : Ref sig .tc := ⟨.hbm, 1089, rfl⟩
abbrev main_v991 : Ref sig .tc := ⟨.hbm, 1090, rfl⟩
abbrev main_v992 : Ref sig .tc := ⟨.hbm, 1091, rfl⟩
abbrev main_v993 : Ref sig .tc := ⟨.hbm, 1092, rfl⟩
abbrev main_v994 : Ref sig .tc := ⟨.hbm, 1093, rfl⟩
abbrev main_v995 : Ref sig .tc := ⟨.hbm, 1094, rfl⟩
abbrev main_v996 : Ref sig .tc := ⟨.hbm, 1095, rfl⟩
abbrev main_v997 : Ref sig .tc := ⟨.hbm, 1096, rfl⟩
abbrev main_v998 : Ref sig .tc := ⟨.hbm, 1097, rfl⟩
abbrev main_v999 : Ref sig .tc := ⟨.hbm, 1098, rfl⟩
abbrev main_v1000 : Ref sig .tc := ⟨.hbm, 1099, rfl⟩
abbrev main_v1001 : Ref sig .tc := ⟨.hbm, 1100, rfl⟩
abbrev main_v1002 : Ref sig .tc := ⟨.hbm, 1101, rfl⟩
abbrev main_v1003 : Ref sig .tc := ⟨.hbm, 1102, rfl⟩
abbrev main_v1004 : Ref sig .tc := ⟨.hbm, 1103, rfl⟩
abbrev main_v1005 : Ref sig .tc := ⟨.hbm, 1104, rfl⟩
abbrev main_v1006 : Ref sig .tc := ⟨.hbm, 1105, rfl⟩
abbrev main_v1007 : Ref sig .tc := ⟨.hbm, 1106, rfl⟩
abbrev main_v1008 : Ref sig .tc := ⟨.hbm, 1107, rfl⟩
abbrev main_v1009 : Ref sig .tc := ⟨.hbm, 1108, rfl⟩
abbrev main_v1010 : Ref sig .tc := ⟨.hbm, 1109, rfl⟩
abbrev main_v1011 : Ref sig .tc := ⟨.hbm, 1110, rfl⟩
abbrev main_v1012 : Ref sig .tc := ⟨.hbm, 1111, rfl⟩
abbrev main_v1013 : Ref sig .tc := ⟨.hbm, 1112, rfl⟩
abbrev main_v1014 : Ref sig .tc := ⟨.hbm, 1113, rfl⟩
abbrev main_v1015 : Ref sig .tc := ⟨.hbm, 1114, rfl⟩
abbrev main_v1016 : Ref sig .tc := ⟨.hbm, 1115, rfl⟩
abbrev main_v1017 : Ref sig .tc := ⟨.hbm, 1116, rfl⟩
abbrev main_v1018 : Ref sig .tc := ⟨.hbm, 1117, rfl⟩
abbrev main_v1019 : Ref sig .tc := ⟨.hbm, 1118, rfl⟩
abbrev main_v1020 : Ref sig .tc := ⟨.hbm, 1119, rfl⟩
abbrev main_v1021 : Ref sig .tc := ⟨.hbm, 1120, rfl⟩
abbrev main_v1022 : Ref sig .tc := ⟨.hbm, 1121, rfl⟩
abbrev main_v1023 : Ref sig .tc := ⟨.hbm, 1122, rfl⟩
abbrev main_v1024 : Ref sig .tc := ⟨.hbm, 1123, rfl⟩
abbrev main_v1025 : Ref sig .tc := ⟨.hbm, 1124, rfl⟩
abbrev main_v1026 : Ref sig .tc := ⟨.hbm, 1125, rfl⟩
abbrev main_v1027 : Ref sig .tc := ⟨.hbm, 1126, rfl⟩
abbrev main_v1028 : Ref sig .tc := ⟨.hbm, 1127, rfl⟩
abbrev main_v1029 : Ref sig .tc := ⟨.hbm, 1128, rfl⟩
abbrev main_v1030 : Ref sig .tc := ⟨.hbm, 1129, rfl⟩
abbrev main_call34_cst : Ref sig .tc := ⟨.hbm, 1130, rfl⟩
abbrev main_call34_v0 : Ref sig .tc := ⟨.hbm, 1131, rfl⟩
abbrev main_v1031 : Ref sig .tc := ⟨.hbm, 1132, rfl⟩
abbrev main_c_37 : Ref sig .tc := ⟨.hbm, 1133, rfl⟩
abbrev main_call35_v0 : Ref sig .tc := ⟨.hbm, 1134, rfl⟩
abbrev main_v1032 : Ref sig .tc := ⟨.hbm, 1135, rfl⟩
abbrev main_cst_38 : Ref sig .tc := ⟨.hbm, 1136, rfl⟩
abbrev main_v1033 : Ref sig .tc := ⟨.hbm, 1137, rfl⟩
abbrev main_v1034 : Ref sig .tc := ⟨.hbm, 1138, rfl⟩
abbrev main_v1035 : Ref sig .tc := ⟨.hbm, 1139, rfl⟩
abbrev main_v1036 : Ref sig .tc := ⟨.hbm, 1140, rfl⟩
abbrev main_v1037 : Ref sig .tc := ⟨.hbm, 1141, rfl⟩
abbrev main_v1038 : Ref sig .tc := ⟨.hbm, 1142, rfl⟩
abbrev main_v1039 : Ref sig .tc := ⟨.hbm, 1143, rfl⟩
abbrev main_v1040 : Ref sig .tc := ⟨.hbm, 1144, rfl⟩
abbrev main_v1041 : Ref sig .tc := ⟨.hbm, 1145, rfl⟩
abbrev main_v1042 : Ref sig .tc := ⟨.hbm, 1146, rfl⟩
abbrev main_v1043 : Ref sig .tc := ⟨.hbm, 1147, rfl⟩
abbrev main_v1044 : Ref sig .tc := ⟨.hbm, 1148, rfl⟩
abbrev main_v1045 : Ref sig .tc := ⟨.hbm, 1149, rfl⟩
abbrev main_v1046 : Ref sig .tc := ⟨.hbm, 1150, rfl⟩
abbrev main_v1047 : Ref sig .tc := ⟨.hbm, 1151, rfl⟩
abbrev main_v1048 : Ref sig .tc := ⟨.hbm, 1152, rfl⟩
abbrev main_v1049 : Ref sig .tc := ⟨.hbm, 1153, rfl⟩
abbrev main_v1050 : Ref sig .tc := ⟨.hbm, 1154, rfl⟩
abbrev main_v1051 : Ref sig .tc := ⟨.hbm, 1155, rfl⟩
abbrev main_v1052 : Ref sig .tc := ⟨.hbm, 1156, rfl⟩
abbrev main_v1053 : Ref sig .tc := ⟨.hbm, 1157, rfl⟩
abbrev main_v1054 : Ref sig .tc := ⟨.hbm, 1158, rfl⟩
abbrev main_v1055 : Ref sig .tc := ⟨.hbm, 1159, rfl⟩
abbrev main_v1056 : Ref sig .tc := ⟨.hbm, 1160, rfl⟩
abbrev main_v1057 : Ref sig .tc := ⟨.hbm, 1161, rfl⟩
abbrev main_v1058 : Ref sig .tc := ⟨.hbm, 1162, rfl⟩
abbrev main_v1059 : Ref sig .tc := ⟨.hbm, 1163, rfl⟩
abbrev main_v1060 : Ref sig .tc := ⟨.hbm, 1164, rfl⟩
abbrev main_v1061 : Ref sig .tc := ⟨.hbm, 1165, rfl⟩
abbrev main_v1062 : Ref sig .tc := ⟨.hbm, 1166, rfl⟩
abbrev main_v1063 : Ref sig .tc := ⟨.hbm, 1167, rfl⟩
abbrev main_v1064 : Ref sig .tc := ⟨.hbm, 1168, rfl⟩
abbrev main_v1065 : Ref sig .tc := ⟨.hbm, 1169, rfl⟩
abbrev main_v1066 : Ref sig .tc := ⟨.hbm, 1170, rfl⟩
abbrev main_v1067 : Ref sig .tc := ⟨.hbm, 1171, rfl⟩
abbrev main_v1068 : Ref sig .tc := ⟨.hbm, 1172, rfl⟩
abbrev main_v1069 : Ref sig .tc := ⟨.hbm, 1173, rfl⟩
abbrev main_v1070 : Ref sig .tc := ⟨.hbm, 1174, rfl⟩
abbrev main_v1071 : Ref sig .tc := ⟨.hbm, 1175, rfl⟩
abbrev main_v1072 : Ref sig .tc := ⟨.hbm, 1176, rfl⟩
abbrev main_v1073 : Ref sig .tc := ⟨.hbm, 1177, rfl⟩
abbrev main_v1074 : Ref sig .tc := ⟨.hbm, 1178, rfl⟩
abbrev main_v1075 : Ref sig .tc := ⟨.hbm, 1179, rfl⟩
abbrev main_v1076 : Ref sig .tc := ⟨.hbm, 1180, rfl⟩
abbrev main_v1077 : Ref sig .tc := ⟨.hbm, 1181, rfl⟩
abbrev main_v1078 : Ref sig .tc := ⟨.hbm, 1182, rfl⟩
abbrev main_v1079 : Ref sig .tc := ⟨.hbm, 1183, rfl⟩
abbrev main_v1080 : Ref sig .tc := ⟨.hbm, 1184, rfl⟩
abbrev main_v1081 : Ref sig .tc := ⟨.hbm, 1185, rfl⟩
abbrev main_v1082 : Ref sig .tc := ⟨.hbm, 1186, rfl⟩
abbrev main_v1083 : Ref sig .tc := ⟨.hbm, 1187, rfl⟩
abbrev main_v1084 : Ref sig .tc := ⟨.hbm, 1188, rfl⟩
abbrev main_v1085 : Ref sig .tc := ⟨.hbm, 1189, rfl⟩
abbrev main_v1086 : Ref sig .tc := ⟨.hbm, 1190, rfl⟩
abbrev main_v1087 : Ref sig .tc := ⟨.hbm, 1191, rfl⟩
abbrev main_c_39 : Ref sig .tc := ⟨.hbm, 1192, rfl⟩
abbrev main_call36_v0 : Ref sig .tc := ⟨.hbm, 1193, rfl⟩
abbrev main_v1088 : Ref sig .tc := ⟨.hbm, 1194, rfl⟩
abbrev main_cst_40 : Ref sig .tc := ⟨.hbm, 1195, rfl⟩
abbrev main_v1089 : Ref sig .tc := ⟨.hbm, 1196, rfl⟩
abbrev main_v1090 : Ref sig .tc := ⟨.hbm, 1197, rfl⟩
abbrev main_v1091 : Ref sig .tc := ⟨.hbm, 1198, rfl⟩
abbrev main_v1092 : Ref sig .tc := ⟨.hbm, 1199, rfl⟩
abbrev main_v1093 : Ref sig .tc := ⟨.hbm, 1200, rfl⟩
abbrev main_v1094 : Ref sig .tc := ⟨.hbm, 1201, rfl⟩
abbrev main_v1095 : Ref sig .tc := ⟨.hbm, 1202, rfl⟩
abbrev main_v1096 : Ref sig .tc := ⟨.hbm, 1203, rfl⟩
abbrev main_v1097 : Ref sig .tc := ⟨.hbm, 1204, rfl⟩
abbrev main_v1098 : Ref sig .tc := ⟨.hbm, 1205, rfl⟩
abbrev main_v1099 : Ref sig .tc := ⟨.hbm, 1206, rfl⟩
abbrev main_v1100 : Ref sig .tc := ⟨.hbm, 1207, rfl⟩
abbrev main_v1101 : Ref sig .tc := ⟨.hbm, 1208, rfl⟩
abbrev main_v1102 : Ref sig .tc := ⟨.hbm, 1209, rfl⟩
abbrev main_v1103 : Ref sig .tc := ⟨.hbm, 1210, rfl⟩
abbrev main_v1104 : Ref sig .tc := ⟨.hbm, 1211, rfl⟩
abbrev main_v1105 : Ref sig .tc := ⟨.hbm, 1212, rfl⟩
abbrev main_v1106 : Ref sig .tc := ⟨.hbm, 1213, rfl⟩
abbrev main_v1107 : Ref sig .tc := ⟨.hbm, 1214, rfl⟩
abbrev main_v1108 : Ref sig .tc := ⟨.hbm, 1215, rfl⟩
abbrev main_v1109 : Ref sig .tc := ⟨.hbm, 1216, rfl⟩
abbrev main_v1110 : Ref sig .tc := ⟨.hbm, 1217, rfl⟩
abbrev main_v1111 : Ref sig .tc := ⟨.hbm, 1218, rfl⟩
abbrev main_v1112 : Ref sig .tc := ⟨.hbm, 1219, rfl⟩
abbrev main_v1113 : Ref sig .tc := ⟨.hbm, 1220, rfl⟩
abbrev main_v1114 : Ref sig .tc := ⟨.hbm, 1221, rfl⟩
abbrev main_v1115 : Ref sig .tc := ⟨.hbm, 1222, rfl⟩
abbrev main_v1116 : Ref sig .tc := ⟨.hbm, 1223, rfl⟩
abbrev main_v1117 : Ref sig .tc := ⟨.hbm, 1224, rfl⟩
abbrev main_v1118 : Ref sig .tc := ⟨.hbm, 1225, rfl⟩
abbrev main_v1119 : Ref sig .tc := ⟨.hbm, 1226, rfl⟩
abbrev main_v1120 : Ref sig .tc := ⟨.hbm, 1227, rfl⟩
abbrev main_v1121 : Ref sig .tc := ⟨.hbm, 1228, rfl⟩
abbrev main_v1122 : Ref sig .tc := ⟨.hbm, 1229, rfl⟩
abbrev main_v1123 : Ref sig .tc := ⟨.hbm, 1230, rfl⟩
abbrev main_v1124 : Ref sig .tc := ⟨.hbm, 1231, rfl⟩
abbrev main_v1125 : Ref sig .tc := ⟨.hbm, 1232, rfl⟩
abbrev main_v1126 : Ref sig .tc := ⟨.hbm, 1233, rfl⟩
abbrev main_v1127 : Ref sig .tc := ⟨.hbm, 1234, rfl⟩
abbrev main_v1128 : Ref sig .tc := ⟨.hbm, 1235, rfl⟩
abbrev main_v1129 : Ref sig .tc := ⟨.hbm, 1236, rfl⟩
abbrev main_v1130 : Ref sig .tc := ⟨.hbm, 1237, rfl⟩
abbrev main_v1131 : Ref sig .tc := ⟨.hbm, 1238, rfl⟩
abbrev main_v1132 : Ref sig .tc := ⟨.hbm, 1239, rfl⟩
abbrev main_v1133 : Ref sig .tc := ⟨.hbm, 1240, rfl⟩
abbrev main_v1134 : Ref sig .tc := ⟨.hbm, 1241, rfl⟩
abbrev main_v1135 : Ref sig .tc := ⟨.hbm, 1242, rfl⟩
abbrev main_v1136 : Ref sig .tc := ⟨.hbm, 1243, rfl⟩
abbrev main_v1137 : Ref sig .tc := ⟨.hbm, 1244, rfl⟩
abbrev main_call37_cst : Ref sig .tc := ⟨.hbm, 1245, rfl⟩
abbrev main_call37_v0 : Ref sig .tc := ⟨.hbm, 1246, rfl⟩
abbrev main_v1138 : Ref sig .tc := ⟨.hbm, 1247, rfl⟩
abbrev main_v1139 : Ref sig .tc := ⟨.hbm, 1248, rfl⟩
abbrev main_v1140 : Ref sig .tc := ⟨.hbm, 1249, rfl⟩
abbrev main_v1141 : Ref sig .tc := ⟨.hbm, 1250, rfl⟩
abbrev main_v1142 : Ref sig .tc := ⟨.hbm, 1251, rfl⟩
abbrev main_c_41 : Ref sig .tc := ⟨.hbm, 1252, rfl⟩
abbrev main_call38_v0 : Ref sig .tc := ⟨.hbm, 1253, rfl⟩
abbrev main_v1143 : Ref sig .tc := ⟨.hbm, 1254, rfl⟩
abbrev main_cst_42 : Ref sig .tc := ⟨.hbm, 1255, rfl⟩
abbrev main_v1144 : Ref sig .tc := ⟨.hbm, 1256, rfl⟩
abbrev main_v1145 : Ref sig .tc := ⟨.hbm, 1257, rfl⟩
abbrev main_v1146 : Ref sig .tc := ⟨.hbm, 1258, rfl⟩
abbrev main_v1147 : Ref sig .tc := ⟨.hbm, 1259, rfl⟩
abbrev main_v1148 : Ref sig .tc := ⟨.hbm, 1260, rfl⟩
abbrev main_v1149 : Ref sig .tc := ⟨.hbm, 1261, rfl⟩
abbrev main_v1150 : Ref sig .tc := ⟨.hbm, 1262, rfl⟩
abbrev main_v1151 : Ref sig .tc := ⟨.hbm, 1263, rfl⟩
abbrev main_v1152 : Ref sig .tc := ⟨.hbm, 1264, rfl⟩
abbrev main_v1153 : Ref sig .tc := ⟨.hbm, 1265, rfl⟩
abbrev main_v1154 : Ref sig .tc := ⟨.hbm, 1266, rfl⟩
abbrev main_v1155 : Ref sig .tc := ⟨.hbm, 1267, rfl⟩
abbrev main_v1156 : Ref sig .tc := ⟨.hbm, 1268, rfl⟩
abbrev main_v1157 : Ref sig .tc := ⟨.hbm, 1269, rfl⟩
abbrev main_v1158 : Ref sig .tc := ⟨.hbm, 1270, rfl⟩
abbrev main_v1159 : Ref sig .tc := ⟨.hbm, 1271, rfl⟩
abbrev main_v1160 : Ref sig .tc := ⟨.hbm, 1272, rfl⟩
abbrev main_v1161 : Ref sig .tc := ⟨.hbm, 1273, rfl⟩
abbrev main_v1162 : Ref sig .tc := ⟨.hbm, 1274, rfl⟩
abbrev main_v1163 : Ref sig .tc := ⟨.hbm, 1275, rfl⟩
abbrev main_v1164 : Ref sig .tc := ⟨.hbm, 1276, rfl⟩
abbrev main_v1165 : Ref sig .tc := ⟨.hbm, 1277, rfl⟩
abbrev main_v1166 : Ref sig .tc := ⟨.hbm, 1278, rfl⟩
abbrev main_v1167 : Ref sig .tc := ⟨.hbm, 1279, rfl⟩
abbrev main_v1168 : Ref sig .tc := ⟨.hbm, 1280, rfl⟩
abbrev main_v1169 : Ref sig .tc := ⟨.hbm, 1281, rfl⟩
abbrev main_v1170 : Ref sig .tc := ⟨.hbm, 1282, rfl⟩
abbrev main_v1171 : Ref sig .tc := ⟨.hbm, 1283, rfl⟩
abbrev main_v1172 : Ref sig .tc := ⟨.hbm, 1284, rfl⟩
abbrev main_v1173 : Ref sig .tc := ⟨.hbm, 1285, rfl⟩
abbrev main_v1174 : Ref sig .tc := ⟨.hbm, 1286, rfl⟩
abbrev main_v1175 : Ref sig .tc := ⟨.hbm, 1287, rfl⟩
abbrev main_v1176 : Ref sig .tc := ⟨.hbm, 1288, rfl⟩
abbrev main_v1177 : Ref sig .tc := ⟨.hbm, 1289, rfl⟩
abbrev main_v1178 : Ref sig .tc := ⟨.hbm, 1290, rfl⟩
abbrev main_v1179 : Ref sig .tc := ⟨.hbm, 1291, rfl⟩
abbrev main_v1180 : Ref sig .tc := ⟨.hbm, 1292, rfl⟩
abbrev main_v1181 : Ref sig .tc := ⟨.hbm, 1293, rfl⟩
abbrev main_v1182 : Ref sig .tc := ⟨.hbm, 1294, rfl⟩
abbrev main_v1183 : Ref sig .tc := ⟨.hbm, 1295, rfl⟩
abbrev main_v1184 : Ref sig .tc := ⟨.hbm, 1296, rfl⟩
abbrev main_v1185 : Ref sig .tc := ⟨.hbm, 1297, rfl⟩
abbrev main_v1186 : Ref sig .tc := ⟨.hbm, 1298, rfl⟩
abbrev main_v1187 : Ref sig .tc := ⟨.hbm, 1299, rfl⟩
abbrev main_v1188 : Ref sig .tc := ⟨.hbm, 1300, rfl⟩
abbrev main_v1189 : Ref sig .tc := ⟨.hbm, 1301, rfl⟩
abbrev main_v1190 : Ref sig .tc := ⟨.hbm, 1302, rfl⟩
abbrev main_v1191 : Ref sig .tc := ⟨.hbm, 1303, rfl⟩
abbrev main_v1192 : Ref sig .tc := ⟨.hbm, 1304, rfl⟩
abbrev main_call39_cst : Ref sig .tc := ⟨.hbm, 1305, rfl⟩
abbrev main_call39_v0 : Ref sig .tc := ⟨.hbm, 1306, rfl⟩
abbrev main_v1193 : Ref sig .tc := ⟨.hbm, 1307, rfl⟩
abbrev main_v1194 : Ref sig .tc := ⟨.hbm, 1308, rfl⟩
abbrev main_v1195 : Ref sig .tc := ⟨.hbm, 1309, rfl⟩
abbrev main_v1196 : Ref sig .tc := ⟨.hbm, 1310, rfl⟩
abbrev main_v1197 : Ref sig .tc := ⟨.hbm, 1311, rfl⟩
abbrev main_c_43 : Ref sig .tc := ⟨.hbm, 1312, rfl⟩
abbrev main_call40_v0 : Ref sig .tc := ⟨.hbm, 1313, rfl⟩
abbrev main_v1198 : Ref sig .tc := ⟨.hbm, 1314, rfl⟩
abbrev main_cst_44 : Ref sig .tc := ⟨.hbm, 1315, rfl⟩
abbrev main_v1199 : Ref sig .tc := ⟨.hbm, 1316, rfl⟩
abbrev main_v1200 : Ref sig .tc := ⟨.hbm, 1317, rfl⟩
abbrev main_v1201 : Ref sig .tc := ⟨.hbm, 1318, rfl⟩
abbrev main_v1202 : Ref sig .tc := ⟨.hbm, 1319, rfl⟩
abbrev main_v1203 : Ref sig .tc := ⟨.hbm, 1320, rfl⟩
abbrev main_v1204 : Ref sig .tc := ⟨.hbm, 1321, rfl⟩
abbrev main_v1205 : Ref sig .tc := ⟨.hbm, 1322, rfl⟩
abbrev main_v1206 : Ref sig .tc := ⟨.hbm, 1323, rfl⟩
abbrev main_v1207 : Ref sig .tc := ⟨.hbm, 1324, rfl⟩
abbrev main_v1208 : Ref sig .tc := ⟨.hbm, 1325, rfl⟩
abbrev main_v1209 : Ref sig .tc := ⟨.hbm, 1326, rfl⟩
abbrev main_v1210 : Ref sig .tc := ⟨.hbm, 1327, rfl⟩
abbrev main_v1211 : Ref sig .tc := ⟨.hbm, 1328, rfl⟩
abbrev main_v1212 : Ref sig .tc := ⟨.hbm, 1329, rfl⟩
abbrev main_v1213 : Ref sig .tc := ⟨.hbm, 1330, rfl⟩
abbrev main_v1214 : Ref sig .tc := ⟨.hbm, 1331, rfl⟩
abbrev main_v1215 : Ref sig .tc := ⟨.hbm, 1332, rfl⟩
abbrev main_v1216 : Ref sig .tc := ⟨.hbm, 1333, rfl⟩
abbrev main_v1217 : Ref sig .tc := ⟨.hbm, 1334, rfl⟩
abbrev main_v1218 : Ref sig .tc := ⟨.hbm, 1335, rfl⟩
abbrev main_v1219 : Ref sig .tc := ⟨.hbm, 1336, rfl⟩
abbrev main_v1220 : Ref sig .tc := ⟨.hbm, 1337, rfl⟩
abbrev main_v1221 : Ref sig .tc := ⟨.hbm, 1338, rfl⟩
abbrev main_v1222 : Ref sig .tc := ⟨.hbm, 1339, rfl⟩
abbrev main_v1223 : Ref sig .tc := ⟨.hbm, 1340, rfl⟩
abbrev main_v1224 : Ref sig .tc := ⟨.hbm, 1341, rfl⟩
abbrev main_v1225 : Ref sig .tc := ⟨.hbm, 1342, rfl⟩
abbrev main_v1226 : Ref sig .tc := ⟨.hbm, 1343, rfl⟩
abbrev main_v1227 : Ref sig .tc := ⟨.hbm, 1344, rfl⟩
abbrev main_v1228 : Ref sig .tc := ⟨.hbm, 1345, rfl⟩
abbrev main_v1229 : Ref sig .tc := ⟨.hbm, 1346, rfl⟩
abbrev main_v1230 : Ref sig .tc := ⟨.hbm, 1347, rfl⟩
abbrev main_v1231 : Ref sig .tc := ⟨.hbm, 1348, rfl⟩
abbrev main_v1232 : Ref sig .tc := ⟨.hbm, 1349, rfl⟩
abbrev main_v1233 : Ref sig .tc := ⟨.hbm, 1350, rfl⟩
abbrev main_v1234 : Ref sig .tc := ⟨.hbm, 1351, rfl⟩
abbrev main_v1235 : Ref sig .tc := ⟨.hbm, 1352, rfl⟩
abbrev main_v1236 : Ref sig .tc := ⟨.hbm, 1353, rfl⟩
abbrev main_v1237 : Ref sig .tc := ⟨.hbm, 1354, rfl⟩
abbrev main_v1238 : Ref sig .tc := ⟨.hbm, 1355, rfl⟩
abbrev main_v1239 : Ref sig .tc := ⟨.hbm, 1356, rfl⟩
abbrev main_v1240 : Ref sig .tc := ⟨.hbm, 1357, rfl⟩
abbrev main_v1241 : Ref sig .tc := ⟨.hbm, 1358, rfl⟩
abbrev main_v1242 : Ref sig .tc := ⟨.hbm, 1359, rfl⟩
abbrev main_v1243 : Ref sig .tc := ⟨.hbm, 1360, rfl⟩
abbrev main_v1244 : Ref sig .tc := ⟨.hbm, 1361, rfl⟩
abbrev main_v1245 : Ref sig .tc := ⟨.hbm, 1362, rfl⟩
abbrev main_v1246 : Ref sig .tc := ⟨.hbm, 1363, rfl⟩
abbrev main_v1247 : Ref sig .tc := ⟨.hbm, 1364, rfl⟩
abbrev main_call41_cst : Ref sig .tc := ⟨.hbm, 1365, rfl⟩
abbrev main_call41_v0 : Ref sig .tc := ⟨.hbm, 1366, rfl⟩
abbrev main_v1248 : Ref sig .tc := ⟨.hbm, 1367, rfl⟩
abbrev main_v1249 : Ref sig .tc := ⟨.hbm, 1368, rfl⟩
abbrev main_v1250 : Ref sig .tc := ⟨.hbm, 1369, rfl⟩
abbrev main_v1251 : Ref sig .tc := ⟨.hbm, 1370, rfl⟩
abbrev main_v1252 : Ref sig .tc := ⟨.hbm, 1371, rfl⟩
abbrev main_c_45 : Ref sig .tc := ⟨.hbm, 1372, rfl⟩
abbrev main_call42_v0 : Ref sig .tc := ⟨.hbm, 1373, rfl⟩
abbrev main_v1253 : Ref sig .tc := ⟨.hbm, 1374, rfl⟩
abbrev main_cst_46 : Ref sig .tc := ⟨.hbm, 1375, rfl⟩
abbrev main_v1254 : Ref sig .tc := ⟨.hbm, 1376, rfl⟩
abbrev main_v1255 : Ref sig .tc := ⟨.hbm, 1377, rfl⟩
abbrev main_v1256 : Ref sig .tc := ⟨.hbm, 1378, rfl⟩
abbrev main_v1257 : Ref sig .tc := ⟨.hbm, 1379, rfl⟩
abbrev main_v1258 : Ref sig .tc := ⟨.hbm, 1380, rfl⟩
abbrev main_v1259 : Ref sig .tc := ⟨.hbm, 1381, rfl⟩
abbrev main_v1260 : Ref sig .tc := ⟨.hbm, 1382, rfl⟩
abbrev main_v1261 : Ref sig .tc := ⟨.hbm, 1383, rfl⟩
abbrev main_v1262 : Ref sig .tc := ⟨.hbm, 1384, rfl⟩
abbrev main_v1263 : Ref sig .tc := ⟨.hbm, 1385, rfl⟩
abbrev main_v1264 : Ref sig .tc := ⟨.hbm, 1386, rfl⟩
abbrev main_v1265 : Ref sig .tc := ⟨.hbm, 1387, rfl⟩
abbrev main_v1266 : Ref sig .tc := ⟨.hbm, 1388, rfl⟩
abbrev main_v1267 : Ref sig .tc := ⟨.hbm, 1389, rfl⟩
abbrev main_v1268 : Ref sig .tc := ⟨.hbm, 1390, rfl⟩
abbrev main_v1269 : Ref sig .tc := ⟨.hbm, 1391, rfl⟩
abbrev main_v1270 : Ref sig .tc := ⟨.hbm, 1392, rfl⟩
abbrev main_v1271 : Ref sig .tc := ⟨.hbm, 1393, rfl⟩
abbrev main_v1272 : Ref sig .tc := ⟨.hbm, 1394, rfl⟩
abbrev main_v1273 : Ref sig .tc := ⟨.hbm, 1395, rfl⟩
abbrev main_v1274 : Ref sig .tc := ⟨.hbm, 1396, rfl⟩
abbrev main_v1275 : Ref sig .tc := ⟨.hbm, 1397, rfl⟩
abbrev main_v1276 : Ref sig .tc := ⟨.hbm, 1398, rfl⟩
abbrev main_v1277 : Ref sig .tc := ⟨.hbm, 1399, rfl⟩
abbrev main_v1278 : Ref sig .tc := ⟨.hbm, 1400, rfl⟩
abbrev main_v1279 : Ref sig .tc := ⟨.hbm, 1401, rfl⟩
abbrev main_v1280 : Ref sig .tc := ⟨.hbm, 1402, rfl⟩
abbrev main_v1281 : Ref sig .tc := ⟨.hbm, 1403, rfl⟩
abbrev main_v1282 : Ref sig .tc := ⟨.hbm, 1404, rfl⟩
abbrev main_v1283 : Ref sig .tc := ⟨.hbm, 1405, rfl⟩
abbrev main_v1284 : Ref sig .tc := ⟨.hbm, 1406, rfl⟩
abbrev main_v1285 : Ref sig .tc := ⟨.hbm, 1407, rfl⟩
abbrev main_v1286 : Ref sig .tc := ⟨.hbm, 1408, rfl⟩
abbrev main_v1287 : Ref sig .tc := ⟨.hbm, 1409, rfl⟩
abbrev main_v1288 : Ref sig .tc := ⟨.hbm, 1410, rfl⟩
abbrev main_v1289 : Ref sig .tc := ⟨.hbm, 1411, rfl⟩
abbrev main_v1290 : Ref sig .tc := ⟨.hbm, 1412, rfl⟩
abbrev main_v1291 : Ref sig .tc := ⟨.hbm, 1413, rfl⟩
abbrev main_v1292 : Ref sig .tc := ⟨.hbm, 1414, rfl⟩
abbrev main_v1293 : Ref sig .tc := ⟨.hbm, 1415, rfl⟩
abbrev main_v1294 : Ref sig .tc := ⟨.hbm, 1416, rfl⟩
abbrev main_v1295 : Ref sig .tc := ⟨.hbm, 1417, rfl⟩
abbrev main_v1296 : Ref sig .tc := ⟨.hbm, 1418, rfl⟩
abbrev main_v1297 : Ref sig .tc := ⟨.hbm, 1419, rfl⟩
abbrev main_v1298 : Ref sig .tc := ⟨.hbm, 1420, rfl⟩
abbrev main_v1299 : Ref sig .tc := ⟨.hbm, 1421, rfl⟩
abbrev main_v1300 : Ref sig .tc := ⟨.hbm, 1422, rfl⟩
abbrev main_v1301 : Ref sig .tc := ⟨.hbm, 1423, rfl⟩
abbrev main_v1302 : Ref sig .tc := ⟨.hbm, 1424, rfl⟩
abbrev main_call43_cst : Ref sig .tc := ⟨.hbm, 1425, rfl⟩
abbrev main_call43_v0 : Ref sig .tc := ⟨.hbm, 1426, rfl⟩
abbrev main_v1303 : Ref sig .tc := ⟨.hbm, 1427, rfl⟩
abbrev main_c_47 : Ref sig .tc := ⟨.hbm, 1428, rfl⟩
abbrev main_call44_v0 : Ref sig .tc := ⟨.hbm, 1429, rfl⟩
abbrev main_v1304 : Ref sig .tc := ⟨.hbm, 1430, rfl⟩
abbrev main_cst_48 : Ref sig .tc := ⟨.hbm, 1431, rfl⟩
abbrev main_v1305 : Ref sig .tc := ⟨.hbm, 1432, rfl⟩
abbrev main_v1306 : Ref sig .tc := ⟨.hbm, 1433, rfl⟩
abbrev main_v1307 : Ref sig .tc := ⟨.hbm, 1434, rfl⟩
abbrev main_v1308 : Ref sig .tc := ⟨.hbm, 1435, rfl⟩
abbrev main_v1309 : Ref sig .tc := ⟨.hbm, 1436, rfl⟩
abbrev main_v1310 : Ref sig .tc := ⟨.hbm, 1437, rfl⟩
abbrev main_v1311 : Ref sig .tc := ⟨.hbm, 1438, rfl⟩
abbrev main_v1312 : Ref sig .tc := ⟨.hbm, 1439, rfl⟩
abbrev main_v1313 : Ref sig .tc := ⟨.hbm, 1440, rfl⟩
abbrev main_v1314 : Ref sig .tc := ⟨.hbm, 1441, rfl⟩
abbrev main_v1315 : Ref sig .tc := ⟨.hbm, 1442, rfl⟩
abbrev main_v1316 : Ref sig .tc := ⟨.hbm, 1443, rfl⟩
abbrev main_v1317 : Ref sig .tc := ⟨.hbm, 1444, rfl⟩
abbrev main_v1318 : Ref sig .tc := ⟨.hbm, 1445, rfl⟩
abbrev main_v1319 : Ref sig .tc := ⟨.hbm, 1446, rfl⟩
abbrev main_v1320 : Ref sig .tc := ⟨.hbm, 1447, rfl⟩
abbrev main_v1321 : Ref sig .tc := ⟨.hbm, 1448, rfl⟩
abbrev main_v1322 : Ref sig .tc := ⟨.hbm, 1449, rfl⟩
abbrev main_v1323 : Ref sig .tc := ⟨.hbm, 1450, rfl⟩
abbrev main_v1324 : Ref sig .tc := ⟨.hbm, 1451, rfl⟩
abbrev main_v1325 : Ref sig .tc := ⟨.hbm, 1452, rfl⟩
abbrev main_v1326 : Ref sig .tc := ⟨.hbm, 1453, rfl⟩
abbrev main_v1327 : Ref sig .tc := ⟨.hbm, 1454, rfl⟩
abbrev main_v1328 : Ref sig .tc := ⟨.hbm, 1455, rfl⟩
abbrev main_v1329 : Ref sig .tc := ⟨.hbm, 1456, rfl⟩
abbrev main_v1330 : Ref sig .tc := ⟨.hbm, 1457, rfl⟩
abbrev main_v1331 : Ref sig .tc := ⟨.hbm, 1458, rfl⟩
abbrev main_v1332 : Ref sig .tc := ⟨.hbm, 1459, rfl⟩
abbrev main_v1333 : Ref sig .tc := ⟨.hbm, 1460, rfl⟩
abbrev main_v1334 : Ref sig .tc := ⟨.hbm, 1461, rfl⟩
abbrev main_v1335 : Ref sig .tc := ⟨.hbm, 1462, rfl⟩
abbrev main_v1336 : Ref sig .tc := ⟨.hbm, 1463, rfl⟩
abbrev main_v1337 : Ref sig .tc := ⟨.hbm, 1464, rfl⟩
abbrev main_v1338 : Ref sig .tc := ⟨.hbm, 1465, rfl⟩
abbrev main_v1339 : Ref sig .tc := ⟨.hbm, 1466, rfl⟩
abbrev main_v1340 : Ref sig .tc := ⟨.hbm, 1467, rfl⟩
abbrev main_v1341 : Ref sig .tc := ⟨.hbm, 1468, rfl⟩
abbrev main_v1342 : Ref sig .tc := ⟨.hbm, 1469, rfl⟩
abbrev main_v1343 : Ref sig .tc := ⟨.hbm, 1470, rfl⟩
abbrev main_v1344 : Ref sig .tc := ⟨.hbm, 1471, rfl⟩
abbrev main_v1345 : Ref sig .tc := ⟨.hbm, 1472, rfl⟩
abbrev main_v1346 : Ref sig .tc := ⟨.hbm, 1473, rfl⟩
abbrev main_v1347 : Ref sig .tc := ⟨.hbm, 1474, rfl⟩
abbrev main_v1348 : Ref sig .tc := ⟨.hbm, 1475, rfl⟩
abbrev main_v1349 : Ref sig .tc := ⟨.hbm, 1476, rfl⟩
abbrev main_v1350 : Ref sig .tc := ⟨.hbm, 1477, rfl⟩
abbrev main_v1351 : Ref sig .tc := ⟨.hbm, 1478, rfl⟩
abbrev main_v1352 : Ref sig .tc := ⟨.hbm, 1479, rfl⟩
abbrev main_v1353 : Ref sig .tc := ⟨.hbm, 1480, rfl⟩
abbrev main_v1354 : Ref sig .tc := ⟨.hbm, 1481, rfl⟩
abbrev main_v1355 : Ref sig .tc := ⟨.hbm, 1482, rfl⟩
abbrev main_v1356 : Ref sig .tc := ⟨.hbm, 1483, rfl⟩
abbrev main_v1357 : Ref sig .tc := ⟨.hbm, 1484, rfl⟩
abbrev main_c_49 : Ref sig .tc := ⟨.hbm, 1485, rfl⟩
abbrev main_call45_v0 : Ref sig .tc := ⟨.hbm, 1486, rfl⟩
abbrev main_v1358 : Ref sig .tc := ⟨.hbm, 1487, rfl⟩
abbrev main_cst_50 : Ref sig .tc := ⟨.hbm, 1488, rfl⟩
abbrev main_v1359 : Ref sig .tc := ⟨.hbm, 1489, rfl⟩
abbrev main_v1360 : Ref sig .tc := ⟨.hbm, 1490, rfl⟩
abbrev main_v1361 : Ref sig .tc := ⟨.hbm, 1491, rfl⟩
abbrev main_v1362 : Ref sig .tc := ⟨.hbm, 1492, rfl⟩
abbrev main_v1363 : Ref sig .tc := ⟨.hbm, 1493, rfl⟩
abbrev main_v1364 : Ref sig .tc := ⟨.hbm, 1494, rfl⟩
abbrev main_v1365 : Ref sig .tc := ⟨.hbm, 1495, rfl⟩
abbrev main_v1366 : Ref sig .tc := ⟨.hbm, 1496, rfl⟩
abbrev main_v1367 : Ref sig .tc := ⟨.hbm, 1497, rfl⟩
abbrev main_v1368 : Ref sig .tc := ⟨.hbm, 1498, rfl⟩
abbrev main_v1369 : Ref sig .tc := ⟨.hbm, 1499, rfl⟩
abbrev main_v1370 : Ref sig .tc := ⟨.hbm, 1500, rfl⟩
abbrev main_v1371 : Ref sig .tc := ⟨.hbm, 1501, rfl⟩
abbrev main_v1372 : Ref sig .tc := ⟨.hbm, 1502, rfl⟩
abbrev main_v1373 : Ref sig .tc := ⟨.hbm, 1503, rfl⟩
abbrev main_v1374 : Ref sig .tc := ⟨.hbm, 1504, rfl⟩
abbrev main_v1375 : Ref sig .tc := ⟨.hbm, 1505, rfl⟩
abbrev main_v1376 : Ref sig .tc := ⟨.hbm, 1506, rfl⟩
abbrev main_v1377 : Ref sig .tc := ⟨.hbm, 1507, rfl⟩
abbrev main_v1378 : Ref sig .tc := ⟨.hbm, 1508, rfl⟩
abbrev main_v1379 : Ref sig .tc := ⟨.hbm, 1509, rfl⟩
abbrev main_v1380 : Ref sig .tc := ⟨.hbm, 1510, rfl⟩
abbrev main_v1381 : Ref sig .tc := ⟨.hbm, 1511, rfl⟩
abbrev main_v1382 : Ref sig .tc := ⟨.hbm, 1512, rfl⟩
abbrev main_v1383 : Ref sig .tc := ⟨.hbm, 1513, rfl⟩
abbrev main_v1384 : Ref sig .tc := ⟨.hbm, 1514, rfl⟩
abbrev main_v1385 : Ref sig .tc := ⟨.hbm, 1515, rfl⟩
abbrev main_v1386 : Ref sig .tc := ⟨.hbm, 1516, rfl⟩
abbrev main_v1387 : Ref sig .tc := ⟨.hbm, 1517, rfl⟩
abbrev main_v1388 : Ref sig .tc := ⟨.hbm, 1518, rfl⟩
abbrev main_v1389 : Ref sig .tc := ⟨.hbm, 1519, rfl⟩
abbrev main_v1390 : Ref sig .tc := ⟨.hbm, 1520, rfl⟩
abbrev main_v1391 : Ref sig .tc := ⟨.hbm, 1521, rfl⟩
abbrev main_v1392 : Ref sig .tc := ⟨.hbm, 1522, rfl⟩
abbrev main_v1393 : Ref sig .tc := ⟨.hbm, 1523, rfl⟩
abbrev main_v1394 : Ref sig .tc := ⟨.hbm, 1524, rfl⟩
abbrev main_v1395 : Ref sig .tc := ⟨.hbm, 1525, rfl⟩
abbrev main_v1396 : Ref sig .tc := ⟨.hbm, 1526, rfl⟩
abbrev main_v1397 : Ref sig .tc := ⟨.hbm, 1527, rfl⟩
abbrev main_v1398 : Ref sig .tc := ⟨.hbm, 1528, rfl⟩
abbrev main_v1399 : Ref sig .tc := ⟨.hbm, 1529, rfl⟩
abbrev main_v1400 : Ref sig .tc := ⟨.hbm, 1530, rfl⟩
abbrev main_v1401 : Ref sig .tc := ⟨.hbm, 1531, rfl⟩
abbrev main_v1402 : Ref sig .tc := ⟨.hbm, 1532, rfl⟩
abbrev main_v1403 : Ref sig .tc := ⟨.hbm, 1533, rfl⟩
abbrev main_v1404 : Ref sig .tc := ⟨.hbm, 1534, rfl⟩
abbrev main_v1405 : Ref sig .tc := ⟨.hbm, 1535, rfl⟩
abbrev main_v1406 : Ref sig .tc := ⟨.hbm, 1536, rfl⟩
abbrev main_v1407 : Ref sig .tc := ⟨.hbm, 1537, rfl⟩
abbrev main_call46_cst : Ref sig .tc := ⟨.hbm, 1538, rfl⟩
abbrev main_call46_v0 : Ref sig .tc := ⟨.hbm, 1539, rfl⟩
abbrev main_v1408 : Ref sig .tc := ⟨.hbm, 1540, rfl⟩
abbrev main_v1409 : Ref sig .tc := ⟨.hbm, 1541, rfl⟩
abbrev main_v1410 : Ref sig .tc := ⟨.hbm, 1542, rfl⟩
abbrev main_v1411 : Ref sig .tc := ⟨.hbm, 1543, rfl⟩
abbrev main_v1412 : Ref sig .tc := ⟨.hbm, 1544, rfl⟩
abbrev main_c_51 : Ref sig .tc := ⟨.hbm, 1545, rfl⟩
abbrev main_call47_v0 : Ref sig .tc := ⟨.hbm, 1546, rfl⟩
abbrev main_v1413 : Ref sig .tc := ⟨.hbm, 1547, rfl⟩
abbrev main_cst_52 : Ref sig .tc := ⟨.hbm, 1548, rfl⟩
abbrev main_v1414 : Ref sig .tc := ⟨.hbm, 1549, rfl⟩
abbrev main_v1415 : Ref sig .tc := ⟨.hbm, 1550, rfl⟩
abbrev main_v1416 : Ref sig .tc := ⟨.hbm, 1551, rfl⟩
abbrev main_v1417 : Ref sig .tc := ⟨.hbm, 1552, rfl⟩
abbrev main_v1418 : Ref sig .tc := ⟨.hbm, 1553, rfl⟩
abbrev main_v1419 : Ref sig .tc := ⟨.hbm, 1554, rfl⟩
abbrev main_v1420 : Ref sig .tc := ⟨.hbm, 1555, rfl⟩
abbrev main_v1421 : Ref sig .tc := ⟨.hbm, 1556, rfl⟩
abbrev main_v1422 : Ref sig .tc := ⟨.hbm, 1557, rfl⟩
abbrev main_v1423 : Ref sig .tc := ⟨.hbm, 1558, rfl⟩
abbrev main_v1424 : Ref sig .tc := ⟨.hbm, 1559, rfl⟩
abbrev main_v1425 : Ref sig .tc := ⟨.hbm, 1560, rfl⟩
abbrev main_v1426 : Ref sig .tc := ⟨.hbm, 1561, rfl⟩
abbrev main_v1427 : Ref sig .tc := ⟨.hbm, 1562, rfl⟩
abbrev main_v1428 : Ref sig .tc := ⟨.hbm, 1563, rfl⟩
abbrev main_v1429 : Ref sig .tc := ⟨.hbm, 1564, rfl⟩
abbrev main_v1430 : Ref sig .tc := ⟨.hbm, 1565, rfl⟩
abbrev main_v1431 : Ref sig .tc := ⟨.hbm, 1566, rfl⟩
abbrev main_v1432 : Ref sig .tc := ⟨.hbm, 1567, rfl⟩
abbrev main_v1433 : Ref sig .tc := ⟨.hbm, 1568, rfl⟩
abbrev main_v1434 : Ref sig .tc := ⟨.hbm, 1569, rfl⟩
abbrev main_v1435 : Ref sig .tc := ⟨.hbm, 1570, rfl⟩
abbrev main_v1436 : Ref sig .tc := ⟨.hbm, 1571, rfl⟩
abbrev main_v1437 : Ref sig .tc := ⟨.hbm, 1572, rfl⟩
abbrev main_v1438 : Ref sig .tc := ⟨.hbm, 1573, rfl⟩
abbrev main_v1439 : Ref sig .tc := ⟨.hbm, 1574, rfl⟩
abbrev main_v1440 : Ref sig .tc := ⟨.hbm, 1575, rfl⟩
abbrev main_v1441 : Ref sig .tc := ⟨.hbm, 1576, rfl⟩
abbrev main_v1442 : Ref sig .tc := ⟨.hbm, 1577, rfl⟩
abbrev main_v1443 : Ref sig .tc := ⟨.hbm, 1578, rfl⟩
abbrev main_v1444 : Ref sig .tc := ⟨.hbm, 1579, rfl⟩
abbrev main_v1445 : Ref sig .tc := ⟨.hbm, 1580, rfl⟩
abbrev main_v1446 : Ref sig .tc := ⟨.hbm, 1581, rfl⟩
abbrev main_v1447 : Ref sig .tc := ⟨.hbm, 1582, rfl⟩
abbrev main_v1448 : Ref sig .tc := ⟨.hbm, 1583, rfl⟩
abbrev main_v1449 : Ref sig .tc := ⟨.hbm, 1584, rfl⟩
abbrev main_v1450 : Ref sig .tc := ⟨.hbm, 1585, rfl⟩
abbrev main_v1451 : Ref sig .tc := ⟨.hbm, 1586, rfl⟩
abbrev main_v1452 : Ref sig .tc := ⟨.hbm, 1587, rfl⟩
abbrev main_v1453 : Ref sig .tc := ⟨.hbm, 1588, rfl⟩
abbrev main_v1454 : Ref sig .tc := ⟨.hbm, 1589, rfl⟩
abbrev main_v1455 : Ref sig .tc := ⟨.hbm, 1590, rfl⟩
abbrev main_v1456 : Ref sig .tc := ⟨.hbm, 1591, rfl⟩
abbrev main_v1457 : Ref sig .tc := ⟨.hbm, 1592, rfl⟩
abbrev main_v1458 : Ref sig .tc := ⟨.hbm, 1593, rfl⟩
abbrev main_v1459 : Ref sig .tc := ⟨.hbm, 1594, rfl⟩
abbrev main_v1460 : Ref sig .tc := ⟨.hbm, 1595, rfl⟩
abbrev main_v1461 : Ref sig .tc := ⟨.hbm, 1596, rfl⟩
abbrev main_v1462 : Ref sig .tc := ⟨.hbm, 1597, rfl⟩
abbrev main_call48_cst : Ref sig .tc := ⟨.hbm, 1598, rfl⟩
abbrev main_call48_v0 : Ref sig .tc := ⟨.hbm, 1599, rfl⟩
abbrev main_v1463 : Ref sig .tc := ⟨.hbm, 1600, rfl⟩
abbrev main_v1464 : Ref sig .tc := ⟨.hbm, 1601, rfl⟩
abbrev main_v1465 : Ref sig .tc := ⟨.hbm, 1602, rfl⟩
abbrev main_v1466 : Ref sig .tc := ⟨.hbm, 1603, rfl⟩
abbrev main_v1467 : Ref sig .tc := ⟨.hbm, 1604, rfl⟩
abbrev main_c_53 : Ref sig .tc := ⟨.hbm, 1605, rfl⟩
abbrev main_call49_v0 : Ref sig .tc := ⟨.hbm, 1606, rfl⟩
abbrev main_v1468 : Ref sig .tc := ⟨.hbm, 1607, rfl⟩
abbrev main_cst_54 : Ref sig .tc := ⟨.hbm, 1608, rfl⟩
abbrev main_v1469 : Ref sig .tc := ⟨.hbm, 1609, rfl⟩
abbrev main_v1470 : Ref sig .tc := ⟨.hbm, 1610, rfl⟩
abbrev main_v1471 : Ref sig .tc := ⟨.hbm, 1611, rfl⟩
abbrev main_v1472 : Ref sig .tc := ⟨.hbm, 1612, rfl⟩
abbrev main_v1473 : Ref sig .tc := ⟨.hbm, 1613, rfl⟩
abbrev main_v1474 : Ref sig .tc := ⟨.hbm, 1614, rfl⟩
abbrev main_v1475 : Ref sig .tc := ⟨.hbm, 1615, rfl⟩
abbrev main_v1476 : Ref sig .tc := ⟨.hbm, 1616, rfl⟩
abbrev main_v1477 : Ref sig .tc := ⟨.hbm, 1617, rfl⟩
abbrev main_v1478 : Ref sig .tc := ⟨.hbm, 1618, rfl⟩
abbrev main_v1479 : Ref sig .tc := ⟨.hbm, 1619, rfl⟩
abbrev main_v1480 : Ref sig .tc := ⟨.hbm, 1620, rfl⟩
abbrev main_v1481 : Ref sig .tc := ⟨.hbm, 1621, rfl⟩
abbrev main_v1482 : Ref sig .tc := ⟨.hbm, 1622, rfl⟩
abbrev main_v1483 : Ref sig .tc := ⟨.hbm, 1623, rfl⟩
abbrev main_v1484 : Ref sig .tc := ⟨.hbm, 1624, rfl⟩
abbrev main_v1485 : Ref sig .tc := ⟨.hbm, 1625, rfl⟩
abbrev main_v1486 : Ref sig .tc := ⟨.hbm, 1626, rfl⟩
abbrev main_v1487 : Ref sig .tc := ⟨.hbm, 1627, rfl⟩
abbrev main_v1488 : Ref sig .tc := ⟨.hbm, 1628, rfl⟩
abbrev main_v1489 : Ref sig .tc := ⟨.hbm, 1629, rfl⟩
abbrev main_v1490 : Ref sig .tc := ⟨.hbm, 1630, rfl⟩
abbrev main_v1491 : Ref sig .tc := ⟨.hbm, 1631, rfl⟩
abbrev main_v1492 : Ref sig .tc := ⟨.hbm, 1632, rfl⟩
abbrev main_v1493 : Ref sig .tc := ⟨.hbm, 1633, rfl⟩
abbrev main_v1494 : Ref sig .tc := ⟨.hbm, 1634, rfl⟩
abbrev main_v1495 : Ref sig .tc := ⟨.hbm, 1635, rfl⟩
abbrev main_v1496 : Ref sig .tc := ⟨.hbm, 1636, rfl⟩
abbrev main_v1497 : Ref sig .tc := ⟨.hbm, 1637, rfl⟩
abbrev main_v1498 : Ref sig .tc := ⟨.hbm, 1638, rfl⟩
abbrev main_v1499 : Ref sig .tc := ⟨.hbm, 1639, rfl⟩
abbrev main_v1500 : Ref sig .tc := ⟨.hbm, 1640, rfl⟩
abbrev main_v1501 : Ref sig .tc := ⟨.hbm, 1641, rfl⟩
abbrev main_v1502 : Ref sig .tc := ⟨.hbm, 1642, rfl⟩
abbrev main_v1503 : Ref sig .tc := ⟨.hbm, 1643, rfl⟩
abbrev main_v1504 : Ref sig .tc := ⟨.hbm, 1644, rfl⟩
abbrev main_v1505 : Ref sig .tc := ⟨.hbm, 1645, rfl⟩
abbrev main_v1506 : Ref sig .tc := ⟨.hbm, 1646, rfl⟩
abbrev main_v1507 : Ref sig .tc := ⟨.hbm, 1647, rfl⟩
abbrev main_v1508 : Ref sig .tc := ⟨.hbm, 1648, rfl⟩
abbrev main_v1509 : Ref sig .tc := ⟨.hbm, 1649, rfl⟩
abbrev main_v1510 : Ref sig .tc := ⟨.hbm, 1650, rfl⟩
abbrev main_v1511 : Ref sig .tc := ⟨.hbm, 1651, rfl⟩
abbrev main_v1512 : Ref sig .tc := ⟨.hbm, 1652, rfl⟩
abbrev main_v1513 : Ref sig .tc := ⟨.hbm, 1653, rfl⟩
abbrev main_v1514 : Ref sig .tc := ⟨.hbm, 1654, rfl⟩
abbrev main_v1515 : Ref sig .tc := ⟨.hbm, 1655, rfl⟩
abbrev main_v1516 : Ref sig .tc := ⟨.hbm, 1656, rfl⟩
abbrev main_v1517 : Ref sig .tc := ⟨.hbm, 1657, rfl⟩
abbrev main_call50_cst : Ref sig .tc := ⟨.hbm, 1658, rfl⟩
abbrev main_call50_v0 : Ref sig .tc := ⟨.hbm, 1659, rfl⟩
abbrev main_v1518 : Ref sig .tc := ⟨.hbm, 1660, rfl⟩
abbrev main_v1519 : Ref sig .tc := ⟨.hbm, 1661, rfl⟩
abbrev main_v1520 : Ref sig .tc := ⟨.hbm, 1662, rfl⟩
abbrev main_v1521 : Ref sig .tc := ⟨.hbm, 1663, rfl⟩
abbrev main_v1522 : Ref sig .tc := ⟨.hbm, 1664, rfl⟩
abbrev main_c_55 : Ref sig .tc := ⟨.hbm, 1665, rfl⟩
abbrev main_call51_v0 : Ref sig .tc := ⟨.hbm, 1666, rfl⟩
abbrev main_v1523 : Ref sig .tc := ⟨.hbm, 1667, rfl⟩
abbrev main_cst_56 : Ref sig .tc := ⟨.hbm, 1668, rfl⟩
abbrev main_v1524 : Ref sig .tc := ⟨.hbm, 1669, rfl⟩
abbrev main_v1525 : Ref sig .tc := ⟨.hbm, 1670, rfl⟩
abbrev main_v1526 : Ref sig .tc := ⟨.hbm, 1671, rfl⟩
abbrev main_v1527 : Ref sig .tc := ⟨.hbm, 1672, rfl⟩
abbrev main_v1528 : Ref sig .tc := ⟨.hbm, 1673, rfl⟩
abbrev main_v1529 : Ref sig .tc := ⟨.hbm, 1674, rfl⟩
abbrev main_v1530 : Ref sig .tc := ⟨.hbm, 1675, rfl⟩
abbrev main_v1531 : Ref sig .tc := ⟨.hbm, 1676, rfl⟩
abbrev main_v1532 : Ref sig .tc := ⟨.hbm, 1677, rfl⟩
abbrev main_v1533 : Ref sig .tc := ⟨.hbm, 1678, rfl⟩
abbrev main_v1534 : Ref sig .tc := ⟨.hbm, 1679, rfl⟩
abbrev main_v1535 : Ref sig .tc := ⟨.hbm, 1680, rfl⟩
abbrev main_v1536 : Ref sig .tc := ⟨.hbm, 1681, rfl⟩
abbrev main_v1537 : Ref sig .tc := ⟨.hbm, 1682, rfl⟩
abbrev main_v1538 : Ref sig .tc := ⟨.hbm, 1683, rfl⟩
abbrev main_v1539 : Ref sig .tc := ⟨.hbm, 1684, rfl⟩
abbrev main_v1540 : Ref sig .tc := ⟨.hbm, 1685, rfl⟩
abbrev main_v1541 : Ref sig .tc := ⟨.hbm, 1686, rfl⟩
abbrev main_v1542 : Ref sig .tc := ⟨.hbm, 1687, rfl⟩
abbrev main_v1543 : Ref sig .tc := ⟨.hbm, 1688, rfl⟩
abbrev main_v1544 : Ref sig .tc := ⟨.hbm, 1689, rfl⟩
abbrev main_v1545 : Ref sig .tc := ⟨.hbm, 1690, rfl⟩
abbrev main_v1546 : Ref sig .tc := ⟨.hbm, 1691, rfl⟩
abbrev main_v1547 : Ref sig .tc := ⟨.hbm, 1692, rfl⟩
abbrev main_v1548 : Ref sig .tc := ⟨.hbm, 1693, rfl⟩
abbrev main_v1549 : Ref sig .tc := ⟨.hbm, 1694, rfl⟩
abbrev main_v1550 : Ref sig .tc := ⟨.hbm, 1695, rfl⟩
abbrev main_v1551 : Ref sig .tc := ⟨.hbm, 1696, rfl⟩
abbrev main_v1552 : Ref sig .tc := ⟨.hbm, 1697, rfl⟩
abbrev main_v1553 : Ref sig .tc := ⟨.hbm, 1698, rfl⟩
abbrev main_v1554 : Ref sig .tc := ⟨.hbm, 1699, rfl⟩
abbrev main_v1555 : Ref sig .tc := ⟨.hbm, 1700, rfl⟩
abbrev main_v1556 : Ref sig .tc := ⟨.hbm, 1701, rfl⟩
abbrev main_v1557 : Ref sig .tc := ⟨.hbm, 1702, rfl⟩
abbrev main_v1558 : Ref sig .tc := ⟨.hbm, 1703, rfl⟩
abbrev main_v1559 : Ref sig .tc := ⟨.hbm, 1704, rfl⟩
abbrev main_v1560 : Ref sig .tc := ⟨.hbm, 1705, rfl⟩
abbrev main_v1561 : Ref sig .tc := ⟨.hbm, 1706, rfl⟩
abbrev main_v1562 : Ref sig .tc := ⟨.hbm, 1707, rfl⟩
abbrev main_v1563 : Ref sig .tc := ⟨.hbm, 1708, rfl⟩
abbrev main_v1564 : Ref sig .tc := ⟨.hbm, 1709, rfl⟩
abbrev main_v1565 : Ref sig .tc := ⟨.hbm, 1710, rfl⟩
abbrev main_v1566 : Ref sig .tc := ⟨.hbm, 1711, rfl⟩
abbrev main_v1567 : Ref sig .tc := ⟨.hbm, 1712, rfl⟩
abbrev main_v1568 : Ref sig .tc := ⟨.hbm, 1713, rfl⟩
abbrev main_v1569 : Ref sig .tc := ⟨.hbm, 1714, rfl⟩
abbrev main_v1570 : Ref sig .tc := ⟨.hbm, 1715, rfl⟩
abbrev main_v1571 : Ref sig .tc := ⟨.hbm, 1716, rfl⟩
abbrev main_v1572 : Ref sig .tc := ⟨.hbm, 1717, rfl⟩
abbrev main_call52_cst : Ref sig .tc := ⟨.hbm, 1718, rfl⟩
abbrev main_call52_v0 : Ref sig .tc := ⟨.hbm, 1719, rfl⟩
abbrev main_v1573 : Ref sig .tc := ⟨.hbm, 1720, rfl⟩
abbrev main_c_57 : Ref sig .tc := ⟨.hbm, 1721, rfl⟩
abbrev main_call53_v0 : Ref sig .tc := ⟨.hbm, 1722, rfl⟩
abbrev main_v1574 : Ref sig .tc := ⟨.hbm, 1723, rfl⟩
abbrev main_cst_58 : Ref sig .tc := ⟨.hbm, 1724, rfl⟩
abbrev main_v1575 : Ref sig .tc := ⟨.hbm, 1725, rfl⟩
abbrev main_v1576 : Ref sig .tc := ⟨.hbm, 1726, rfl⟩
abbrev main_v1577 : Ref sig .tc := ⟨.hbm, 1727, rfl⟩
abbrev main_v1578 : Ref sig .tc := ⟨.hbm, 1728, rfl⟩
abbrev main_v1579 : Ref sig .tc := ⟨.hbm, 1729, rfl⟩
abbrev main_v1580 : Ref sig .tc := ⟨.hbm, 1730, rfl⟩
abbrev main_v1581 : Ref sig .tc := ⟨.hbm, 1731, rfl⟩
abbrev main_v1582 : Ref sig .tc := ⟨.hbm, 1732, rfl⟩
abbrev main_v1583 : Ref sig .tc := ⟨.hbm, 1733, rfl⟩
abbrev main_v1584 : Ref sig .tc := ⟨.hbm, 1734, rfl⟩
abbrev main_v1585 : Ref sig .tc := ⟨.hbm, 1735, rfl⟩
abbrev main_v1586 : Ref sig .tc := ⟨.hbm, 1736, rfl⟩
abbrev main_v1587 : Ref sig .tc := ⟨.hbm, 1737, rfl⟩
abbrev main_v1588 : Ref sig .tc := ⟨.hbm, 1738, rfl⟩
abbrev main_v1589 : Ref sig .tc := ⟨.hbm, 1739, rfl⟩
abbrev main_v1590 : Ref sig .tc := ⟨.hbm, 1740, rfl⟩
abbrev main_v1591 : Ref sig .tc := ⟨.hbm, 1741, rfl⟩
abbrev main_v1592 : Ref sig .tc := ⟨.hbm, 1742, rfl⟩
abbrev main_v1593 : Ref sig .tc := ⟨.hbm, 1743, rfl⟩
abbrev main_v1594 : Ref sig .tc := ⟨.hbm, 1744, rfl⟩
abbrev main_v1595 : Ref sig .tc := ⟨.hbm, 1745, rfl⟩
abbrev main_v1596 : Ref sig .tc := ⟨.hbm, 1746, rfl⟩
abbrev main_v1597 : Ref sig .tc := ⟨.hbm, 1747, rfl⟩
abbrev main_v1598 : Ref sig .tc := ⟨.hbm, 1748, rfl⟩
abbrev main_v1599 : Ref sig .tc := ⟨.hbm, 1749, rfl⟩
abbrev main_v1600 : Ref sig .tc := ⟨.hbm, 1750, rfl⟩
abbrev main_v1601 : Ref sig .tc := ⟨.hbm, 1751, rfl⟩
abbrev main_v1602 : Ref sig .tc := ⟨.hbm, 1752, rfl⟩
abbrev main_v1603 : Ref sig .tc := ⟨.hbm, 1753, rfl⟩
abbrev main_v1604 : Ref sig .tc := ⟨.hbm, 1754, rfl⟩
abbrev main_v1605 : Ref sig .tc := ⟨.hbm, 1755, rfl⟩
abbrev main_v1606 : Ref sig .tc := ⟨.hbm, 1756, rfl⟩
abbrev main_v1607 : Ref sig .tc := ⟨.hbm, 1757, rfl⟩
abbrev main_v1608 : Ref sig .tc := ⟨.hbm, 1758, rfl⟩
abbrev main_v1609 : Ref sig .tc := ⟨.hbm, 1759, rfl⟩
abbrev main_v1610 : Ref sig .tc := ⟨.hbm, 1760, rfl⟩
abbrev main_v1611 : Ref sig .tc := ⟨.hbm, 1761, rfl⟩
abbrev main_v1612 : Ref sig .tc := ⟨.hbm, 1762, rfl⟩
abbrev main_v1613 : Ref sig .tc := ⟨.hbm, 1763, rfl⟩
abbrev main_v1614 : Ref sig .tc := ⟨.hbm, 1764, rfl⟩
abbrev main_v1615 : Ref sig .tc := ⟨.hbm, 1765, rfl⟩
abbrev main_v1616 : Ref sig .tc := ⟨.hbm, 1766, rfl⟩
abbrev main_v1617 : Ref sig .tc := ⟨.hbm, 1767, rfl⟩
abbrev main_v1618 : Ref sig .tc := ⟨.hbm, 1768, rfl⟩
abbrev main_v1619 : Ref sig .tc := ⟨.hbm, 1769, rfl⟩
abbrev main_v1620 : Ref sig .tc := ⟨.hbm, 1770, rfl⟩
abbrev main_v1621 : Ref sig .tc := ⟨.hbm, 1771, rfl⟩
abbrev main_v1622 : Ref sig .tc := ⟨.hbm, 1772, rfl⟩
abbrev main_v1623 : Ref sig .tc := ⟨.hbm, 1773, rfl⟩
abbrev main_v1624 : Ref sig .tc := ⟨.hbm, 1774, rfl⟩
abbrev main_v1625 : Ref sig .tc := ⟨.hbm, 1775, rfl⟩
abbrev main_v1626 : Ref sig .tc := ⟨.hbm, 1776, rfl⟩
abbrev main_v1627 : Ref sig .tc := ⟨.hbm, 1777, rfl⟩
abbrev main_v1628 : Ref sig .tc := ⟨.hbm, 1778, rfl⟩
abbrev main_v1629 : Ref sig .tc := ⟨.hbm, 1779, rfl⟩
abbrev main_v1630 : Ref sig .tc := ⟨.hbm, 1780, rfl⟩
abbrev main_v1631 : Ref sig .tc := ⟨.hbm, 1781, rfl⟩
abbrev main_v1632 : Ref sig .tc := ⟨.hbm, 1782, rfl⟩
abbrev main_v1633 : Ref sig .tc := ⟨.hbm, 1783, rfl⟩
abbrev main_v1634 : Ref sig .tc := ⟨.hbm, 1784, rfl⟩
abbrev main_v1635 : Ref sig .tc := ⟨.hbm, 1785, rfl⟩
abbrev main_v1636 : Ref sig .tc := ⟨.hbm, 1786, rfl⟩
abbrev main_v1637 : Ref sig .tc := ⟨.hbm, 1787, rfl⟩
abbrev main_v1638 : Ref sig .tc := ⟨.hbm, 1788, rfl⟩
abbrev main_v1639 : Ref sig .tc := ⟨.hbm, 1789, rfl⟩
abbrev main_v1640 : Ref sig .tc := ⟨.hbm, 1790, rfl⟩
abbrev main_cst_59 : Ref sig .tc := ⟨.hbm, 1791, rfl⟩
abbrev main_v1641 : Ref sig .tc := ⟨.hbm, 1792, rfl⟩
abbrev main_v1642 : Ref sig .tc := ⟨.hbm, 1793, rfl⟩
abbrev main_v1643 : Ref sig .tc := ⟨.hbm, 1794, rfl⟩
abbrev main_v1644 : Ref sig .tc := ⟨.hbm, 1795, rfl⟩
abbrev main_v1645 : Ref sig .tc := ⟨.hbm, 1796, rfl⟩
abbrev main_cst_60 : Ref sig .tc := ⟨.hbm, 1797, rfl⟩
abbrev main_v1646 : Ref sig .tc := ⟨.hbm, 1798, rfl⟩
abbrev main_v1647 : Ref sig .tc := ⟨.hbm, 1799, rfl⟩
abbrev main_v1648 : Ref sig .tc := ⟨.hbm, 1800, rfl⟩
abbrev main_v1649 : Ref sig .tc := ⟨.hbm, 1801, rfl⟩
abbrev main_v1650 : Ref sig .tc := ⟨.hbm, 1802, rfl⟩
abbrev main_v1651 : Ref sig .tc := ⟨.hbm, 1803, rfl⟩
abbrev main_v1652 : Ref sig .tc := ⟨.hbm, 1804, rfl⟩
abbrev main_v1653 : Ref sig .tc := ⟨.hbm, 1805, rfl⟩
abbrev main_v1654 : Ref sig .tc := ⟨.hbm, 1806, rfl⟩
abbrev main_v1655 : Ref sig .tc := ⟨.hbm, 1807, rfl⟩
abbrev main_v1656 : Ref sig .tc := ⟨.hbm, 1808, rfl⟩
abbrev main_v1657 : Ref sig .tc := ⟨.hbm, 1809, rfl⟩
abbrev main_v1658 : Ref sig .tc := ⟨.hbm, 1810, rfl⟩
abbrev main_v1659 : Ref sig .tc := ⟨.hbm, 1811, rfl⟩
abbrev main_v1660 : Ref sig .tc := ⟨.hbm, 1812, rfl⟩
abbrev main_v1661 : Ref sig .tc := ⟨.hbm, 1813, rfl⟩
abbrev main_v1662 : Ref sig .tc := ⟨.hbm, 1814, rfl⟩
abbrev main_v1663 : Ref sig .tc := ⟨.hbm, 1815, rfl⟩
abbrev main_v1664 : Ref sig .tc := ⟨.hbm, 1816, rfl⟩
abbrev main_cst_61 : Ref sig .tc := ⟨.hbm, 1817, rfl⟩
abbrev main_cst_62 : Ref sig .tc := ⟨.hbm, 1818, rfl⟩
abbrev main_call54_v0 : Ref sig .tc := ⟨.hbm, 1819, rfl⟩
abbrev main_call54_v1 : Ref sig .tc := ⟨.hbm, 1820, rfl⟩
abbrev main_call54_v2 : Ref sig .tc := ⟨.hbm, 1821, rfl⟩
abbrev main_call54_v3 : Ref sig .tc := ⟨.hbm, 1822, rfl⟩
abbrev main_call54_v4 : Ref sig .tc := ⟨.hbm, 1823, rfl⟩
abbrev main_v1665 : Ref sig .tc := ⟨.hbm, 1824, rfl⟩
abbrev main_v1666 : Ref sig .tc := ⟨.hbm, 1825, rfl⟩
abbrev main_v1667 : Ref sig .tc := ⟨.hbm, 1826, rfl⟩
abbrev main_v1668 : Ref sig .tc := ⟨.hbm, 1827, rfl⟩
abbrev main_cst_63 : Ref sig .tc := ⟨.hbm, 1828, rfl⟩
abbrev main_cst_64 : Ref sig .tc := ⟨.hbm, 1829, rfl⟩
abbrev main_call55_v0 : Ref sig .tc := ⟨.hbm, 1830, rfl⟩
abbrev main_call55_v1 : Ref sig .tc := ⟨.hbm, 1831, rfl⟩
abbrev main_call55_v2 : Ref sig .tc := ⟨.hbm, 1832, rfl⟩
abbrev main_call55_v3 : Ref sig .tc := ⟨.hbm, 1833, rfl⟩
abbrev main_call55_v4 : Ref sig .tc := ⟨.hbm, 1834, rfl⟩
abbrev main_v1669 : Ref sig .tc := ⟨.hbm, 1835, rfl⟩
abbrev main_v1670 : Ref sig .tc := ⟨.hbm, 1836, rfl⟩
abbrev main_v1671 : Ref sig .tc := ⟨.hbm, 1837, rfl⟩
abbrev main_v1672 : Ref sig .tc := ⟨.hbm, 1838, rfl⟩
abbrev main_cst_65 : Ref sig .tc := ⟨.hbm, 1839, rfl⟩
abbrev main_v1673 : Ref sig .tc := ⟨.hbm, 1840, rfl⟩
abbrev main_v1674 : Ref sig .tc := ⟨.hbm, 1841, rfl⟩
abbrev main_v1675 : Ref sig .tc := ⟨.hbm, 1842, rfl⟩
abbrev main_cst_66 : Ref sig .tc := ⟨.hbm, 1843, rfl⟩
abbrev main_v1676 : Ref sig .tc := ⟨.hbm, 1844, rfl⟩
abbrev main_v1677 : Ref sig .tc := ⟨.hbm, 1845, rfl⟩
abbrev main_v1678 : Ref sig .tc := ⟨.hbm, 1846, rfl⟩
abbrev main_cst_67 : Ref sig .tc := ⟨.hbm, 1847, rfl⟩
abbrev main_v1679 : Ref sig .tc := ⟨.hbm, 1848, rfl⟩
abbrev main_v1680 : Ref sig .tc := ⟨.hbm, 1849, rfl⟩
abbrev main_v1681 : Ref sig .tc := ⟨.hbm, 1850, rfl⟩
abbrev main_cst_68 : Ref sig .tc := ⟨.hbm, 1851, rfl⟩
abbrev main_v1682 : Ref sig .tc := ⟨.hbm, 1852, rfl⟩
abbrev main_v1683 : Ref sig .tc := ⟨.hbm, 1853, rfl⟩
abbrev main_v1684 : Ref sig .tc := ⟨.hbm, 1854, rfl⟩
abbrev main_v1685 : Ref sig .tc := ⟨.hbm, 1855, rfl⟩
abbrev main_v1686 : Ref sig .tc := ⟨.hbm, 1856, rfl⟩
abbrev main_v1687 : Ref sig .tc := ⟨.hbm, 1857, rfl⟩
abbrev main_v1688 : Ref sig .tc := ⟨.hbm, 1858, rfl⟩
abbrev main_v1689 : Ref sig .tc := ⟨.hbm, 1859, rfl⟩
abbrev main_v1690 : Ref sig .tc := ⟨.hbm, 1860, rfl⟩
abbrev main_v1691 : Ref sig .tc := ⟨.hbm, 1861, rfl⟩
abbrev main_cst_69 : Ref sig .tc := ⟨.hbm, 1862, rfl⟩
abbrev main_v1692 : Ref sig .tc := ⟨.hbm, 1863, rfl⟩
abbrev main_v1693 : Ref sig .tc := ⟨.hbm, 1864, rfl⟩
abbrev main_cst_70 : Ref sig .tc := ⟨.hbm, 1865, rfl⟩
abbrev main_v1694 : Ref sig .tc := ⟨.hbm, 1866, rfl⟩
abbrev main_v1695 : Ref sig .tc := ⟨.hbm, 1867, rfl⟩
abbrev main_cst_71 : Ref sig .tc := ⟨.hbm, 1868, rfl⟩
abbrev main_v1696 : Ref sig .tc := ⟨.hbm, 1869, rfl⟩
abbrev main_values : Ref sig .tc := ⟨.hbm, 1870, rfl⟩
abbrev main_indices : Ref sig .tc := ⟨.hbm, 1871, rfl⟩
abbrev main_v1697 : Ref sig .tc := ⟨.hbm, 1872, rfl⟩
abbrev main_call56_c : Ref sig .tc := ⟨.hbm, 1873, rfl⟩
abbrev main_call56_v0 : Ref sig .tc := ⟨.hbm, 1874, rfl⟩
abbrev main_call56_v1 : Ref sig .tc := ⟨.hbm, 1875, rfl⟩
abbrev main_call56_c_0 : Ref sig .tc := ⟨.hbm, 1876, rfl⟩
abbrev main_call56_v2 : Ref sig .tc := ⟨.hbm, 1877, rfl⟩
abbrev main_call56_v3 : Ref sig .tc := ⟨.hbm, 1878, rfl⟩
abbrev main_call56_v4 : Ref sig .tc := ⟨.hbm, 1879, rfl⟩
abbrev main_call56_c_1 : Ref sig .tc := ⟨.hbm, 1880, rfl⟩
abbrev main_call56_c_2 : Ref sig .tc := ⟨.hbm, 1881, rfl⟩
abbrev main_call56_v5 : Ref sig .tc := ⟨.hbm, 1882, rfl⟩
abbrev main_call56_v6 : Ref sig .tc := ⟨.hbm, 1883, rfl⟩
abbrev main_call56_v7 : Ref sig .tc := ⟨.hbm, 1884, rfl⟩
abbrev main_call56_v8 : Ref sig .tc := ⟨.hbm, 1885, rfl⟩
abbrev main_call56_v9 : Ref sig .tc := ⟨.hbm, 1886, rfl⟩
abbrev main_call56_v10 : Ref sig .tc := ⟨.hbm, 1887, rfl⟩
abbrev main_call56_c_3 : Ref sig .tc := ⟨.hbm, 1888, rfl⟩
abbrev main_call56_v11 : Ref sig .tc := ⟨.hbm, 1889, rfl⟩
abbrev main_call56_v12 : Ref sig .tc := ⟨.hbm, 1890, rfl⟩
abbrev main_call56_v13 : Ref sig .tc := ⟨.hbm, 1891, rfl⟩
abbrev main_call56_cst : Ref sig .tc := ⟨.hbm, 1892, rfl⟩
abbrev main_call56_v14 : Ref sig .tc := ⟨.hbm, 1893, rfl⟩
abbrev main_v1698 : Ref sig .tc := ⟨.hbm, 1894, rfl⟩
abbrev main_v1699 : Ref sig .tc := ⟨.hbm, 1895, rfl⟩
abbrev main_v1700 : Ref sig .tc := ⟨.hbm, 1896, rfl⟩

abbrev nD : Nat := 1
abbrev τ : Topo := Topo.v7x

variable {F : FTy → Type} [FloatOps F]
-- ==== Proof.Ideal.Base.lean ====
/-
  The statement shared by the six towers of the program: what it means for a tower's body to run.

  A tower's body is handed seven staging buffers (the input, the tower's weights and biases, the last convolution's weights
  and bias, the mask, the output) and four scratch buffers, each held whole at some contents. It gives the six inputs back
  as they were, the output overwritten by a list of pieces, and the scratch buffers at something.
-/
module

public import proofs.«01_k».proof.Proof.Gen.KernelIdeal.Skeleton
public import Idealize.ShloMosaic.Lib.Tactic
public import Idealize.ShloMosaic.Lib.Pipeline.Kit

@[expose] public section

noncomputable section

namespace Cert.KernelIdeal.Tower

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (F : FTy → Type) (c : Dev nD) {sp : Space} {S : Shape} {e : EltTy} (M : Memref sig .tc sp S e) : Type :=
  Buf (Elt F) (M.view.loc (c : Thread nD τ))
/-- Memref `M`'s buffer on core `c`, held whole at `f`. -/
abbrev pt (c : Dev nD) {sp : Space} {S : Shape} {e : EltTy} (M : Memref sig .tc sp S e) (f : Bf F c M) : sProp 𝕄 :=
  M.view.loc (c : Thread nD τ) ↦{fullShare} f

/-- The body `P` runs on core `c` from inputs `M0 … M5` at `f0 … f5` and scratch buffers `G0 … G3` at `g0 … g3`,
    whatever the output `M6` holds, and leaves the output overwritten by the pieces `L`. -/
def Runs (c : Dev nD) {S0 S1 S2 S3 S4 S5 S6 T : Shape}
    (M0 : Memref sig .tc .vmem S0 .f32) (M1 : Memref sig .tc .vmem S1 .bf16) (M2 : Memref sig .tc .vmem S2 .f32)
    (M3 : Memref sig .tc .vmem S3 .bf16) (M4 : Memref sig .tc .vmem S4 .f32) (M5 : Memref sig .tc .vmem S5 .f32)
    (M6 : Memref sig .tc .vmem S6 .f32) (G0 G1 G2 : Memref sig .tc .vmem T .bf16) (G3 : Memref sig .tc .vmem T .f32)
    (f0 : Bf F c M0) (f1 : Bf F c M1) (f2 : Bf F c M2) (f3 : Bf F c M3) (f4 : Bf F c M4) (f5 : Bf F c M5)
    (g0 : Bf F c G0) (g1 : Bf F c G1) (g2 : Bf F c G2) (g3 : Bf F c G3)
    (P : Prog (TpuEff nD τ sig (Elt F) Λ₀ .tc) PUnit) (L : List (View.Piece (Elt F) S6 .f32)) : Prop :=
  ∀ (f6 : Bf F c M6) (Q : PUnit → sProp 𝕄),
    iprop(pt c M0 f0 ∗ pt c M1 f1 ∗ pt c M2 f2 ∗ pt c M3 f3 ∗ pt c M4 f4 ∗ pt c M5 f5 ∗ pt c M6 f6
        ∗ pt c G0 g0 ∗ pt c G1 g1 ∗ pt c G2 g2 ∗ pt c G3 g3
        ∗ (iprop(pt c M0 f0 ∗ pt c M1 f1 ∗ pt c M2 f2 ∗ pt c M3 f3 ∗ pt c M4 f4 ∗ pt c M5 f5
            ∗ pt c M6 (M6.view.writes (Elt F) f6 L)
            ∗ (∃ g, pt c G0 g) ∗ (∃ g, pt c G1 g) ∗ (∃ g, pt c G2 g) ∗ (∃ g, pt c G3 g)) -∗ Q ⟨⟩))
      ⊢ wp frame (wpE (defs₀ (F := F)) Variants.none c none) Set.univ P Q

end Cert.KernelIdeal.Tower

end
-- ==== Proof.Ideal.Run0.lean ====
/-
  Tower 0 run once at symbolic operands: the pieces that it leaves in its output.
-/
module

public import proofs.«01_k».proof.Proof.Ideal.Base

@[expose] public section

noncomputable section

namespace Cert.KernelIdeal.Tower

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000 in
/-- Tower 0: the pieces written to the output, with the run of the body that writes them. -/
def run0 (c : Dev nD)
    (M0 : Memref sig .tc .vmem S1800x256 .f32) (h0 : M0.IsWhole) (M1 : Memref sig .tc .vmem S4x9x256x256 .bf16) (h1 : M1.IsWhole)
    (M2 : Memref sig .tc .vmem S4x256 .f32) (h2 : M2.IsWhole) (M3 : Memref sig .tc .vmem S9x256x720 .bf16) (h3 : M3.IsWhole)
    (M4 : Memref sig .tc .vmem S1x720 .f32) (h4 : M4.IsWhole) (M5 : Memref sig .tc .vmem S1800x1 .f32) (h5 : M5.IsWhole)
    (M6 : Memref sig .tc .vmem S1800x720 .f32) (h6 : M6.IsWhole)
    (f0 : Bf F c M0) (f1 : Bf F c M1) (f2 : Bf F c M2) (f3 : Bf F c M3) (f4 : Bf F c M4) (f5 : Bf F c M5)
    (g0 : Bf F c (Memref.whole cc0_scratch0)) (g1 : Bf F c (Memref.whole cc0_scratch1))
    (g2 : Bf F c (Memref.whole cc0_scratch2)) (g3 : Bf F c (Memref.whole cc0_scratch3)) :
    { L : List (View.Piece (Elt F) S1800x720 .f32) //
      Runs c M0 M1 M2 M3 M4 M5 M6 (Memref.whole cc0_scratch0) (Memref.whole cc0_scratch1) (Memref.whole cc0_scratch2)
        (Memref.whole cc0_scratch3) f0 f1 f2 f3 f4 f5 g0 g1 g2 g3
        (cc0__tower_kernel M0 h0 M1 h1 M2 h2 M3 h3 M4 h4 M5 h5 M6 h6
          (Memref.whole cc0_scratch0) (Memref.isWhole_whole _) (Memref.whole cc0_scratch1) (Memref.isWhole_whole _)
          (Memref.whole cc0_scratch2) (Memref.isWhole_whole _) (Memref.whole cc0_scratch3) (Memref.isWhole_whole _)) L } := by
  refine ⟨?_, fun f6 Q => ?run⟩
  case run =>
    iintro ⟨H0, H1, H2, H3, H4, H5, H6, G0, G1, G2, G3, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexists _; iexact G0
    isplitl [G1]; · iexists _; iexact G1
    isplitl [G2]; · iexists _; iexact G2
    iexists _; iexact G3

end Cert.KernelIdeal.Tower

end
-- ==== Proof.Ideal.Run1.lean ====
/-
  Tower 1 run once at symbolic operands: the pieces that it leaves in its output.
-/
module

public import proofs.«01_k».proof.Proof.Ideal.Base

@[expose] public section

noncomputable section

namespace Cert.KernelIdeal.Tower

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000 in
/-- Tower 1: the pieces written to the output, with the run of the body that writes them. -/
def run1 (c : Dev nD)
    (M0 : Memref sig .tc .vmem S1800x256 .f32) (h0 : M0.IsWhole) (M1 : Memref sig .tc .vmem S4x9x256x256 .bf16) (h1 : M1.IsWhole)
    (M2 : Memref sig .tc .vmem S4x256 .f32) (h2 : M2.IsWhole) (M3 : Memref sig .tc .vmem S9x256x36 .bf16) (h3 : M3.IsWhole)
    (M4 : Memref sig .tc .vmem S1x36 .f32) (h4 : M4.IsWhole) (M5 : Memref sig .tc .vmem S1800x1 .f32) (h5 : M5.IsWhole)
    (M6 : Memref sig .tc .vmem S1800x36 .f32) (h6 : M6.IsWhole)
    (f0 : Bf F c M0) (f1 : Bf F c M1) (f2 : Bf F c M2) (f3 : Bf F c M3) (f4 : Bf F c M4) (f5 : Bf F c M5)
    (g0 : Bf F c (Memref.whole cc1_scratch0)) (g1 : Bf F c (Memref.whole cc1_scratch1))
    (g2 : Bf F c (Memref.whole cc1_scratch2)) (g3 : Bf F c (Memref.whole cc1_scratch3)) :
    { L : List (View.Piece (Elt F) S1800x36 .f32) //
      Runs c M0 M1 M2 M3 M4 M5 M6 (Memref.whole cc1_scratch0) (Memref.whole cc1_scratch1) (Memref.whole cc1_scratch2)
        (Memref.whole cc1_scratch3) f0 f1 f2 f3 f4 f5 g0 g1 g2 g3
        (cc1__tower_kernel M0 h0 M1 h1 M2 h2 M3 h3 M4 h4 M5 h5 M6 h6
          (Memref.whole cc1_scratch0) (Memref.isWhole_whole _) (Memref.whole cc1_scratch1) (Memref.isWhole_whole _)
          (Memref.whole cc1_scratch2) (Memref.isWhole_whole _) (Memref.whole cc1_scratch3) (Memref.isWhole_whole _)) L } := by
  refine ⟨?_, fun f6 Q => ?run⟩
  case run =>
    iintro ⟨H0, H1, H2, H3, H4, H5, H6, G0, G1, G2, G3, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexists _; iexact G0
    isplitl [G1]; · iexists _; iexact G1
    isplitl [G2]; · iexists _; iexact G2
    iexists _; iexact G3

end Cert.KernelIdeal.Tower

end
-- ==== Proof.Ideal.Run2.lean ====
/-
  Tower 2 run once at symbolic operands: the pieces that it leaves in its output.
-/
module

public import proofs.«01_k».proof.Proof.Ideal.Base

@[expose] public section

noncomputable section

namespace Cert.KernelIdeal.Tower

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000 in
/-- Tower 2: the pieces written to the output, with the run of the body that writes them. -/
def run2 (c : Dev nD)
    (M0 : Memref sig .tc .vmem S512x256 .f32) (h0 : M0.IsWhole) (M1 : Memref sig .tc .vmem S4x9x256x256 .bf16) (h1 : M1.IsWhole)
    (M2 : Memref sig .tc .vmem S4x256 .f32) (h2 : M2.IsWhole) (M3 : Memref sig .tc .vmem S9x256x720 .bf16) (h3 : M3.IsWhole)
    (M4 : Memref sig .tc .vmem S1x720 .f32) (h4 : M4.IsWhole) (M5 : Memref sig .tc .vmem S512x1 .f32) (h5 : M5.IsWhole)
    (M6 : Memref sig .tc .vmem S512x720 .f32) (h6 : M6.IsWhole)
    (f0 : Bf F c M0) (f1 : Bf F c M1) (f2 : Bf F c M2) (f3 : Bf F c M3) (f4 : Bf F c M4) (f5 : Bf F c M5)
    (g0 : Bf F c (Memref.whole cc2_scratch0)) (g1 : Bf F c (Memref.whole cc2_scratch1))
    (g2 : Bf F c (Memref.whole cc2_scratch2)) (g3 : Bf F c (Memref.whole cc2_scratch3)) :
    { L : List (View.Piece (Elt F) S512x720 .f32) //
      Runs c M0 M1 M2 M3 M4 M5 M6 (Memref.whole cc2_scratch0) (Memref.whole cc2_scratch1) (Memref.whole cc2_scratch2)
        (Memref.whole cc2_scratch3) f0 f1 f2 f3 f4 f5 g0 g1 g2 g3
        (cc2__tower_kernel M0 h0 M1 h1 M2 h2 M3 h3 M4 h4 M5 h5 M6 h6
          (Memref.whole cc2_scratch0) (Memref.isWhole_whole _) (Memref.whole cc2_scratch1) (Memref.isWhole_whole _)
          (Memref.whole cc2_scratch2) (Memref.isWhole_whole _) (Memref.whole cc2_scratch3) (Memref.isWhole_whole _)) L } := by
  refine ⟨?_, fun f6 Q => ?run⟩
  case run =>
    iintro ⟨H0, H1, H2, H3, H4, H5, H6, G0, G1, G2, G3, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexists _; iexact G0
    isplitl [G1]; · iexists _; iexact G1
    isplitl [G2]; · iexists _; iexact G2
    iexists _; iexact G3

end Cert.KernelIdeal.Tower

end
-- ==== Proof.Ideal.Run3.lean ====
/-
  Tower 3 run once at symbolic operands: the pieces that it leaves in its output.
-/
module

public import proofs.«01_k».proof.Proof.Ideal.Base

@[expose] public section

noncomputable section

namespace Cert.KernelIdeal.Tower

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000 in
/-- Tower 3: the pieces written to the output, with the run of the body that writes them. -/
def run3 (c : Dev nD)
    (M0 : Memref sig .tc .vmem S512x256 .f32) (h0 : M0.IsWhole) (M1 : Memref sig .tc .vmem S4x9x256x256 .bf16) (h1 : M1.IsWhole)
    (M2 : Memref sig .tc .vmem S4x256 .f32) (h2 : M2.IsWhole) (M3 : Memref sig .tc .vmem S9x256x36 .bf16) (h3 : M3.IsWhole)
    (M4 : Memref sig .tc .vmem S1x36 .f32) (h4 : M4.IsWhole) (M5 : Memref sig .tc .vmem S512x1 .f32) (h5 : M5.IsWhole)
    (M6 : Memref sig .tc .vmem S512x36 .f32) (h6 : M6.IsWhole)
    (f0 : Bf F c M0) (f1 : Bf F c M1) (f2 : Bf F c M2) (f3 : Bf F c M3) (f4 : Bf F c M4) (f5 : Bf F c M5)
    (g0 : Bf F c (Memref.whole cc3_scratch0)) (g1 : Bf F c (Memref.whole cc3_scratch1))
    (g2 : Bf F c (Memref.whole cc3_scratch2)) (g3 : Bf F c (Memref.whole cc3_scratch3)) :
    { L : List (View.Piece (Elt F) S512x36 .f32) //
      Runs c M0 M1 M2 M3 M4 M5 M6 (Memref.whole cc3_scratch0) (Memref.whole cc3_scratch1) (Memref.whole cc3_scratch2)
        (Memref.whole cc3_scratch3) f0 f1 f2 f3 f4 f5 g0 g1 g2 g3
        (cc3__tower_kernel M0 h0 M1 h1 M2 h2 M3 h3 M4 h4 M5 h5 M6 h6
          (Memref.whole cc3_scratch0) (Memref.isWhole_whole _) (Memref.whole cc3_scratch1) (Memref.isWhole_whole _)
          (Memref.whole cc3_scratch2) (Memref.isWhole_whole _) (Memref.whole cc3_scratch3) (Memref.isWhole_whole _)) L } := by
  refine ⟨?_, fun f6 Q => ?run⟩
  case run =>
    iintro ⟨H0, H1, H2, H3, H4, H5, H6, G0, G1, G2, G3, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexists _; iexact G0
    isplitl [G1]; · iexists _; iexact G1
    isplitl [G2]; · iexists _; iexact G2
    iexists _; iexact G3

end Cert.KernelIdeal.Tower

end
-- ==== Proof.Ideal.Run4.lean ====
/-
  Tower 4 run once at symbolic operands: the pieces that it leaves in its output.
-/
module

public import proofs.«01_k».proof.Proof.Ideal.Base

@[expose] public section

noncomputable section

namespace Cert.KernelIdeal.Tower

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000 in
/-- Tower 4: the pieces written to the output, with the run of the body that writes them. -/
def run4 (c : Dev nD)
    (M0 : Memref sig .tc .vmem S162x256 .f32) (h0 : M0.IsWhole) (M1 : Memref sig .tc .vmem S4x9x256x256 .bf16) (h1 : M1.IsWhole)
    (M2 : Memref sig .tc .vmem S4x256 .f32) (h2 : M2.IsWhole) (M3 : Memref sig .tc .vmem S9x256x720 .bf16) (h3 : M3.IsWhole)
    (M4 : Memref sig .tc .vmem S1x720 .f32) (h4 : M4.IsWhole) (M5 : Memref sig .tc .vmem S162x1 .f32) (h5 : M5.IsWhole)
    (M6 : Memref sig .tc .vmem S162x720 .f32) (h6 : M6.IsWhole)
    (f0 : Bf F c M0) (f1 : Bf F c M1) (f2 : Bf F c M2) (f3 : Bf F c M3) (f4 : Bf F c M4) (f5 : Bf F c M5)
    (g0 : Bf F c (Memref.whole cc4_scratch0)) (g1 : Bf F c (Memref.whole cc4_scratch1))
    (g2 : Bf F c (Memref.whole cc4_scratch2)) (g3 : Bf F c (Memref.whole cc4_scratch3)) :
    { L : List (View.Piece (Elt F) S162x720 .f32) //
      Runs c M0 M1 M2 M3 M4 M5 M6 (Memref.whole cc4_scratch0) (Memref.whole cc4_scratch1) (Memref.whole cc4_scratch2)
        (Memref.whole cc4_scratch3) f0 f1 f2 f3 f4 f5 g0 g1 g2 g3
        (cc4__tower_kernel M0 h0 M1 h1 M2 h2 M3 h3 M4 h4 M5 h5 M6 h6
          (Memref.whole cc4_scratch0) (Memref.isWhole_whole _) (Memref.whole cc4_scratch1) (Memref.isWhole_whole _)
          (Memref.whole cc4_scratch2) (Memref.isWhole_whole _) (Memref.whole cc4_scratch3) (Memref.isWhole_whole _)) L } := by
  refine ⟨?_, fun f6 Q => ?run⟩
  case run =>
    iintro ⟨H0, H1, H2, H3, H4, H5, H6, G0, G1, G2, G3, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexists _; iexact G0
    isplitl [G1]; · iexists _; iexact G1
    isplitl [G2]; · iexists _; iexact G2
    iexists _; iexact G3

end Cert.KernelIdeal.Tower

end
-- ==== Proof.Ideal.Run5.lean ====
/-
  Tower 5 run once at symbolic operands: the pieces that it leaves in its output.
-/
module

public import proofs.«01_k».proof.Proof.Ideal.Base

@[expose] public section

noncomputable section

namespace Cert.KernelIdeal.Tower

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000 in
/-- Tower 5: the pieces written to the output, with the run of the body that writes them. -/
def run5 (c : Dev nD)
    (M0 : Memref sig .tc .vmem S162x256 .f32) (h0 : M0.IsWhole) (M1 : Memref sig .tc .vmem S4x9x256x256 .bf16) (h1 : M1.IsWhole)
    (M2 : Memref sig .tc .vmem S4x256 .f32) (h2 : M2.IsWhole) (M3 : Memref sig .tc .vmem S9x256x36 .bf16) (h3 : M3.IsWhole)
    (M4 : Memref sig .tc .vmem S1x36 .f32) (h4 : M4.IsWhole) (M5 : Memref sig .tc .vmem S162x1 .f32) (h5 : M5.IsWhole)
    (M6 : Memref sig .tc .vmem S162x36 .f32) (h6 : M6.IsWhole)
    (f0 : Bf F c M0) (f1 : Bf F c M1) (f2 : Bf F c M2) (f3 : Bf F c M3) (f4 : Bf F c M4) (f5 : Bf F c M5)
    (g0 : Bf F c (Memref.whole cc5_scratch0)) (g1 : Bf F c (Memref.whole cc5_scratch1))
    (g2 : Bf F c (Memref.whole cc5_scratch2)) (g3 : Bf F c (Memref.whole cc5_scratch3)) :
    { L : List (View.Piece (Elt F) S162x36 .f32) //
      Runs c M0 M1 M2 M3 M4 M5 M6 (Memref.whole cc5_scratch0) (Memref.whole cc5_scratch1) (Memref.whole cc5_scratch2)
        (Memref.whole cc5_scratch3) f0 f1 f2 f3 f4 f5 g0 g1 g2 g3
        (cc5__tower_kernel M0 h0 M1 h1 M2 h2 M3 h3 M4 h4 M5 h5 M6 h6
          (Memref.whole cc5_scratch0) (Memref.isWhole_whole _) (Memref.whole cc5_scratch1) (Memref.isWhole_whole _)
          (Memref.whole cc5_scratch2) (Memref.isWhole_whole _) (Memref.whole cc5_scratch3) (Memref.isWhole_whole _)) L } := by
  refine ⟨?_, fun f6 Q => ?run⟩
  case run =>
    iintro ⟨H0, H1, H2, H3, H4, H5, H6, G0, G1, G2, G3, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexists _; iexact G0
    isplitl [G1]; · iexists _; iexact G1
    isplitl [G2]; · iexists _; iexact G2
    iexists _; iexact G3

end Cert.KernelIdeal.Tower

end
-- ==== Proof.Ideal.Pipe.lean ====
/-
  The proof data of the six towers' pipelines.

  Every tower is one pipeline point over whole arrays. Its six inputs are determined when it is entered; its output is
  written in part only, so what is known of it afterwards is a predicate: the buffer is what the tower's pieces leave on
  top of something, from scratch buffers that held something.
-/
module

public import proofs.«01_k».proof.Proof.Ideal.Run0
public import proofs.«01_k».proof.Proof.Ideal.Run1
public import proofs.«01_k».proof.Proof.Ideal.Run2
public import proofs.«01_k».proof.Proof.Ideal.Run3
public import proofs.«01_k».proof.Proof.Ideal.Run4
public import proofs.«01_k».proof.Proof.Ideal.Run5
public import proofs.«01_k».proof.Proof.Gen.KernelIdeal.Regions
public import proofs.«01_k».proof.Proof.Gen.KernelIdeal.Points
public import Idealize.ShloMosaic.Lib.Pipeline.DatRel
public import Idealize.ShloMosaic.Lib.Pipeline.ArrRel
public import Idealize.ShloMosaic.Lib.Pipeline.RegionsOwned
public import Idealize.ShloMosaic.Lib.Pipeline.RegionArraysF

@[expose] public section

set_option maxRecDepth 16384

noncomputable section

namespace Cert.KernelIdeal.Tower

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ)

/-! ## What the pipelines find -/

/-- Some contents for the outputs: those at launch. -/
def outs₀ : Outs (F := F) := fun _ r c => m ((c : Thread nD τ).loc r)

/-- The arrays that the pipelines are entered with, all at once: what the host operations before the first tower leave,
    and the padded inputs of the second and third level. -/
def VA (c : Dev nD) : Valuation τ sig (Elt F) :=
  Function.update (Function.update (V3 m c) main_v24 (V8 m (outs₀ m) c main_v24)) main_v34 (V13 m (outs₀ m) c main_v34)

/-- The block of window `w` of pipeline `p`, as fetched. -/
def blk (p : Fin 6) (c : Dev nD) (w : Fin (cfgs p).W) (t : Fin (cfgs p).N) : ((cfgs p).win w).block.Idx → Elt F ((cfgs p).win w).elt :=
  ((cfgs p).win w).fill ((cfgs p).grid.coords t) (fun _ => Classical.arbitrary _)
    ((((cfgs p).win w).blk t).view.read (Elt F) (VA m c (Pipeline.arrRef (cfgs p).spec w)))

/-- The proof data of pipeline `p`, every window exact: arrays as entered, staging buffers as fetched, the scoped rest as
    the invariant. -/
def dat (p : Fin 6) (c : Dev nD) : Dat τ (Elt F) Unit ℕ (UR sig nD τ) ℕ (cfgs p) c where
  A w := VA m c (Pipeline.arrRef (cfgs p).spec w)
  after w t := blk m p c w t
  Φ _ := Pipeline.scopedRest (Ix := Unit) (Name := ℕ) (U := UR sig nD τ) (Lvl := ℕ) (Val := Elt F) (cfgs p).spec c
  q _ := fullShare
  owed _ := 0

/-- The output window of a pipeline is held to a predicate, the others exactly. -/
def isOut (p : Fin 6) (w : Fin (cfgs p).W) : Bool := ((cfgs p).win w).isOut

/-! ## What a tower leaves in its output -/

/-- What is left in the output `M6` of a body that writes the pieces `L` to it, from inputs read as `x0 … x5`. -/
def OutOf (c : Dev nD) {S0 S1 S2 S3 S4 S5 S6 T : Shape}
    (M0 : Memref sig .tc .vmem S0 .f32) (M1 : Memref sig .tc .vmem S1 .bf16) (M2 : Memref sig .tc .vmem S2 .f32)
    (M3 : Memref sig .tc .vmem S3 .bf16) (M4 : Memref sig .tc .vmem S4 .f32) (M5 : Memref sig .tc .vmem S5 .f32)
    (M6 : Memref sig .tc .vmem S6 .f32) (G0 G1 G2 : Memref sig .tc .vmem T .bf16) (G3 : Memref sig .tc .vmem T .f32)
    (L : Bf F c M0 → Bf F c M1 → Bf F c M2 → Bf F c M3 → Bf F c M4 → Bf F c M5 → Bf F c G0 → Bf F c G1 → Bf F c G2 → Bf F c G3 →
      List (View.Piece (Elt F) S6 .f32))
    (x0 : S0.Idx → Elt F .f32) (x1 : S1.Idx → Elt F .bf16) (x2 : S2.Idx → Elt F .f32) (x3 : S3.Idx → Elt F .bf16)
    (x4 : S4.Idx → Elt F .f32) (x5 : S5.Idx → Elt F .f32) (X : S6.Idx → Elt F .f32) : Prop :=
  ∃ f0 f1 f2 f3 f4 f5 g0 g1 g2 g3 f6, M0.view.read (Elt F) f0 = x0 ∧ M1.view.read (Elt F) f1 = x1 ∧ M2.view.read (Elt F) f2 = x2
    ∧ M3.view.read (Elt F) f3 = x3 ∧ M4.view.read (Elt F) f4 = x4 ∧ M5.view.read (Elt F) f5 = x5
    ∧ M6.view.read (Elt F) (M6.view.writes (Elt F) f6 (L f0 f1 f2 f3 f4 f5 g0 g1 g2 g3)) = X

/-- Equal assertions entail one another. -/
theorem entails_of_eq {P Q : sProp 𝕄} (h : P = Q) : Idealize.SL.BI.Entails P Q := h ▸ Idealize.SL.BI.Entails.refl _

/-- What is known of the contents may be forgotten. -/
theorem exists_forget {α : Type} (P : α → Prop) (Q : α → sProp 𝕄) : iprop(∃ Y, ⌜P Y⌝ ∗ Q Y) ⊢ iprop(∃ Y, Q Y) := by
  iintro ⟨%Y, -, H⟩; iexists Y; iexact H

/-- A body that runs takes its inputs and its output by what is read of them: the inputs come back, the output at
    something that the pieces leave, the scratch buffers at something; whatever else is held stays. -/
theorem runs_owns (c : Dev nD) {S0 S1 S2 S3 S4 S5 S6 T : Shape}
    (M0 : Memref sig .tc .vmem S0 .f32) (M1 : Memref sig .tc .vmem S1 .bf16) (M2 : Memref sig .tc .vmem S2 .f32)
    (M3 : Memref sig .tc .vmem S3 .bf16) (M4 : Memref sig .tc .vmem S4 .f32) (M5 : Memref sig .tc .vmem S5 .f32)
    (M6 : Memref sig .tc .vmem S6 .f32) (G0 G1 G2 : Memref sig .tc .vmem T .bf16) (G3 : Memref sig .tc .vmem T .f32)
    (h0 : M0.IsWhole) (h1 : M1.IsWhole) (h2 : M2.IsWhole) (h3 : M3.IsWhole) (h4 : M4.IsWhole) (h5 : M5.IsWhole) (h6 : M6.IsWhole)
    (L : Bf F c M0 → Bf F c M1 → Bf F c M2 → Bf F c M3 → Bf F c M4 → Bf F c M5 → Bf F c G0 → Bf F c G1 → Bf F c G2 → Bf F c G3 →
      List (View.Piece (Elt F) S6 .f32))
    (P : Prog (TpuEff nD τ sig (Elt F) Λ₀ .tc) PUnit)
    (hP : ∀ f0 f1 f2 f3 f4 f5 g0 g1 g2 g3, Runs c M0 M1 M2 M3 M4 M5 M6 G0 G1 G2 G3 f0 f1 f2 f3 f4 f5 g0 g1 g2 g3 P (L f0 f1 f2 f3 f4 f5 g0 g1 g2 g3))
    (x0 : S0.Idx → Elt F .f32) (x1 : S1.Idx → Elt F .bf16) (x2 : S2.Idx → Elt F .f32) (x3 : S3.Idx → Elt F .bf16)
    (x4 : S4.Idx → Elt F .f32) (x5 : S5.Idx → Elt F .f32) (R O : sProp 𝕄) (Q : PUnit → sProp 𝕄)
    (hQ : iprop((((∃ g, pt c G0 g) ∗ (∃ g, pt c G1 g) ∗ (∃ g, pt c G2 g) ∗ (∃ g, pt c G3 g)) ∗ R) ∗ O
        ∗ owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ ∃ X, ⌜OutOf c M0 M1 M2 M3 M4 M5 M6 G0 G1 G2 G3 L x0 x1 x2 x3 x4 x5 X⌝ ∗ owns (c : Thread nD τ) M6 fullShare X) ⊢ Q ⟨⟩) :
    iprop((((∃ g, pt c G0 g) ∗ (∃ g, pt c G1 g) ∗ (∃ g, pt c G2 g) ∗ (∃ g, pt c G3 g)) ∗ R) ∗ O
        ∗ owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ ∃ Y, owns (c : Thread nD τ) M6 fullShare Y)
      ⊢ wp frame (wpE (defs₀ (F := F)) Variants.none c none) Set.univ P Q := by
  simp only [owns, h0.set_eq_univ, h1.set_eq_univ, h2.set_eq_univ, h3.set_eq_univ, h4.set_eq_univ, h5.set_eq_univ, h6.set_eq_univ] at hQ ⊢
  iintro ⟨⟨⟨⟨%g0, G0⟩, ⟨%g1, G1⟩, ⟨%g2, G2⟩, ⟨%g3, G3⟩⟩, HR⟩, HO, ⟨%f0, %e0, H0⟩, ⟨%f1, %e1, H1⟩, ⟨%f2, %e2, H2⟩, ⟨%f3, %e3, H3⟩, ⟨%f4, %e4, H4⟩, ⟨%f5, %e5, H5⟩, ⟨%Y, %f6, %e6, H6⟩⟩
  iapply (hP f0 f1 f2 f3 f4 f5 g0 g1 g2 g3 f6 Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [G0]; · iexact G0
  isplitl [G1]; · iexact G1
  isplitl [G2]; · iexact G2
  isplitl [G3]; · iexact G3
  iintro ⟨H0, H1, H2, H3, H4, H5, H6, G0, G1, G2, G3⟩
  iapply hQ
  isplitl [G0 G1 G2 G3 HR]
  · isplitr [HR]
    · isplitl [G0]; · iexact G0
      isplitl [G1]; · iexact G1
      isplitl [G2]; · iexact G2
      iexact G3
    iexact HR
  isplitl [HO]; · iexact HO
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr
  · ipureintro; exact ⟨f0, f1, f2, f3, f4, f5, g0, g1, g2, g3, f6, e0, e1, e2, e3, e4, e5, rfl⟩
  iexists _; isplitr; · ipureintro; rfl
  iexact H6

/-- What tower 0 leaves in its output's staging buffer. -/
def Out0 (c : Dev nD) : (S1800x256.Idx → Elt F .f32) → (S4x9x256x256.Idx → Elt F .bf16) → (S4x256.Idx → Elt F .f32) →
    (S9x256x720.Idx → Elt F .bf16) → (S1x720.Idx → Elt F .f32) → (S1800x1.Idx → Elt F .f32) → (S1800x720.Idx → Elt F .f32) → Prop :=
  OutOf c (stage0_0 0) (stage0_1 0) (stage0_2 0) (stage0_3 0) (stage0_4 0) (stage0_5 0) (stage0_6 0)
    (Memref.whole cc0_scratch0) (Memref.whole cc0_scratch1) (Memref.whole cc0_scratch2) (Memref.whole cc0_scratch3)
    fun f0 f1 f2 f3 f4 f5 g0 g1 g2 g3 => (run0 (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0)
      f0 f1 f2 f3 f4 f5 g0 g1 g2 g3).1

/-- What tower 1 leaves in its output's staging buffer. -/
def Out1 (c : Dev nD) : (S1800x256.Idx → Elt F .f32) → (S4x9x256x256.Idx → Elt F .bf16) → (S4x256.Idx → Elt F .f32) →
    (S9x256x36.Idx → Elt F .bf16) → (S1x36.Idx → Elt F .f32) → (S1800x1.Idx → Elt F .f32) → (S1800x36.Idx → Elt F .f32) → Prop :=
  OutOf c (stage1_0 0) (stage1_1 0) (stage1_2 0) (stage1_3 0) (stage1_4 0) (stage1_5 0) (stage1_6 0)
    (Memref.whole cc1_scratch0) (Memref.whole cc1_scratch1) (Memref.whole cc1_scratch2) (Memref.whole cc1_scratch3)
    fun f0 f1 f2 f3 f4 f5 g0 g1 g2 g3 => (run1 (F := F) c (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0)
      f0 f1 f2 f3 f4 f5 g0 g1 g2 g3).1

/-- What tower 2 leaves in its output's staging buffer. -/
def Out2 (c : Dev nD) : (S512x256.Idx → Elt F .f32) → (S4x9x256x256.Idx → Elt F .bf16) → (S4x256.Idx → Elt F .f32) →
    (S9x256x720.Idx → Elt F .bf16) → (S1x720.Idx → Elt F .f32) → (S512x1.Idx → Elt F .f32) → (S512x720.Idx → Elt F .f32) → Prop :=
  OutOf c (stage2_0 0) (stage2_1 0) (stage2_2 0) (stage2_3 0) (stage2_4 0) (stage2_5 0) (stage2_6 0)
    (Memref.whole cc2_scratch0) (Memref.whole cc2_scratch1) (Memref.whole cc2_scratch2) (Memref.whole cc2_scratch3)
    fun f0 f1 f2 f3 f4 f5 g0 g1 g2 g3 => (run2 (F := F) c (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0)
      f0 f1 f2 f3 f4 f5 g0 g1 g2 g3).1

/-- What tower 3 leaves in its output's staging buffer. -/
def Out3 (c : Dev nD) : (S512x256.Idx → Elt F .f32) → (S4x9x256x256.Idx → Elt F .bf16) → (S4x256.Idx → Elt F .f32) →
    (S9x256x36.Idx → Elt F .bf16) → (S1x36.Idx → Elt F .f32) → (S512x1.Idx → Elt F .f32) → (S512x36.Idx → Elt F .f32) → Prop :=
  OutOf c (stage3_0 0) (stage3_1 0) (stage3_2 0) (stage3_3 0) (stage3_4 0) (stage3_5 0) (stage3_6 0)
    (Memref.whole cc3_scratch0) (Memref.whole cc3_scratch1) (Memref.whole cc3_scratch2) (Memref.whole cc3_scratch3)
    fun f0 f1 f2 f3 f4 f5 g0 g1 g2 g3 => (run3 (F := F) c (stage3_0 0) (hstage3_0 0) (stage3_1 0) (hstage3_1 0) (stage3_2 0) (hstage3_2 0) (stage3_3 0) (hstage3_3 0) (stage3_4 0) (hstage3_4 0) (stage3_5 0) (hstage3_5 0) (stage3_6 0) (hstage3_6 0)
      f0 f1 f2 f3 f4 f5 g0 g1 g2 g3).1

/-- What tower 4 leaves in its output's staging buffer. -/
def Out4 (c : Dev nD) : (S162x256.Idx → Elt F .f32) → (S4x9x256x256.Idx → Elt F .bf16) → (S4x256.Idx → Elt F .f32) →
    (S9x256x720.Idx → Elt F .bf16) → (S1x720.Idx → Elt F .f32) → (S162x1.Idx → Elt F .f32) → (S162x720.Idx → Elt F .f32) → Prop :=
  OutOf c (stage4_0 0) (stage4_1 0) (stage4_2 0) (stage4_3 0) (stage4_4 0) (stage4_5 0) (stage4_6 0)
    (Memref.whole cc4_scratch0) (Memref.whole cc4_scratch1) (Memref.whole cc4_scratch2) (Memref.whole cc4_scratch3)
    fun f0 f1 f2 f3 f4 f5 g0 g1 g2 g3 => (run4 (F := F) c (stage4_0 0) (hstage4_0 0) (stage4_1 0) (hstage4_1 0) (stage4_2 0) (hstage4_2 0) (stage4_3 0) (hstage4_3 0) (stage4_4 0) (hstage4_4 0) (stage4_5 0) (hstage4_5 0) (stage4_6 0) (hstage4_6 0)
      f0 f1 f2 f3 f4 f5 g0 g1 g2 g3).1

/-- What tower 5 leaves in its output's staging buffer. -/
def Out5 (c : Dev nD) : (S162x256.Idx → Elt F .f32) → (S4x9x256x256.Idx → Elt F .bf16) → (S4x256.Idx → Elt F .f32) →
    (S9x256x36.Idx → Elt F .bf16) → (S1x36.Idx → Elt F .f32) → (S162x1.Idx → Elt F .f32) → (S162x36.Idx → Elt F .f32) → Prop :=
  OutOf c (stage5_0 0) (stage5_1 0) (stage5_2 0) (stage5_3 0) (stage5_4 0) (stage5_5 0) (stage5_6 0)
    (Memref.whole cc5_scratch0) (Memref.whole cc5_scratch1) (Memref.whole cc5_scratch2) (Memref.whole cc5_scratch3)
    fun f0 f1 f2 f3 f4 f5 g0 g1 g2 g3 => (run5 (F := F) c (stage5_0 0) (hstage5_0 0) (stage5_1 0) (hstage5_1 0) (stage5_2 0) (hstage5_2 0) (stage5_3 0) (hstage5_3 0) (stage5_4 0) (hstage5_4 0) (stage5_5 0) (hstage5_5 0) (stage5_6 0) (hstage5_6 0)
      f0 f1 f2 f3 f4 f5 g0 g1 g2 g3).1

/-- What is known of the staging buffer of window `w` after tower `p`. -/
def Rl : (p : Fin 6) → (c : Dev nD) → (w : Fin (cfgs p).W) → Fin (cfgs p).N → (((cfgs p).win w).block.Idx → Elt F ((cfgs p).win w).elt) → Prop
  | ⟨0, _⟩, c, ⟨6, _⟩, t, X => Out0 c (blk m 0 c 0 t) (blk m 0 c 1 t) (blk m 0 c 2 t) (blk m 0 c 3 t) (blk m 0 c 4 t) (blk m 0 c 5 t) X
  | ⟨1, _⟩, c, ⟨6, _⟩, t, X => Out1 c (blk m 1 c 0 t) (blk m 1 c 1 t) (blk m 1 c 2 t) (blk m 1 c 3 t) (blk m 1 c 4 t) (blk m 1 c 5 t) X
  | ⟨2, _⟩, c, ⟨6, _⟩, t, X => Out2 c (blk m 2 c 0 t) (blk m 2 c 1 t) (blk m 2 c 2 t) (blk m 2 c 3 t) (blk m 2 c 4 t) (blk m 2 c 5 t) X
  | ⟨3, _⟩, c, ⟨6, _⟩, t, X => Out3 c (blk m 3 c 0 t) (blk m 3 c 1 t) (blk m 3 c 2 t) (blk m 3 c 3 t) (blk m 3 c 4 t) (blk m 3 c 5 t) X
  | ⟨4, _⟩, c, ⟨6, _⟩, t, X => Out4 c (blk m 4 c 0 t) (blk m 4 c 1 t) (blk m 4 c 2 t) (blk m 4 c 3 t) (blk m 4 c 4 t) (blk m 4 c 5 t) X
  | ⟨5, _⟩, c, ⟨6, _⟩, t, X => Out5 c (blk m 5 c 0 t) (blk m 5 c 1 t) (blk m 5 c 2 t) (blk m 5 c 3 t) (blk m 5 c 4 t) (blk m 5 c 5 t) X
  | _, _, _, _, _ => True

theorem before0 (c : Dev nD) (w : Fin (cfgs 0).W) (hw : isOut 0 w = false) (d : ((cfgs 0).win w).block.Idx → Elt F ((cfgs 0).win w).elt) :
    (dat m 0 c).before w t0_0 d = blk m 0 c w t0_0 := by
  unfold Dat.before
  match w, hw with
  | 0, _ | 1, _ | 2, _ | 3, _ | 4, _ | 5, _ => rw [if_pos (by first | rfl | decide)]; rfl
  | 6, h => exact absurd h (by decide)

set_option maxHeartbeats 1000000 in
/-- Tower 0's body at its one point. -/
theorem body0 (c : Dev nD) : BodyObligationRel (dat m 0 c) (defs₀ (F := F)) Variants.none () Set.univ (isOut 0) (Rl m 0 c) := fun t => by
  obtain rfl := fin_N0 t
  have hin : ∀ w, isOut 0 w = false → iprop(∃ d, owns (c : Thread nD τ) (((cfgs 0).win w).stage ((cfgs 0).slots t0_0 w)) fullShare ((dat m 0 c).before w t0_0 d))
      ⊢ (owns (c : Thread nD τ) (((cfgs 0).win w).stage ((cfgs 0).slots t0_0 w)) fullShare (blk m 0 c w t0_0) : sProp 𝕄) := fun w hw => by
    iintro ⟨%d, H⟩; rw [before0 m c w hw d]; iexact H
  have hs := scopedRest0_split (Ix := Unit) (Val := Elt F) (Name := ℕ) (U := UR sig nD τ) (Lvl := ℕ) c
  rw [bigSep_W0, bigSep_W0]
  refine BI.Entails.trans ?_ (runs_owns c (stage0_0 0) (stage0_1 0) (stage0_2 0) (stage0_3 0) (stage0_4 0) (stage0_5 0) (stage0_6 0) (Memref.whole cc0_scratch0) (Memref.whole cc0_scratch1) (Memref.whole cc0_scratch2) (Memref.whole cc0_scratch3) (hstage0_0 0) (hstage0_1 0) (hstage0_2 0) (hstage0_3 0) (hstage0_4 0) (hstage0_5 0) (hstage0_6 0)
    _ _ (fun f0 f1 f2 f3 f4 f5 g0 g1 g2 g3 => (run0 (F := F) c (stage0_0 0) (hstage0_0 0) (stage0_1 0) (hstage0_1 0) (stage0_2 0) (hstage0_2 0)
      (stage0_3 0) (hstage0_3 0) (stage0_4 0) (hstage0_4 0) (stage0_5 0) (hstage0_5 0) (stage0_6 0) (hstage0_6 0) f0 f1 f2 f3 f4 f5 g0 g1 g2 g3).2)
    (blk m 0 c 0 t0_0) (blk m 0 c 1 t0_0) (blk m 0 c 2 t0_0) (blk m 0 c 3 t0_0) (blk m 0 c 4 t0_0) (blk m 0 c 5 t0_0)
    (Pipeline.scopedRestBut (Ix := Unit) (Name := ℕ) (U := UR sig nD τ) (Lvl := ℕ) (Val := Elt F) spec0 c [cc0_scratch0, cc0_scratch1, cc0_scratch2, cc0_scratch3])
    ((dat m 0 c).owesAt () t0_0.succ) _ ?_)
  · exact BI.sep_mono (entails_of_eq hs) (BI.sep_mono (BI.Entails.refl _) (BI.sep_mono (hin 0 rfl) (BI.sep_mono (hin 1 rfl) (BI.sep_mono (hin 2 rfl) (BI.sep_mono (hin 3 rfl)
      (BI.sep_mono (hin 4 rfl) (BI.sep_mono (hin 5 rfl) (exists_forget _ _))))))))
  · exact BI.sep_mono (entails_of_eq hs.symm) (BI.Entails.refl _)

theorem before1 (c : Dev nD) (w : Fin (cfgs 1).W) (hw : isOut 1 w = false) (d : ((cfgs 1).win w).block.Idx → Elt F ((cfgs 1).win w).elt) :
    (dat m 1 c).before w t1_0 d = blk m 1 c w t1_0 := by
  unfold Dat.before
  match w, hw with
  | 0, _ | 1, _ | 2, _ | 3, _ | 4, _ | 5, _ => rw [if_pos (by first | rfl | decide)]; rfl
  | 6, h => exact absurd h (by decide)

set_option maxHeartbeats 1000000 in
/-- Tower 1's body at its one point. -/
theorem body1 (c : Dev nD) : BodyObligationRel (dat m 1 c) (defs₀ (F := F)) Variants.none () Set.univ (isOut 1) (Rl m 1 c) := fun t => by
  obtain rfl := fin_N1 t
  have hin : ∀ w, isOut 1 w = false → iprop(∃ d, owns (c : Thread nD τ) (((cfgs 1).win w).stage ((cfgs 1).slots t1_0 w)) fullShare ((dat m 1 c).before w t1_0 d))
      ⊢ (owns (c : Thread nD τ) (((cfgs 1).win w).stage ((cfgs 1).slots t1_0 w)) fullShare (blk m 1 c w t1_0) : sProp 𝕄) := fun w hw => by
    iintro ⟨%d, H⟩; rw [before1 m c w hw d]; iexact H
  have hs := scopedRest1_split (Ix := Unit) (Val := Elt F) (Name := ℕ) (U := UR sig nD τ) (Lvl := ℕ) c
  rw [bigSep_W1, bigSep_W1]
  refine BI.Entails.trans ?_ (runs_owns c (stage1_0 0) (stage1_1 0) (stage1_2 0) (stage1_3 0) (stage1_4 0) (stage1_5 0) (stage1_6 0) (Memref.whole cc1_scratch0) (Memref.whole cc1_scratch1) (Memref.whole cc1_scratch2) (Memref.whole cc1_scratch3) (hstage1_0 0) (hstage1_1 0) (hstage1_2 0) (hstage1_3 0) (hstage1_4 0) (hstage1_5 0) (hstage1_6 0)
    _ _ (fun f0 f1 f2 f3 f4 f5 g0 g1 g2 g3 => (run1 (F := F) c (stage1_0 0) (hstage1_0 0) (stage1_1 0) (hstage1_1 0) (stage1_2 0) (hstage1_2 0)
      (stage1_3 0) (hstage1_3 0) (stage1_4 0) (hstage1_4 0) (stage1_5 0) (hstage1_5 0) (stage1_6 0) (hstage1_6 0) f0 f1 f2 f3 f4 f5 g0 g1 g2 g3).2)
    (blk m 1 c 0 t1_0) (blk m 1 c 1 t1_0) (blk m 1 c 2 t1_0) (blk m 1 c 3 t1_0) (blk m 1 c 4 t1_0) (blk m 1 c 5 t1_0)
    (Pipeline.scopedRestBut (Ix := Unit) (Name := ℕ) (U := UR sig nD τ) (Lvl := ℕ) (Val := Elt F) spec1 c [cc1_scratch0, cc1_scratch1, cc1_scratch2, cc1_scratch3])
    ((dat m 1 c).owesAt () t1_0.succ) _ ?_)
  · exact BI.sep_mono (entails_of_eq hs) (BI.sep_mono (BI.Entails.refl _) (BI.sep_mono (hin 0 rfl) (BI.sep_mono (hin 1 rfl) (BI.sep_mono (hin 2 rfl) (BI.sep_mono (hin 3 rfl)
      (BI.sep_mono (hin 4 rfl) (BI.sep_mono (hin 5 rfl) (exists_forget _ _))))))))
  · exact BI.sep_mono (entails_of_eq hs.symm) (BI.Entails.refl _)

theorem before2 (c : Dev nD) (w : Fin (cfgs 2).W) (hw : isOut 2 w = false) (d : ((cfgs 2).win w).block.Idx → Elt F ((cfgs 2).win w).elt) :
    (dat m 2 c).before w t2_0 d = blk m 2 c w t2_0 := by
  unfold Dat.before
  match w, hw with
  | 0, _ | 1, _ | 2, _ | 3, _ | 4, _ | 5, _ => rw [if_pos (by first | rfl | decide)]; rfl
  | 6, h => exact absurd h (by decide)

set_option maxHeartbeats 1000000 in
/-- Tower 2's body at its one point. -/
theorem body2 (c : Dev nD) : BodyObligationRel (dat m 2 c) (defs₀ (F := F)) Variants.none () Set.univ (isOut 2) (Rl m 2 c) := fun t => by
  obtain rfl := fin_N2 t
  have hin : ∀ w, isOut 2 w = false → iprop(∃ d, owns (c : Thread nD τ) (((cfgs 2).win w).stage ((cfgs 2).slots t2_0 w)) fullShare ((dat m 2 c).before w t2_0 d))
      ⊢ (owns (c : Thread nD τ) (((cfgs 2).win w).stage ((cfgs 2).slots t2_0 w)) fullShare (blk m 2 c w t2_0) : sProp 𝕄) := fun w hw => by
    iintro ⟨%d, H⟩; rw [before2 m c w hw d]; iexact H
  have hs := scopedRest2_split (Ix := Unit) (Val := Elt F) (Name := ℕ) (U := UR sig nD τ) (Lvl := ℕ) c
  rw [bigSep_W2, bigSep_W2]
  refine BI.Entails.trans ?_ (runs_owns c (stage2_0 0) (stage2_1 0) (stage2_2 0) (stage2_3 0) (stage2_4 0) (stage2_5 0) (stage2_6 0) (Memref.whole cc2_scratch0) (Memref.whole cc2_scratch1) (Memref.whole cc2_scratch2) (Memref.whole cc2_scratch3) (hstage2_0 0) (hstage2_1 0) (hstage2_2 0) (hstage2_3 0) (hstage2_4 0) (hstage2_5 0) (hstage2_6 0)
    _ _ (fun f0 f1 f2 f3 f4 f5 g0 g1 g2 g3 => (run2 (F := F) c (stage2_0 0) (hstage2_0 0) (stage2_1 0) (hstage2_1 0) (stage2_2 0) (hstage2_2 0)
      (stage2_3 0) (hstage2_3 0) (stage2_4 0) (hstage2_4 0) (stage2_5 0) (hstage2_5 0) (stage2_6 0) (hstage2_6 0) f0 f1 f2 f3 f4 f5 g0 g1 g2 g3).2)
    (blk m 2 c 0 t2_0) (blk m 2 c 1 t2_0) (blk m 2 c 2 t2_0) (blk m 2 c 3 t2_0) (blk m 2 c 4 t2_0) (blk m 2 c 5 t2_0)
    (Pipeline.scopedRestBut (Ix := Unit) (Name := ℕ) (U := UR sig nD τ) (Lvl := ℕ) (Val := Elt F) spec2 c [cc2_scratch0, cc2_scratch1, cc2_scratch2, cc2_scratch3])
    ((dat m 2 c).owesAt () t2_0.succ) _ ?_)
  · exact BI.sep_mono (entails_of_eq hs) (BI.sep_mono (BI.Entails.refl _) (BI.sep_mono (hin 0 rfl) (BI.sep_mono (hin 1 rfl) (BI.sep_mono (hin 2 rfl) (BI.sep_mono (hin 3 rfl)
      (BI.sep_mono (hin 4 rfl) (BI.sep_mono (hin 5 rfl) (exists_forget _ _))))))))
  · exact BI.sep_mono (entails_of_eq hs.symm) (BI.Entails.refl _)

theorem before3 (c : Dev nD) (w : Fin (cfgs 3).W) (hw : isOut 3 w = false) (d : ((cfgs 3).win w).block.Idx → Elt F ((cfgs 3).win w).elt) :
    (dat m 3 c).before w t3_0 d = blk m 3 c w t3_0 := by
  unfold Dat.before
  match w, hw with
  | 0, _ | 1, _ | 2, _ | 3, _ | 4, _ | 5, _ => rw [if_pos (by first | rfl | decide)]; rfl
  | 6, h => exact absurd h (by decide)

set_option maxHeartbeats 1000000 in
/-- Tower 3's body at its one point. -/
theorem body3 (c : Dev nD) : BodyObligationRel (dat m 3 c) (defs₀ (F := F)) Variants.none () Set.univ (isOut 3) (Rl m 3 c) := fun t => by
  obtain rfl := fin_N3 t
  have hin : ∀ w, isOut 3 w = false → iprop(∃ d, owns (c : Thread nD τ) (((cfgs 3).win w).stage ((cfgs 3).slots t3_0 w)) fullShare ((dat m 3 c).before w t3_0 d))
      ⊢ (owns (c : Thread nD τ) (((cfgs 3).win w).stage ((cfgs 3).slots t3_0 w)) fullShare (blk m 3 c w t3_0) : sProp 𝕄) := fun w hw => by
    iintro ⟨%d, H⟩; rw [before3 m c w hw d]; iexact H
  have hs := scopedRest3_split (Ix := Unit) (Val := Elt F) (Name := ℕ) (U := UR sig nD τ) (Lvl := ℕ) c
  rw [bigSep_W3, bigSep_W3]
  refine BI.Entails.trans ?_ (runs_owns c (stage3_0 0) (stage3_1 0) (stage3_2 0) (stage3_3 0) (stage3_4 0) (stage3_5 0) (stage3_6 0) (Memref.whole cc3_scratch0) (Memref.whole cc3_scratch1) (Memref.whole cc3_scratch2) (Memref.whole cc3_scratch3) (hstage3_0 0) (hstage3_1 0) (hstage3_2 0) (hstage3_3 0) (hstage3_4 0) (hstage3_5 0) (hstage3_6 0)
    _ _ (fun f0 f1 f2 f3 f4 f5 g0 g1 g2 g3 => (run3 (F := F) c (stage3_0 0) (hstage3_0 0) (stage3_1 0) (hstage3_1 0) (stage3_2 0) (hstage3_2 0)
      (stage3_3 0) (hstage3_3 0) (stage3_4 0) (hstage3_4 0) (stage3_5 0) (hstage3_5 0) (stage3_6 0) (hstage3_6 0) f0 f1 f2 f3 f4 f5 g0 g1 g2 g3).2)
    (blk m 3 c 0 t3_0) (blk m 3 c 1 t3_0) (blk m 3 c 2 t3_0) (blk m 3 c 3 t3_0) (blk m 3 c 4 t3_0) (blk m 3 c 5 t3_0)
    (Pipeline.scopedRestBut (Ix := Unit) (Name := ℕ) (U := UR sig nD τ) (Lvl := ℕ) (Val := Elt F) spec3 c [cc3_scratch0, cc3_scratch1, cc3_scratch2, cc3_scratch3])
    ((dat m 3 c).owesAt () t3_0.succ) _ ?_)
  · exact BI.sep_mono (entails_of_eq hs) (BI.sep_mono (BI.Entails.refl _) (BI.sep_mono (hin 0 rfl) (BI.sep_mono (hin 1 rfl) (BI.sep_mono (hin 2 rfl) (BI.sep_mono (hin 3 rfl)
      (BI.sep_mono (hin 4 rfl) (BI.sep_mono (hin 5 rfl) (exists_forget _ _))))))))
  · exact BI.sep_mono (entails_of_eq hs.symm) (BI.Entails.refl _)

theorem before4 (c : Dev nD) (w : Fin (cfgs 4).W) (hw : isOut 4 w = false) (d : ((cfgs 4).win w).block.Idx → Elt F ((cfgs 4).win w).elt) :
    (dat m 4 c).before w t4_0 d = blk m 4 c w t4_0 := by
  unfold Dat.before
  match w, hw with
  | 0, _ | 1, _ | 2, _ | 3, _ | 4, _ | 5, _ => rw [if_pos (by first | rfl | decide)]; rfl
  | 6, h => exact absurd h (by decide)

set_option maxHeartbeats 1000000 in
/-- Tower 4's body at its one point. -/
theorem body4 (c : Dev nD) : BodyObligationRel (dat m 4 c) (defs₀ (F := F)) Variants.none () Set.univ (isOut 4) (Rl m 4 c) := fun t => by
  obtain rfl := fin_N4 t
  have hin : ∀ w, isOut 4 w = false → iprop(∃ d, owns (c : Thread nD τ) (((cfgs 4).win w).stage ((cfgs 4).slots t4_0 w)) fullShare ((dat m 4 c).before w t4_0 d))
      ⊢ (owns (c : Thread nD τ) (((cfgs 4).win w).stage ((cfgs 4).slots t4_0 w)) fullShare (blk m 4 c w t4_0) : sProp 𝕄) := fun w hw => by
    iintro ⟨%d, H⟩; rw [before4 m c w hw d]; iexact H
  have hs := scopedRest4_split (Ix := Unit) (Val := Elt F) (Name := ℕ) (U := UR sig nD τ) (Lvl := ℕ) c
  rw [bigSep_W4, bigSep_W4]
  refine BI.Entails.trans ?_ (runs_owns c (stage4_0 0) (stage4_1 0) (stage4_2 0) (stage4_3 0) (stage4_4 0) (stage4_5 0) (stage4_6 0) (Memref.whole cc4_scratch0) (Memref.whole cc4_scratch1) (Memref.whole cc4_scratch2) (Memref.whole cc4_scratch3) (hstage4_0 0) (hstage4_1 0) (hstage4_2 0) (hstage4_3 0) (hstage4_4 0) (hstage4_5 0) (hstage4_6 0)
    _ _ (fun f0 f1 f2 f3 f4 f5 g0 g1 g2 g3 => (run4 (F := F) c (stage4_0 0) (hstage4_0 0) (stage4_1 0) (hstage4_1 0) (stage4_2 0) (hstage4_2 0)
      (stage4_3 0) (hstage4_3 0) (stage4_4 0) (hstage4_4 0) (stage4_5 0) (hstage4_5 0) (stage4_6 0) (hstage4_6 0) f0 f1 f2 f3 f4 f5 g0 g1 g2 g3).2)
    (blk m 4 c 0 t4_0) (blk m 4 c 1 t4_0) (blk m 4 c 2 t4_0) (blk m 4 c 3 t4_0) (blk m 4 c 4 t4_0) (blk m 4 c 5 t4_0)
    (Pipeline.scopedRestBut (Ix := Unit) (Name := ℕ) (U := UR sig nD τ) (Lvl := ℕ) (Val := Elt F) spec4 c [cc4_scratch0, cc4_scratch1, cc4_scratch2, cc4_scratch3])
    ((dat m 4 c).owesAt () t4_0.succ) _ ?_)
  · exact BI.sep_mono (entails_of_eq hs) (BI.sep_mono (BI.Entails.refl _) (BI.sep_mono (hin 0 rfl) (BI.sep_mono (hin 1 rfl) (BI.sep_mono (hin 2 rfl) (BI.sep_mono (hin 3 rfl)
      (BI.sep_mono (hin 4 rfl) (BI.sep_mono (hin 5 rfl) (exists_forget _ _))))))))
  · exact BI.sep_mono (entails_of_eq hs.symm) (BI.Entails.refl _)

theorem before5 (c : Dev nD) (w : Fin (cfgs 5).W) (hw : isOut 5 w = false) (d : ((cfgs 5).win w).block.Idx → Elt F ((cfgs 5).win w).elt) :
    (dat m 5 c).before w t5_0 d = blk m 5 c w t5_0 := by
  unfold Dat.before
  match w, hw with
  | 0, _ | 1, _ | 2, _ | 3, _ | 4, _ | 5, _ => rw [if_pos (by first | rfl | decide)]; rfl
  | 6, h => exact absurd h (by decide)

set_option maxHeartbeats 1000000 in
/-- Tower 5's body at its one point. -/
theorem body5 (c : Dev nD) : BodyObligationRel (dat m 5 c) (defs₀ (F := F)) Variants.none () Set.univ (isOut 5) (Rl m 5 c) := fun t => by
  obtain rfl := fin_N5 t
  have hin : ∀ w, isOut 5 w = false → iprop(∃ d, owns (c : Thread nD τ) (((cfgs 5).win w).stage ((cfgs 5).slots t5_0 w)) fullShare ((dat m 5 c).before w t5_0 d))
      ⊢ (owns (c : Thread nD τ) (((cfgs 5).win w).stage ((cfgs 5).slots t5_0 w)) fullShare (blk m 5 c w t5_0) : sProp 𝕄) := fun w hw => by
    iintro ⟨%d, H⟩; rw [before5 m c w hw d]; iexact H
  have hs := scopedRest5_split (Ix := Unit) (Val := Elt F) (Name := ℕ) (U := UR sig nD τ) (Lvl := ℕ) c
  rw [bigSep_W5, bigSep_W5]
  refine BI.Entails.trans ?_ (runs_owns c (stage5_0 0) (stage5_1 0) (stage5_2 0) (stage5_3 0) (stage5_4 0) (stage5_5 0) (stage5_6 0) (Memref.whole cc5_scratch0) (Memref.whole cc5_scratch1) (Memref.whole cc5_scratch2) (Memref.whole cc5_scratch3) (hstage5_0 0) (hstage5_1 0) (hstage5_2 0) (hstage5_3 0) (hstage5_4 0) (hstage5_5 0) (hstage5_6 0)
    _ _ (fun f0 f1 f2 f3 f4 f5 g0 g1 g2 g3 => (run5 (F := F) c (stage5_0 0) (hstage5_0 0) (stage5_1 0) (hstage5_1 0) (stage5_2 0) (hstage5_2 0)
      (stage5_3 0) (hstage5_3 0) (stage5_4 0) (hstage5_4 0) (stage5_5 0) (hstage5_5 0) (stage5_6 0) (hstage5_6 0) f0 f1 f2 f3 f4 f5 g0 g1 g2 g3).2)
    (blk m 5 c 0 t5_0) (blk m 5 c 1 t5_0) (blk m 5 c 2 t5_0) (blk m 5 c 3 t5_0) (blk m 5 c 4 t5_0) (blk m 5 c 5 t5_0)
    (Pipeline.scopedRestBut (Ix := Unit) (Name := ℕ) (U := UR sig nD τ) (Lvl := ℕ) (Val := Elt F) spec5 c [cc5_scratch0, cc5_scratch1, cc5_scratch2, cc5_scratch3])
    ((dat m 5 c).owesAt () t5_0.succ) _ ?_)
  · exact BI.sep_mono (entails_of_eq hs) (BI.sep_mono (BI.Entails.refl _) (BI.sep_mono (hin 0 rfl) (BI.sep_mono (hin 1 rfl) (BI.sep_mono (hin 2 rfl) (BI.sep_mono (hin 3 rfl)
      (BI.sep_mono (hin 4 rfl) (BI.sep_mono (hin 5 rfl) (exists_forget _ _))))))))
  · exact BI.sep_mono (entails_of_eq hs.symm) (BI.Entails.refl _)

end Cert.KernelIdeal.Tower

end
-- ==== Proof.Ideal.Host.lean ====
/-
  What the host operations between the towers leave in the towers' arrays.

  The arrays that a tower reads do not depend on what the earlier towers left in their outputs: the weights, the biases
  and the masks are written before the first tower and not after, and a padded level is written from an argument.
-/
module

public import proofs.«01_k».proof.Proof.Ideal.Pipe
public import Idealize.ShloMosaic.Lib.StableHlo.RunRead

@[expose] public section

set_option maxRecDepth 16384

noncomputable section

namespace Cert.KernelIdeal.Tower

open Cert.KernelIdeal Cert.KernelIdeal.Gen
open Idealize.ShloMosaic
open Idealize.ShloMosaic.TcCoe

variable {F : FTy → Type} [FloatOps F]
variable (m : (ℓ : Loc nD τ sig) → Buf (Elt F) ℓ) (o : Outs (F := F)) (c : Dev nD)

/-- The second level, padded and flattened, is one function of the arguments. -/
theorem V8_v24 : V8 m o c main_v24 = V8 m (outs₀ m) c main_v24 := by
  have h : V5 m o c main_arg1 = V5 m (outs₀ m) c main_arg1 :=
    ((V5_of m o c _ (by decide)).trans (V4_of m o c _ (by decide))).trans
      ((V5_of m (outs₀ m) c _ (by decide)).trans (V4_of m (outs₀ m) c _ (by decide))).symm
  unfold V8 V7 V6
  generalize V5 m o c = X at h ⊢
  generalize V5 m (outs₀ m) c = Y at h ⊢
  after_reads_simp
  rw [h]

/-- What no operation up to the third tower writes is as before the first tower. -/
theorem V8_low (r : Ref sig .tc) (h : r ∉ hostOps2_2_W ++ (hostOps2_1_W ++ (hostOps2_W ++ [main_v16, main_v15]))) : V8 m o c r = V3 m c r := by
  simp only [List.mem_append, List.mem_cons, List.not_mem_nil, or_false, not_or] at h
  obtain ⟨h1, h2, h3, h4, h5⟩ := h
  exact (V8_of m o c r (by simpa using h1)).trans <| (V7_of m o c r (by simpa using h2)).trans <| (V6_of m o c r (by simpa using h3)).trans <|
    (V5_of m o c r (by simpa using h4)).trans (V4_of m o c r (by simpa using h5))

/-- What no operation up to the fifth tower writes is as before the third. -/
theorem V13_low (r : Ref sig .tc) (h : r ∉ hostOps4_2_W ++ (hostOps4_1_W ++ (hostOps4_W ++ [main_v26, main_v25]))) : V13 m o c r = V8 m o c r := by
  simp only [List.mem_append, List.mem_cons, List.not_mem_nil, or_false, not_or] at h
  obtain ⟨h1, h2, h3, h4, h5⟩ := h
  exact (V13_of m o c r (by simpa using h1)).trans <| (V12_of m o c r (by simpa using h2)).trans <| (V11_of m o c r (by simpa using h3)).trans <|
    (V10_of m o c r (by simpa using h4)).trans (V9_of m o c r (by simpa using h5))

/-- The third level, padded and flattened, is one function of the arguments. -/
theorem V13_v34 : V13 m o c main_v34 = V13 m (outs₀ m) c main_v34 := by
  have h : V10 m o c main_arg2 = V10 m (outs₀ m) c main_arg2 :=
    ((V10_of m o c _ (by decide)).trans ((V9_of m o c _ (by decide)).trans (V8_low m o c _ (by decide)))).trans
      ((V10_of m (outs₀ m) c _ (by decide)).trans ((V9_of m (outs₀ m) c _ (by decide)).trans (V8_low m (outs₀ m) c _ (by decide)))).symm
  unfold V13 V12 V11
  generalize V10 m o c = X at h ⊢
  generalize V10 m (outs₀ m) c = Y at h ⊢
  after_reads_simp
  rw [h]

theorem VA_low (r : Ref sig .tc) (h : r ≠ main_v24) (h' : r ≠ main_v34) : VA m c r = V3 m c r := by
  unfold VA
  rw [Function.update_of_ne (StableHlo.devRef_ne_of_ne h'), Function.update_of_ne (StableHlo.devRef_ne_of_ne h)]

theorem VA_v24 : VA m c main_v24 = V8 m (outs₀ m) c main_v24 := by
  unfold VA
  rw [Function.update_of_ne (StableHlo.devRef_ne_of_ne (by decide)), Function.update_self]

theorem VA_v34 : VA m c main_v34 = V13 m (outs₀ m) c main_v34 := by
  unfold VA
  rw [Function.update_self]

/-- The first tower is entered with its arrays as said. -/
theorem entry0 (w : Fin (cfgs 0).W) : (dat m 0 c).A w = V3 m c (Pipeline.arrRef (cfgs 0).spec w) := by
  dsimp only [dat]
  match w with
  | 0 | 1 | 2 | 3 | 4 | 5 | 6 => exact VA_low m c _ (by decide) (by decide)

theorem entry1 (w : Fin (cfgs 1).W) : (dat m 1 c).A w = V4 m o c (Pipeline.arrRef (cfgs 1).spec w) := by
  dsimp only [dat]
  match w with
  | 0 | 1 | 2 | 3 | 4 | 5 | 6 => exact (VA_low m c _ (by decide) (by decide)).trans (V4_of m o c _ (by decide)).symm

theorem entry2 (w : Fin (cfgs 2).W) : (dat m 2 c).A w = V8 m o c (Pipeline.arrRef (cfgs 2).spec w) := by
  dsimp only [dat]
  match w with
  | 0 => exact (VA_v24 m c).trans (V8_v24 m o c).symm
  | 1 | 2 | 3 | 4 | 5 | 6 => exact (VA_low m c _ (by decide) (by decide)).trans (V8_low m o c _ (by decide)).symm

theorem entry3 (w : Fin (cfgs 3).W) : (dat m 3 c).A w = V9 m o c (Pipeline.arrRef (cfgs 3).spec w) := by
  dsimp only [dat]
  match w with
  | 0 => exact ((VA_v24 m c).trans (V8_v24 m o c).symm).trans (V9_of m o c _ (by decide)).symm
  | 1 | 2 | 3 | 4 | 5 | 6 => exact ((VA_low m c _ (by decide) (by decide)).trans (V8_low m o c _ (by decide)).symm).trans (V9_of m o c _ (by decide)).symm

theorem entry4 (w : Fin (cfgs 4).W) : (dat m 4 c).A w = V13 m o c (Pipeline.arrRef (cfgs 4).spec w) := by
  dsimp only [dat]
  match w with
  | 0 => exact (VA_v34 m c).trans (V13_v34 m o c).symm
  | 1 | 2 | 3 | 4 | 5 | 6 =>
    exact (VA_low m c _ (by decide) (by decide)).trans ((V13_low m o c _ (by decide)).trans (V8_low m o c _ (by decide))).symm

theorem entry5 (w : Fin (cfgs 5).W) : (dat m 5 c).A w = V14 m o c (Pipeline.arrRef (cfgs 5).spec w) := by
  dsimp only [dat]
  match w with
  | 0 => exact ((VA_v34 m c).trans (V13_v34 m o c).symm).trans (V14_of m o c _ (by decide)).symm
  | 1 | 2 | 3 | 4 | 5 | 6 =>
    exact ((VA_low m c _ (by decide) (by decide)).trans ((V13_low m o c _ (by decide)).trans (V8_low m o c _ (by decide))).symm).trans (V14_of m o c _ (by decide)).symm

end Cert.KernelIdeal.Tower

end
-- ==== Proof.Ideal.Launch.lean ====
/-
  The run of the whole program: three stretches of host operations, then two towers, for each of three levels, and the
  operations after.

  A tower writes its output in part only, so the states between the segments bind what the earlier towers left: some
  contents for the outputs, of which every tower run so far has left its part. At the end every buffer holds what the
  host operations compute from such contents.
-/
module

public import proofs.«01_k».proof.Proof.Ideal.Host

@[expose] public section

set_option maxRecDepth 16384

noncomputable section

namespace Cert.KernelIdeal.Tower

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ)

/-- The proof data, the outputs held to what the towers leave. -/
abbrev rdats (p : Fin 6) (c : Dev nD) : RDat τ (Elt F) Unit ℕ (UR sig nD τ) ℕ (cfgs p) c := (dat m p c).toRRel (isOut p) (Rl m p c)

/-! ## What a tower's output array holds after it -/

theorem left0 (c : Dev nD) (G : Buf (Elt F) (((cfgs 0).win 6).arr.view.loc (c : Thread nD τ))) (h : (rdats m 0 c).ArrAt 6 (cfgs 0).N G) :
    Out0 c (blk m 0 c 0 t0_0) (blk m 0 c 1 t0_0) (blk m 0 c 2 t0_0) (blk m 0 c 3 t0_0) (blk m 0 c 4 t0_0) (blk m 0 c 5 t0_0) G := by
  obtain ⟨X, hX, hG⟩ := RDat.ArrAt.emb_eq_of_wholeAt h (t₀ := t0_0) (by decide +kernel)
  have hR := (dat m 0 c).toRRel_leaves (w := 6) rfl hX
  have e : G = X := funext fun j => hG j
  rw [e]; exact hR

theorem left1 (c : Dev nD) (G : Buf (Elt F) (((cfgs 1).win 6).arr.view.loc (c : Thread nD τ))) (h : (rdats m 1 c).ArrAt 6 (cfgs 1).N G) :
    Out1 c (blk m 1 c 0 t1_0) (blk m 1 c 1 t1_0) (blk m 1 c 2 t1_0) (blk m 1 c 3 t1_0) (blk m 1 c 4 t1_0) (blk m 1 c 5 t1_0) G := by
  obtain ⟨X, hX, hG⟩ := RDat.ArrAt.emb_eq_of_wholeAt h (t₀ := t1_0) (by decide +kernel)
  have hR := (dat m 1 c).toRRel_leaves (w := 6) rfl hX
  have e : G = X := funext fun j => hG j
  rw [e]; exact hR

theorem left2 (c : Dev nD) (G : Buf (Elt F) (((cfgs 2).win 6).arr.view.loc (c : Thread nD τ))) (h : (rdats m 2 c).ArrAt 6 (cfgs 2).N G) :
    Out2 c (blk m 2 c 0 t2_0) (blk m 2 c 1 t2_0) (blk m 2 c 2 t2_0) (blk m 2 c 3 t2_0) (blk m 2 c 4 t2_0) (blk m 2 c 5 t2_0) G := by
  obtain ⟨X, hX, hG⟩ := RDat.ArrAt.emb_eq_of_wholeAt h (t₀ := t2_0) (by decide +kernel)
  have hR := (dat m 2 c).toRRel_leaves (w := 6) rfl hX
  have e : G = X := funext fun j => hG j
  rw [e]; exact hR

theorem left3 (c : Dev nD) (G : Buf (Elt F) (((cfgs 3).win 6).arr.view.loc (c : Thread nD τ))) (h : (rdats m 3 c).ArrAt 6 (cfgs 3).N G) :
    Out3 c (blk m 3 c 0 t3_0) (blk m 3 c 1 t3_0) (blk m 3 c 2 t3_0) (blk m 3 c 3 t3_0) (blk m 3 c 4 t3_0) (blk m 3 c 5 t3_0) G := by
  obtain ⟨X, hX, hG⟩ := RDat.ArrAt.emb_eq_of_wholeAt h (t₀ := t3_0) (by decide +kernel)
  have hR := (dat m 3 c).toRRel_leaves (w := 6) rfl hX
  have e : G = X := funext fun j => hG j
  rw [e]; exact hR

theorem left4 (c : Dev nD) (G : Buf (Elt F) (((cfgs 4).win 6).arr.view.loc (c : Thread nD τ))) (h : (rdats m 4 c).ArrAt 6 (cfgs 4).N G) :
    Out4 c (blk m 4 c 0 t4_0) (blk m 4 c 1 t4_0) (blk m 4 c 2 t4_0) (blk m 4 c 3 t4_0) (blk m 4 c 4 t4_0) (blk m 4 c 5 t4_0) G := by
  obtain ⟨X, hX, hG⟩ := RDat.ArrAt.emb_eq_of_wholeAt h (t₀ := t4_0) (by decide +kernel)
  have hR := (dat m 4 c).toRRel_leaves (w := 6) rfl hX
  have e : G = X := funext fun j => hG j
  rw [e]; exact hR

theorem left5 (c : Dev nD) (G : Buf (Elt F) (((cfgs 5).win 6).arr.view.loc (c : Thread nD τ))) (h : (rdats m 5 c).ArrAt 6 (cfgs 5).N G) :
    Out5 c (blk m 5 c 0 t5_0) (blk m 5 c 1 t5_0) (blk m 5 c 2 t5_0) (blk m 5 c 3 t5_0) (blk m 5 c 4 t5_0) (blk m 5 c 5 t5_0) G := by
  obtain ⟨X, hX, hG⟩ := RDat.ArrAt.emb_eq_of_wholeAt h (t₀ := t5_0) (by decide +kernel)
  have hR := (dat m 5 c).toRRel_leaves (w := 6) rfl hX
  have e : G = X := funext fun j => hG j
  rw [e]; exact hR

/-! ## Contents for the outputs -/

/-- The contents for the outputs, with one of them changed on one core. -/
def upd (o : Outs (F := F)) (n : ℕ) (r : Ref sig .tc) (c : Dev nD) (G : Buf (Elt F) ((c : Thread nD τ).loc r)) : Outs (F := F) :=
  Function.update o n (Function.update (o n) r (Function.update (o n r) c G))

theorem upd_self (o : Outs (F := F)) (n : ℕ) (r : Ref sig .tc) (c : Dev nD) (G : Buf (Elt F) ((c : Thread nD τ).loc r)) : upd o n r c G n r c = G := by
  unfold upd; rw [Function.update_self, Function.update_self, Function.update_self]

theorem upd_ne (o : Outs (F := F)) (n : ℕ) (r : Ref sig .tc) (c : Dev nD) (G : Buf (Elt F) ((c : Thread nD τ).loc r)) (k : ℕ) (h : k ≠ n) : upd o n r c G k = o k :=
  Function.update_of_ne h _ _

/-- The first `k` towers have left their parts in their outputs. -/
def Good (k : ℕ) (c : Dev nD) (o : Outs (F := F)) : Prop :=
  (0 < k → Out0 c (blk m 0 c 0 t0_0) (blk m 0 c 1 t0_0) (blk m 0 c 2 t0_0) (blk m 0 c 3 t0_0) (blk m 0 c 4 t0_0) (blk m 0 c 5 t0_0) (o 4 main_v15 c))
    ∧ (1 < k → Out1 c (blk m 1 c 0 t1_0) (blk m 1 c 1 t1_0) (blk m 1 c 2 t1_0) (blk m 1 c 3 t1_0) (blk m 1 c 4 t1_0) (blk m 1 c 5 t1_0) (o 5 main_v16 c))
    ∧ (2 < k → Out2 c (blk m 2 c 0 t2_0) (blk m 2 c 1 t2_0) (blk m 2 c 2 t2_0) (blk m 2 c 3 t2_0) (blk m 2 c 4 t2_0) (blk m 2 c 5 t2_0) (o 9 main_v25 c))
    ∧ (3 < k → Out3 c (blk m 3 c 0 t3_0) (blk m 3 c 1 t3_0) (blk m 3 c 2 t3_0) (blk m 3 c 3 t3_0) (blk m 3 c 4 t3_0) (blk m 3 c 5 t3_0) (o 10 main_v26 c))
    ∧ (4 < k → Out4 c (blk m 4 c 0 t4_0) (blk m 4 c 1 t4_0) (blk m 4 c 2 t4_0) (blk m 4 c 3 t4_0) (blk m 4 c 4 t4_0) (blk m 4 c 5 t4_0) (o 14 main_v35 c))
    ∧ (5 < k → Out5 c (blk m 5 c 0 t5_0) (blk m 5 c 1 t5_0) (blk m 5 c 2 t5_0) (blk m 5 c 3 t5_0) (blk m 5 c 4 t5_0) (blk m 5 c 5 t5_0) (o 15 main_v36 c))

/-- After a region every array is at what the valuation changed at the output says, and nothing else has changed. -/
theorem arrays_after (p : Fin 6) (c : Dev nD) (hw : Pipeline.WinFacts (cfgs p).spec) (wo : Fin (cfgs p).W) (hin : ∀ w, w ≠ wo → ((cfgs p).win w).isOut = false)
    (G : (w : Fin (cfgs p).W) → Buf (Elt F) (((cfgs p).spec w).arr.view.loc (c : Thread nD τ)))
    (hG : ∀ w, (rdats m p c).ArrAt w (cfgs p).N (G w)) (V : Valuation τ sig (Elt F)) (hV : ∀ w, (dat m p c).A w = V (Pipeline.arrRef (cfgs p).spec w))
    (V' : Valuation τ sig (Elt F)) (hV' : V' = Function.update V (Proc.devRef .tc (Pipeline.arrRef (cfgs p).spec wo)) (G wo)) :
    (∀ w, G w = V' (Pipeline.arrRef (cfgs p).spec w))
      ∧ ∀ b : Ref sig .tc, b ∉ Finset.univ.image (Pipeline.arrRef (cfgs p).spec) → V' b = V b := by
  subst hV'
  refine ⟨fun w => ?_, fun b hb => ?_⟩
  · by_cases e : w = wo
    · subst e; rw [Function.update_self]
    · rw [Function.update_of_ne (StableHlo.devRef_ne_of_ne fun h => e (hw.arr_inj h)), ← hV w]
      have := hG w
      rw [RDat.ArrAt_in _ w (hin w e)] at this
      exact this
  · rw [Function.update_of_ne (StableHlo.devRef_ne_of_ne fun h => hb (Finset.mem_image.mpr ⟨wo, Finset.mem_univ _, h.symm⟩))]

/-- The arrays after the write-backs, opened: at some contents that they may hold. -/
theorem arraysAt_open (p : Fin 6) (c : Dev nD) (n : ℕ) : ((rdats m p c).arraysAt n : sProp 𝕄) ⊢
    iprop(∃ G : (w : Fin (cfgs p).W) → Buf (Elt F) (((cfgs p).win w).arr.view.loc (c : Thread nD τ)),
      ⌜∀ w, (rdats m p c).ArrAt w n (G w)⌝ ∗ (dat m p c).arrays G) := by
  unfold RDat.arraysAt Dat.arrays
  refine (BI.bigSep_exists_pi Finset.univ _).trans ?_
  iintro ⟨%G, H⟩
  ihave H' := (BI.bigSep_pure_sep Finset.univ (fun w => (rdats m p c).ArrAt w n (G w)) _) $$ H
  icases H' with ⟨%hG, H⟩
  iexists G
  isplitr; · ipureintro; exact fun w => hG w (Finset.mem_univ w)
  iexact H

/-! ## The segments -/

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

/-- The state between two segments: the unscoped buffers at a valuation, for some contents of the outputs. -/
abbrev St {Γ : Dev nD → Type} (V : (c : Dev nD) → Γ c → Valuation τ sig (Elt F)) (c : Dev nD) : sProp 𝕄 :=
  iprop((∃ γ, StableHlo.held (c : Thread nD τ) (Pipeline.ucRefs τ sig) (V c γ)) ∗ R c)

/-- A stretch of host operations. -/
def host {Γ : Dev nD → Type} (ops : List (HloOp τ sig (Elt F))) (hs : ops.Forall fun op => op.bufs ⊆ StableHlo.tcRefs τ sig)
    (hf : ops.Forall fun op => op.fresh = ∅) (V : (c : Dev nD) → Γ c → Valuation τ sig (Elt F)) :
    Pipeline.HostSeg (Ix := Unit) (Name := ℕ) (U := UR sig nD τ) (Lvl := ℕ) (pcfgs (F := F)) defs₀ 𝒱₀ L lv :=
  Pipeline.HostSeg.ofOpsEx _ _ _ _ _ (Pipeline.ucRefs τ sig) ops
    (fun op h => Pipeline.sub_ucRefs op ((List.forall_iff_forall_mem.mp hs) op h))
    (fun op h => (List.forall_iff_forall_mem.mp hf) op h) V R

set_option backward.isDefEq.respectTransparency.types false in
/-- A tower's region, from one state to the next: whatever its arrays hold after it, the next state's valuation can be
    chosen to have them so. -/
def region (p : Fin 6) (kit : Pipeline.LaunchFacts (nD := nD) (τ := τ) cfgs p) (hK : (pcfgs (F := F) p).pre.K = 0)
    (hbody : ∀ c, BodyObligationRel (dat m p c) (defs₀ (F := F)) 𝒱₀ () Set.univ (isOut p) (Rl m p c))
    {Γ Γ' : Dev nD → Type} (V : (c : Dev nD) → Γ c → Valuation τ sig (Elt F)) (V' : (c : Dev nD) → Γ' c → Valuation τ sig (Elt F))
    (hV : ∀ (c : Dev nD) (γ : Γ c) w, (dat m p c).A w = V c γ (Pipeline.arrRef (cfgs p).spec w))
    (step : ∀ (c : Dev nD) (γ : Γ c) (G : (w : Fin (cfgs p).W) → Buf (Elt F) (((cfgs p).spec w).arr.view.loc (c : Thread nD τ))),
      (∀ w, (rdats m p c).ArrAt w (cfgs p).N (G w)) →
        ∃ γ', (∀ w, G w = V' c γ' (Pipeline.arrRef (cfgs p).spec w))
          ∧ ∀ b : Ref sig .tc, b ∉ Finset.univ.image (Pipeline.arrRef (cfgs p).spec) → V' c γ' b = V c γ b) :
    RDat.RegionSeg (pcfgs (F := F)) adm (rdats m) () defs₀ 𝒱₀ L lv p where
  win := kit.win.to₀
  block_pos := kit.block_pos
  stage_whole := kit.stage_whole
  K := Fin 0
  osem := fun i => i.elim0
  ho := ⟨fun i => i.elim0, fun i => i.elim0, fun i => i.elim0⟩
  hbody c := (hbody c).toRRel
  hwaits := RDat.hwaits_of_owed_zero _ _ _ _ L lv p fun _ _ => rfl
  pre c := St V c
  post c := St V' c
  X _ := iprop(emp)
  Y _ := iprop(emp)
  Z c := iprop(∃ γ, Pipeline.unscopedRest (cfgs p).spec c fun b => V c γ b)
  hentry c := by
    have hsplit := fun γ => (Entails.of_eq (Pipeline.unscopedBufs_held c (V c γ)).symm).trans
      (RDat.arrays_of_unscopedBufs (pcfgs (F := F)) adm (rdats m) (p := p) kit.win kit.arr_whole c
        ((dat m p c).share_full fun _ => rfl) (fun b => V c γ b) (hV c γ))
    rw [Pipeline.prefHeld_of_none _ hK]
    iintro ⟨⟨⟨%γ, Hh⟩, HO⟩, -, -⟩
    ihave H := (hsplit γ) $$ Hh
    icases H with ⟨Ha, Hr⟩
    imodintro
    isplitl [Ha]; · iexact Ha
    isplitr; · iempintro
    isplitl [HO]
    · unfold RDat.owesAt Pipeline.owesWithin
      icases HO with ⟨%W, HO⟩; iexists W; isplitr; · ipureintro; exact fun _ _ => Or.inl trivial
      iexact HO
    isplitr; · iempintro
    iexists γ; iexact Hr
  hin c := by
    rw [show (rdats m p c).Φ 0 = Pipeline.scopedRest (cfgs p).spec c from rfl]
    iintro ⟨-, -, Hr⟩
    iexact Hr
  hout c := by
    rw [show (rdats m p c).Φ (Fin.last (Pipeline.pin (pcfgs (F := F)) adm p).N) = Pipeline.scopedRest (cfgs p).spec c from rfl]
    unfold Pipeline.ownSems0
    rw [show (Finset.univ : Finset (Fin 0)) = ∅ from rfl, BI.bigSep_empty]
    iintro Hr
    isplitr; · iempintro
    isplitr; · iempintro
    iexact Hr
  hexit c := by
    have hjoin := fun γ γ' G => fun h1 h2 => (Pipeline.unscopedBufs_of_arrays (pcfgs (F := F)) adm (p := p) kit.win kit.arr_whole c (dat m)
      ((dat m p c).share_full fun _ => rfl) (fun b => V c γ b) (fun b => V' c γ' b) G h1 h2).trans (Entails.of_eq (Pipeline.unscopedBufs_held c (V' c γ')))
    iintro ⟨Ha, HO, -, ⟨%γ, Hr⟩⟩
    ihave Ha := (arraysAt_open m p c _) $$ Ha
    icases Ha with ⟨%G, %hA, Ha⟩
    obtain ⟨γ', h1, h2⟩ := step c γ G hA
    imodintro
    isplitl [Ha Hr]
    · iexists γ'
      iapply (hjoin γ γ' G h1 h2)
      isplitl [Ha]; · iexact Ha
      iexact Hr
    · unfold RDat.owesAt Pipeline.owesWithin
      icases HO with ⟨%W, -, HO⟩; iexists W; iexact HO

/-- The witnesses of a state: contents for the outputs that the first `k` towers have left their parts in. -/
abbrev Ga (k : ℕ) (c : Dev nD) : Type := {o : Outs (F := F) // Good m k c o}

set_option maxHeartbeats 1000000 in
/-- Tower 0's region. -/
def reg0 : RDat.RegionSeg (pcfgs (F := F)) adm (rdats m) () defs₀ 𝒱₀ L lv 0 :=
  region m 0 launch0 rfl (body0 m) (Γ := Ga m 0) (Γ' := Ga m 1) (fun c γ => V3 m c) (fun c γ => V4 m γ.1 c)
    (fun c γ w => entry0 m c w) fun c γ G hG => by
      obtain ⟨o, ho⟩ := γ
      have hV : V4 m (upd o 4 main_v15 c (G 6)) c = Function.update (V3 m c) (Proc.devRef .tc main_v15) (G 6) := by
        simp (decide := true) only [V4, upd_self, upd_ne]
        try rfl
      refine ⟨⟨upd o 4 main_v15 c (G 6), ?_⟩, arrays_after m 0 c launch0.win 6 (by decide) G hG _ (entry0 m c) _ hV⟩
      obtain ⟨h0, h1, h2, h3, h4, h5⟩ := ho
      unfold Good
      simp (decide := true) only [upd_self, upd_ne, forall_const, false_implies, _root_.and_true, _root_.true_and]
      exact left0 m c _ (hG 6)

set_option maxHeartbeats 1000000 in
/-- Tower 1's region. -/
def reg1 : RDat.RegionSeg (pcfgs (F := F)) adm (rdats m) () defs₀ 𝒱₀ L lv 1 :=
  region m 1 launch1 rfl (body1 m) (Γ := Ga m 1) (Γ' := Ga m 2) (fun c γ => V4 m γ.1 c) (fun c γ => V5 m γ.1 c)
    (fun c γ w => entry1 m γ.1 c w) fun c γ G hG => by
      obtain ⟨o, ho⟩ := γ
      have hV : V5 m (upd o 5 main_v16 c (G 6)) c = Function.update (V4 m o c) (Proc.devRef .tc main_v16) (G 6) := by
        simp (decide := true) only [V5, V4, upd_self, upd_ne]
        try rfl
      refine ⟨⟨upd o 5 main_v16 c (G 6), ?_⟩, arrays_after m 1 c launch1.win 6 (by decide) G hG _ (entry1 m o c) _ hV⟩
      obtain ⟨h0, h1, h2, h3, h4, h5⟩ := ho
      unfold Good
      simp (decide := true) only [upd_self, upd_ne, forall_const, false_implies, _root_.and_true, _root_.true_and]
      exact ⟨h0 (by decide), left1 m c _ (hG 6)⟩

set_option maxHeartbeats 1000000 in
/-- Tower 2's region. -/
def reg2 : RDat.RegionSeg (pcfgs (F := F)) adm (rdats m) () defs₀ 𝒱₀ L lv 2 :=
  region m 2 launch2 rfl (body2 m) (Γ := Ga m 2) (Γ' := Ga m 3) (fun c γ => V8 m γ.1 c) (fun c γ => V9 m γ.1 c)
    (fun c γ w => entry2 m γ.1 c w) fun c γ G hG => by
      obtain ⟨o, ho⟩ := γ
      have hV : V9 m (upd o 9 main_v25 c (G 6)) c = Function.update (V8 m o c) (Proc.devRef .tc main_v25) (G 6) := by
        simp (decide := true) only [V9, V8, V7, V6, V5, V4, upd_self, upd_ne]
        try rfl
      refine ⟨⟨upd o 9 main_v25 c (G 6), ?_⟩, arrays_after m 2 c launch2.win 6 (by decide) G hG _ (entry2 m o c) _ hV⟩
      obtain ⟨h0, h1, h2, h3, h4, h5⟩ := ho
      unfold Good
      simp (decide := true) only [upd_self, upd_ne, forall_const, false_implies, _root_.and_true, _root_.true_and]
      exact ⟨h0 (by decide), h1 (by decide), left2 m c _ (hG 6)⟩

set_option maxHeartbeats 1000000 in
/-- Tower 3's region. -/
def reg3 : RDat.RegionSeg (pcfgs (F := F)) adm (rdats m) () defs₀ 𝒱₀ L lv 3 :=
  region m 3 launch3 rfl (body3 m) (Γ := Ga m 3) (Γ' := Ga m 4) (fun c γ => V9 m γ.1 c) (fun c γ => V10 m γ.1 c)
    (fun c γ w => entry3 m γ.1 c w) fun c γ G hG => by
      obtain ⟨o, ho⟩ := γ
      have hV : V10 m (upd o 10 main_v26 c (G 6)) c = Function.update (V9 m o c) (Proc.devRef .tc main_v26) (G 6) := by
        simp (decide := true) only [V10, V9, V8, V7, V6, V5, V4, upd_self, upd_ne]
        try rfl
      refine ⟨⟨upd o 10 main_v26 c (G 6), ?_⟩, arrays_after m 3 c launch3.win 6 (by decide) G hG _ (entry3 m o c) _ hV⟩
      obtain ⟨h0, h1, h2, h3, h4, h5⟩ := ho
      unfold Good
      simp (decide := true) only [upd_self, upd_ne, forall_const, false_implies, _root_.and_true, _root_.true_and]
      exact ⟨h0 (by decide), h1 (by decide), h2 (by decide), left3 m c _ (hG 6)⟩

set_option maxHeartbeats 1000000 in
/-- Tower 4's region. -/
def reg4 : RDat.RegionSeg (pcfgs (F := F)) adm (rdats m) () defs₀ 𝒱₀ L lv 4 :=
  region m 4 launch4 rfl (body4 m) (Γ := Ga m 4) (Γ' := Ga m 5) (fun c γ => V13 m γ.1 c) (fun c γ => V14 m γ.1 c)
    (fun c γ w => entry4 m γ.1 c w) fun c γ G hG => by
      obtain ⟨o, ho⟩ := γ
      have hV : V14 m (upd o 14 main_v35 c (G 6)) c = Function.update (V13 m o c) (Proc.devRef .tc main_v35) (G 6) := by
        simp (decide := true) only [V14, V13, V12, V11, V10, V9, V8, V7, V6, V5, V4, upd_self, upd_ne]
        try rfl
      refine ⟨⟨upd o 14 main_v35 c (G 6), ?_⟩, arrays_after m 4 c launch4.win 6 (by decide) G hG _ (entry4 m o c) _ hV⟩
      obtain ⟨h0, h1, h2, h3, h4, h5⟩ := ho
      unfold Good
      simp (decide := true) only [upd_self, upd_ne, forall_const, false_implies, _root_.and_true, _root_.true_and]
      exact ⟨h0 (by decide), h1 (by decide), h2 (by decide), h3 (by decide), left4 m c _ (hG 6)⟩

set_option maxHeartbeats 1000000 in
/-- Tower 5's region. -/
def reg5 : RDat.RegionSeg (pcfgs (F := F)) adm (rdats m) () defs₀ 𝒱₀ L lv 5 :=
  region m 5 launch5 rfl (body5 m) (Γ := Ga m 5) (Γ' := Ga m 6) (fun c γ => V14 m γ.1 c) (fun c γ => V15 m γ.1 c)
    (fun c γ w => entry5 m γ.1 c w) fun c γ G hG => by
      obtain ⟨o, ho⟩ := γ
      have hV : V15 m (upd o 15 main_v36 c (G 6)) c = Function.update (V14 m o c) (Proc.devRef .tc main_v36) (G 6) := by
        simp (decide := true) only [V15, V14, V13, V12, V11, V10, V9, V8, V7, V6, V5, V4, upd_self, upd_ne]
        try rfl
      refine ⟨⟨upd o 15 main_v36 c (G 6), ?_⟩, arrays_after m 5 c launch5.win 6 (by decide) G hG _ (entry5 m o c) _ hV⟩
      obtain ⟨h0, h1, h2, h3, h4, h5⟩ := ho
      unfold Good
      simp (decide := true) only [upd_self, upd_ne, forall_const, false_implies, _root_.and_true, _root_.true_and]
      exact ⟨h0 (by decide), h1 (by decide), h2 (by decide), h3 (by decide), h4 (by decide), left5 m c _ (hG 6)⟩

/-- The program as its segments. -/
abbrev segs : List (RDat.Seg (pcfgs (F := F)) adm (rdats m) () defs₀ 𝒱₀ L lv) :=
  [ .host (host (Γ := Ga m 0) hostOps0 hostOps0_sub hostOps0_fresh fun c γ => V0 m c),
    .host (host (Γ := Ga m 0) hostOps0_1 hostOps0_1_sub hostOps0_1_fresh fun c γ => V1 m c),
    .host (host (Γ := Ga m 0) hostOps0_2 hostOps0_2_sub hostOps0_2_fresh fun c γ => V2 m c),
    .region (reg0 m),
    .region (reg1 m),
    .host (host (Γ := Ga m 2) hostOps2 hostOps2_sub hostOps2_fresh fun c γ => V5 m γ.1 c),
    .host (host (Γ := Ga m 2) hostOps2_1 hostOps2_1_sub hostOps2_1_fresh fun c γ => V6 m γ.1 c),
    .host (host (Γ := Ga m 2) hostOps2_2 hostOps2_2_sub hostOps2_2_fresh fun c γ => V7 m γ.1 c),
    .region (reg2 m),
    .region (reg3 m),
    .host (host (Γ := Ga m 4) hostOps4 hostOps4_sub hostOps4_fresh fun c γ => V10 m γ.1 c),
    .host (host (Γ := Ga m 4) hostOps4_1 hostOps4_1_sub hostOps4_1_fresh fun c γ => V11 m γ.1 c),
    .host (host (Γ := Ga m 4) hostOps4_2 hostOps4_2_sub hostOps4_2_fresh fun c γ => V12 m γ.1 c),
    .region (reg4 m),
    .region (reg5 m),
    .host (host (Γ := Ga m 6) hostOps6 hostOps6_sub hostOps6_fresh fun c γ => V15 m γ.1 c),
    .host (host (Γ := Ga m 6) hostOps6_1 hostOps6_1_sub hostOps6_1_fresh fun c γ => V16 m γ.1 c),
    .host (host (Γ := Ga m 6) hostOps6_2 hostOps6_2_sub hostOps6_2_fresh fun c γ => V17 m γ.1 c),
    .host (host (Γ := Ga m 6) hostOps6_3 hostOps6_3_sub hostOps6_3_fresh fun c γ => V18 m γ.1 c),
    .host (host (Γ := Ga m 6) hostOps6_4 hostOps6_4_sub hostOps6_4_fresh fun c γ => V19 m γ.1 c),
    .host (host (Γ := Ga m 6) hostOps6_5 hostOps6_5_sub hostOps6_5_fresh fun c γ => V20 m γ.1 c),
    .host (host (Γ := Ga m 6) hostOps6_6 hostOps6_6_sub hostOps6_6_fresh fun c γ => V21 m γ.1 c) ]

/-- The launch element: the pipelines' own. -/
def u₀ : UR sig nD τ := initOf (Pipeline.cells cfgs cellOf_inj) (Pipeline.launchToks cfgs cellOf_inj)

/-- What is known of a core's memory at the end: some contents for the outputs, each with its tower's part, and every
    unscoped buffer at what the host operations leave of them. -/
def QY (c : Dev nD) (s : MemSt nD τ sig (Elt F)) : Prop :=
  ∃ o : Outs (F := F), Good m 6 c o ∧ ∀ b ∈ Pipeline.ucRefs τ sig, s.mem (c, b) = V22 m o c b

set_option maxHeartbeats 1000000 in
set_option backward.isDefEq.respectTransparency.types false in
/-- Every run of the program ends, with every core's memory so and every counter at zero. -/
theorem run_main (ρ : Dev nD → PrngReg) : θ_run defs (onTc (τ := τ) (main (F := F))) ⟨m, fun _ => 0, ρ⟩
    (fun r => (∀ c : Dev nD, QY m c r.2) ∧ r.2.sem = fun _ => 0) :=
  RDat.θ_run_regions_kit_dev_sems (pcfgs (F := F)) adm (rdats m) () cellOf_inj EP defs₀ 𝒱₀ L lv m ρ main (fun _ => segs m)
    (fun c Q => by
      rewrite [main_chain c, RDat.Seg.run_eq_chain,
        show (segs m).map RDat.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6,
          StableHlo.seq hostOps6_1,
          StableHlo.seq hostOps6_2,
          StableHlo.seq hostOps6_3,
          StableHlo.seq hostOps6_4,
          StableHlo.seq hostOps6_5,
          StableHlo.seq hostOps6_6 ] from rfl]
      dsimp (config := { failIfUnchanged := false }) only
      exact .rfl)
    (fun c => by simp only [segs, RDat.Seg.pipes_host, RDat.Seg.pipes_region, RDat.Seg.pipes_nil]; decide) (O₀ := 0) (hL := fun _ _ => rfl)
    (G := fun _ => iprop(emp)) (u₀ := u₀)
    (hu₀ := by
      unfold u₀
      iintro Hu
      imodintro
      isplitl [Hu]
      · iapply (show (ownU (initOf (Pipeline.cells cfgs cellOf_inj) (Pipeline.launchToks cfgs cellOf_inj)) : sProp 𝕄) ⊢
          BI.own (EP (initOf (Pipeline.cells (Pipeline.pin (pcfgs (F := F)) adm) cellOf_inj) (Pipeline.launchToks (Pipeline.pin (pcfgs (F := F)) adm) cellOf_inj)))
          from BI.Entails.refl _)
        iexact Hu
      iapply (show (BI.emp : sProp 𝕄) ⊢ bigSep Finset.univ (fun _ : Dev nD => (BI.emp : sProp 𝕄)) from by rw [BI.bigSep_emp_const])
      iempintro)
    (T₀ := St (Γ := Ga m 0) fun c _ => V0 m c)
    (Tₙ := fun c => iprop(∃ γ : Ga m 6 c, StableHlo.held (c : Thread nD τ) (Pipeline.ucRefs τ sig) (V22 m γ.1 c)))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held c (V0 m c)]
      iintro ⟨⟨Hh, -, HO, -, -, -⟩, -⟩
      imodintro
      isplitl [Hh]
      · iexists ⟨outs₀ m, by unfold Good; simp (decide := true) only [false_implies, _root_.and_true]⟩; iexact Hh
      iexists ∅; iexact HO)
    (QY := QY m)
    (hfin := fun c s' => by
      unfold StableHlo.held
      iintro ⟨⟨%γ, Hh⟩, HSI⟩
      ihave Hr := (pointsTo_read_all (Pipeline.ucRefs τ sig) (fun b => ((c : Thread nD τ).1, b)) (V22 m γ.1 c) s') $$ [Hh HSI]
      · isplitl [Hh] <;> iassumption
      icases Hr with ⟨%h, HSI⟩
      imodintro
      isplitr
      · ipureintro; exact ⟨γ.1, γ.2, h⟩
      iexact HSI)
    (hQ := fun _ h hz => ⟨h, funext fun g => hz g (.inr (regions_no_unscoped g.2))⟩)

end Cert.KernelIdeal.Tower

end
-- ==== Proof.Ideal.Frame.lean ====
/- The frame of the six-tower program: read the run of `Launch` at the eleven arguments. -/
module

public import proofs.«01_k».proof.Defs
public import proofs.«01_k».proof.Proof.Ideal.Launch

@[expose] public section

set_option maxRecDepth 16384

noncomputable section

namespace Cert.KernelIdeal.Tower

open Idealize.ShloMosaic Idealize.SL.Sem Cert.KernelIdeal Cert.KernelIdeal.Gen

variable {F : FTy → Type} [FloatOps F]

/-- What a final state satisfying `QY` says of the arguments: each is as launched. -/
theorem args_kept (m : (ℓ : Loc nD τ sig) → Buf (Elt F) ℓ) (c : Dev nD) (o : Outs (F := F)) (s : MemSt nD τ sig (Elt F))
    (h : ∀ b ∈ Pipeline.ucRefs τ sig, s.mem (c, b) = V22 m o c b) :
    s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) :=
    ⟨(h (Proc.devRef .tc main_arg0) (Finset.mem_filter.mpr ⟨StableHlo.devRef_mem_tcRefs main_arg0, by decide⟩)).trans (V22_main_arg0 m o c),
     (h (Proc.devRef .tc main_arg1) (Finset.mem_filter.mpr ⟨StableHlo.devRef_mem_tcRefs main_arg1, by decide⟩)).trans (V22_main_arg1 m o c),
     (h (Proc.devRef .tc main_arg2) (Finset.mem_filter.mpr ⟨StableHlo.devRef_mem_tcRefs main_arg2, by decide⟩)).trans (V22_main_arg2 m o c),
     (h (Proc.devRef .tc main_arg3) (Finset.mem_filter.mpr ⟨StableHlo.devRef_mem_tcRefs main_arg3, by decide⟩)).trans (V22_main_arg3 m o c),
     (h (Proc.devRef .tc main_arg4) (Finset.mem_filter.mpr ⟨StableHlo.devRef_mem_tcRefs main_arg4, by decide⟩)).trans (V22_main_arg4 m o c),
     (h (Proc.devRef .tc main_arg5) (Finset.mem_filter.mpr ⟨StableHlo.devRef_mem_tcRefs main_arg5, by decide⟩)).trans (V22_main_arg5 m o c),
     (h (Proc.devRef .tc main_arg6) (Finset.mem_filter.mpr ⟨StableHlo.devRef_mem_tcRefs main_arg6, by decide⟩)).trans (V22_main_arg6 m o c),
     (h (Proc.devRef .tc main_arg7) (Finset.mem_filter.mpr ⟨StableHlo.devRef_mem_tcRefs main_arg7, by decide⟩)).trans (V22_main_arg7 m o c),
     (h (Proc.devRef .tc main_arg8) (Finset.mem_filter.mpr ⟨StableHlo.devRef_mem_tcRefs main_arg8, by decide⟩)).trans (V22_main_arg8 m o c),
     (h (Proc.devRef .tc main_arg9) (Finset.mem_filter.mpr ⟨StableHlo.devRef_mem_tcRefs main_arg9, by decide⟩)).trans (V22_main_arg9 m o c),
     (h (Proc.devRef .tc main_arg10) (Finset.mem_filter.mpr ⟨StableHlo.devRef_mem_tcRefs main_arg10, by decide⟩)).trans (V22_main_arg10 m o c)⟩

/-- Every execution ends, with the arguments as launched and every semaphore at zero. -/
theorem frame : Cert.quiescent_KernelIdeal := fun m ρ _ =>
  (θ_run defs _ _).mono (fun r h => ⟨fun c => (h.1 c).elim fun o ho => args_kept m c o r.2 ho.2, h.2⟩)
    (run_main (F := Ideal) m ρ)

end Cert.KernelIdeal.Tower

end
-- ==== Proof.Ref.Frame.lean ====
/- The frame of the reference: the run of its operations read at the arguments; it declares no semaphore. -/
module

public import proofs.«01_k».proof.Defs
public import proofs.«01_k».proof.Proof.Gen.ReferenceIdeal.Run

@[expose] public section

noncomputable section

namespace Cert.ReferenceIdeal.Tower

open Idealize.ShloMosaic Idealize.SL.Sem Cert.ReferenceIdeal Cert.ReferenceIdeal.Gen

/-- Every execution of the reference ends with the arguments as launched. -/
theorem frame : Cert.quiescent_ReferenceIdeal := fun m ρ _ =>
  (θ_run defs _ _).mono (fun r h => ⟨fun c => (h c).2, sem_eq_zero_of_no_sems (by decide) r.2⟩)
    (Cert.ReferenceIdeal.Value.run (F := Ideal) m ρ)

end Cert.ReferenceIdeal.Tower

end
-- ==== Proof.Value.Rows.lean ====
/-
  Tables of rows: what a scratch buffer of a tower holds after its writes, read by row and column number, and one
  convolution of a tower as nine products of shifted rows.
-/
module

public import Idealize.ShloMosaic.Lib.Pipeline.FrameBody
public import Idealize.ShloMosaic.Lib.Pointwise
public import Idealize.ShloMosaic.Lib.MatmulPlain
public import Idealize.ShloMosaic.Lib.WritesUnit

@[expose] public section

noncomputable section

namespace Cert.Rows

open Idealize.ShloMosaic

/-! ### Arrays as functions of natural numbers -/

/-- A two-axis array read at natural numbers, zero outside. -/
def nat2 {a b : ℕ} (x : (⟨2, ![a, b]⟩ : Shape).Idx → EReal) : ℕ → ℕ → EReal := fun i j =>
  if h : i < a ∧ j < b then x (ix2 ⟨i, h.1⟩ ⟨j, h.2⟩) else 0

/-- A three-axis array read at natural numbers, zero outside. -/
def nat3 {a b c : ℕ} (x : (⟨3, ![a, b, c]⟩ : Shape).Idx → EReal) : ℕ → ℕ → ℕ → EReal := fun i j k =>
  if h : i < a ∧ j < b ∧ k < c then x (ix3 ⟨i, h.1⟩ ⟨j, h.2.1⟩ ⟨k, h.2.2⟩) else 0

/-- A four-axis array read at natural numbers, zero outside. -/
def nat4 {a b c d : ℕ} (x : (⟨4, ![a, b, c, d]⟩ : Shape).Idx → EReal) : ℕ → ℕ → ℕ → ℕ → EReal := fun i j k l =>
  if h : i < a ∧ j < b ∧ k < c ∧ l < d then x (ix4 ⟨i, h.1⟩ ⟨j, h.2.1⟩ ⟨k, h.2.2.1⟩ ⟨l, h.2.2.2⟩) else 0

theorem nat2_ix {a b : ℕ} (x : (⟨2, ![a, b]⟩ : Shape).Idx → EReal) (i : Fin a) (j : Fin b) :
    nat2 x i j = x (ix2 i j) := dif_pos ⟨i.2, j.2⟩

theorem nat3_ix {a b c : ℕ} (x : (⟨3, ![a, b, c]⟩ : Shape).Idx → EReal) (i : Fin a) (j : Fin b) (k : Fin c) :
    nat3 x i j k = x (ix3 i j k) := dif_pos ⟨i.2, j.2, k.2⟩

theorem nat4_ix {a b c d : ℕ} (x : (⟨4, ![a, b, c, d]⟩ : Shape).Idx → EReal) (i : Fin a) (j : Fin b) (k : Fin c) (l : Fin d) :
    nat4 x i j k l = x (ix4 i j k l) := dif_pos ⟨i.2, j.2, k.2, l.2⟩

theorem nat2_idx {a b : ℕ} (x : (⟨2, ![a, b]⟩ : Shape).Idx → EReal) (i : (⟨2, ![a, b]⟩ : Shape).Idx) :
    nat2 x (i 0).val (i 1).val = x i := by
  have h := nat2_ix x (i 0) (i 1)
  rwa [ix2_eta] at h

/-! ### A convolution over rows -/

/-- One tap: row `m` of the table against the tap's weights. -/
def tap (A W : ℕ → ℕ → EReal) (m n : ℕ) : EReal := ∑ k : Fin 256, A m k * W k n

/-- A convolution over rows `w2` long: nine taps, added in order. -/
def conv (w2 : ℕ) (A : ℕ → ℕ → EReal) (W : ℕ → ℕ → ℕ → EReal) (m n : ℕ) : EReal :=
  tap A (W 0) (0 + m) n + tap A (W 1) (1 + m) n + tap A (W 2) (2 + m) n
    + tap A (W 3) (w2 + m) n + tap A (W 4) (w2 + 1 + m) n + tap A (W 5) (w2 + 2 + m) n
    + tap A (W 6) (2 * w2 + m) n + tap A (W 7) (2 * w2 + 1 + m) n + tap A (W 8) (2 * w2 + 2 + m) n

/-- One layer over rows: the convolution with bias, cut off below at zero and masked, on rows `lo` to `hi`; zero on
    the other rows. -/
def layer (w2 lo hi : ℕ) (W : ℕ → ℕ → ℕ → EReal) (b : ℕ → EReal) (mask : ℕ → EReal) (A : ℕ → ℕ → EReal) : ℕ → ℕ → EReal :=
  fun r k => if lo ≤ r ∧ r < hi then max (conv w2 A W (r - lo) k + b k) 0 * mask r else 0

/-! ### What a scratch buffer holds -/

variable {R K : ℕ} {e : EltTy}

/-- The writes leave the table `A`. -/
def Holds (L : List (View.Piece (Elt Ideal) ⟨2, ![R, K]⟩ e)) (A : ℕ → ℕ → Elt Ideal e) : Prop :=
  ∀ i, View.canon L i = A (i 0).val (i 1).val

/-- The writes leave `z` on every row outside `lo` to `hi`. -/
def Edges (lo hi : ℕ) (z : Elt Ideal e) (L : List (View.Piece (Elt Ideal) ⟨2, ![R, K]⟩ e)) : Prop :=
  ∀ i : (⟨2, ![R, K]⟩ : Shape).Idx, ((i 0).val < lo ∨ hi ≤ (i 0).val) → (∃ p ∈ L, i ∈ p.1.set) ∧ View.canon L i = z

theorem mem_rows {off M : ℕ} (inb : ∀ a, (![off, 0] : Fin 2 → ℕ) a + (![M, K] : Fin 2 → ℕ) a ≤ (⟨2, ![R, K]⟩ : Shape).size a)
    (i : (⟨2, ![R, K]⟩ : Shape).Idx) :
    i ∈ (Rect.unit (s := ⟨2, ![R, K]⟩) ![off, 0] ![M, K] inb).set ↔ off ≤ (i 0).val ∧ (i 0).val < off + M := by
  rw [Rect.mem_set_unit]
  constructor
  · intro h; exact h 0
  · intro h a
    match a with
    | ⟨0, _⟩ => exact h
    | ⟨1, _⟩ => exact ⟨Nat.zero_le _, by have := (i 1).isLt; simpa using this⟩

/-- A row of a rectangle of rows. -/
theorem emb_rows {off M : ℕ} (inb : ∀ a, (![off, 0] : Fin 2 → ℕ) a + (![M, K] : Fin 2 → ℕ) a ≤ (⟨2, ![R, K]⟩ : Shape).size a)
    (i : (⟨2, ![R, K]⟩ : Shape).Idx) (h : off ≤ (i 0).val ∧ (i 0).val < off + M) :
    (Rect.unit (s := ⟨2, ![R, K]⟩) ![off, 0] ![M, K] inb).emb (ix2 (n0 := M) (n1 := K) ⟨(i 0).val - off, by omega⟩ (i 1)) = i := by
  funext a
  apply Fin.ext
  match a with
  | ⟨0, _⟩ => show off + 1 * ((i 0).val - off) = (i 0).val; omega
  | ⟨1, _⟩ => show 0 + 1 * (i 1).val = (i 1).val; omega

/-- A write of rows, read back at one of them. -/
theorem canon_rows {off M : ℕ} (inb : ∀ a, (![off, 0] : Fin 2 → ℕ) a + (![M, K] : Fin 2 → ℕ) a ≤ (⟨2, ![R, K]⟩ : Shape).size a)
    (w : (⟨2, ![M, K]⟩ : Shape).Idx → Elt Ideal e) (L : List (View.Piece (Elt Ideal) ⟨2, ![R, K]⟩ e))
    (i : (⟨2, ![R, K]⟩ : Shape).Idx) (h : off ≤ (i 0).val ∧ (i 0).val < off + M) :
    View.canon (⟨Rect.unit (s := ⟨2, ![R, K]⟩) ![off, 0] ![M, K] inb, w⟩ :: L) i
      = w (ix2 (n0 := M) (n1 := K) ⟨(i 0).val - off, by omega⟩ (i 1)) := by
  have h1 := View.canon_cons_emb (Val := Elt Ideal) (e := e) (Rect.unit (s := ⟨2, ![R, K]⟩) ![off, 0] ![M, K] inb) w L
    (ix2 (n0 := M) (n1 := K) ⟨(i 0).val - off, by omega⟩ (i 1))
  rwa [emb_rows inb i h] at h1

/-- A write of rows, read back off them. -/
theorem canon_off {off M : ℕ} (inb : ∀ a, (![off, 0] : Fin 2 → ℕ) a + (![M, K] : Fin 2 → ℕ) a ≤ (⟨2, ![R, K]⟩ : Shape).size a)
    (w : (⟨2, ![M, K]⟩ : Shape).Idx → Elt Ideal e) (L : List (View.Piece (Elt Ideal) ⟨2, ![R, K]⟩ e))
    (i : (⟨2, ![R, K]⟩ : Shape).Idx) (h : ¬ (off ≤ (i 0).val ∧ (i 0).val < off + M)) :
    View.canon (⟨Rect.unit (s := ⟨2, ![R, K]⟩) ![off, 0] ![M, K] inb, w⟩ :: L) i = View.canon L i :=
  View.canon_cons_of_not_mem _ _ (fun hm => h ((mem_rows inb i).mp hm))

/-- A write of all rows. -/
theorem holds_all (inb : ∀ a, (![0, 0] : Fin 2 → ℕ) a + (![R, K] : Fin 2 → ℕ) a ≤ (⟨2, ![R, K]⟩ : Shape).size a)
    (w : (⟨2, ![R, K]⟩ : Shape).Idx → Elt Ideal e) (A : ℕ → ℕ → Elt Ideal e) (h : ∀ i, w i = A (i 0).val (i 1).val)
    (L : List (View.Piece (Elt Ideal) ⟨2, ![R, K]⟩ e)) :
    Holds (⟨Rect.unit (s := ⟨2, ![R, K]⟩) ![0, 0] ![R, K] inb, w⟩ :: L) A := by
  intro i
  rw [canon_rows inb w L i ⟨Nat.zero_le _, by have := (i 0).isLt; simpa using this⟩, h]
  rfl

/-- Zero rows written at both ends. -/
theorem edges_two {lo hi a b m : ℕ} {z : Elt Ideal e}
    (inb : ∀ c, (![m, 0] : Fin 2 → ℕ) c + (![b, K] : Fin 2 → ℕ) c ≤ (⟨2, ![R, K]⟩ : Shape).size c)
    (inb' : ∀ c, (![0, 0] : Fin 2 → ℕ) c + (![a, K] : Fin 2 → ℕ) c ≤ (⟨2, ![R, K]⟩ : Shape).size c)
    (w : (⟨2, ![b, K]⟩ : Shape).Idx → Elt Ideal e) (w' : (⟨2, ![a, K]⟩ : Shape).Idx → Elt Ideal e)
    (h1 : m + b = R) (h2 : m ≤ hi) (h3 : lo ≤ a) (h4 : a ≤ m)
    (hw : ∀ j : (⟨2, ![b, K]⟩ : Shape).Idx, hi - m ≤ (j 0).val → w j = z) (hw' : ∀ j : (⟨2, ![a, K]⟩ : Shape).Idx, (j 0).val < lo → w' j = z) (h5 : lo ≤ hi) :
    Edges lo hi z [⟨Rect.unit (s := ⟨2, ![R, K]⟩) ![m, 0] ![b, K] inb, w⟩, ⟨Rect.unit (s := ⟨2, ![R, K]⟩) ![0, 0] ![a, K] inb', w'⟩] := by
  intro i hi'
  have hR : (i 0).val < R := by have := (i 0).isLt; simpa using this
  rcases hi' with hl | hh
  · refine ⟨⟨_, List.mem_cons_of_mem _ (List.mem_singleton.mpr rfl), (mem_rows inb' i).mpr ⟨Nat.zero_le _, by omega⟩⟩, ?_⟩
    rw [canon_off inb w _ i (by omega), canon_rows inb' w' [] i ⟨Nat.zero_le _, by omega⟩]
    exact hw' _ (by show (i 0).val - 0 < lo; omega)
  · refine ⟨⟨_, List.mem_cons_self, (mem_rows inb i).mpr ⟨by omega, by omega⟩⟩, ?_⟩
    rw [canon_rows inb w _ i ⟨by omega, by omega⟩]
    exact hw _ (by show hi - m ≤ (i 0).val - m; omega)

/-- One more write, after which the table still has `z` on the outer rows. -/
theorem edges_cons {lo hi : ℕ} {z : Elt Ideal e} {L : List (View.Piece (Elt Ideal) ⟨2, ![R, K]⟩ e)}
    {q : View.Piece (Elt Ideal) ⟨2, ![R, K]⟩ e} {A : ℕ → ℕ → Elt Ideal e} (hL : Edges lo hi z L) (h : Holds (q :: L) A)
    (hA : ∀ r k, (r < lo ∨ hi ≤ r) → A r k = z) : Edges lo hi z (q :: L) := fun i h' =>
  ⟨(hL i h').1.imp fun _ hp => ⟨List.mem_cons_of_mem _ hp.1, hp.2⟩, (h i).trans (hA _ _ h')⟩

/-- A layer stored on the middle rows. -/
theorem store_mid {lo hi M : ℕ} {z : Elt Ideal e} {L : List (View.Piece (Elt Ideal) ⟨2, ![R, K]⟩ e)}
    (inb : ∀ a, (![lo, 0] : Fin 2 → ℕ) a + (![M, K] : Fin 2 → ℕ) a ≤ (⟨2, ![R, K]⟩ : Shape).size a)
    (w : (⟨2, ![M, K]⟩ : Shape).Idx → Elt Ideal e) (A : ℕ → ℕ → Elt Ideal e) (hM : lo + M = hi) (hL : Edges lo hi z L)
    (hA : ∀ r k, (r < lo ∨ hi ≤ r) → A r k = z) (hw : ∀ j, w j = A (lo + (j 0).val) (j 1).val) :
    Holds (⟨Rect.unit (s := ⟨2, ![R, K]⟩) ![lo, 0] ![M, K] inb, w⟩ :: L) A
      ∧ Edges lo hi z (⟨Rect.unit (s := ⟨2, ![R, K]⟩) ![lo, 0] ![M, K] inb, w⟩ :: L) := by
  have key : Holds (⟨Rect.unit (s := ⟨2, ![R, K]⟩) ![lo, 0] ![M, K] inb, w⟩ :: L) A := by
    intro i
    by_cases h : lo ≤ (i 0).val ∧ (i 0).val < lo + M
    · rw [canon_rows inb w L i h, hw]
      exact congrArg (fun t => A t (i 1).val) (show lo + ((i 0).val - lo) = (i 0).val by omega)
    · have h' : (i 0).val < lo ∨ hi ≤ (i 0).val := by omega
      exact (canon_off inb _ L i h).trans ((hL i h').2.trans (hA _ _ h').symm)
  exact ⟨key, edges_cons (lo := lo) (hi := hi) (z := z) (A := A) hL key hA⟩

/-- A layer stored on the middle rows as part of a band one row wider at both ends, the two rows kept. -/
theorem store_wide {lo hi M : ℕ} {z : Elt Ideal e} {L : List (View.Piece (Elt Ideal) ⟨2, ![R, K]⟩ e)} {lo' M' : ℕ}
    (inb : ∀ a, (![lo', 0] : Fin 2 → ℕ) a + (![M', K] : Fin 2 → ℕ) a ≤ (⟨2, ![R, K]⟩ : Shape).size a)
    (old : (⟨2, ![M', K]⟩ : Shape).Idx → Elt Ideal e) (w : (⟨2, ![M, K]⟩ : Shape).Idx → Elt Ideal e)
    (hs : (⟨2, ![M', K]⟩ : Shape).Slices ![1, 0] ⟨2, ![M, K]⟩)
    (A : ℕ → ℕ → Elt Ideal e) (hl : lo' + 1 = lo) (hM' : M' = M + 2) (hM : lo + M = hi) (hL : Edges lo hi z L)
    (hold : ∀ j : (⟨2, ![M', K]⟩ : Shape).Idx, ((j 0).val = 0 ∨ (j 0).val = M + 1) → old j = z)
    (hA : ∀ r k, (r < lo ∨ hi ≤ r) → A r k = z) (hw : ∀ j, w j = A (lo + (j 0).val) (j 1).val) :
    Holds (⟨Rect.unit (s := ⟨2, ![R, K]⟩) ![lo', 0] ![M', K] inb, updateSlice old w ![1, 0] hs⟩ :: L) A
      ∧ Edges lo hi z (⟨Rect.unit (s := ⟨2, ![R, K]⟩) ![lo', 0] ![M', K] inb, updateSlice old w ![1, 0] hs⟩ :: L) := by
  have key : Holds (⟨Rect.unit (s := ⟨2, ![R, K]⟩) ![lo', 0] ![M', K] inb, updateSlice old w ![1, 0] hs⟩ :: L) A := by
    intro i
    by_cases h : lo' ≤ (i 0).val ∧ (i 0).val < lo' + M'
    · rw [canon_rows inb _ L i h, updateSlice_apply]
      by_cases hin : lo ≤ (i 0).val ∧ (i 0).val < hi
      · rw [dif_pos]
        · rw [hw]
          refine congrArg₂ A ?_ ?_
          · show lo + ((i 0).val - lo' - 1) = (i 0).val; omega
          · show (i 1).val - 0 = (i 1).val; omega
        · intro a
          match a with
          | ⟨0, _⟩ => show 1 ≤ (i 0).val - lo' ∧ (i 0).val - lo' < 1 + M; omega
          | ⟨1, _⟩ => exact ⟨Nat.zero_le _, by have := (i 1).isLt; show (i 1).val < 0 + K; simpa using this⟩
      · rw [dif_neg, hold, hA _ _ (by omega)]
        · show (i 0).val - lo' = 0 ∨ (i 0).val - lo' = M + 1; omega
        · intro hh
          have := hh 0
          have h0 : 1 ≤ (i 0).val - lo' ∧ (i 0).val - lo' < 1 + M := this
          omega
    · have h' : (i 0).val < lo ∨ hi ≤ (i 0).val := by omega
      exact (canon_off inb _ L i h).trans ((hL i h').2.trans (hA _ _ h').symm)
  exact ⟨key, edges_cons (lo := lo) (hi := hi) (z := z) (A := A) hL key hA⟩

variable {κ : Kind} {sp : Space} {sig : RefSig}

/-- A load of rows of a held table. -/
theorem load_rows {off M : ℕ} {v : View sig κ sp ⟨2, ![R, K]⟩ e} {L : List (View.Piece (Elt Ideal) ⟨2, ![R, K]⟩ e)}
    {A : ℕ → ℕ → Elt Ideal e} (hL : Holds L A)
    (inb : ∀ a, (![off, 0] : Fin 2 → ℕ) a + (![M, K] : Fin 2 → ℕ) a ≤ (⟨2, ![R, K]⟩ : Shape).size a)
    (j : (⟨2, ![M, K]⟩ : Shape).Idx) :
    v.readCov L (Rect.unit (s := ⟨2, ![R, K]⟩) ![off, 0] ![M, K] inb).toLoadRect j = A (off + (j 0).val) (j 1).val := by
  rw [View.readCov_eq_canon']
  refine (hL _).trans (congrArg₂ A ?_ ?_)
  · show off + 1 * (j 0).val = _; omega
  · show 0 + 1 * (j 1).val = _; omega

/-- A load of rows, over anything, where the writes have left `z`. -/
theorem load_edge {off M lo hi : ℕ} {z : Elt Ideal e} {v : View sig κ sp ⟨2, ![R, K]⟩ e}
    {L : List (View.Piece (Elt Ideal) ⟨2, ![R, K]⟩ e)} (hL : Edges lo hi z L)
    (inb : ∀ a, (![off, 0] : Fin 2 → ℕ) a + (![M, K] : Fin 2 → ℕ) a ≤ (⟨2, ![R, K]⟩ : Shape).size a)
    (f : v.ty.Contents (Elt Ideal)) (j : (⟨2, ![M, K]⟩ : Shape).Idx) (hj : off + (j 0).val < lo ∨ hi ≤ off + (j 0).val) :
    v.readAt (Elt Ideal) (Rect.unit (s := ⟨2, ![R, K]⟩) ![off, 0] ![M, K] inb).toLoadRect (v.writes (Elt Ideal) f L) j = z := by
  have h0 : (((Rect.unit (s := ⟨2, ![R, K]⟩) ![off, 0] ![M, K] inb).toLoadRect.idx j) 0).val = off + (j 0).val := by
    show off + 1 * (j 0).val = _; omega
  obtain ⟨hc, hz⟩ := hL ((Rect.unit (s := ⟨2, ![R, K]⟩) ![off, 0] ![M, K] inb).toLoadRect.idx j) (by rw [h0]; exact hj)
  exact (View.read_writes_apply_eq_canon v f _ L hc).trans hz

/-- A view read, after a last write of rows, at one of them. -/
theorem read_rows {off M : ℕ} (v : View sig κ sp ⟨2, ![R, K]⟩ e)
    (inb : ∀ a, (![off, 0] : Fin 2 → ℕ) a + (![M, K] : Fin 2 → ℕ) a ≤ (⟨2, ![R, K]⟩ : Shape).size a)
    (w : (⟨2, ![M, K]⟩ : Shape).Idx → Elt Ideal e) (L : List (View.Piece (Elt Ideal) ⟨2, ![R, K]⟩ e))
    (f : v.ty.Contents (Elt Ideal)) (i : (⟨2, ![R, K]⟩ : Shape).Idx) (h : off ≤ (i 0).val ∧ (i 0).val < off + M) :
    v.read (Elt Ideal) (v.writes (Elt Ideal) f (⟨Rect.unit (s := ⟨2, ![R, K]⟩) ![off, 0] ![M, K] inb, w⟩ :: L)) i
      = w (ix2 (n0 := M) (n1 := K) ⟨(i 0).val - off, by omega⟩ (i 1)) := by
  have hc : ∃ p ∈ (⟨Rect.unit (s := ⟨2, ![R, K]⟩) ![off, 0] ![M, K] inb, w⟩ :: L : List (View.Piece (Elt Ideal) ⟨2, ![R, K]⟩ e)),
      i ∈ p.1.set := ⟨_, List.mem_cons_self, (mem_rows inb i).mpr h⟩
  rw [View.read_writes_apply_eq_canon v f i _ hc]
  exact canon_rows inb w L i h

/-- One tap of a convolution: the product of shifted rows. -/
theorem matmul_tap {M N : ℕ} {d : DotDims ⟨2, ![M, 256]⟩ ⟨2, ![256, N]⟩ ⟨2, ![M, N]⟩} (hd : d = DotDims.plain M 256 N)
    {φ₁ φ₂ : FTy} (x : FVec Ideal ⟨2, ![M, 256]⟩ φ₁) (w : FVec Ideal ⟨2, ![256, N]⟩ φ₂) (A W : ℕ → ℕ → EReal) (off : ℕ)
    (hx : ∀ j, x j = A (off + (j 0).val) (j 1).val) (hw : ∀ j, w j = W (j 0).val (j 1).val) (j : (⟨2, ![M, N]⟩ : Shape).Idx) :
    matmul d none x w (constant (F := Ideal) ⟨2, ![M, N]⟩ .f32 0x00000000#32) j = tap A W (off + (j 0).val) (j 1).val := by
  subst hd
  obtain ⟨r, c, rfl⟩ : ∃ r c, j = ix2 r c := ⟨j 0, j 1, (ix2_eta j).symm⟩
  refine (Ideal.matmul_plain_apply none x w _ r c).trans ?_
  have h0 : constant (F := Ideal) ⟨2, ![M, N]⟩ .f32 0x00000000#32 (ValueIdx.ix2 r c) = (0 : EReal) := Ideal.ofBits_zero_f32
  rw [h0, zero_add]
  refine Finset.sum_congr rfl fun k _ => ?_
  rw [hx, hw]
  rfl

end Cert.Rows
-- ==== Proof.Value.Taps.lean ====
/-
  The stored values of a tower, written out: weights and biases as loaded, a layer, the last convolution.
-/
module

public import proofs.«01_k».proof.Proof.Value.Rows
public import Idealize.ShloMosaic.Lib.Pipeline.Value

@[expose] public section

noncomputable section

namespace Cert.Rows

open Idealize.ShloMosaic

/-- A row spread over all rows. -/
theorem spread_row {M N : ℕ} {α : Type} (x : (⟨2, ![1, N]⟩ : Shape).Idx → α) (h : (⟨2, ![1, N]⟩ : Shape).Broadcasts ⟨2, ![M, N]⟩)
    (j : (⟨2, ![M, N]⟩ : Shape).Idx) : broadcastTo ⟨2, ![M, N]⟩ x h j = x (ix2 0 (j 1)) := by
  rw [Pointwise.broadcastTo_apply]
  refine congrArg x (funext fun a => Fin.ext ?_)
  match a with
  | ⟨0, _⟩ => rfl
  | ⟨1, _⟩ =>
    have h2 : (j 1).val < N := (j 1).isLt
    by_cases h1 : N = 1
    · exact (congrArg Fin.val (dif_pos h1)).trans (show 0 = (j 1).val by omega)
    · exact congrArg Fin.val (dif_neg h1)

/-- A column spread over all columns. -/
theorem spread_col {M N : ℕ} {α : Type} (x : (⟨2, ![M, 1]⟩ : Shape).Idx → α) (h : (⟨2, ![M, 1]⟩ : Shape).Broadcasts ⟨2, ![M, N]⟩)
    (j : (⟨2, ![M, N]⟩ : Shape).Idx) : broadcastTo ⟨2, ![M, N]⟩ x h j = x (ix2 (j 0) 0) := by
  rw [Pointwise.broadcastTo_apply]
  refine congrArg x (funext fun a => Fin.ext ?_)
  match a with
  | ⟨0, _⟩ =>
    have h2 : (j 0).val < M := (j 0).isLt
    by_cases h1 : M = 1
    · exact (congrArg Fin.val (dif_pos h1)).trans (show 0 = (j 0).val by omega)
    · exact congrArg Fin.val (dif_neg h1)
  | ⟨1, _⟩ => rfl

theorem cast4 (y : (⟨4, ![1, 1, 256, 256]⟩ : Shape).Idx → EReal) (hc : (⟨4, ![1, 1, 256, 256]⟩ : Shape).ShapeCasts ⟨2, ![256, 256]⟩)
    (j : (⟨2, ![256, 256]⟩ : Shape).Idx) : shapeCast ⟨2, ![256, 256]⟩ y hc j = y (ix4 (0 : Fin 1) (0 : Fin 1) (j 0) (j 1)) := by
  pointwise

theorem cast720 (y : (⟨3, ![1, 256, 720]⟩ : Shape).Idx → EReal) (hc : (⟨3, ![1, 256, 720]⟩ : Shape).ShapeCasts ⟨2, ![256, 720]⟩)
    (j : (⟨2, ![256, 720]⟩ : Shape).Idx) : shapeCast ⟨2, ![256, 720]⟩ y hc j = y (ix3 (0 : Fin 1) (j 0) (j 1)) := by
  pointwise

theorem cast36 (y : (⟨3, ![1, 256, 36]⟩ : Shape).Idx → EReal) (hc : (⟨3, ![1, 256, 36]⟩ : Shape).ShapeCasts ⟨2, ![256, 36]⟩)
    (j : (⟨2, ![256, 36]⟩ : Shape).Idx) : shapeCast ⟨2, ![256, 36]⟩ y hc j = y (ix3 (0 : Fin 1) (j 0) (j 1)) := by
  pointwise

variable {κ : Kind} {sp : Space} {sig : RefSig}

/-- One tap's weights of a tower's layer, as loaded. -/
theorem load_w4 {i t : ℕ} (v : View sig κ sp ⟨4, ![4, 9, 256, 256]⟩ .bf16)
    (inb : ∀ a, (![i, t, 0, 0] : Fin 4 → ℕ) a + (![1, 1, 256, 256] : Fin 4 → ℕ) a ≤ (⟨4, ![4, 9, 256, 256]⟩ : Shape).size a)
    (hc : (⟨4, ![1, 1, 256, 256]⟩ : Shape).ShapeCasts ⟨2, ![256, 256]⟩)
    (f : v.ty.Contents (Elt Ideal)) (j : (⟨2, ![256, 256]⟩ : Shape).Idx) :
    shapeCast ⟨2, ![256, 256]⟩ (v.readAt (Elt Ideal) (Rect.unit (s := ⟨4, ![4, 9, 256, 256]⟩) ![i, t, 0, 0] ![1, 1, 256, 256] inb).toLoadRect f) hc j
      = nat4 (v.read (Elt Ideal) f) i t (j 0).val (j 1).val := by
  have hi : i < 4 := by have := inb 0; simpa using this
  have ht : t < 9 := by have := inb 1; simpa using this
  have e : shapeCast ⟨2, ![256, 256]⟩ (v.readAt (Elt Ideal) (Rect.unit (s := ⟨4, ![4, 9, 256, 256]⟩) ![i, t, 0, 0] ![1, 1, 256, 256] inb).toLoadRect f) hc j
      = v.readAt (Elt Ideal) (Rect.unit (s := ⟨4, ![4, 9, 256, 256]⟩) ![i, t, 0, 0] ![1, 1, 256, 256] inb).toLoadRect f (ix4 (0 : Fin 1) (0 : Fin 1) (j 0) (j 1)) := cast4 _ hc j
  rw [e, View.readAt_apply]
  have h := nat4_ix (v.read (Elt Ideal) f) ⟨i, hi⟩ ⟨t, ht⟩ (j 0) (j 1)
  refine Eq.trans (congrArg (v.read (Elt Ideal) f) (funext fun a => Fin.ext ?_)) h.symm
  match a with
  | ⟨0, _⟩ => show i + 1 * 0 = i; omega
  | ⟨1, _⟩ => show t + 1 * 0 = t; omega
  | ⟨2, _⟩ => show 0 + 1 * (j 0).val = (j 0).val; omega
  | ⟨3, _⟩ => show 0 + 1 * (j 1).val = (j 1).val; omega

/-- One tap's weights of a tower's last convolution, as loaded. -/
theorem load_w3 {t N : ℕ} (hN : N = 720 ∨ N = 36) (v : View sig κ sp ⟨3, ![9, 256, N]⟩ .bf16)
    (inb : ∀ a, (![t, 0, 0] : Fin 3 → ℕ) a + (![1, 256, N] : Fin 3 → ℕ) a ≤ (⟨3, ![9, 256, N]⟩ : Shape).size a)
    (hc : (⟨3, ![1, 256, N]⟩ : Shape).ShapeCasts ⟨2, ![256, N]⟩)
    (f : v.ty.Contents (Elt Ideal)) (j : (⟨2, ![256, N]⟩ : Shape).Idx) :
    shapeCast ⟨2, ![256, N]⟩ (v.readAt (Elt Ideal) (Rect.unit (s := ⟨3, ![9, 256, N]⟩) ![t, 0, 0] ![1, 256, N] inb).toLoadRect f) hc j
      = nat3 (v.read (Elt Ideal) f) t (j 0).val (j 1).val := by
  have ht : t < 9 := by have := inb 0; simpa using this
  have e : shapeCast ⟨2, ![256, N]⟩ (v.readAt (Elt Ideal) (Rect.unit (s := ⟨3, ![9, 256, N]⟩) ![t, 0, 0] ![1, 256, N] inb).toLoadRect f) hc j
      = v.readAt (Elt Ideal) (Rect.unit (s := ⟨3, ![9, 256, N]⟩) ![t, 0, 0] ![1, 256, N] inb).toLoadRect f (ix3 (0 : Fin 1) (j 0) (j 1)) := by
    rcases hN with rfl | rfl
    · exact cast720 _ hc j
    · exact cast36 _ hc j
  rw [e, View.readAt_apply]
  have h := nat3_ix (v.read (Elt Ideal) f) ⟨t, ht⟩ (j 0) (j 1)
  refine Eq.trans (congrArg (v.read (Elt Ideal) f) (funext fun a => Fin.ext ?_)) h.symm
  match a with
  | ⟨0, _⟩ => show t + 1 * 0 = t; omega
  | ⟨1, _⟩ => show 0 + 1 * (j 0).val = (j 0).val; omega
  | ⟨2, _⟩ => show 0 + 1 * (j 1).val = (j 1).val; omega

/-- Rows of a two-axis array, as loaded. -/
theorem load_2 {i a b m : ℕ} (v : View sig κ sp ⟨2, ![a, b]⟩ .f32)
    (inb : ∀ c, (![i, 0] : Fin 2 → ℕ) c + (![m, b] : Fin 2 → ℕ) c ≤ (⟨2, ![a, b]⟩ : Shape).size c)
    (f : v.ty.Contents (Elt Ideal)) (r : Fin m) (k : Fin b) :
    v.readAt (Elt Ideal) (Rect.unit (s := ⟨2, ![a, b]⟩) ![i, 0] ![m, b] inb).toLoadRect f (ix2 r k)
      = nat2 (v.read (Elt Ideal) f) (i + r.val) k.val := by
  have hi : i + r.val < a := by have := inb 0; have h : i + m ≤ a := this; omega
  rw [View.readAt_apply]
  have h := nat2_ix (v.read (Elt Ideal) f) ⟨i + r.val, hi⟩ k
  refine Eq.trans (congrArg (v.read (Elt Ideal) f) (funext fun c => Fin.ext ?_)) h.symm
  match c with
  | ⟨0, _⟩ => show i + 1 * r.val = i + r.val; omega
  | ⟨1, _⟩ => show 0 + 1 * k.val = k.val; omega

/-- A whole two-axis array, as loaded and narrowed. -/
theorem load_all {R K : ℕ} (v : View sig κ sp ⟨2, ![R, K]⟩ .f32)
    (inb : ∀ c, (![0, 0] : Fin 2 → ℕ) c + (![R, K] : Fin 2 → ℕ) c ≤ (⟨2, ![R, K]⟩ : Shape).size c)
    (f : v.ty.Contents (Elt Ideal)) (hbits : FTy.bits .bf16 < FTy.bits .f32) (i : (⟨2, ![R, K]⟩ : Shape).Idx) :
    truncf (F := Ideal) .bf16 (v.readAt (Elt Ideal) (Rect.unit (s := ⟨2, ![R, K]⟩) ![0, 0] ![R, K] inb).toLoadRect f) hbits i
      = nat2 (v.read (Elt Ideal) f) (i 0).val (i 1).val := by
  have h := load_2 v inb f (i 0) (i 1)
  rw [ix2_eta, Nat.zero_add] at h
  exact h

/-- Nine products of shifted rows, added in order, are a convolution. -/
theorem conv_term {M N : ℕ} {d : DotDims ⟨2, ![M, 256]⟩ ⟨2, ![256, N]⟩ ⟨2, ![M, N]⟩} (hd : d = DotDims.plain M 256 N) (w2 : ℕ)
    {A : ℕ → ℕ → EReal} {W : ℕ → ℕ → ℕ → EReal} {φ₁ φ₂ : FTy} {x0 x1 x2 x3 x4 x5 x6 x7 x8 : FVec Ideal ⟨2, ![M, 256]⟩ φ₁}
    {y0 y1 y2 y3 y4 y5 y6 y7 y8 : FVec Ideal ⟨2, ![256, N]⟩ φ₂}
    (h0 : ∀ j, x0 j = A (0 + (j 0).val) (j 1).val) (h1 : ∀ j, x1 j = A (1 + (j 0).val) (j 1).val)
    (h2 : ∀ j, x2 j = A (2 + (j 0).val) (j 1).val) (h3 : ∀ j, x3 j = A (w2 + (j 0).val) (j 1).val)
    (h4 : ∀ j, x4 j = A (w2 + 1 + (j 0).val) (j 1).val) (h5 : ∀ j, x5 j = A (w2 + 2 + (j 0).val) (j 1).val)
    (h6 : ∀ j, x6 j = A (2 * w2 + (j 0).val) (j 1).val) (h7 : ∀ j, x7 j = A (2 * w2 + 1 + (j 0).val) (j 1).val)
    (h8 : ∀ j, x8 j = A (2 * w2 + 2 + (j 0).val) (j 1).val)
    (g0 : ∀ j, y0 j = W 0 (j 0).val (j 1).val) (g1 : ∀ j, y1 j = W 1 (j 0).val (j 1).val)
    (g2 : ∀ j, y2 j = W 2 (j 0).val (j 1).val) (g3 : ∀ j, y3 j = W 3 (j 0).val (j 1).val)
    (g4 : ∀ j, y4 j = W 4 (j 0).val (j 1).val) (g5 : ∀ j, y5 j = W 5 (j 0).val (j 1).val)
    (g6 : ∀ j, y6 j = W 6 (j 0).val (j 1).val) (g7 : ∀ j, y7 j = W 7 (j 0).val (j 1).val)
    (g8 : ∀ j, y8 j = W 8 (j 0).val (j 1).val) (j : (⟨2, ![M, N]⟩ : Shape).Idx) :
    addf (addf (addf (addf (addf (addf (addf (addf
      (matmul d none x0 y0 (constant (F := Ideal) ⟨2, ![M, N]⟩ .f32 0x00000000#32))
      (matmul d none x1 y1 (constant (F := Ideal) ⟨2, ![M, N]⟩ .f32 0x00000000#32)))
      (matmul d none x2 y2 (constant (F := Ideal) ⟨2, ![M, N]⟩ .f32 0x00000000#32)))
      (matmul d none x3 y3 (constant (F := Ideal) ⟨2, ![M, N]⟩ .f32 0x00000000#32)))
      (matmul d none x4 y4 (constant (F := Ideal) ⟨2, ![M, N]⟩ .f32 0x00000000#32)))
      (matmul d none x5 y5 (constant (F := Ideal) ⟨2, ![M, N]⟩ .f32 0x00000000#32)))
      (matmul d none x6 y6 (constant (F := Ideal) ⟨2, ![M, N]⟩ .f32 0x00000000#32)))
      (matmul d none x7 y7 (constant (F := Ideal) ⟨2, ![M, N]⟩ .f32 0x00000000#32)))
      (matmul d none x8 y8 (constant (F := Ideal) ⟨2, ![M, N]⟩ .f32 0x00000000#32)) j
      = conv w2 A W (j 0).val (j 1).val := by
  have add2 : ∀ (p q : FVec Ideal ⟨2, ![M, N]⟩ .f32) (s t : EReal), p j = s → q j = t → addf p q j = s + t := by
    intro p q s t hp hq; rw [← hp, ← hq]; rfl
  exact add2 _ _ _ _ (add2 _ _ _ _ (add2 _ _ _ _ (add2 _ _ _ _ (add2 _ _ _ _ (add2 _ _ _ _ (add2 _ _ _ _ (add2 _ _ _ _
    (matmul_tap hd _ _ A (W 0) _ h0 g0 j) (matmul_tap hd _ _ A (W 1) _ h1 g1 j)) (matmul_tap hd _ _ A (W 2) _ h2 g2 j))
    (matmul_tap hd _ _ A (W 3) _ h3 g3 j)) (matmul_tap hd _ _ A (W 4) _ h4 g4 j)) (matmul_tap hd _ _ A (W 5) _ h5 g5 j))
    (matmul_tap hd _ _ A (W 6) _ h6 g6 j)) (matmul_tap hd _ _ A (W 7) _ h7 g7 j)) (matmul_tap hd _ _ A (W 8) _ h8 g8 j)

/-- A layer's stored value: the convolution with bias, cut off below at zero, masked. -/
theorem layer_term {M w2 lo hi : ℕ} (hM : lo + M = hi) {A : ℕ → ℕ → EReal} {W : ℕ → ℕ → ℕ → EReal} {b mask : ℕ → EReal}
    {acc : FVec Ideal ⟨2, ![M, 256]⟩ .f32} {bv : FVec Ideal ⟨2, ![1, 256]⟩ .f32} {mk : FVec Ideal ⟨2, ![M, 1]⟩ .f32}
    (hacc : ∀ j, acc j = conv w2 A W (j 0).val (j 1).val) (hb : ∀ k : Fin 256, bv (ix2 0 k) = b k.val)
    (hm : ∀ r : Fin M, mk (ix2 r 0) = mask (lo + r.val))
    (h1 : (⟨2, ![1, 256]⟩ : Shape).Broadcasts ⟨2, ![M, 256]⟩) (h2 : (⟨2, ![M, 1]⟩ : Shape).Broadcasts ⟨2, ![M, 256]⟩)
    (hbits : FTy.bits .bf16 < FTy.bits .f32) (j : (⟨2, ![M, 256]⟩ : Shape).Idx) :
    truncf (F := Ideal) .bf16 (mulf (maximumf (addf acc (broadcastTo ⟨2, ![M, 256]⟩ bv h1))
        (broadcast ⟨2, ![M, 256]⟩ (Scalar.ofBits (F := Ideal) .f32 0x00000000#32))) (broadcastTo ⟨2, ![M, 256]⟩ mk h2)) hbits j
      = layer w2 lo hi W b mask A (lo + (j 0).val) (j 1).val := by
  have e : truncf (F := Ideal) .bf16 (mulf (maximumf (addf acc (broadcastTo ⟨2, ![M, 256]⟩ bv h1))
        (broadcast ⟨2, ![M, 256]⟩ (Scalar.ofBits (F := Ideal) .f32 0x00000000#32))) (broadcastTo ⟨2, ![M, 256]⟩ mk h2)) hbits j
      = max (acc j + broadcastTo ⟨2, ![M, 256]⟩ bv h1 j) (Ideal.ofBits .f32 0x00000000#32) * broadcastTo ⟨2, ![M, 256]⟩ mk h2 j := rfl
  have hj : (j 0).val < M := (j 0).isLt
  have hl : lo ≤ lo + (j 0).val ∧ lo + (j 0).val < hi := by omega
  rw [e, spread_row, spread_col, hacc, Ideal.ofBits_zero_f32]
  show max (_ + bv (ix2 0 (j 1))) 0 * mk (ix2 (j 0) 0) = ite _ _ _
  rw [if_pos hl, hb (j 1), hm (j 0), Nat.add_sub_cancel_left]

/-- The last convolution's stored value. -/
theorem last_term {M N w2 : ℕ} {A : ℕ → ℕ → EReal} {W : ℕ → ℕ → ℕ → EReal} {b : ℕ → EReal}
    {acc : FVec Ideal ⟨2, ![M, N]⟩ .f32} {bv : FVec Ideal ⟨2, ![1, N]⟩ .f32}
    (hacc : ∀ j, acc j = conv w2 A W (j 0).val (j 1).val) (hb : ∀ k : Fin N, bv (ix2 0 k) = b k.val)
    (h1 : (⟨2, ![1, N]⟩ : Shape).Broadcasts ⟨2, ![M, N]⟩) (j : (⟨2, ![M, N]⟩ : Shape).Idx) :
    addf acc (broadcastTo ⟨2, ![M, N]⟩ bv h1) j = conv w2 A W (j 0).val (j 1).val + b (j 1).val := by
  have e : addf acc (broadcastTo ⟨2, ![M, N]⟩ bv h1) j = acc j + broadcastTo ⟨2, ![M, N]⟩ bv h1 j := rfl
  rw [e, spread_row, hacc]
  exact congrArg (_ + ·) (hb (j 1))

/-- Part of a band overwritten by `z`, read there. -/
theorem slice_const {R K m s : ℕ} {α : Type} {z : α} (old : (⟨2, ![R, K]⟩ : Shape).Idx → α) (w : (⟨2, ![m, K]⟩ : Shape).Idx → α)
    (hs : (⟨2, ![R, K]⟩ : Shape).Slices ![s, 0] ⟨2, ![m, K]⟩) (hw : ∀ j, w j = z) (j : (⟨2, ![R, K]⟩ : Shape).Idx)
    (hj : s ≤ (j 0).val ∧ (j 0).val < s + m) : updateSlice old w ![s, 0] hs j = z := by
  rw [updateSlice_apply, dif_pos, hw]
  intro a
  match a with
  | ⟨0, _⟩ => exact hj
  | ⟨1, _⟩ => exact ⟨Nat.zero_le _, by have := (j 1).isLt; show (j 1).val < 0 + K; simpa using this⟩

/-- A layer is zero off its rows. -/
theorem layer_off {w2 lo hi : ℕ} {W : ℕ → ℕ → ℕ → EReal} {b mask : ℕ → EReal} {A : ℕ → ℕ → EReal} (r k : ℕ)
    (h : r < lo ∨ hi ≤ r) : layer w2 lo hi W b mask A r k = 0 := if_neg (by omega)

/-- The flat tower: four layers and the last convolution, over the six operands of a kernel call. -/
def tower {R N : ℕ} (w2 lo hi : ℕ) (x0 : (⟨2, ![R, 256]⟩ : Shape).Idx → EReal) (x1 : (⟨4, ![4, 9, 256, 256]⟩ : Shape).Idx → EReal)
    (x2 : (⟨2, ![4, 256]⟩ : Shape).Idx → EReal) (x3 : (⟨3, ![9, 256, N]⟩ : Shape).Idx → EReal)
    (x4 : (⟨2, ![1, N]⟩ : Shape).Idx → EReal) (x5 : (⟨2, ![R, 1]⟩ : Shape).Idx → EReal) : ℕ → ℕ → EReal :=
  let L := fun i => layer w2 lo hi (nat4 x1 i) (nat2 x2 i) (fun r => nat2 x5 r 0)
  fun m n => conv w2 (L 3 (L 2 (L 1 (L 0 (nat2 x0))))) (nat3 x3) m n + nat2 x4 0 n

end Cert.Rows
-- ==== Proof.Value.Grid.lean ====
/-
  The same tower over grids: images with a border of zeros, convolved, cut off below at zero and bordered again; and
  the proof that the flat tower computes it on the flattened grids.
-/
module

public import proofs.«01_k».proof.Proof.Value.Taps

@[expose] public section

noncomputable section

namespace Cert.Rows

open Idealize.ShloMosaic

/-- A five-axis array read at natural numbers, zero outside. -/
def nat5 {a b c d e : ℕ} (x : (⟨5, ![a, b, c, d, e]⟩ : Shape).Idx → EReal) : ℕ → ℕ → ℕ → ℕ → ℕ → EReal := fun i j k l m =>
  if h : i < a ∧ j < b ∧ k < c ∧ l < d ∧ m < e then x (ix5 ⟨i, h.1⟩ ⟨j, h.2.1⟩ ⟨k, h.2.2.1⟩ ⟨l, h.2.2.2.1⟩ ⟨m, h.2.2.2.2⟩) else 0

/-- One tap over a grid. -/
def tapG (P : ℕ → ℕ → ℕ → ℕ → EReal) (W : ℕ → ℕ → EReal) (b y x n : ℕ) : EReal := ∑ k : Fin 256, P b y x k * W k n

/-- A three by three convolution over a grid. -/
def convG (P : ℕ → ℕ → ℕ → ℕ → EReal) (W : ℕ → ℕ → ℕ → EReal) (b y x n : ℕ) : EReal :=
  tapG P (W 0) b (0 + y) (0 + x) n + tapG P (W 1) b (0 + y) (1 + x) n + tapG P (W 2) b (0 + y) (2 + x) n
    + tapG P (W 3) b (1 + y) (0 + x) n + tapG P (W 4) b (1 + y) (1 + x) n + tapG P (W 5) b (1 + y) (2 + x) n
    + tapG P (W 6) b (2 + y) (0 + x) n + tapG P (W 7) b (2 + y) (1 + x) n + tapG P (W 8) b (2 + y) (2 + x) n

/-- One layer over a bordered grid of side `H + 2`: zero on the border. -/
def layerG (H : ℕ) (W : ℕ → ℕ → ℕ → EReal) (bias : ℕ → EReal) (P : ℕ → ℕ → ℕ → ℕ → EReal) : ℕ → ℕ → ℕ → ℕ → EReal :=
  fun b y x k => if (1 ≤ y ∧ y < 1 + H) ∧ 1 ≤ x ∧ x < 1 + H then max (convG P W b (y - 1) (x - 1) k + bias k) 0 else 0

/-- The table `A` is the grid `P`, flattened with rows `w` long. -/
def Flat (w : ℕ) (A : ℕ → ℕ → EReal) (P : ℕ → ℕ → ℕ → ℕ → EReal) : Prop :=
  ∀ b y x k, b < 2 → y < w → x < w → k < 256 → A (b * (w * w) + y * w + x) k = P b y x k

/-- The three sides of the bordered grids. -/
def Side (H : ℕ) : Prop := H = 28 ∨ H = 14 ∨ H = 7

/-- The mask is one inside and zero on the border. -/
def Masks (H : ℕ) (mask : ℕ → EReal) : Prop :=
  ∀ b y x, b < 2 → y < H + 2 → x < H + 2 → mask (b * ((H + 2) * (H + 2)) + y * (H + 2) + x)
    = if (1 ≤ y ∧ y < 1 + H) ∧ 1 ≤ x ∧ x < 1 + H then 1 else 0

/-- One tap of the flat table is the tap of the grid. -/
theorem tap_flat {w : ℕ} {A : ℕ → ℕ → EReal} {P : ℕ → ℕ → ℕ → ℕ → EReal} (h : Flat w A P) (W : ℕ → ℕ → EReal) {m b y x : ℕ} (n : ℕ)
    (hm : m = b * (w * w) + y * w + x) (hb : b < 2) (hy : y < w) (hx : x < w) : tap A W m n = tapG P W b y x n := by
  subst hm
  exact Finset.sum_congr rfl fun k _ => congrArg (· * W k n) (h b y x k hb hy hx k.2)

/-- Inside the grid the flat convolution is the grid's. -/
theorem conv_flat {H : ℕ} (hH : Side H) {A : ℕ → ℕ → EReal} {P : ℕ → ℕ → ℕ → ℕ → EReal} (h : Flat (H + 2) A P)
    (W : ℕ → ℕ → ℕ → EReal) {b y x : ℕ} (n : ℕ) (hb : b < 2) (hy : y < H) (hx : x < H) :
    conv (H + 2) A W (b * ((H + 2) * (H + 2)) + y * (H + 2) + x) n = convG P W b y x n := by
  unfold conv convG
  have h0 : ∀ dy dx m, dy < 3 → dx < 3 → m = dy * (H + 2) + dx → ∀ V : ℕ → ℕ → EReal,
      tap A V (m + (b * ((H + 2) * (H + 2)) + y * (H + 2) + x)) n = tapG P V b (dy + y) (dx + x) n := by
    intro dy dx m hdy hdx hm V
    refine tap_flat h V n ?_ hb (by omega) (by omega)
    rw [hm]; ring
  rw [h0 0 0 0 (by omega) (by omega) (by omega), h0 0 1 1 (by omega) (by omega) (by omega), h0 0 2 2 (by omega) (by omega) (by omega),
    h0 1 0 (H + 2) (by omega) (by omega) (by omega), h0 1 1 (H + 2 + 1) (by omega) (by omega) (by omega),
    h0 1 2 (H + 2 + 2) (by omega) (by omega) (by omega), h0 2 0 (2 * (H + 2)) (by omega) (by omega) (by omega),
    h0 2 1 (2 * (H + 2) + 1) (by omega) (by omega) (by omega), h0 2 2 (2 * (H + 2) + 2) (by omega) (by omega) (by omega)]

/-- The rows of a grid's inner places. -/
theorem inner_row {H : ℕ} (hH : Side H) {b y x : ℕ} (hb : b < 2) (hy : 1 ≤ y ∧ y < 1 + H) (hx : 1 ≤ x ∧ x < 1 + H) :
    (H + 3 ≤ b * ((H + 2) * (H + 2)) + y * (H + 2) + x ∧ b * ((H + 2) * (H + 2)) + y * (H + 2) + x < 2 * ((H + 2) * (H + 2)) - (H + 3))
      ∧ b * ((H + 2) * (H + 2)) + y * (H + 2) + x - (H + 3) = b * ((H + 2) * (H + 2)) + (y - 1) * (H + 2) + (x - 1) := by
  rcases hH with rfl | rfl | rfl <;> omega

/-- One layer of the flat tower is one layer over the grid. -/
theorem layer_flat {H : ℕ} (hH : Side H) {A : ℕ → ℕ → EReal} {P : ℕ → ℕ → ℕ → ℕ → EReal} (h : Flat (H + 2) A P)
    (W : ℕ → ℕ → ℕ → EReal) (bias : ℕ → EReal) {mask : ℕ → EReal} (hm : Masks H mask) :
    Flat (H + 2) (layer (H + 2) (H + 3) (2 * ((H + 2) * (H + 2)) - (H + 3)) W bias mask A) (layerG H W bias P) := by
  intro b y x k hb hy hx _
  unfold layer layerG
  rw [hm b y x hb hy hx]
  by_cases hin : (1 ≤ y ∧ y < 1 + H) ∧ 1 ≤ x ∧ x < 1 + H
  · obtain ⟨h1, h2⟩ := inner_row hH hb hin.1 hin.2
    rw [if_pos h1, if_pos hin, if_pos hin, mul_one, h2, conv_flat hH h W k hb (by omega) (by omega)]
  · rw [if_neg hin, if_neg hin, mul_zero, ite_self]

/-- The tower over a grid: four layers and the last convolution. -/
def towerG (H : ℕ) (W : ℕ → ℕ → ℕ → ℕ → EReal) (bs : ℕ → ℕ → EReal) (Wf : ℕ → ℕ → ℕ → EReal) (bf : ℕ → EReal)
    (P : ℕ → ℕ → ℕ → ℕ → EReal) (b y x n : ℕ) : EReal :=
  convG (layerG H (W 3) (bs 3) (layerG H (W 2) (bs 2) (layerG H (W 1) (bs 1) (layerG H (W 0) (bs 0) P)))) Wf b y x n + bf n

/-- The flat tower, at the row of an inner place, is the grid's tower there. -/
theorem tower_flat {R N H : ℕ} (hH : Side H) {x0 : (⟨2, ![R, 256]⟩ : Shape).Idx → EReal}
    {x1 : (⟨4, ![4, 9, 256, 256]⟩ : Shape).Idx → EReal} {x2 : (⟨2, ![4, 256]⟩ : Shape).Idx → EReal}
    {x3 : (⟨3, ![9, 256, N]⟩ : Shape).Idx → EReal} {x4 : (⟨2, ![1, N]⟩ : Shape).Idx → EReal} {x5 : (⟨2, ![R, 1]⟩ : Shape).Idx → EReal}
    {P : ℕ → ℕ → ℕ → ℕ → EReal} (hP : Flat (H + 2) (nat2 x0) P) (hm : Masks H (fun r => nat2 x5 r 0))
    {b y x : ℕ} (n : ℕ) (hb : b < 2) (hy : y < H) (hx : x < H) :
    tower (H + 2) (H + 3) (2 * ((H + 2) * (H + 2)) - (H + 3)) x0 x1 x2 x3 x4 x5 (b * ((H + 2) * (H + 2)) + y * (H + 2) + x) n
      = towerG H (nat4 x1) (nat2 x2) (nat3 x3) (nat2 x4 0) P b y x n := by
  unfold tower towerG
  exact congrArg (· + nat2 x4 0 n) (conv_flat hH (layer_flat hH (layer_flat hH (layer_flat hH (layer_flat hH hP _ _ hm) _ _ hm) _ _ hm) _ _ hm) _ n hb hy hx)

/-! ### Congruence: the weights matter only where they are read -/

theorem convG_congr {P P' : ℕ → ℕ → ℕ → ℕ → EReal} {W W' : ℕ → ℕ → ℕ → EReal} {N : ℕ} (hP : ∀ b y x k, k < 256 → P b y x k = P' b y x k)
    (hW : ∀ t k n, t < 9 → k < 256 → n < N → W t k n = W' t k n) (b y x n : ℕ) (hn : n < N) : convG P W b y x n = convG P' W' b y x n := by
  have h : ∀ t y x, t < 9 → tapG P (W t) b y x n = tapG P' (W' t) b y x n := fun t y x ht =>
    Finset.sum_congr rfl fun k _ => congrArg₂ (· * ·) (hP b y x k k.2) (hW t k n ht k.2 hn)
  unfold convG
  rw [h 0 _ _ (by omega), h 1 _ _ (by omega), h 2 _ _ (by omega), h 3 _ _ (by omega), h 4 _ _ (by omega), h 5 _ _ (by omega),
    h 6 _ _ (by omega), h 7 _ _ (by omega), h 8 _ _ (by omega)]

theorem layerG_congr {H : ℕ} {P P' : ℕ → ℕ → ℕ → ℕ → EReal} {W W' : ℕ → ℕ → ℕ → EReal} {bias bias' : ℕ → EReal}
    (hP : ∀ b y x k, k < 256 → P b y x k = P' b y x k) (hW : ∀ t k n, t < 9 → k < 256 → n < 256 → W t k n = W' t k n)
    (hb : ∀ k, k < 256 → bias k = bias' k) (b y x k : ℕ) (hk : k < 256) : layerG H W bias P b y x k = layerG H W' bias' P' b y x k := by
  unfold layerG
  rw [convG_congr hP hW b (y - 1) (x - 1) k hk, hb k hk]

end Cert.Rows
-- ==== Proof.Value.RefTaps.lean ====
/-
  The reference's operations read over grids: the nine shifted products, the biases, the border; so one layer of the
  reference is one layer over the grid, and its tower is what the flat tower computes.
-/
module

public import proofs.«01_k».proof.Proof.Value.Grid

@[expose] public section

noncomputable section

namespace Cert.Rows

open Idealize.ShloMosaic

/-- The product of a grid of vectors with a matrix. -/
def gridDims (H N : ℕ) (wf : DotDims.WF ⟨4, ![2, H, H, 256]⟩ ⟨2, ![256, N]⟩ ⟨4, ![2, H, H, N]⟩ [3] [0] [0, 1, 2] [1] [] []) :
    DotDims ⟨4, ![2, H, H, 256]⟩ ⟨2, ![256, N]⟩ ⟨4, ![2, H, H, N]⟩ where
  lhsContracting := [3]
  rhsContracting := [0]
  lhsNonContracting := [0, 1, 2]
  rhsNonContracting := [1]
  lhsBatch := []
  rhsBatch := []
  wf := wf

/-- That product, read at a place. -/
theorem dot_grid {H N : ℕ} (wf : DotDims.WF ⟨4, ![2, H, H, 256]⟩ ⟨2, ![256, N]⟩ ⟨4, ![2, H, H, N]⟩ [3] [0] [0, 1, 2] [1] [] [])
    (x : FVec Ideal ⟨4, ![2, H, H, 256]⟩ .f32) (w : FVec Ideal ⟨2, ![256, N]⟩ .f32) (b : Fin 2) (y : Fin H) (z : Fin H) (n : Fin N) :
    Host.dotGeneral (gridDims H N wf) none x w (ix4 b y z n) = ∑ k : Fin 256, x (ix4 b y z k) * w (ix2 k n) := by
  show FloatOps.dotGeneral _ none _ x w (ix4 b y z n) = _
  rw [Ideal.dotGeneral_apply, ← Equiv.sum_comp (ValueIdx.contrEquiv1 (gridDims H N wf) 256 rfl rfl).symm]
  refine Finset.sum_congr rfl fun k _ => ?_
  have hk := ValueIdx.contrEquiv1_symm_val (gridDims H N wf) 256 rfl rfl k
  have el : (gridDims H N wf).lhsIdx (ix4 b y z n) ((ValueIdx.contrEquiv1 (gridDims H N wf) 256 rfl rfl).symm k) = ix4 b y z k := by
    funext a; apply Fin.ext
    match a with
    | ⟨0, _⟩ => rfl
    | ⟨1, _⟩ => rfl
    | ⟨2, _⟩ => rfl
    | ⟨3, _⟩ => exact hk
  have er : (gridDims H N wf).rhsIdx (ix4 b y z n) ((ValueIdx.contrEquiv1 (gridDims H N wf) 256 rfl rfl).symm k) = ix2 k n := by
    funext a; apply Fin.ext
    match a with
    | ⟨0, _⟩ => exact hk
    | ⟨1, _⟩ => rfl
  rw [el, er]

/-- One layer's weights. -/
theorem weight_at (x : (⟨5, ![4, 3, 3, 256, 256]⟩ : Shape).Idx → EReal) (i : Fin 4) (dy dx : Fin 3)
    (h1 : (⟨5, ![4, 3, 3, 256, 256]⟩ : Shape).Slices ![i.val, 0, 0, 0, 0] ⟨5, ![1, 3, 3, 256, 256]⟩)
    (h2 : (⟨5, ![1, 3, 3, 256, 256]⟩ : Shape).ShapeCasts ⟨4, ![3, 3, 256, 256]⟩) (k n : Fin 256) :
    shapeCast ⟨4, ![3, 3, 256, 256]⟩ (extractStridedSlice ⟨5, ![1, 3, 3, 256, 256]⟩ ![i.val, 0, 0, 0, 0] x h1) h2 (ix4 dy dx k n)
      = x (ix5 i dy dx k n) := by
  refine (shapeCast_apply _ h2 (ix4 dy dx k n) (ix5 0 dy dx k n) ?_).trans ?_
  · rw [Shape.rowMajor_val_five, Shape.rowMajor_val_four]
    show (((0 * 3 + dy.val) * 3 + dx.val) * 256 + k.val) * 256 + n.val = ((dy.val * 3 + dx.val) * 256 + k.val) * 256 + n.val
    omega
  refine extractStridedSlice_apply _ _ h1 (ix5 0 dy dx k n) (ix5 i dy dx k n) fun a => ?_
  match a with
  | ⟨0, _⟩ => rfl
  | ⟨1, _⟩ => exact (Nat.zero_add _).symm
  | ⟨2, _⟩ => exact (Nat.zero_add _).symm
  | ⟨3, _⟩ => exact (Nat.zero_add _).symm
  | ⟨4, _⟩ => exact (Nat.zero_add _).symm

/-- The last convolution's weights at one tap. -/
theorem cast_wf {N : ℕ} (x : (⟨4, ![3, 3, 256, N]⟩ : Shape).Idx → EReal) (dy dx : Fin 3)
    (h3 : (⟨4, ![3, 3, 256, N]⟩ : Shape).Slices ![dy.val, dx.val, 0, 0] ⟨4, ![1, 1, 256, N]⟩)
    (h4 : (⟨4, ![1, 1, 256, N]⟩ : Shape).ShapeCasts ⟨2, ![256, N]⟩) (k : Fin 256) (n : Fin N) :
    shapeCast ⟨2, ![256, N]⟩ (extractStridedSlice ⟨4, ![1, 1, 256, N]⟩ ![dy.val, dx.val, 0, 0] x h3) h4 (ix2 k n)
      = x (ix4 dy dx k n) := by
  refine (shapeCast_apply _ h4 (ix2 k n) (ix4 0 0 k n) ?_).trans ?_
  · rw [Shape.rowMajor_val_four, Shape.rowMajor_val_two]
    show ((0 * 1 + 0) * 256 + k.val) * N + n.val = k.val * N + n.val
    simp
  refine extractStridedSlice_apply _ _ h3 (ix4 0 0 k n) (ix4 dy dx k n) fun a => ?_
  match a with
  | ⟨0, _⟩ => rfl
  | ⟨1, _⟩ => rfl
  | ⟨2, _⟩ => exact (Nat.zero_add _).symm
  | ⟨3, _⟩ => exact (Nat.zero_add _).symm

/-- The last weights with the taps numbered in a row. -/
theorem reshape_wf {N : ℕ} (x : (⟨4, ![3, 3, 256, N]⟩ : Shape).Idx → EReal)
    (h : (⟨4, ![3, 3, 256, N]⟩ : Shape).ShapeCasts ⟨3, ![9, 256, N]⟩) (dy dx : Fin 3) (k : Fin 256) (n : Fin N) :
    shapeCast ⟨3, ![9, 256, N]⟩ x h (ix3 ⟨3 * dy.val + dx.val, by omega⟩ k n) = x (ix4 dy dx k n) := by
  refine shapeCast_apply x h _ _ ?_
  rw [Shape.rowMajor_val_four, Shape.rowMajor_val_three]
  show ((dy.val * 3 + dx.val) * 256 + k.val) * N + n.val = ((3 * dy.val + dx.val) * 256 + k.val) * N + n.val
  rw [Nat.mul_comm dy.val 3]

/-- A row of biases, spread over the grid. -/
theorem bias_row {H : ℕ} (x : (⟨2, ![4, 256]⟩ : Shape).Idx → EReal) (i : Fin 4)
    (h1 : (⟨2, ![4, 256]⟩ : Shape).Slices ![i.val, 0] ⟨2, ![1, 256]⟩) (h2 : (⟨2, ![1, 256]⟩ : Shape).ShapeCasts ⟨1, ![256]⟩)
    (h3 : (⟨1, ![256]⟩ : Shape).BroadcastsInDim ⟨4, ![1, 1, 1, 256]⟩ ![3])
    (h4 : (⟨4, ![1, 1, 1, 256]⟩ : Shape).BroadcastsInDim ⟨4, ![2, H, H, 256]⟩ ![0, 1, 2, 3]) (b : Fin 2) (y v : Fin H) (k : Fin 256) :
    broadcastInDim ⟨4, ![2, H, H, 256]⟩ ![0, 1, 2, 3] h4 (broadcastInDim ⟨4, ![1, 1, 1, 256]⟩ ![3] h3
      (shapeCast ⟨1, ![256]⟩ (extractStridedSlice ⟨2, ![1, 256]⟩ ![i.val, 0] x h1) h2)) (ix4 b y v k) = x (ix2 i k) := by
  refine (broadcastInDim_apply ![0, 1, 2, 3] h4 _ (ix4 b y v k) (ix4 0 0 0 k) fun a => ?_).trans ?_
  · match a with
    | ⟨0, _⟩ => rfl
    | ⟨1, _⟩ => rfl
    | ⟨2, _⟩ => rfl
    | ⟨3, _⟩ => rfl
  refine (broadcastInDim_apply ![3] h3 _ (ix4 0 0 0 k) (ix1 k) fun a => ?_).trans ?_
  · match a with
    | ⟨0, _⟩ => rfl
  refine (shapeCast_apply _ h2 (ix1 k) (ix2 0 k) ?_).trans ?_
  · rw [Shape.rowMajor_val_one, Shape.rowMajor_val_two]
    show 0 * 256 + k.val = k.val
    omega
  refine extractStridedSlice_apply _ _ h1 (ix2 0 k) (ix2 i k) fun a => ?_
  match a with
  | ⟨0, _⟩ => rfl
  | ⟨1, _⟩ => exact (Nat.zero_add _).symm

/-- The last biases, spread over the grid. -/
theorem bias_last {H N : ℕ} (hN : N ≠ 1) (x : (⟨1, ![N]⟩ : Shape).Idx → EReal)
    (h3 : (⟨1, ![N]⟩ : Shape).BroadcastsInDim ⟨4, ![1, 1, 1, N]⟩ ![3])
    (h4 : (⟨4, ![1, 1, 1, N]⟩ : Shape).BroadcastsInDim ⟨4, ![2, H, H, N]⟩ ![0, 1, 2, 3]) (b : Fin 2) (y v : Fin H) (k : Fin N) :
    broadcastInDim ⟨4, ![2, H, H, N]⟩ ![0, 1, 2, 3] h4 (broadcastInDim ⟨4, ![1, 1, 1, N]⟩ ![3] h3 x) (ix4 b y v k) = x (ix1 k) := by
  refine (broadcastInDim_apply ![0, 1, 2, 3] h4 _ (ix4 b y v k) (ix4 0 0 0 k) fun a => ?_).trans ?_
  · match a with
    | ⟨0, _⟩ => rfl
    | ⟨1, _⟩ => rfl
    | ⟨2, _⟩ => rfl
    | ⟨3, _⟩ => exact (if_neg hN).symm
  refine broadcastInDim_apply ![3] h3 _ (ix4 0 0 0 k) (ix1 k) fun a => ?_
  match a with
  | ⟨0, _⟩ => exact (if_neg hN).symm

/-- The layers' weights with the taps numbered in a row. -/
theorem reshape_w4 (x : (⟨5, ![4, 3, 3, 256, 256]⟩ : Shape).Idx → EReal)
    (h : (⟨5, ![4, 3, 3, 256, 256]⟩ : Shape).ShapeCasts ⟨4, ![4, 9, 256, 256]⟩) (i : Fin 4) (dy dx : Fin 3) (k n : Fin 256) :
    shapeCast ⟨4, ![4, 9, 256, 256]⟩ x h (ix4 i ⟨3 * dy.val + dx.val, by omega⟩ k n) = x (ix5 i dy dx k n) := by
  refine shapeCast_apply x h _ _ ?_
  rw [Shape.rowMajor_val_four, Shape.rowMajor_val_five]
  show (((i.val * 3 + dy.val) * 3 + dx.val) * 256 + k.val) * 256 + n.val = ((i.val * 9 + (3 * dy.val + dx.val)) * 256 + k.val) * 256 + n.val
  omega

/-- A bordered grid, read at a place. -/
theorem pad_grid {H w : ℕ} (hw : w = H + 2) (x : FVec Ideal ⟨4, ![2, H, H, 256]⟩ .f32) (z : FVec Ideal ⟨0, ![]⟩ .f32)
    (hp : (⟨4, ![2, H, H, 256]⟩ : Shape).Pads ![0, 1, 1, 0] ![0, 1, 1, 0] ![0, 0, 0, 0] ⟨4, ![2, w, w, 256]⟩)
    (hu : 0 < (⟨0, ![]⟩ : Shape).numel) (b : Fin 2) (y : Fin w) (v : Fin w) (k : Fin 256) :
    pad ⟨4, ![2, w, w, 256]⟩ ![0, 1, 1, 0] ![0, 1, 1, 0] ![0, 0, 0, 0] x z hp hu (ix4 b y v k)
      = if h : (1 ≤ y.val ∧ y.val < 1 + H) ∧ 1 ≤ v.val ∧ v.val < 1 + H then
          x (ix4 b ⟨y.val - 1, by omega⟩ ⟨v.val - 1, by omega⟩ k) else z (Shape.Idx.first hu) := by
  by_cases h : (1 ≤ y.val ∧ y.val < 1 + H) ∧ 1 ≤ v.val ∧ v.val < 1 + H
  · rw [dif_pos h, pad_apply, dif_pos]
    · refine congrArg x (funext fun a => Fin.ext ?_)
      match a with
      | ⟨0, _⟩ => show (b.val - 0) / 1 = b.val; omega
      | ⟨1, _⟩ => show (y.val - 1) / 1 = y.val - 1; omega
      | ⟨2, _⟩ => show (v.val - 1) / 1 = v.val - 1; omega
      | ⟨3, _⟩ => show (k.val - 0) / 1 = k.val; omega
    · intro a
      match a with
      | ⟨0, _⟩ => show 0 ≤ b.val ∧ (b.val - 0) % 1 = 0 ∧ (b.val - 0) / 1 < 2; omega
      | ⟨1, _⟩ => show 1 ≤ y.val ∧ (y.val - 1) % 1 = 0 ∧ (y.val - 1) / 1 < H; omega
      | ⟨2, _⟩ => show 1 ≤ v.val ∧ (v.val - 1) % 1 = 0 ∧ (v.val - 1) / 1 < H; omega
      | ⟨3, _⟩ => show 0 ≤ k.val ∧ (k.val - 0) % 1 = 0 ∧ (k.val - 0) / 1 < 256; omega
  · rw [dif_neg h, pad_apply, dif_neg]
    intro hh
    have h1 : 1 ≤ y.val ∧ (y.val - 1) % 1 = 0 ∧ (y.val - 1) / 1 < H := hh 1
    have h2 : 1 ≤ v.val ∧ (v.val - 1) % 1 = 0 ∧ (v.val - 1) / 1 < H := hh 2
    omega

end Cert.Rows
-- ==== Proof.Value.RefTower.lean ====
/-
  One layer of the reference and its whole tower, as the printed operations, and what they compute over grids.
-/
module

public import proofs.«01_k».proof.Proof.Value.RefTaps

@[expose] public section

noncomputable section

namespace Cert.Rows

open Idealize.ShloMosaic

/-- What the shapes of one convolution over a grid need. -/
structure Sizes (H w N : ℕ) : Prop where
  side : w = H + 2
  ne : N ≠ 1
  dot : DotDims.WF ⟨4, ![2, H, H, 256]⟩ ⟨2, ![256, N]⟩ ⟨4, ![2, H, H, N]⟩ [3] [0] [0, 1, 2] [1] [] []
  cut : ∀ dy dx : Fin 3, (⟨4, ![2, w, w, 256]⟩ : Shape).Slices ![0, dy.val, dx.val, 0] ⟨4, ![2, H, H, 256]⟩
  tap : ∀ dy dx : Fin 3, (⟨4, ![3, 3, 256, N]⟩ : Shape).Slices ![dy.val, dx.val, 0, 0] ⟨4, ![1, 1, 256, N]⟩
  mat : (⟨4, ![1, 1, 256, N]⟩ : Shape).ShapeCasts ⟨2, ![256, N]⟩
  fill : (⟨0, ![]⟩ : Shape).BroadcastsInDim ⟨4, ![2, H, H, N]⟩ ![]
  one : (⟨1, ![N]⟩ : Shape).BroadcastsInDim ⟨4, ![1, 1, 1, N]⟩ ![3]
  spread : (⟨4, ![1, 1, 1, N]⟩ : Shape).BroadcastsInDim ⟨4, ![2, H, H, N]⟩ ![0, 1, 2, 3]

/-- What the shapes of one layer need besides. -/
structure Layers (H w : ℕ) : Prop where
  conv : Sizes H w 256
  layer : ∀ i : Fin 4, (⟨5, ![4, 3, 3, 256, 256]⟩ : Shape).Slices ![i.val, 0, 0, 0, 0] ⟨5, ![1, 3, 3, 256, 256]⟩
  drop : (⟨5, ![1, 3, 3, 256, 256]⟩ : Shape).ShapeCasts ⟨4, ![3, 3, 256, 256]⟩
  row : ∀ i : Fin 4, (⟨2, ![4, 256]⟩ : Shape).Slices ![i.val, 0] ⟨2, ![1, 256]⟩
  vec : (⟨2, ![1, 256]⟩ : Shape).ShapeCasts ⟨1, ![256]⟩
  border : (⟨4, ![2, H, H, 256]⟩ : Shape).Pads ![0, 1, 1, 0] ![0, 1, 1, 0] ![0, 0, 0, 0] ⟨4, ![2, w, w, 256]⟩

/-- The scalar's shape has its one element. -/
theorem unit_pos : 0 < (⟨0, ![]⟩ : Shape).numel := by decide

/-- The zeros the sums start from and are cut off at. -/
def zerosG {H w N : ℕ} (s : Sizes H w N) : FVec Ideal ⟨4, ![2, H, H, N]⟩ .f32 :=
  broadcastInDim ⟨4, ![2, H, H, N]⟩ ![] s.fill (constant (F := Ideal) ⟨0, ![]⟩ .f32 0x00000000#32)

/-- One shifted product. -/
def dotG {H w N : ℕ} (s : Sizes H w N) (P : FVec Ideal ⟨4, ![2, w, w, 256]⟩ .f32) (W : FVec Ideal ⟨4, ![3, 3, 256, N]⟩ .f32)
    (dy dx : Fin 3) : FVec Ideal ⟨4, ![2, H, H, N]⟩ .f32 :=
  Host.dotGeneral (gridDims H N s.dot) none (extractStridedSlice ⟨4, ![2, H, H, 256]⟩ ![0, dy.val, dx.val, 0] P (s.cut dy dx))
    (shapeCast ⟨2, ![256, N]⟩ (extractStridedSlice ⟨4, ![1, 1, 256, N]⟩ ![dy.val, dx.val, 0, 0] W (s.tap dy dx)) s.mat)

/-- The convolution: nine shifted products onto zero. -/
def sumG {H w N : ℕ} (s : Sizes H w N) (P : FVec Ideal ⟨4, ![2, w, w, 256]⟩ .f32) (W : FVec Ideal ⟨4, ![3, 3, 256, N]⟩ .f32) :
    FVec Ideal ⟨4, ![2, H, H, N]⟩ .f32 :=
  addf (addf (addf (addf (addf (addf (addf (addf (addf (zerosG s) (dotG s P W 0 0)) (dotG s P W 0 1)) (dotG s P W 0 2))
    (dotG s P W 1 0)) (dotG s P W 1 1)) (dotG s P W 1 2)) (dotG s P W 2 0)) (dotG s P W 2 1)) (dotG s P W 2 2)

/-- One layer's weights. -/
def weightG {H w : ℕ} (l : Layers H w) (i : Fin 4) (W : FVec Ideal ⟨5, ![4, 3, 3, 256, 256]⟩ .f32) : FVec Ideal ⟨4, ![3, 3, 256, 256]⟩ .f32 :=
  shapeCast ⟨4, ![3, 3, 256, 256]⟩ (extractStridedSlice ⟨5, ![1, 3, 3, 256, 256]⟩ ![i.val, 0, 0, 0, 0] W (l.layer i)) l.drop

/-- One layer: convolution, bias, cut-off, border. -/
def stepG {H w : ℕ} (l : Layers H w) (i : Fin 4) (W : FVec Ideal ⟨5, ![4, 3, 3, 256, 256]⟩ .f32) (B : FVec Ideal ⟨2, ![4, 256]⟩ .f32)
    (P : FVec Ideal ⟨4, ![2, w, w, 256]⟩ .f32) : FVec Ideal ⟨4, ![2, w, w, 256]⟩ .f32 :=
  pad ⟨4, ![2, w, w, 256]⟩ ![0, 1, 1, 0] ![0, 1, 1, 0] ![0, 0, 0, 0]
    (maximumf (addf (sumG l.conv P (weightG l i W))
      (broadcastInDim ⟨4, ![2, H, H, 256]⟩ ![0, 1, 2, 3] l.conv.spread (broadcastInDim ⟨4, ![1, 1, 1, 256]⟩ ![3] l.conv.one
        (shapeCast ⟨1, ![256]⟩ (extractStridedSlice ⟨2, ![1, 256]⟩ ![i.val, 0] B (l.row i)) l.vec)))) (zerosG l.conv))
    (sitofp (F := Ideal) .f32 (constantI ⟨0, ![]⟩ 32 0#32)) l.border unit_pos

/-- The last convolution with its bias. -/
def lastG {H w N : ℕ} (s : Sizes H w N) (W : FVec Ideal ⟨4, ![3, 3, 256, N]⟩ .f32) (B : FVec Ideal ⟨1, ![N]⟩ .f32)
    (P : FVec Ideal ⟨4, ![2, w, w, 256]⟩ .f32) : FVec Ideal ⟨4, ![2, H, H, N]⟩ .f32 :=
  addf (sumG s P W) (broadcastInDim ⟨4, ![2, H, H, N]⟩ ![0, 1, 2, 3] s.spread (broadcastInDim ⟨4, ![1, 1, 1, N]⟩ ![3] s.one B))

theorem zerosG_apply {H w N : ℕ} (s : Sizes H w N) (j) : zerosG s j = 0 := Ideal.ofBits_zero_f32

theorem dotG_apply {H w N : ℕ} (s : Sizes H w N) (P : FVec Ideal ⟨4, ![2, w, w, 256]⟩ .f32) (W : FVec Ideal ⟨4, ![3, 3, 256, N]⟩ .f32)
    (V : ℕ → ℕ → EReal) (dy dx : Fin 3) (hV : ∀ (k : Fin 256) (n : Fin N), V k.val n.val = W (ix4 dy dx k n)) (b : Fin 2) (y v : Fin H) (n : Fin N) :
    dotG s P W dy dx (ix4 b y v n) = tapG (nat4 P) V b.val (dy.val + y.val) (dx.val + v.val) n.val := by
  have hs := s.side
  unfold dotG tapG
  refine (dot_grid s.dot _ _ b y v n).trans (Finset.sum_congr rfl fun k _ => ?_)
  have e1 : extractStridedSlice ⟨4, ![2, H, H, 256]⟩ ![0, dy.val, dx.val, 0] P (s.cut dy dx) (ix4 b y v k)
      = nat4 P b.val (dy.val + y.val) (dx.val + v.val) k.val := by
    refine (extractStridedSlice_apply _ P (s.cut dy dx) (ix4 b y v k)
      (ix4 b ⟨dy.val + y.val, by omega⟩ ⟨dx.val + v.val, by omega⟩ k) fun a => ?_).trans ?_
    · match a with
      | ⟨0, _⟩ => exact (Nat.zero_add _).symm
      | ⟨1, _⟩ => rfl
      | ⟨2, _⟩ => rfl
      | ⟨3, _⟩ => exact (Nat.zero_add _).symm
    · exact (nat4_ix P b ⟨dy.val + y.val, by omega⟩ ⟨dx.val + v.val, by omega⟩ k).symm
  exact congrArg₂ (· * ·) e1 ((cast_wf W dy dx (s.tap dy dx) s.mat k n).trans (hV k n).symm)

theorem sumG_apply {H w N : ℕ} (s : Sizes H w N) (P : FVec Ideal ⟨4, ![2, w, w, 256]⟩ .f32) (W : FVec Ideal ⟨4, ![3, 3, 256, N]⟩ .f32)
    (V : ℕ → ℕ → ℕ → EReal)
    (hV : ∀ (dy dx : Fin 3) (k : Fin 256) (n : Fin N), V (3 * dy.val + dx.val) k.val n.val = W (ix4 dy dx k n)) (b : Fin 2) (y v : Fin H) (n : Fin N) :
    sumG s P W (ix4 b y v n) = convG (nat4 P) V b.val y.val v.val n.val := by
  have h := fun dy dx : Fin 3 => dotG_apply s P W (V (3 * dy.val + dx.val)) dy dx (hV dy dx) b y v n
  show zerosG s _ + dotG s P W 0 0 _ + dotG s P W 0 1 _ + dotG s P W 0 2 _ + dotG s P W 1 0 _ + dotG s P W 1 1 _ + dotG s P W 1 2 _
    + dotG s P W 2 0 _ + dotG s P W 2 1 _ + dotG s P W 2 2 _ = _
  rw [zerosG_apply, zero_add, h, h, h, h, h, h, h, h, h]
  rfl

theorem nat4_lt {a b c d : ℕ} (x : (⟨4, ![a, b, c, d]⟩ : Shape).Idx → EReal) {i j k l : ℕ} (hi : i < a) (hj : j < b) (hk : k < c) (hl : l < d) :
    nat4 x i j k l = x (ix4 ⟨i, hi⟩ ⟨j, hj⟩ ⟨k, hk⟩ ⟨l, hl⟩) := nat4_ix x ⟨i, hi⟩ ⟨j, hj⟩ ⟨k, hk⟩ ⟨l, hl⟩

/-- One layer of the reference is one layer over the grid. -/
theorem stepG_apply {H w : ℕ} (l : Layers H w) (i : Fin 4) (W : FVec Ideal ⟨5, ![4, 3, 3, 256, 256]⟩ .f32) (B : FVec Ideal ⟨2, ![4, 256]⟩ .f32)
    (P : FVec Ideal ⟨4, ![2, w, w, 256]⟩ .f32) (hr : (⟨5, ![4, 3, 3, 256, 256]⟩ : Shape).ShapeCasts ⟨4, ![4, 9, 256, 256]⟩)
    {b y x k : ℕ} (hb : b < 2) (hy : y < w) (hx : x < w) (hk : k < 256) :
    nat4 (stepG l i W B P) b y x k
      = layerG H (nat4 (shapeCast ⟨4, ![4, 9, 256, 256]⟩ W hr) i.val) (nat2 B i.val) (nat4 P) b y x k := by
  rw [nat4_lt _ hb hy hx hk]
  unfold stepG layerG
  refine (pad_grid l.conv.side _ _ l.border unit_pos ⟨b, hb⟩ ⟨y, hy⟩ ⟨x, hx⟩ ⟨k, hk⟩).trans ?_
  by_cases h : (1 ≤ y ∧ y < 1 + H) ∧ 1 ≤ x ∧ x < 1 + H
  · rw [dif_pos h, if_pos h]
    refine congrArg₂ max (congrArg₂ (· + ·) ?_ ?_) (zerosG_apply _ _)
    · refine sumG_apply l.conv P (weightG l i W) (nat4 (shapeCast ⟨4, ![4, 9, 256, 256]⟩ W hr) i.val) (fun dy dx k n => ?_) ⟨b, hb⟩ _ _ ⟨k, hk⟩
      refine (nat4_ix _ i ⟨3 * dy.val + dx.val, by omega⟩ k n).trans ((reshape_w4 W hr i dy dx k n).trans (weight_at W i dy dx (l.layer i) l.drop k n).symm)
    · refine (bias_row B i (l.row i) l.vec l.conv.one l.conv.spread ⟨b, hb⟩ _ _ ⟨k, hk⟩).trans ?_
      exact (nat2_ix B i ⟨k, hk⟩).symm
  · rw [dif_neg h, if_neg h]
    show ((((0#32 : BitVec 32).toInt : ℝ)) : EReal) = 0
    simp

/-- The reference's last convolution is the grid's, with its bias. -/
theorem lastG_apply {H w N : ℕ} (s : Sizes H w N) (W : FVec Ideal ⟨4, ![3, 3, 256, N]⟩ .f32) (B : FVec Ideal ⟨1, ![N]⟩ .f32)
    (P : FVec Ideal ⟨4, ![2, w, w, 256]⟩ .f32) (hr : (⟨4, ![3, 3, 256, N]⟩ : Shape).ShapeCasts ⟨3, ![9, 256, N]⟩)
    (hq : (⟨1, ![N]⟩ : Shape).ShapeCasts ⟨2, ![1, N]⟩) (b : Fin 2) (y x : Fin H) (n : Fin N) :
    lastG s W B P (ix4 b y x n)
      = convG (nat4 P) (nat3 (shapeCast ⟨3, ![9, 256, N]⟩ W hr)) b.val y.val x.val n.val + nat2 (shapeCast ⟨2, ![1, N]⟩ B hq) 0 n.val := by
  unfold lastG
  refine congrArg₂ (· + ·) ?_ ?_
  · refine sumG_apply s P W (nat3 (shapeCast ⟨3, ![9, 256, N]⟩ W hr)) (fun dy dx k n => ?_) b y x n
    exact (nat3_ix _ ⟨3 * dy.val + dx.val, by omega⟩ k n).trans (reshape_wf W hr dy dx k n)
  · refine (bias_last s.ne B s.one s.spread b y x n).trans ?_
    refine Eq.trans ?_ (nat2_ix _ (0 : Fin 1) n).symm
    refine (shapeCast_apply B hq (ix2 0 n) (ix1 n) ?_).symm
    rw [Shape.rowMajor_val_one, Shape.rowMajor_val_two]
    show n.val = 0 * N + n.val
    omega

/-- The reference's tower. -/
def refG {H w N : ℕ} (l : Layers H w) (s : Sizes H w N) (W : FVec Ideal ⟨5, ![4, 3, 3, 256, 256]⟩ .f32) (B : FVec Ideal ⟨2, ![4, 256]⟩ .f32)
    (Wf : FVec Ideal ⟨4, ![3, 3, 256, N]⟩ .f32) (Bf : FVec Ideal ⟨1, ![N]⟩ .f32) (P : FVec Ideal ⟨4, ![2, w, w, 256]⟩ .f32) :
    FVec Ideal ⟨4, ![2, H, H, N]⟩ .f32 :=
  lastG s Wf Bf (stepG l 3 W B (stepG l 2 W B (stepG l 1 W B (stepG l 0 W B P))))

/-- A flat table of a grid stays one when the grid is given by other values in range. -/
theorem Flat.congr {w : ℕ} {A : ℕ → ℕ → EReal} {P Q : ℕ → ℕ → ℕ → ℕ → EReal} (h : Flat w A P)
    (hPQ : ∀ {b y x k}, b < 2 → y < w → x < w → k < 256 → Q b y x k = P b y x k) : Flat w A Q :=
  fun b y x k hb hy hx hk => (h b y x k hb hy hx hk).trans (hPQ hb hy hx hk).symm

/-- The flat tower, at the row of an inner place, is the reference's tower there. -/
theorem tower_ref {R N H w : ℕ} (hH : Side H) (l : Layers H w) (s : Sizes H w N) (W : FVec Ideal ⟨5, ![4, 3, 3, 256, 256]⟩ .f32)
    (B : FVec Ideal ⟨2, ![4, 256]⟩ .f32) (Wf : FVec Ideal ⟨4, ![3, 3, 256, N]⟩ .f32) (Bf : FVec Ideal ⟨1, ![N]⟩ .f32)
    (P : FVec Ideal ⟨4, ![2, w, w, 256]⟩ .f32) (hr : (⟨5, ![4, 3, 3, 256, 256]⟩ : Shape).ShapeCasts ⟨4, ![4, 9, 256, 256]⟩)
    (hf : (⟨4, ![3, 3, 256, N]⟩ : Shape).ShapeCasts ⟨3, ![9, 256, N]⟩) (hq : (⟨1, ![N]⟩ : Shape).ShapeCasts ⟨2, ![1, N]⟩)
    {x0 : (⟨2, ![R, 256]⟩ : Shape).Idx → EReal} {x5 : (⟨2, ![R, 1]⟩ : Shape).Idx → EReal}
    (hP : Flat w (nat2 x0) (nat4 P)) (hm : Masks H (fun r => nat2 x5 r 0)) (b : Fin 2) (y x : Fin H) (n : Fin N) :
    tower (H + 2) (H + 3) (2 * ((H + 2) * (H + 2)) - (H + 3)) x0 (shapeCast ⟨4, ![4, 9, 256, 256]⟩ W hr) B
        (shapeCast ⟨3, ![9, 256, N]⟩ Wf hf) (shapeCast ⟨2, ![1, N]⟩ Bf hq) x5 (b.val * ((H + 2) * (H + 2)) + y.val * (H + 2) + x.val) n.val
      = refG l s W B Wf Bf P (ix4 b y x n) := by
  obtain rfl := l.conv.side
  unfold refG
  rw [lastG_apply s Wf Bf _ hf hq]
  unfold tower
  have step : ∀ (i : Fin 4) (A : ℕ → ℕ → EReal) (Q : FVec Ideal ⟨4, ![2, H + 2, H + 2, 256]⟩ .f32), Flat (H + 2) A (nat4 Q) →
      Flat (H + 2) (layer (H + 2) (H + 3) (2 * ((H + 2) * (H + 2)) - (H + 3)) (nat4 (shapeCast ⟨4, ![4, 9, 256, 256]⟩ W hr) i.val) (nat2 B i.val)
        (fun r => nat2 x5 r 0) A) (nat4 (stepG l i W B Q)) := fun i A Q h =>
    (layer_flat hH h _ _ hm).congr fun hb hy hx hk => stepG_apply l i W B Q hr hb hy hx hk
  exact congrArg (· + nat2 (shapeCast ⟨2, ![1, N]⟩ Bf hq) 0 n.val)
    (conv_flat hH (step 3 _ _ (step 2 _ _ (step 1 _ _ (step 0 _ _ hP)))) _ n.val b.2 y.2 x.2)

end Cert.Rows
-- ==== Proof.Value.RefChain.lean ====
/-
  The reference's printed values are the towers of RefTower.lean: six of them, one for each head and level.
-/
module

public import proofs.«01_k».proof.Proof.Value.RefTower
public import proofs.«01_k».proof.Proof.Gen.ReferenceIdeal.Run

@[expose] public section

set_option maxRecDepth 16384

noncomputable section

namespace Cert.ReferenceIdeal.Tower

open Idealize.ShloMosaic Cert.ReferenceIdeal Cert.ReferenceIdeal.Gen Cert.ReferenceIdeal.Value Cert.Rows

/-- The shapes of one convolution of the reference. -/
theorem sizes28_256 : Sizes 28 30 256 where
  side := rfl
  ne := by decide
  dot := dot_S2x28x28x256_S256x256_S2x28x28x256_3_0_012_1_n_n_wf
  cut := by decide
  tap := by decide
  mat := shapeCasts_S1x1x256x256_S256x256
  fill := bcast_S_S2x28x28x256
  one := bcast_S256_S1x1x1x256_3
  spread := bcast_S1x1x1x256_S2x28x28x256_0_1_2_3

/-- The shapes of one convolution of the reference. -/
theorem sizes28_720 : Sizes 28 30 720 where
  side := rfl
  ne := by decide
  dot := dot_S2x28x28x256_S256x720_S2x28x28x720_3_0_012_1_n_n_wf
  cut := by decide
  tap := by decide
  mat := shapeCasts_S1x1x256x720_S256x720
  fill := bcast_S_S2x28x28x720
  one := bcast_S720_S1x1x1x720_3
  spread := bcast_S1x1x1x720_S2x28x28x720_0_1_2_3

/-- The shapes of one convolution of the reference. -/
theorem sizes28_36 : Sizes 28 30 36 where
  side := rfl
  ne := by decide
  dot := dot_S2x28x28x256_S256x36_S2x28x28x36_3_0_012_1_n_n_wf
  cut := by decide
  tap := by decide
  mat := shapeCasts_S1x1x256x36_S256x36
  fill := bcast_S_S2x28x28x36
  one := bcast_S36_S1x1x1x36_3
  spread := bcast_S1x1x1x36_S2x28x28x36_0_1_2_3

/-- The shapes of one layer of the reference. -/
theorem layers28 : Layers 28 30 where
  conv := sizes28_256
  layer := by decide
  drop := shapeCasts_S1x3x3x256x256_S3x3x256x256
  row := by decide
  vec := shapeCasts_S1x256_S256
  border := pads_S2x28x28x256_S2x30x30x256_000_110_110_000

/-- The shapes of one convolution of the reference. -/
theorem sizes14_256 : Sizes 14 16 256 where
  side := rfl
  ne := by decide
  dot := dot_S2x14x14x256_S256x256_S2x14x14x256_3_0_012_1_n_n_wf
  cut := by decide
  tap := by decide
  mat := shapeCasts_S1x1x256x256_S256x256
  fill := bcast_S_S2x14x14x256
  one := bcast_S256_S1x1x1x256_3
  spread := bcast_S1x1x1x256_S2x14x14x256_0_1_2_3

/-- The shapes of one convolution of the reference. -/
theorem sizes14_720 : Sizes 14 16 720 where
  side := rfl
  ne := by decide
  dot := dot_S2x14x14x256_S256x720_S2x14x14x720_3_0_012_1_n_n_wf
  cut := by decide
  tap := by decide
  mat := shapeCasts_S1x1x256x720_S256x720
  fill := bcast_S_S2x14x14x720
  one := bcast_S720_S1x1x1x720_3
  spread := bcast_S1x1x1x720_S2x14x14x720_0_1_2_3

/-- The shapes of one convolution of the reference. -/
theorem sizes14_36 : Sizes 14 16 36 where
  side := rfl
  ne := by decide
  dot := dot_S2x14x14x256_S256x36_S2x14x14x36_3_0_012_1_n_n_wf
  cut := by decide
  tap := by decide
  mat := shapeCasts_S1x1x256x36_S256x36
  fill := bcast_S_S2x14x14x36
  one := bcast_S36_S1x1x1x36_3
  spread := bcast_S1x1x1x36_S2x14x14x36_0_1_2_3

/-- The shapes of one layer of the reference. -/
theorem layers14 : Layers 14 16 where
  conv := sizes14_256
  layer := by decide
  drop := shapeCasts_S1x3x3x256x256_S3x3x256x256
  row := by decide
  vec := shapeCasts_S1x256_S256
  border := pads_S2x14x14x256_S2x16x16x256_000_110_110_000

/-- The shapes of one convolution of the reference. -/
theorem sizes7_256 : Sizes 7 9 256 where
  side := rfl
  ne := by decide
  dot := dot_S2x7x7x256_S256x256_S2x7x7x256_3_0_012_1_n_n_wf
  cut := by decide
  tap := by decide
  mat := shapeCasts_S1x1x256x256_S256x256
  fill := bcast_S_S2x7x7x256
  one := bcast_S256_S1x1x1x256_3
  spread := bcast_S1x1x1x256_S2x7x7x256_0_1_2_3

/-- The shapes of one convolution of the reference. -/
theorem sizes7_720 : Sizes 7 9 720 where
  side := rfl
  ne := by decide
  dot := dot_S2x7x7x256_S256x720_S2x7x7x720_3_0_012_1_n_n_wf
  cut := by decide
  tap := by decide
  mat := shapeCasts_S1x1x256x720_S256x720
  fill := bcast_S_S2x7x7x720
  one := bcast_S720_S1x1x1x720_3
  spread := bcast_S1x1x1x720_S2x7x7x720_0_1_2_3

/-- The shapes of one convolution of the reference. -/
theorem sizes7_36 : Sizes 7 9 36 where
  side := rfl
  ne := by decide
  dot := dot_S2x7x7x256_S256x36_S2x7x7x36_3_0_012_1_n_n_wf
  cut := by decide
  tap := by decide
  mat := shapeCasts_S1x1x256x36_S256x36
  fill := bcast_S_S2x7x7x36
  one := bcast_S36_S1x1x1x36_3
  spread := bcast_S1x1x1x36_S2x7x7x36_0_1_2_3

/-- The shapes of one layer of the reference. -/
theorem layers7 : Layers 7 9 where
  conv := sizes7_256
  layer := by decide
  drop := shapeCasts_S1x3x3x256x256_S3x3x256x256
  row := by decide
  vec := shapeCasts_S1x256_S256
  border := pads_S2x7x7x256_S2x9x9x256_000_110_110_000

/-- A level, bordered. -/
def padG {H w : ℕ} (l : Layers H w) (x : FVec Ideal ⟨4, ![2, H, H, 256]⟩ .f32) : FVec Ideal ⟨4, ![2, w, w, 256]⟩ .f32 :=
  pad ⟨4, ![2, w, w, 256]⟩ ![0, 1, 1, 0] ![0, 1, 1, 0] ![0, 0, 0, 0] x (sitofp (F := Ideal) .f32 (constantI ⟨0, ![]⟩ 32 0#32)) l.border unit_pos

/-- The four layers of a tower. -/
def fourG {H w : ℕ} (l : Layers H w) (W : FVec Ideal ⟨5, ![4, 3, 3, 256, 256]⟩ .f32) (B : FVec Ideal ⟨2, ![4, 256]⟩ .f32)
    (P : FVec Ideal ⟨4, ![2, w, w, 256]⟩ .f32) : FVec Ideal ⟨4, ![2, w, w, 256]⟩ .f32 :=
  stepG l 3 W B (stepG l 2 W B (stepG l 1 W B (stepG l 0 W B P)))

/-- Four layers, one after the other. -/
theorem four_of {H w : ℕ} {l : Layers H w} {W : FVec Ideal ⟨5, ![4, 3, 3, 256, 256]⟩ .f32} {B : FVec Ideal ⟨2, ![4, 256]⟩ .f32}
    {P P1 P2 P3 P4 : FVec Ideal ⟨4, ![2, w, w, 256]⟩ .f32} (h1 : P1 = stepG l 0 W B P) (h2 : P2 = stepG l 1 W B P1)
    (h3 : P3 = stepG l 2 W B P2) (h4 : P4 = stepG l 3 W B P3) : P4 = fourG l W B P := by
  rw [h4, h3, h2, h1]; rfl

variable (V : Valuation τ sig (Elt Ideal))

/-- The class layers of level 0. -/
theorem cls28 : res_main_v220 V = fourG layers28 (V (Proc.devRef .tc main_arg3)) (V (Proc.devRef .tc main_arg4))
    (padG layers28 (V (Proc.devRef .tc main_arg0))) :=
  four_of (P1 := res_main_v59 V) (P2 := res_main_v114 V) (P3 := res_main_v169 V) rfl rfl rfl rfl

/-- The box layers of level 0. -/
theorem box28 : res_main_v490 V = fourG layers28 (V (Proc.devRef .tc main_arg7)) (V (Proc.devRef .tc main_arg8))
    (padG layers28 (V (Proc.devRef .tc main_arg0))) :=
  four_of (P1 := res_main_v329 V) (P2 := res_main_v384 V) (P3 := res_main_v439 V) rfl rfl rfl rfl

/-- The class layers of level 1. -/
theorem cls14 : res_main_v762 V = fourG layers14 (V (Proc.devRef .tc main_arg3)) (V (Proc.devRef .tc main_arg4))
    (padG layers14 (V (Proc.devRef .tc main_arg1))) :=
  four_of (P1 := res_main_v601 V) (P2 := res_main_v656 V) (P3 := res_main_v711 V) rfl rfl rfl rfl

/-- The box layers of level 1. -/
theorem box14 : res_main_v1032 V = fourG layers14 (V (Proc.devRef .tc main_arg7)) (V (Proc.devRef .tc main_arg8))
    (padG layers14 (V (Proc.devRef .tc main_arg1))) :=
  four_of (P1 := res_main_v871 V) (P2 := res_main_v926 V) (P3 := res_main_v981 V) rfl rfl rfl rfl

/-- The class layers of level 2. -/
theorem cls7 : res_main_v1304 V = fourG layers7 (V (Proc.devRef .tc main_arg3)) (V (Proc.devRef .tc main_arg4))
    (padG layers7 (V (Proc.devRef .tc main_arg2))) :=
  four_of (P1 := res_main_v1143 V) (P2 := res_main_v1198 V) (P3 := res_main_v1253 V) rfl rfl rfl rfl

/-- The box layers of level 2. -/
theorem box7 : res_main_v1574 V = fourG layers7 (V (Proc.devRef .tc main_arg7)) (V (Proc.devRef .tc main_arg8))
    (padG layers7 (V (Proc.devRef .tc main_arg2))) :=
  four_of (P1 := res_main_v1413 V) (P2 := res_main_v1468 V) (P3 := res_main_v1523 V) rfl rfl rfl rfl

/-- The class values of all levels. -/
theorem classes : res_main_v1626 V = concatenate S2x9261x80 1
    [⟨S2x7056x80, shapeCast S2x7056x80 (lastG sizes28_720 (V (Proc.devRef .tc main_arg5)) (V (Proc.devRef .tc main_arg6)) (res_main_v220 V)) shapeCasts_S2x28x28x720_S2x7056x80⟩,
     ⟨S2x1764x80, shapeCast S2x1764x80 (lastG sizes14_720 (V (Proc.devRef .tc main_arg5)) (V (Proc.devRef .tc main_arg6)) (res_main_v762 V)) shapeCasts_S2x14x14x720_S2x1764x80⟩,
     ⟨S2x441x80, shapeCast S2x441x80 (lastG sizes7_720 (V (Proc.devRef .tc main_arg5)) (V (Proc.devRef .tc main_arg6)) (res_main_v1304 V)) shapeCasts_S2x7x7x720_S2x441x80⟩]
    concatenates_S2x7056x80_S2x1764x80_S2x441x80_S2x9261x80_d1 := rfl

/-- The box values of all levels. -/
theorem boxes : res_main_v1627 V = concatenate S2x9261x4 1
    [⟨S2x7056x4, shapeCast S2x7056x4 (lastG sizes28_36 (V (Proc.devRef .tc main_arg9)) (V (Proc.devRef .tc main_arg10)) (res_main_v490 V)) shapeCasts_S2x28x28x36_S2x7056x4⟩,
     ⟨S2x1764x4, shapeCast S2x1764x4 (lastG sizes14_36 (V (Proc.devRef .tc main_arg9)) (V (Proc.devRef .tc main_arg10)) (res_main_v1032 V)) shapeCasts_S2x14x14x36_S2x1764x4⟩,
     ⟨S2x441x4, shapeCast S2x441x4 (lastG sizes7_36 (V (Proc.devRef .tc main_arg9)) (V (Proc.devRef .tc main_arg10)) (res_main_v1574 V)) shapeCasts_S2x7x7x36_S2x441x4⟩]
    concatenates_S2x7056x4_S2x1764x4_S2x441x4_S2x9261x4_d1 := rfl

end Cert.ReferenceIdeal.Tower

end
-- ==== Proof.Value.Blocks.lean ====
/-
  What the towers find in their arrays: each block is its whole array, and each array is a function of the arguments.
-/
module

public import proofs.«01_k».proof.Proof.Ideal.Host
public import proofs.«01_k».proof.Proof.Value.RefChain

@[expose] public section

set_option maxRecDepth 16384

noncomputable section

namespace Cert.KernelIdeal.Tower

open Cert.KernelIdeal Cert.KernelIdeal.Gen
open Idealize.ShloMosaic
open Idealize.ShloMosaic.TcCoe

section Whole

variable {F : FTy → Type} [FloatOps F]
variable (m : (ℓ : Loc nD τ sig) → Buf (Elt F) ℓ) (c : Dev nD)

/-- Every block of a tower starts at the origin of its array. -/
theorem index_zero : ∀ (p : Fin 6) (w : Fin (cfgs p).W) (t : Fin (cfgs p).grid.N) a, ((cfgs p).win w).index t a = 0 := by
  decide

/-- So an element of the block has the block's coordinates in the array. -/
theorem stays (p : Fin 6) (w : Fin (cfgs p).W) (t : Fin (cfgs p).grid.N)
    (j : (((cfgs p).win w).xblock ((cfgs p).grid.coords t)).Idx) (a : Fin ((cfgs p).win w).shape.rank) :
    ((((cfgs p).win w).rect t).emb j a : Nat) = j a :=
  Pipeline.Window.rect_emb_val_of_index_zero _ t a (index_zero p w t a) j

/-- A read through a map that keeps every coordinate is the array itself. -/
theorem same_of {S : Shape} {α : Type} {f g : S.Idx → α} {e : S.Idx → S.Idx} (he : ∀ j a, (e j a : Nat) = j a)
    (hg : ∀ j, g j = f (e j)) : g = f :=
  funext fun j => (hg j).trans (congrArg f (funext fun a => Fin.ext (he j a)))

theorem blk0 : blk m 0 c 0 t0_0 = VA m c main_v14 ∧ blk m 0 c 1 t0_0 = VA m c main_v4 ∧ blk m 0 c 2 t0_0 = VA m c main_arg4
    ∧ blk m 0 c 3 t0_0 = VA m c main_v8 ∧ blk m 0 c 4 t0_0 = VA m c main_v11 ∧ blk m 0 c 5 t0_0 = VA m c main_v0 :=
  ⟨same_of (stays 0 0 t0_0) fun _ => rfl, same_of (stays 0 1 t0_0) fun _ => rfl, same_of (stays 0 2 t0_0) fun _ => rfl,
    same_of (stays 0 3 t0_0) fun _ => rfl, same_of (stays 0 4 t0_0) fun _ => rfl, same_of (stays 0 5 t0_0) fun _ => rfl⟩

theorem blk1 : blk m 1 c 0 t1_0 = VA m c main_v14 ∧ blk m 1 c 1 t1_0 = VA m c main_v6 ∧ blk m 1 c 2 t1_0 = VA m c main_arg8
    ∧ blk m 1 c 3 t1_0 = VA m c main_v10 ∧ blk m 1 c 4 t1_0 = VA m c main_v12 ∧ blk m 1 c 5 t1_0 = VA m c main_v0 :=
  ⟨same_of (stays 1 0 t1_0) fun _ => rfl, same_of (stays 1 1 t1_0) fun _ => rfl, same_of (stays 1 2 t1_0) fun _ => rfl,
    same_of (stays 1 3 t1_0) fun _ => rfl, same_of (stays 1 4 t1_0) fun _ => rfl, same_of (stays 1 5 t1_0) fun _ => rfl⟩

theorem blk2 : blk m 2 c 0 t2_0 = VA m c main_v24 ∧ blk m 2 c 1 t2_0 = VA m c main_v4 ∧ blk m 2 c 2 t2_0 = VA m c main_arg4
    ∧ blk m 2 c 3 t2_0 = VA m c main_v8 ∧ blk m 2 c 4 t2_0 = VA m c main_v11 ∧ blk m 2 c 5 t2_0 = VA m c main_v1 :=
  ⟨same_of (stays 2 0 t2_0) fun _ => rfl, same_of (stays 2 1 t2_0) fun _ => rfl, same_of (stays 2 2 t2_0) fun _ => rfl,
    same_of (stays 2 3 t2_0) fun _ => rfl, same_of (stays 2 4 t2_0) fun _ => rfl, same_of (stays 2 5 t2_0) fun _ => rfl⟩

theorem blk3 : blk m 3 c 0 t3_0 = VA m c main_v24 ∧ blk m 3 c 1 t3_0 = VA m c main_v6 ∧ blk m 3 c 2 t3_0 = VA m c main_arg8
    ∧ blk m 3 c 3 t3_0 = VA m c main_v10 ∧ blk m 3 c 4 t3_0 = VA m c main_v12 ∧ blk m 3 c 5 t3_0 = VA m c main_v1 :=
  ⟨same_of (stays 3 0 t3_0) fun _ => rfl, same_of (stays 3 1 t3_0) fun _ => rfl, same_of (stays 3 2 t3_0) fun _ => rfl,
    same_of (stays 3 3 t3_0) fun _ => rfl, same_of (stays 3 4 t3_0) fun _ => rfl, same_of (stays 3 5 t3_0) fun _ => rfl⟩

theorem blk4 : blk m 4 c 0 t4_0 = VA m c main_v34 ∧ blk m 4 c 1 t4_0 = VA m c main_v4 ∧ blk m 4 c 2 t4_0 = VA m c main_arg4
    ∧ blk m 4 c 3 t4_0 = VA m c main_v8 ∧ blk m 4 c 4 t4_0 = VA m c main_v11 ∧ blk m 4 c 5 t4_0 = VA m c main_v2 :=
  ⟨same_of (stays 4 0 t4_0) fun _ => rfl, same_of (stays 4 1 t4_0) fun _ => rfl, same_of (stays 4 2 t4_0) fun _ => rfl,
    same_of (stays 4 3 t4_0) fun _ => rfl, same_of (stays 4 4 t4_0) fun _ => rfl, same_of (stays 4 5 t4_0) fun _ => rfl⟩

theorem blk5 : blk m 5 c 0 t5_0 = VA m c main_v34 ∧ blk m 5 c 1 t5_0 = VA m c main_v6 ∧ blk m 5 c 2 t5_0 = VA m c main_arg8
    ∧ blk m 5 c 3 t5_0 = VA m c main_v10 ∧ blk m 5 c 4 t5_0 = VA m c main_v12 ∧ blk m 5 c 5 t5_0 = VA m c main_v2 :=
  ⟨same_of (stays 5 0 t5_0) fun _ => rfl, same_of (stays 5 1 t5_0) fun _ => rfl, same_of (stays 5 2 t5_0) fun _ => rfl,
    same_of (stays 5 3 t5_0) fun _ => rfl, same_of (stays 5 4 t5_0) fun _ => rfl, same_of (stays 5 5 t5_0) fun _ => rfl⟩

end Whole

section Reads

variable (X : Valuation τ sig (Elt Ideal))

/-- The class weights, their two kernel axes made one. -/
theorem read0_4 : StableHlo.after hostOps0 X main_v4 = shapeCast (α := EReal) S4x9x256x256 (X main_arg3) shapeCasts_S4x3x3x256x256_S4x9x256x256 := by
  after_reads_simp; rfl
theorem read0_6 : StableHlo.after hostOps0 X main_v6 = shapeCast (α := EReal) S4x9x256x256 (X main_arg7) shapeCasts_S4x3x3x256x256_S4x9x256x256 := by
  after_reads_simp; rfl
theorem read0_8 : StableHlo.after hostOps0 X main_v8 = shapeCast (α := EReal) S9x256x720 (X main_arg5) shapeCasts_S3x3x256x720_S9x256x720 := by
  after_reads_simp; rfl
theorem read0_10 : StableHlo.after hostOps0 X main_v10 = shapeCast (α := EReal) S9x256x36 (X main_arg9) shapeCasts_S3x3x256x36_S9x256x36 := by
  after_reads_simp; rfl
theorem read0_11 : StableHlo.after hostOps0 X main_v11 = shapeCast (α := EReal) S1x720 (X main_arg6) shapeCasts_S720_S1x720 := by
  after_reads_simp; rfl
theorem read0_12 : StableHlo.after hostOps0 X main_v12 = shapeCast (α := EReal) S1x36 (X main_arg10) shapeCasts_S36_S1x36 := by
  after_reads_simp; rfl
theorem read0_0 : StableHlo.after hostOps0 X main_v0 = broadcastInDim (α := EReal) S1800x1 ![0] bcast_S1800_S1800x1_0 fun i => Ideal.ofBits .f32 (lit0 (S1800.rowMajor i)) := by
  after_reads_simp; rfl
theorem read0_1 : StableHlo.after hostOps0 X main_v1 = broadcastInDim (α := EReal) S512x1 ![0] bcast_S512_S512x1_0 fun i => Ideal.ofBits .f32 (lit1 (S512.rowMajor i)) := by
  after_reads_simp; rfl
theorem read0_2 : StableHlo.after hostOps0 X main_v2 = broadcastInDim (α := EReal) S162x1 ![0] bcast_S162_S162x1_0 fun i => Ideal.ofBits .f32 (lit2 (S162.rowMajor i)) := by
  after_reads_simp; rfl
theorem read0_c2 : StableHlo.after hostOps0 X main_cst_2 = fun i => Ideal.ofBits .f32 (lit3 (S9261x4.rowMajor i)) := by
  after_reads_simp; rfl
theorem read0_c : StableHlo.after hostOps0 X main_c = constantI S_ 32 0#32 := by
  after_reads_simp

/-- A level, padded and flattened. -/
theorem read_14 : StableHlo.after hostOps0_2 (StableHlo.after hostOps0_1 (StableHlo.after hostOps0 X)) main_v14
    = shapeCast S1800x256 (ReferenceIdeal.Tower.padG ReferenceIdeal.Tower.layers28 (X main_arg0)) shapeCasts_S2x30x30x256_S1800x256 := by
  after_reads_simp; rfl
theorem read_24 : StableHlo.after hostOps2_2 (StableHlo.after hostOps2_1 (StableHlo.after hostOps2 X)) main_v24
    = shapeCast S512x256 (ReferenceIdeal.Tower.padG ReferenceIdeal.Tower.layers14 (X main_arg1)) shapeCasts_S2x16x16x256_S512x256 := by
  after_reads_simp; rfl
theorem read_34 : StableHlo.after hostOps4_2 (StableHlo.after hostOps4_1 (StableHlo.after hostOps4 X)) main_v34
    = shapeCast S162x256 (ReferenceIdeal.Tower.padG ReferenceIdeal.Tower.layers7 (X main_arg2)) shapeCasts_S2x9x9x256_S162x256 := by
  after_reads_simp; rfl

end Reads

end Cert.KernelIdeal.Tower
-- ==== Proof.Value.Tables.lean ====
/-
  The literal tables: the masks that the kernel program passes to its towers are one inside and zero on the border, and
  the two programs have the same anchors.
-/
module

public import proofs.«01_k».proof.Proof.Gen.KernelIdeal.Launch
public import proofs.«01_k».proof.Proof.Gen.ReferenceIdeal.Run

@[expose] public section

set_option maxRecDepth 65536

noncomputable section

namespace Cert.Rows

open Idealize.ShloMosaic

/-- The first level's mask, entry by entry: one inside, zero on the border. -/
theorem mask_words28 : ∀ (b : Fin 2) (y x : Fin 30), Cert.KernelIdeal.lit0t (b.val * 900 + y.val * 30 + x.val)
    = if (1 ≤ y.val ∧ y.val < 29) ∧ 1 ≤ x.val ∧ x.val < 29 then 0x3F800000#32 else 0x00000000#32 := by decide +kernel

/-- The second level's. -/
theorem mask_words14 : ∀ (b : Fin 2) (y x : Fin 16), Cert.KernelIdeal.lit1t (b.val * 256 + y.val * 16 + x.val)
    = if (1 ≤ y.val ∧ y.val < 15) ∧ 1 ≤ x.val ∧ x.val < 15 then 0x3F800000#32 else 0x00000000#32 := by decide +kernel

theorem mask_row7 (b : Fin 2) (y x : Fin 9) : b.val * 81 + y.val * 9 + x.val < 162 := by omega

/-- The third level's. -/
theorem mask_words7 : ∀ (b : Fin 2) (y x : Fin 9), Cert.KernelIdeal.lit2 ⟨b.val * 81 + y.val * 9 + x.val, mask_row7 b y x⟩
    = if (1 ≤ y.val ∧ y.val < 8) ∧ 1 ≤ x.val ∧ x.val < 8 then 0x3F800000#32 else 0x00000000#32 := by decide +kernel

/-- The two programs' anchors are the same words. -/
theorem anchor_words : Cert.KernelIdeal.lit3t = Cert.ReferenceIdeal.lit0t := by
  rfl

end Cert.Rows
-- ==== Proof.Value.Crop.lean ====
/-
  From the flat towers back to grids: the flattened border grid is a flat table, and the crop of a tower's rows is the
  reference's tower.
-/
module

public import proofs.«01_k».proof.Proof.Value.RefTower

@[expose] public section

noncomputable section

namespace Cert.Rows

open Idealize.ShloMosaic

/-- A bordered grid, flattened, is its flat table. -/
theorem flat_base {R w : ℕ} (hR : R = 2 * (w * w)) (P : (⟨4, ![2, w, w, 256]⟩ : Shape).Idx → EReal)
    (h : (⟨4, ![2, w, w, 256]⟩ : Shape).ShapeCasts ⟨2, ![R, 256]⟩) : Flat w (nat2 (shapeCast ⟨2, ![R, 256]⟩ P h)) (nat4 P) := by
  intro b y x k hb hy hx hk
  have hr : b * (w * w) + y * w + x < R := by
    have h1 : y * w + x < w * w := by nlinarith
    have h2 : b * (w * w) ≤ w * w := by nlinarith
    omega
  rw [nat4_lt P hb hy hx hk]
  refine (nat2_ix _ ⟨b * (w * w) + y * w + x, hr⟩ ⟨k, hk⟩).trans (shapeCast_apply P h _ _ ?_)
  rw [Shape.rowMajor_val_four, Shape.rowMajor_val_two]
  show ((b * w + y) * w + x) * 256 + k = (b * (w * w) + y * w + x) * 256 + k
  ring

/-- A mask column from its words. -/
theorem masks_of {R H : ℕ} (hR : R = 2 * ((H + 2) * (H + 2))) (x : (⟨2, ![R, 1]⟩ : Shape).Idx → EReal)
    (h : ∀ (b : Fin 2) (y v : Fin (H + 2)) (hr : b.val * ((H + 2) * (H + 2)) + y.val * (H + 2) + v.val < R),
      x (ix2 ⟨b.val * ((H + 2) * (H + 2)) + y.val * (H + 2) + v.val, hr⟩ 0)
        = Ideal.ofBits .f32 (if (1 ≤ y.val ∧ y.val < 1 + H) ∧ 1 ≤ v.val ∧ v.val < 1 + H then 0x3F800000#32 else 0x00000000#32)) :
    Masks H (fun r => nat2 x r 0) := by
  intro b y v hb hy hv
  have hr : b * ((H + 2) * (H + 2)) + y * (H + 2) + v < R := by
    have h1 : y * (H + 2) + v < (H + 2) * (H + 2) := by nlinarith
    have h2 : b * ((H + 2) * (H + 2)) ≤ (H + 2) * (H + 2) := by nlinarith
    omega
  refine (nat2_ix x ⟨_, hr⟩ (0 : Fin 1)).trans ((h ⟨b, hb⟩ ⟨y, hy⟩ ⟨v, hv⟩ hr).trans ?_)
  by_cases hin : (1 ≤ y ∧ y < 1 + H) ∧ 1 ≤ v ∧ v < 1 + H
  · rw [if_pos hin, if_pos hin]; exact Ideal.ofBits_one_f32
  · rw [if_neg hin, if_neg hin]; exact Ideal.ofBits_zero_f32

/-- The crop of a tower's rows is the reference's tower. -/
theorem crop_tower {R N H w : ℕ} (hH : Side H) (hR : R = 2 * (w * w)) (l : Layers H w) (s : Sizes H w N)
    (W : FVec Ideal ⟨5, ![4, 3, 3, 256, 256]⟩ .f32) (B : FVec Ideal ⟨2, ![4, 256]⟩ .f32)
    (Wf : FVec Ideal ⟨4, ![3, 3, 256, N]⟩ .f32) (Bf : FVec Ideal ⟨1, ![N]⟩ .f32) (P : FVec Ideal ⟨4, ![2, w, w, 256]⟩ .f32)
    (hr : (⟨5, ![4, 3, 3, 256, 256]⟩ : Shape).ShapeCasts ⟨4, ![4, 9, 256, 256]⟩)
    (hf : (⟨4, ![3, 3, 256, N]⟩ : Shape).ShapeCasts ⟨3, ![9, 256, N]⟩) (hq : (⟨1, ![N]⟩ : Shape).ShapeCasts ⟨2, ![1, N]⟩)
    (hp : (⟨4, ![2, w, w, 256]⟩ : Shape).ShapeCasts ⟨2, ![R, 256]⟩)
    {x5 : (⟨2, ![R, 1]⟩ : Shape).Idx → EReal} (hm : Masks H (fun r => nat2 x5 r 0)) (X : (⟨2, ![R, N]⟩ : Shape).Idx → EReal)
    (hX : ∀ i, H + 3 ≤ (i 0).val ∧ (i 0).val < 2 * ((H + 2) * (H + 2)) - (H + 3) →
      X i = tower (H + 2) (H + 3) (2 * ((H + 2) * (H + 2)) - (H + 3)) (shapeCast ⟨2, ![R, 256]⟩ P hp) (shapeCast ⟨4, ![4, 9, 256, 256]⟩ W hr) B
        (shapeCast ⟨3, ![9, 256, N]⟩ Wf hf) (shapeCast ⟨2, ![1, N]⟩ Bf hq) x5 ((i 0).val - (H + 3)) (i 1).val)
    (hc : (⟨2, ![R, N]⟩ : Shape).ShapeCasts ⟨4, ![2, w, w, N]⟩)
    (hs : (⟨4, ![2, w, w, N]⟩ : Shape).Slices ![0, 1, 1, 0] ⟨4, ![2, H, H, N]⟩) :
    extractStridedSlice ⟨4, ![2, H, H, N]⟩ ![0, 1, 1, 0] (shapeCast ⟨4, ![2, w, w, N]⟩ X hc) hs = refG l s W B Wf Bf P := by
  have hw := s.side
  funext j
  obtain ⟨b, y, x, n, rfl⟩ : ∃ (b : Fin 2) (y x : Fin H) (n : Fin N), j = ix4 b y x n := ⟨j 0, j 1, j 2, j 3, ValueIdx.eq_ix4 j⟩
  have hi := inner_row hH (b := b.val) (y := 1 + y.val) (x := 1 + x.val) b.2 (by omega) (by omega)
  have hlt : b.val * ((H + 2) * (H + 2)) + (1 + y.val) * (H + 2) + (1 + x.val) < R := by
    subst hw
    omega
  refine (extractStridedSlice_apply _ _ hs (ix4 b y x n) (ix4 b ⟨1 + y.val, by omega⟩ ⟨1 + x.val, by omega⟩ n) fun a => ?_).trans ?_
  · match a with
    | ⟨0, _⟩ => exact (Nat.zero_add _).symm
    | ⟨1, _⟩ => rfl
    | ⟨2, _⟩ => rfl
    | ⟨3, _⟩ => exact (Nat.zero_add _).symm
  refine (shapeCast_apply X hc _ (ix2 ⟨b.val * ((H + 2) * (H + 2)) + (1 + y.val) * (H + 2) + (1 + x.val), hlt⟩ n) ?_).trans ?_
  · rw [Shape.rowMajor_val_four, Shape.rowMajor_val_two]
    show (b.val * ((H + 2) * (H + 2)) + (1 + y.val) * (H + 2) + (1 + x.val)) * N + n.val = ((b.val * w + (1 + y.val)) * w + (1 + x.val)) * N + n.val
    rw [hw]; ring
  refine (hX _ hi.1).trans ?_
  refine Eq.trans (congrArg (fun r => tower (H + 2) (H + 3) (2 * ((H + 2) * (H + 2)) - (H + 3)) (shapeCast ⟨2, ![R, 256]⟩ P hp)
    (shapeCast ⟨4, ![4, 9, 256, 256]⟩ W hr) B (shapeCast ⟨3, ![9, 256, N]⟩ Wf hf) (shapeCast ⟨2, ![1, N]⟩ Bf hq) x5 r n.val) hi.2) ?_
  rw [Nat.add_sub_cancel_left, Nat.add_sub_cancel_left]
  exact tower_ref hH l s W B Wf Bf P hr hf hq (flat_base hR P hp) hm b y x n

end Cert.Rows
-- ==== Proof.Value.Arrays.lean ====
/-
  The towers' arrays over the extended reals, as functions of the arguments.
-/
module

public import proofs.«01_k».proof.Proof.Value.Blocks
public import proofs.«01_k».proof.Proof.Value.Tables
public import proofs.«01_k».proof.Proof.Value.Crop

@[expose] public section

set_option maxRecDepth 16384

noncomputable section

namespace Cert.KernelIdeal.Tower

open Cert.KernelIdeal Cert.KernelIdeal.Gen Cert.Rows
open Idealize.ShloMosaic
open Idealize.ShloMosaic.TcCoe

variable (m : (ℓ : Loc nD τ sig) → Buf (Elt Ideal) ℓ) (c : Dev nD)

/-- What only the first host stretch writes is in a tower's array as that stretch left it. -/
theorem VA_first (r : Ref sig .tc) (h : r ∉ hostOps0_2_W ++ (hostOps0_1_W ++ [main_v24, main_v34])) : VA m c r = V1 m c r := by
  simp only [List.mem_append, List.mem_cons, List.not_mem_nil, or_false, not_or] at h
  obtain ⟨h1, h2, h3, h4⟩ := h
  exact (VA_low m c r h3 h4).trans ((V3_of m c r (by simpa using h1)).trans (V2_of m c r (by simpa using h2)))

theorem VA_v4 : VA m c main_v4 = shapeCast (α := EReal) S4x9x256x256 (V0 m c main_arg3) shapeCasts_S4x3x3x256x256_S4x9x256x256 :=
  (VA_first m c _ (by decide)).trans (read0_4 (V0 m c))
theorem VA_v6 : VA m c main_v6 = shapeCast (α := EReal) S4x9x256x256 (V0 m c main_arg7) shapeCasts_S4x3x3x256x256_S4x9x256x256 :=
  (VA_first m c _ (by decide)).trans (read0_6 (V0 m c))
theorem VA_v8 : VA m c main_v8 = shapeCast (α := EReal) S9x256x720 (V0 m c main_arg5) shapeCasts_S3x3x256x720_S9x256x720 :=
  (VA_first m c _ (by decide)).trans (read0_8 (V0 m c))
theorem VA_v10 : VA m c main_v10 = shapeCast (α := EReal) S9x256x36 (V0 m c main_arg9) shapeCasts_S3x3x256x36_S9x256x36 :=
  (VA_first m c _ (by decide)).trans (read0_10 (V0 m c))
theorem VA_v11 : VA m c main_v11 = shapeCast (α := EReal) S1x720 (V0 m c main_arg6) shapeCasts_S720_S1x720 :=
  (VA_first m c _ (by decide)).trans (read0_11 (V0 m c))
theorem VA_v12 : VA m c main_v12 = shapeCast (α := EReal) S1x36 (V0 m c main_arg10) shapeCasts_S36_S1x36 :=
  (VA_first m c _ (by decide)).trans (read0_12 (V0 m c))
theorem VA_v0 : VA m c main_v0 = broadcastInDim (α := EReal) S1800x1 ![0] bcast_S1800_S1800x1_0 fun i => Ideal.ofBits .f32 (lit0 (S1800.rowMajor i)) :=
  (VA_first m c _ (by decide)).trans (read0_0 (V0 m c))
theorem VA_v1 : VA m c main_v1 = broadcastInDim (α := EReal) S512x1 ![0] bcast_S512_S512x1_0 fun i => Ideal.ofBits .f32 (lit1 (S512.rowMajor i)) :=
  (VA_first m c _ (by decide)).trans (read0_1 (V0 m c))
theorem VA_v2 : VA m c main_v2 = broadcastInDim (α := EReal) S162x1 ![0] bcast_S162_S162x1_0 fun i => Ideal.ofBits .f32 (lit2 (S162.rowMajor i)) :=
  (VA_first m c _ (by decide)).trans (read0_2 (V0 m c))
theorem VA_arg4 : VA m c main_arg4 = V0 m c main_arg4 :=
  (VA_first m c _ (by decide)).trans (V1_of m c _ (by decide))
theorem VA_arg8 : VA m c main_arg8 = V0 m c main_arg8 :=
  (VA_first m c _ (by decide)).trans (V1_of m c _ (by decide))

theorem VA_v14 : VA m c main_v14 = shapeCast S1800x256 (ReferenceIdeal.Tower.padG ReferenceIdeal.Tower.layers28 (V0 m c main_arg0)) shapeCasts_S2x30x30x256_S1800x256 :=
  (VA_low m c _ (by decide) (by decide)).trans (read_14 (V0 m c))

theorem V5_arg1 (o : Outs (F := Ideal)) : V5 m o c main_arg1 = V0 m c main_arg1 :=
  (V5_of m o c _ (by decide)).trans <| (V4_of m o c _ (by decide)).trans <| (V3_of m c _ (by decide)).trans <|
    (V2_of m c _ (by decide)).trans (V1_of m c _ (by decide))

theorem V10_arg2 (o : Outs (F := Ideal)) : V10 m o c main_arg2 = V0 m c main_arg2 :=
  (V10_of m o c _ (by decide)).trans <| (V9_of m o c _ (by decide)).trans <| (V8_low m o c _ (by decide)).trans <| (V3_of m c _ (by decide)).trans <|
    (V2_of m c _ (by decide)).trans (V1_of m c _ (by decide))

theorem VA_24 : VA m c main_v24 = shapeCast S512x256 (ReferenceIdeal.Tower.padG ReferenceIdeal.Tower.layers14 (V0 m c main_arg1)) shapeCasts_S2x16x16x256_S512x256 :=
  (VA_v24 m c).trans ((read_24 (V5 m (outs₀ m) c)).trans (by rw [V5_arg1]))

theorem VA_34 : VA m c main_v34 = shapeCast S162x256 (ReferenceIdeal.Tower.padG ReferenceIdeal.Tower.layers7 (V0 m c main_arg2)) shapeCasts_S2x9x9x256_S162x256 :=
  (VA_v34 m c).trans ((read_34 (V10 m (outs₀ m) c)).trans (by rw [V10_arg2]))

/-- A mask column from its table. -/
theorem masks_lit {R H : ℕ} (hR : R = 2 * ((H + 2) * (H + 2))) (h1 : R ≠ 1) (x : (⟨1, ![R]⟩ : Shape).Idx → EReal)
    (hb : (⟨1, ![R]⟩ : Shape).BroadcastsInDim ⟨2, ![R, 1]⟩ ![0])
    (h : ∀ (b : Fin 2) (y v : Fin (H + 2)) (hr : b.val * ((H + 2) * (H + 2)) + y.val * (H + 2) + v.val < R),
      x (ix1 ⟨b.val * ((H + 2) * (H + 2)) + y.val * (H + 2) + v.val, hr⟩)
        = Ideal.ofBits .f32 (if (1 ≤ y.val ∧ y.val < 1 + H) ∧ 1 ≤ v.val ∧ v.val < 1 + H then 0x3F800000#32 else 0x00000000#32)) :
    Masks H (fun r => nat2 (broadcastInDim (α := EReal) ⟨2, ![R, 1]⟩ ![0] hb x) r 0) := by
  refine masks_of hR _ fun b y v hr => ?_
  refine (broadcastInDim_apply _ hb x _ (ix1 ⟨_, hr⟩) fun a => ?_).trans (h b y v hr)
  match a with
  | ⟨0, _⟩ => exact (if_neg (show ¬ R = 1 from h1)).symm

theorem masks28 : Masks 28 (fun r => nat2 (VA m c main_v0) r 0) := by
  rw [VA_v0]
  refine masks_lit (R := 1800) (H := 28) rfl (by decide) _ _ fun b y v hr => ?_
  exact congrArg (Ideal.ofBits .f32) ((congrArg lit0 (Fin.ext (Shape.rowMajor_val_one _))).trans (mask_words28 b y v))

theorem masks14 : Masks 14 (fun r => nat2 (VA m c main_v1) r 0) := by
  rw [VA_v1]
  refine masks_lit (R := 512) (H := 14) rfl (by decide) _ _ fun b y v hr => ?_
  exact congrArg (Ideal.ofBits .f32) ((congrArg lit1 (Fin.ext (Shape.rowMajor_val_one _))).trans (mask_words14 b y v))

theorem masks7 : Masks 7 (fun r => nat2 (VA m c main_v2) r 0) := by
  rw [VA_v2]
  refine masks_lit (R := 162) (H := 7) rfl (by decide) _ _ fun b y v hr => ?_
  exact congrArg (Ideal.ofBits .f32) ((congrArg lit2 (Fin.ext (Shape.rowMajor_val_one _))).trans (mask_words7 b y v))

end Cert.KernelIdeal.Tower
-- ==== Proof.Value.Link0.lean ====
/-
  Kernel call 0: the rows that its body leaves are the flat tower's.
-/
module

public import proofs.«01_k».proof.Proof.Value.Taps
public import proofs.«01_k».proof.Proof.Ideal.Pipe

@[expose] public section

set_option maxRecDepth 16384

noncomputable section

namespace Cert.KernelIdeal.Tower

open Cert.KernelIdeal Cert.KernelIdeal.Gen Cert.Rows
open Idealize.ShloMosaic

section Link0

variable (c : Dev nD)
  (M0 : Memref sig .tc .vmem S1800x256 .f32) (M1 : Memref sig .tc .vmem S4x9x256x256 .bf16)
  (M2 : Memref sig .tc .vmem S4x256 .f32) (M3 : Memref sig .tc .vmem S9x256x720 .bf16)
  (M4 : Memref sig .tc .vmem S1x720 .f32) (M5 : Memref sig .tc .vmem S1800x1 .f32) (M6 : Memref sig .tc .vmem S1800x720 .f32)
  (f0 : Bf Ideal c M0) (f1 : Bf Ideal c M1) (f2 : Bf Ideal c M2) (f3 : Bf Ideal c M3) (f4 : Bf Ideal c M4) (f5 : Bf Ideal c M5)
  (g1 : Bf Ideal c (Memref.whole cc0_scratch1)) (g2 : Bf Ideal c (Memref.whole cc0_scratch2))

/-- Layer `i` of this call over a table. -/
abbrev lay0 (i : ℕ) (A : ℕ → ℕ → EReal) : ℕ → ℕ → EReal :=
  layer 30 31 1769 (nat4 (M1.view.read (Elt Ideal) f1) i) (nat2 (M2.view.read (Elt Ideal) f2) i)
    (fun r => nat2 (M5.view.read (Elt Ideal) f5) r 0) A

theorem held0_0 : Holds (run0.sl.G0_1 (F := Ideal) c M0 f0) (nat2 (M0.view.read (Elt Ideal) f0)) := by
  unfold run0.sl.G0_1
  refine holds_all _ _ _ ?_ _
  intro i
  simp only [k0_pay3, shapeCast_self]
  exact load_all M0.view _ f0 _ i

theorem edge0_1 : Edges 31 1769 (0 : EReal) (run0.sl.G1_2 (F := Ideal) c g1) :=
  edges_two (a := 32) (b := 32) (m := 1768) _ _ _ _ (by decide) (by decide) (by decide) (by decide)
    (fun j hj => slice_const (m := 31) _ _ _
      (fun _ => by simp only [k0_pay7, k0_pay5, shapeCast_self]; exact Ideal.ofBits_zero_bf16) j
      ⟨by omega, by have h : (j 0).val < 32 := (j 0).isLt; omega⟩)
    (fun j hj => slice_const (m := 31) _ _ _
      (fun _ => by simp only [k0_pay6, k0_pay4, shapeCast_self]; exact Ideal.ofBits_zero_bf16) j
      ⟨Nat.zero_le _, by omega⟩) (by decide)

theorem edge0_2 : Edges 31 1769 (0 : EReal) (run0.sl.G2_2 (F := Ideal) c g2) :=
  edges_two (a := 32) (b := 32) (m := 1768) _ _ _ _ (by decide) (by decide) (by decide) (by decide)
    (fun j hj => slice_const (m := 31) _ _ _
      (fun _ => by simp only [k0_pay9, k0_pay5, shapeCast_self]; exact Ideal.ofBits_zero_bf16) j
      ⟨by omega, by have h : (j 0).val < 32 := (j 0).isLt; omega⟩)
    (fun j hj => slice_const (m := 31) _ _ _
      (fun _ => by simp only [k0_pay8, k0_pay4, shapeCast_self]; exact Ideal.ofBits_zero_bf16) j
      ⟨Nat.zero_le _, by omega⟩) (by decide)

set_option maxHeartbeats 1000000 in
theorem held0_1 {A : ℕ → ℕ → EReal} (hA : Holds (run0.sl.G0_1 (F := Ideal) c M0 f0) A) :
    Holds (run0.sl.G1_3 (F := Ideal) c M0 M1 M2 M5 f0 f1 f2 f5 g1) (lay0 c M1 M2 M5 f1 f2 f5 0 A)
      ∧ Edges 31 1769 (0 : EReal) (run0.sl.G1_3 (F := Ideal) c M0 M1 M2 M5 f0 f1 f2 f5 g1) := by
  unfold run0.sl.G1_3
  refine store_wide (lo := 31) (hi := 1769) (M := 1738) _ _ _ _ _ rfl rfl rfl (edge0_1 c g1)
    ?_ layer_off ?_
  · intro j hj
    refine load_edge (off := 30) (M := 1740) (v := (Memref.whole cc0_scratch1).view) (edge0_1 c g1) _ _ j ?_
    rcases hj with h | h <;> rw [h] <;> decide
  intro j
  simp only [run0.sl.G3_1, run0.sl.G3_2, run0.sl.G3_3, run0.sl.G3_4, run0.sl.G3_5, run0.sl.G3_6, run0.sl.G3_7, run0.sl.G3_8,
    run0.sl.G3_9, run0.sl.r, run0.sl.r_1, run0.sl.r_2, run0.sl.r_3, run0.sl.v21, run0.sl.v28, run0.sl.v32, run0.sl.v37,
    run0.sl.v41, run0.sl.v46, run0.sl.v50, run0.sl.v55, run0.sl.v59, run0.sl.v64, run0.sl.v68, run0.sl.v73, run0.sl.v77,
    run0.sl.v82, run0.sl.v86, run0.sl.v91, run0.sl.v95, run0.sl.v100, k0_pay10, k0_pay11, k0_pay12, k0_pay13, k0_pay14,
    k0_pay15, k0_pay16, k0_pay17, k0_pay18, k0_pay19, k0_pay20, k0_pay21, k0_pay22, View.readCov_cons_toLoadRect, shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held0_2 {A : ℕ → ℕ → EReal} (hA : Holds (run0.sl.G1_3 (F := Ideal) c M0 M1 M2 M5 f0 f1 f2 f5 g1) A) :
    Holds (run0.sl.G2_3 (F := Ideal) c M0 M1 M2 M5 f0 f1 f2 f5 g1 g2) (lay0 c M1 M2 M5 f1 f2 f5 1 A)
      ∧ Edges 31 1769 (0 : EReal) (run0.sl.G2_3 (F := Ideal) c M0 M1 M2 M5 f0 f1 f2 f5 g1 g2) := by
  unfold run0.sl.G2_3
  refine store_wide (lo := 31) (hi := 1769) (M := 1738) _ _ _ _ _ rfl rfl rfl (edge0_2 c g2)
    ?_ layer_off ?_
  · intro j hj
    refine load_edge (off := 30) (M := 1740) (v := (Memref.whole cc0_scratch2).view) (edge0_2 c g2) _ _ j ?_
    rcases hj with h | h <;> rw [h] <;> decide
  intro j
  simp only [run0.sl.G3_10, run0.sl.G3_11, run0.sl.G3_12, run0.sl.G3_13, run0.sl.G3_14, run0.sl.G3_15, run0.sl.G3_16,
    run0.sl.G3_17, run0.sl.G3_18, run0.sl.r, run0.sl.r_4, run0.sl.r_5, run0.sl.r_6, run0.sl.v112, run0.sl.v119,
    run0.sl.v123, run0.sl.v128, run0.sl.v132, run0.sl.v137, run0.sl.v141, run0.sl.v146, run0.sl.v150, run0.sl.v155,
    run0.sl.v159, run0.sl.v164, run0.sl.v168, run0.sl.v173, run0.sl.v177, run0.sl.v182, run0.sl.v186, run0.sl.v191,
    k0_pay23, k0_pay24, k0_pay25, k0_pay26, k0_pay27, k0_pay28, k0_pay29, k0_pay30, k0_pay31, k0_pay32, k0_pay33,
    k0_pay34, k0_pay35, View.readCov_cons_toLoadRect, shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held0_3 {A : ℕ → ℕ → EReal} (hA : Holds (run0.sl.G2_3 (F := Ideal) c M0 M1 M2 M5 f0 f1 f2 f5 g1 g2) A)
    {B : ℕ → ℕ → EReal} (hP : Holds (run0.sl.G1_3 (F := Ideal) c M0 M1 M2 M5 f0 f1 f2 f5 g1) B) (hB : ∀ r k, (r < 31 ∨ 1769 ≤ r) → B r k = 0)
    (hE : Edges 31 1769 (0 : EReal) (run0.sl.G1_3 (F := Ideal) c M0 M1 M2 M5 f0 f1 f2 f5 g1)) :
    Holds (run0.sl.G1_4 (F := Ideal) c M0 M1 M2 M5 f0 f1 f2 f5 g1 g2) (lay0 c M1 M2 M5 f1 f2 f5 2 A)
      ∧ Edges 31 1769 (0 : EReal) (run0.sl.G1_4 (F := Ideal) c M0 M1 M2 M5 f0 f1 f2 f5 g1 g2) := by
  unfold run0.sl.G1_4
  unfold run0.sl.old_2
  refine store_wide (lo := 31) (hi := 1769) (M := 1738) _ _ _ _ _ rfl rfl rfl hE
    ?_ layer_off ?_
  · intro j hj
    exact (load_rows (off := 30) hP _ j).trans (hB _ _ (by rcases hj with h | h <;> rw [h] <;> decide))
  intro j
  simp only [run0.sl.G3_19, run0.sl.G3_20, run0.sl.G3_21, run0.sl.G3_22, run0.sl.G3_23, run0.sl.G3_24, run0.sl.G3_25,
    run0.sl.G3_26, run0.sl.G3_27, run0.sl.r, run0.sl.r_7, run0.sl.r_8, run0.sl.v203, run0.sl.v210, run0.sl.v214,
    run0.sl.v219, run0.sl.v223, run0.sl.v228, run0.sl.v232, run0.sl.v237, run0.sl.v241, run0.sl.v246, run0.sl.v250,
    run0.sl.v255, run0.sl.v259, run0.sl.v264, run0.sl.v268, run0.sl.v273, run0.sl.v277, run0.sl.v282, k0_pay36,
    k0_pay37, k0_pay38, k0_pay39, k0_pay40, k0_pay41, k0_pay42, k0_pay43, k0_pay44, k0_pay45, k0_pay46,
    View.readCov_cons_toLoadRect, shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held0_4 {A : ℕ → ℕ → EReal} (hA : Holds (run0.sl.G1_4 (F := Ideal) c M0 M1 M2 M5 f0 f1 f2 f5 g1 g2) A)
    {B : ℕ → ℕ → EReal} (hP : Holds (run0.sl.G2_3 (F := Ideal) c M0 M1 M2 M5 f0 f1 f2 f5 g1 g2) B) (hB : ∀ r k, (r < 31 ∨ 1769 ≤ r) → B r k = 0)
    (hE : Edges 31 1769 (0 : EReal) (run0.sl.G2_3 (F := Ideal) c M0 M1 M2 M5 f0 f1 f2 f5 g1 g2)) :
    Holds (run0.sl.G2_4 (F := Ideal) c M0 M1 M2 M5 f0 f1 f2 f5 g1 g2) (lay0 c M1 M2 M5 f1 f2 f5 3 A)
      ∧ Edges 31 1769 (0 : EReal) (run0.sl.G2_4 (F := Ideal) c M0 M1 M2 M5 f0 f1 f2 f5 g1 g2) := by
  unfold run0.sl.G2_4
  unfold run0.sl.old_3
  refine store_wide (lo := 31) (hi := 1769) (M := 1738) _ _ _ _ _ rfl rfl rfl hE
    ?_ layer_off ?_
  · intro j hj
    exact (load_rows (off := 30) hP _ j).trans (hB _ _ (by rcases hj with h | h <;> rw [h] <;> decide))
  intro j
  simp only [run0.sl.G3_28, run0.sl.G3_29, run0.sl.G3_30, run0.sl.G3_31, run0.sl.G3_32, run0.sl.G3_33, run0.sl.G3_34,
    run0.sl.G3_35, run0.sl.G3_36, run0.sl.r, run0.sl.r_9, run0.sl.v, run0.sl.v301, run0.sl.v305, run0.sl.v310,
    run0.sl.v314, run0.sl.v319, run0.sl.v323, run0.sl.v328, run0.sl.v332, run0.sl.v337, run0.sl.v341, run0.sl.v346,
    run0.sl.v350, run0.sl.v355, run0.sl.v359, run0.sl.v364, run0.sl.v368, run0.sl.v373, k0_pay47, k0_pay48, k0_pay49,
    k0_pay50, k0_pay51, k0_pay52, k0_pay53, k0_pay54, k0_pay55, k0_pay56, k0_pay57, View.readCov_cons_toLoadRect,
    shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

/-- The rows stored last. -/
theorem last0 {A : ℕ → ℕ → EReal} (hA : Holds (run0.sl.G2_4 (F := Ideal) c M0 M1 M2 M5 f0 f1 f2 f5 g1 g2) A) (j : S1738x720.Idx) :
    k0_pay2 (F := Ideal) (run0.sl.v454 c M0 M1 M2 M3 M5 M6 f0 f1 f2 f3 f5 g1 g2)
      (M4.view.readAt (Elt Ideal) (Rect.unit (s := S1x720) ![0, 0] S1x720.size inb_S1x720_S1x720_0_0).toLoadRect f4) j
      = conv 30 A (nat3 (M3.view.read (Elt Ideal) f3)) (j 0).val (j 1).val + nat2 (M4.view.read (Elt Ideal) f4) 0 (j 1).val := by
  simp only [run0.sl.H6_1, run0.sl.H6_2, run0.sl.H6_3, run0.sl.H6_4, run0.sl.H6_5, run0.sl.H6_6, run0.sl.H6_7,
    run0.sl.H6_8, run0.sl.H6_9, run0.sl.r_10, run0.sl.r_11, run0.sl.v385, run0.sl.v390, run0.sl.v394, run0.sl.v398,
    run0.sl.v402, run0.sl.v406, run0.sl.v410, run0.sl.v414, run0.sl.v418, run0.sl.v422, run0.sl.v426, run0.sl.v430,
    run0.sl.v434, run0.sl.v438, run0.sl.v442, run0.sl.v446, run0.sl.v450, run0.sl.v454, k0_pay1, k0_pay2, k0_pay58,
    k0_pay59, k0_pay60, k0_pay61, k0_pay62, k0_pay63, k0_pay64, k0_pay65, k0_pay66, k0_pay67,
    View.readCov_cons_toLoadRect, shapeCast_self]
  exact last_term (conv_term rfl 30
    (load_rows hA _) (load_rows hA _) (load_rows hA _) (load_rows hA _) (load_rows hA _) (load_rows hA _) (load_rows hA _)
    (load_rows hA _) (load_rows hA _) (load_w3 (.inl rfl) _ _ _ _) (load_w3 (.inl rfl) _ _ _ _) (load_w3 (.inl rfl) _ _ _ _)
    (load_w3 (.inl rfl) _ _ _ _) (load_w3 (.inl rfl) _ _ _ _) (load_w3 (.inl rfl) _ _ _ _) (load_w3 (.inl rfl) _ _ _ _)
    (load_w3 (.inl rfl) _ _ _ _) (load_w3 (.inl rfl) _ _ _ _)) (fun k => load_2 _ _ _ _ k) _ j

/-- What the body leaves on the rows it writes is the flat tower of its operands. -/
theorem link0 {x0 : S1800x256.Idx → EReal} {x1 : S4x9x256x256.Idx → EReal} {x2 : S4x256.Idx → EReal} {x3 : S9x256x720.Idx → EReal}
    {x4 : S1x720.Idx → EReal} {x5 : S1800x1.Idx → EReal} {X : S1800x720.Idx → EReal} (h : Out0 (F := Ideal) c x0 x1 x2 x3 x4 x5 X)
    (i : S1800x720.Idx) (hi : 31 ≤ (i 0).val ∧ (i 0).val < 1769) :
    X i = tower 30 31 1769 x0 x1 x2 x3 x4 x5 ((i 0).val - 31) (i 1).val := by
  obtain ⟨f0, f1, f2, f3, f4, f5, g0, g1, g2, g3, f6, h0, h1, h2, h3, h4, h5, h6⟩ := h
  subst h0 h1 h2 h3 h4 h5 h6
  have a0 := held0_0 c (stage0_0 0) f0
  have a1 := held0_1 c (stage0_0 0) (stage0_1 0) (stage0_2 0) (stage0_5 0) f0 f1 f2 f5 g1 a0
  have a2 := held0_2 c (stage0_0 0) (stage0_1 0) (stage0_2 0) (stage0_5 0) f0 f1 f2 f5 g1 g2 a1.1
  have a3 := held0_3 c (stage0_0 0) (stage0_1 0) (stage0_2 0) (stage0_5 0) f0 f1 f2 f5 g1 g2 a2.1 a1.1 layer_off a1.2
  have a4 := held0_4 c (stage0_0 0) (stage0_1 0) (stage0_2 0) (stage0_5 0) f0 f1 f2 f5 g1 g2 a3.1 a2.1 layer_off a2.2
  refine Eq.trans ?_ (last0 c (stage0_0 0) (stage0_1 0) (stage0_2 0) (stage0_3 0) (stage0_4 0) (stage0_5 0) (stage0_6 0)
    f0 f1 f2 f3 f4 f5 g1 g2 a4.1 (ix2 ⟨(i 0).val - 31, by omega⟩ (i 1)))
  exact read_rows (M := 1738) (stage0_6 0).view inb_S1800x720_S1738x720_31_0 _ _ f6 i hi

end Link0

end Cert.KernelIdeal.Tower
-- ==== Proof.Value.Link1.lean ====
/-
  Kernel call 1: the rows that its body leaves are the flat tower's.
-/
module

public import proofs.«01_k».proof.Proof.Value.Taps
public import proofs.«01_k».proof.Proof.Ideal.Pipe

@[expose] public section

set_option maxRecDepth 16384

noncomputable section

namespace Cert.KernelIdeal.Tower

open Cert.KernelIdeal Cert.KernelIdeal.Gen Cert.Rows
open Idealize.ShloMosaic

section Link1

variable (c : Dev nD)
  (M0 : Memref sig .tc .vmem S1800x256 .f32) (M1 : Memref sig .tc .vmem S4x9x256x256 .bf16)
  (M2 : Memref sig .tc .vmem S4x256 .f32) (M3 : Memref sig .tc .vmem S9x256x36 .bf16)
  (M4 : Memref sig .tc .vmem S1x36 .f32) (M5 : Memref sig .tc .vmem S1800x1 .f32) (M6 : Memref sig .tc .vmem S1800x36 .f32)
  (f0 : Bf Ideal c M0) (f1 : Bf Ideal c M1) (f2 : Bf Ideal c M2) (f3 : Bf Ideal c M3) (f4 : Bf Ideal c M4) (f5 : Bf Ideal c M5)
  (g1 : Bf Ideal c (Memref.whole cc1_scratch1)) (g2 : Bf Ideal c (Memref.whole cc1_scratch2))

/-- Layer `i` of this call over a table. -/
abbrev lay1 (i : ℕ) (A : ℕ → ℕ → EReal) : ℕ → ℕ → EReal :=
  layer 30 31 1769 (nat4 (M1.view.read (Elt Ideal) f1) i) (nat2 (M2.view.read (Elt Ideal) f2) i)
    (fun r => nat2 (M5.view.read (Elt Ideal) f5) r 0) A

theorem held1_0 : Holds (run1.sl.G0_1 (F := Ideal) c M0 f0) (nat2 (M0.view.read (Elt Ideal) f0)) := by
  unfold run1.sl.G0_1
  refine holds_all _ _ _ ?_ _
  intro i
  simp only [k1_pay3, shapeCast_self]
  exact load_all M0.view _ f0 _ i

theorem edge1_1 : Edges 31 1769 (0 : EReal) (run1.sl.G1_2 (F := Ideal) c g1) :=
  edges_two (a := 32) (b := 32) (m := 1768) _ _ _ _ (by decide) (by decide) (by decide) (by decide)
    (fun j hj => slice_const (m := 31) _ _ _
      (fun _ => by simp only [k1_pay7, k1_pay5, shapeCast_self]; exact Ideal.ofBits_zero_bf16) j
      ⟨by omega, by have h : (j 0).val < 32 := (j 0).isLt; omega⟩)
    (fun j hj => slice_const (m := 31) _ _ _
      (fun _ => by simp only [k1_pay6, k1_pay4, shapeCast_self]; exact Ideal.ofBits_zero_bf16) j
      ⟨Nat.zero_le _, by omega⟩) (by decide)

theorem edge1_2 : Edges 31 1769 (0 : EReal) (run1.sl.G2_2 (F := Ideal) c g2) :=
  edges_two (a := 32) (b := 32) (m := 1768) _ _ _ _ (by decide) (by decide) (by decide) (by decide)
    (fun j hj => slice_const (m := 31) _ _ _
      (fun _ => by simp only [k1_pay9, k1_pay5, shapeCast_self]; exact Ideal.ofBits_zero_bf16) j
      ⟨by omega, by have h : (j 0).val < 32 := (j 0).isLt; omega⟩)
    (fun j hj => slice_const (m := 31) _ _ _
      (fun _ => by simp only [k1_pay8, k1_pay4, shapeCast_self]; exact Ideal.ofBits_zero_bf16) j
      ⟨Nat.zero_le _, by omega⟩) (by decide)

set_option maxHeartbeats 1000000 in
theorem held1_1 {A : ℕ → ℕ → EReal} (hA : Holds (run1.sl.G0_1 (F := Ideal) c M0 f0) A) :
    Holds (run1.sl.G1_3 (F := Ideal) c M0 M1 M2 M5 f0 f1 f2 f5 g1) (lay1 c M1 M2 M5 f1 f2 f5 0 A)
      ∧ Edges 31 1769 (0 : EReal) (run1.sl.G1_3 (F := Ideal) c M0 M1 M2 M5 f0 f1 f2 f5 g1) := by
  unfold run1.sl.G1_3
  refine store_wide (lo := 31) (hi := 1769) (M := 1738) _ _ _ _ _ rfl rfl rfl (edge1_1 c g1)
    ?_ layer_off ?_
  · intro j hj
    refine load_edge (off := 30) (M := 1740) (v := (Memref.whole cc1_scratch1).view) (edge1_1 c g1) _ _ j ?_
    rcases hj with h | h <;> rw [h] <;> decide
  intro j
  simp only [run1.sl.G3_1, run1.sl.G3_2, run1.sl.G3_3, run1.sl.G3_4, run1.sl.G3_5, run1.sl.G3_6, run1.sl.G3_7, run1.sl.G3_8,
    run1.sl.G3_9, run1.sl.r, run1.sl.r_1, run1.sl.r_2, run1.sl.r_3, run1.sl.v21, run1.sl.v28, run1.sl.v32, run1.sl.v37,
    run1.sl.v41, run1.sl.v46, run1.sl.v50, run1.sl.v55, run1.sl.v59, run1.sl.v64, run1.sl.v68, run1.sl.v73, run1.sl.v77,
    run1.sl.v82, run1.sl.v86, run1.sl.v91, run1.sl.v95, run1.sl.v100, k1_pay10, k1_pay11, k1_pay12, k1_pay13, k1_pay14,
    k1_pay15, k1_pay16, k1_pay17, k1_pay18, k1_pay19, k1_pay20, k1_pay21, k1_pay22, View.readCov_cons_toLoadRect, shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held1_2 {A : ℕ → ℕ → EReal} (hA : Holds (run1.sl.G1_3 (F := Ideal) c M0 M1 M2 M5 f0 f1 f2 f5 g1) A) :
    Holds (run1.sl.G2_3 (F := Ideal) c M0 M1 M2 M5 f0 f1 f2 f5 g1 g2) (lay1 c M1 M2 M5 f1 f2 f5 1 A)
      ∧ Edges 31 1769 (0 : EReal) (run1.sl.G2_3 (F := Ideal) c M0 M1 M2 M5 f0 f1 f2 f5 g1 g2) := by
  unfold run1.sl.G2_3
  refine store_wide (lo := 31) (hi := 1769) (M := 1738) _ _ _ _ _ rfl rfl rfl (edge1_2 c g2)
    ?_ layer_off ?_
  · intro j hj
    refine load_edge (off := 30) (M := 1740) (v := (Memref.whole cc1_scratch2).view) (edge1_2 c g2) _ _ j ?_
    rcases hj with h | h <;> rw [h] <;> decide
  intro j
  simp only [run1.sl.G3_10, run1.sl.G3_11, run1.sl.G3_12, run1.sl.G3_13, run1.sl.G3_14, run1.sl.G3_15, run1.sl.G3_16,
    run1.sl.G3_17, run1.sl.G3_18, run1.sl.r, run1.sl.r_4, run1.sl.r_5, run1.sl.r_6, run1.sl.v112, run1.sl.v119,
    run1.sl.v123, run1.sl.v128, run1.sl.v132, run1.sl.v137, run1.sl.v141, run1.sl.v146, run1.sl.v150, run1.sl.v155,
    run1.sl.v159, run1.sl.v164, run1.sl.v168, run1.sl.v173, run1.sl.v177, run1.sl.v182, run1.sl.v186, run1.sl.v191,
    k1_pay23, k1_pay24, k1_pay25, k1_pay26, k1_pay27, k1_pay28, k1_pay29, k1_pay30, k1_pay31, k1_pay32, k1_pay33,
    k1_pay34, k1_pay35, View.readCov_cons_toLoadRect, shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held1_3 {A : ℕ → ℕ → EReal} (hA : Holds (run1.sl.G2_3 (F := Ideal) c M0 M1 M2 M5 f0 f1 f2 f5 g1 g2) A)
    {B : ℕ → ℕ → EReal} (hP : Holds (run1.sl.G1_3 (F := Ideal) c M0 M1 M2 M5 f0 f1 f2 f5 g1) B) (hB : ∀ r k, (r < 31 ∨ 1769 ≤ r) → B r k = 0)
    (hE : Edges 31 1769 (0 : EReal) (run1.sl.G1_3 (F := Ideal) c M0 M1 M2 M5 f0 f1 f2 f5 g1)) :
    Holds (run1.sl.G1_4 (F := Ideal) c M0 M1 M2 M5 f0 f1 f2 f5 g1 g2) (lay1 c M1 M2 M5 f1 f2 f5 2 A)
      ∧ Edges 31 1769 (0 : EReal) (run1.sl.G1_4 (F := Ideal) c M0 M1 M2 M5 f0 f1 f2 f5 g1 g2) := by
  unfold run1.sl.G1_4
  unfold run1.sl.old_2
  refine store_wide (lo := 31) (hi := 1769) (M := 1738) _ _ _ _ _ rfl rfl rfl hE
    ?_ layer_off ?_
  · intro j hj
    exact (load_rows (off := 30) hP _ j).trans (hB _ _ (by rcases hj with h | h <;> rw [h] <;> decide))
  intro j
  simp only [run1.sl.G3_19, run1.sl.G3_20, run1.sl.G3_21, run1.sl.G3_22, run1.sl.G3_23, run1.sl.G3_24, run1.sl.G3_25,
    run1.sl.G3_26, run1.sl.G3_27, run1.sl.r, run1.sl.r_7, run1.sl.r_8, run1.sl.v203, run1.sl.v210, run1.sl.v214,
    run1.sl.v219, run1.sl.v223, run1.sl.v228, run1.sl.v232, run1.sl.v237, run1.sl.v241, run1.sl.v246, run1.sl.v250,
    run1.sl.v255, run1.sl.v259, run1.sl.v264, run1.sl.v268, run1.sl.v273, run1.sl.v277, run1.sl.v282, k1_pay36,
    k1_pay37, k1_pay38, k1_pay39, k1_pay40, k1_pay41, k1_pay42, k1_pay43, k1_pay44, k1_pay45, k1_pay46,
    View.readCov_cons_toLoadRect, shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held1_4 {A : ℕ → ℕ → EReal} (hA : Holds (run1.sl.G1_4 (F := Ideal) c M0 M1 M2 M5 f0 f1 f2 f5 g1 g2) A)
    {B : ℕ → ℕ → EReal} (hP : Holds (run1.sl.G2_3 (F := Ideal) c M0 M1 M2 M5 f0 f1 f2 f5 g1 g2) B) (hB : ∀ r k, (r < 31 ∨ 1769 ≤ r) → B r k = 0)
    (hE : Edges 31 1769 (0 : EReal) (run1.sl.G2_3 (F := Ideal) c M0 M1 M2 M5 f0 f1 f2 f5 g1 g2)) :
    Holds (run1.sl.G2_4 (F := Ideal) c M0 M1 M2 M5 f0 f1 f2 f5 g1 g2) (lay1 c M1 M2 M5 f1 f2 f5 3 A)
      ∧ Edges 31 1769 (0 : EReal) (run1.sl.G2_4 (F := Ideal) c M0 M1 M2 M5 f0 f1 f2 f5 g1 g2) := by
  unfold run1.sl.G2_4
  unfold run1.sl.old_3
  refine store_wide (lo := 31) (hi := 1769) (M := 1738) _ _ _ _ _ rfl rfl rfl hE
    ?_ layer_off ?_
  · intro j hj
    exact (load_rows (off := 30) hP _ j).trans (hB _ _ (by rcases hj with h | h <;> rw [h] <;> decide))
  intro j
  simp only [run1.sl.G3_28, run1.sl.G3_29, run1.sl.G3_30, run1.sl.G3_31, run1.sl.G3_32, run1.sl.G3_33, run1.sl.G3_34,
    run1.sl.G3_35, run1.sl.G3_36, run1.sl.r, run1.sl.r_9, run1.sl.v, run1.sl.v301, run1.sl.v305, run1.sl.v310,
    run1.sl.v314, run1.sl.v319, run1.sl.v323, run1.sl.v328, run1.sl.v332, run1.sl.v337, run1.sl.v341, run1.sl.v346,
    run1.sl.v350, run1.sl.v355, run1.sl.v359, run1.sl.v364, run1.sl.v368, run1.sl.v373, k1_pay47, k1_pay48, k1_pay49,
    k1_pay50, k1_pay51, k1_pay52, k1_pay53, k1_pay54, k1_pay55, k1_pay56, k1_pay57, View.readCov_cons_toLoadRect,
    shapeCast_self]
  refine layer_term (M := 1738) rfl (conv_term rfl 30
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

/-- The rows stored last. -/
theorem last1 {A : ℕ → ℕ → EReal} (hA : Holds (run1.sl.G2_4 (F := Ideal) c M0 M1 M2 M5 f0 f1 f2 f5 g1 g2) A) (j : S1738x36.Idx) :
    k1_pay2 (F := Ideal) (run1.sl.v454 c M0 M1 M2 M3 M5 M6 f0 f1 f2 f3 f5 g1 g2)
      (M4.view.readAt (Elt Ideal) (Rect.unit (s := S1x36) ![0, 0] S1x36.size inb_S1x36_S1x36_0_0).toLoadRect f4) j
      = conv 30 A (nat3 (M3.view.read (Elt Ideal) f3)) (j 0).val (j 1).val + nat2 (M4.view.read (Elt Ideal) f4) 0 (j 1).val := by
  simp only [run1.sl.H6_1, run1.sl.H6_2, run1.sl.H6_3, run1.sl.H6_4, run1.sl.H6_5, run1.sl.H6_6, run1.sl.H6_7,
    run1.sl.H6_8, run1.sl.H6_9, run1.sl.r_10, run1.sl.r_11, run1.sl.v385, run1.sl.v390, run1.sl.v394, run1.sl.v398,
    run1.sl.v402, run1.sl.v406, run1.sl.v410, run1.sl.v414, run1.sl.v418, run1.sl.v422, run1.sl.v426, run1.sl.v430,
    run1.sl.v434, run1.sl.v438, run1.sl.v442, run1.sl.v446, run1.sl.v450, run1.sl.v454, k1_pay1, k1_pay2, k1_pay58,
    k1_pay59, k1_pay60, k1_pay61, k1_pay62, k1_pay63, k1_pay64, k1_pay65, k1_pay66, k1_pay67,
    View.readCov_cons_toLoadRect, shapeCast_self]
  exact last_term (conv_term rfl 30
    (load_rows hA _) (load_rows hA _) (load_rows hA _) (load_rows hA _) (load_rows hA _) (load_rows hA _) (load_rows hA _)
    (load_rows hA _) (load_rows hA _) (load_w3 (.inr rfl) _ _ _ _) (load_w3 (.inr rfl) _ _ _ _) (load_w3 (.inr rfl) _ _ _ _)
    (load_w3 (.inr rfl) _ _ _ _) (load_w3 (.inr rfl) _ _ _ _) (load_w3 (.inr rfl) _ _ _ _) (load_w3 (.inr rfl) _ _ _ _)
    (load_w3 (.inr rfl) _ _ _ _) (load_w3 (.inr rfl) _ _ _ _)) (fun k => load_2 _ _ _ _ k) _ j

/-- What the body leaves on the rows it writes is the flat tower of its operands. -/
theorem link1 {x0 : S1800x256.Idx → EReal} {x1 : S4x9x256x256.Idx → EReal} {x2 : S4x256.Idx → EReal} {x3 : S9x256x36.Idx → EReal}
    {x4 : S1x36.Idx → EReal} {x5 : S1800x1.Idx → EReal} {X : S1800x36.Idx → EReal} (h : Out1 (F := Ideal) c x0 x1 x2 x3 x4 x5 X)
    (i : S1800x36.Idx) (hi : 31 ≤ (i 0).val ∧ (i 0).val < 1769) :
    X i = tower 30 31 1769 x0 x1 x2 x3 x4 x5 ((i 0).val - 31) (i 1).val := by
  obtain ⟨f0, f1, f2, f3, f4, f5, g0, g1, g2, g3, f6, h0, h1, h2, h3, h4, h5, h6⟩ := h
  subst h0 h1 h2 h3 h4 h5 h6
  have a0 := held1_0 c (stage1_0 0) f0
  have a1 := held1_1 c (stage1_0 0) (stage1_1 0) (stage1_2 0) (stage1_5 0) f0 f1 f2 f5 g1 a0
  have a2 := held1_2 c (stage1_0 0) (stage1_1 0) (stage1_2 0) (stage1_5 0) f0 f1 f2 f5 g1 g2 a1.1
  have a3 := held1_3 c (stage1_0 0) (stage1_1 0) (stage1_2 0) (stage1_5 0) f0 f1 f2 f5 g1 g2 a2.1 a1.1 layer_off a1.2
  have a4 := held1_4 c (stage1_0 0) (stage1_1 0) (stage1_2 0) (stage1_5 0) f0 f1 f2 f5 g1 g2 a3.1 a2.1 layer_off a2.2
  refine Eq.trans ?_ (last1 c (stage1_0 0) (stage1_1 0) (stage1_2 0) (stage1_3 0) (stage1_4 0) (stage1_5 0) (stage1_6 0)
    f0 f1 f2 f3 f4 f5 g1 g2 a4.1 (ix2 ⟨(i 0).val - 31, by omega⟩ (i 1)))
  exact read_rows (M := 1738) (stage1_6 0).view inb_S1800x36_S1738x36_31_0 _ _ f6 i hi

end Link1

end Cert.KernelIdeal.Tower
-- ==== Proof.Value.Link2.lean ====
/-
  Kernel call 2: the rows that its body leaves are the flat tower's.
-/
module

public import proofs.«01_k».proof.Proof.Value.Taps
public import proofs.«01_k».proof.Proof.Ideal.Pipe

@[expose] public section

set_option maxRecDepth 16384

noncomputable section

namespace Cert.KernelIdeal.Tower

open Cert.KernelIdeal Cert.KernelIdeal.Gen Cert.Rows
open Idealize.ShloMosaic

section Link2

variable (c : Dev nD)
  (M0 : Memref sig .tc .vmem S512x256 .f32) (M1 : Memref sig .tc .vmem S4x9x256x256 .bf16)
  (M2 : Memref sig .tc .vmem S4x256 .f32) (M3 : Memref sig .tc .vmem S9x256x720 .bf16)
  (M4 : Memref sig .tc .vmem S1x720 .f32) (M5 : Memref sig .tc .vmem S512x1 .f32) (M6 : Memref sig .tc .vmem S512x720 .f32)
  (f0 : Bf Ideal c M0) (f1 : Bf Ideal c M1) (f2 : Bf Ideal c M2) (f3 : Bf Ideal c M3) (f4 : Bf Ideal c M4) (f5 : Bf Ideal c M5)
  (g1 : Bf Ideal c (Memref.whole cc2_scratch1)) (g2 : Bf Ideal c (Memref.whole cc2_scratch2))

/-- Layer `i` of this call over a table. -/
abbrev lay2 (i : ℕ) (A : ℕ → ℕ → EReal) : ℕ → ℕ → EReal :=
  layer 16 17 495 (nat4 (M1.view.read (Elt Ideal) f1) i) (nat2 (M2.view.read (Elt Ideal) f2) i)
    (fun r => nat2 (M5.view.read (Elt Ideal) f5) r 0) A

theorem held2_0 : Holds (run2.sl.G0_1 (F := Ideal) c M0 f0) (nat2 (M0.view.read (Elt Ideal) f0)) := by
  unfold run2.sl.G0_1
  refine holds_all _ _ _ ?_ _
  intro i
  simp only [k2_pay3, shapeCast_self]
  exact load_all M0.view _ f0 _ i

theorem edge2_1 : Edges 17 495 (0 : EReal) (run2.sl.G1_2 (F := Ideal) c g1) :=
  edges_two (a := 18) (b := 18) (m := 494) _ _ _ _ (by decide) (by decide) (by decide) (by decide)
    (fun j hj => slice_const (m := 17) _ _ _
      (fun _ => by simp only [k2_pay7, k2_pay5, shapeCast_self]; exact Ideal.ofBits_zero_bf16) j
      ⟨by omega, by have h : (j 0).val < 18 := (j 0).isLt; omega⟩)
    (fun j hj => slice_const (m := 17) _ _ _
      (fun _ => by simp only [k2_pay6, k2_pay4, shapeCast_self]; exact Ideal.ofBits_zero_bf16) j
      ⟨Nat.zero_le _, by omega⟩) (by decide)

theorem edge2_2 : Edges 17 495 (0 : EReal) (run2.sl.G2_2 (F := Ideal) c g2) :=
  edges_two (a := 18) (b := 18) (m := 494) _ _ _ _ (by decide) (by decide) (by decide) (by decide)
    (fun j hj => slice_const (m := 17) _ _ _
      (fun _ => by simp only [k2_pay9, k2_pay5, shapeCast_self]; exact Ideal.ofBits_zero_bf16) j
      ⟨by omega, by have h : (j 0).val < 18 := (j 0).isLt; omega⟩)
    (fun j hj => slice_const (m := 17) _ _ _
      (fun _ => by simp only [k2_pay8, k2_pay4, shapeCast_self]; exact Ideal.ofBits_zero_bf16) j
      ⟨Nat.zero_le _, by omega⟩) (by decide)

set_option maxHeartbeats 1000000 in
theorem held2_1 {A : ℕ → ℕ → EReal} (hA : Holds (run2.sl.G0_1 (F := Ideal) c M0 f0) A) :
    Holds (run2.sl.G1_3 (F := Ideal) c M0 M1 M2 M5 f0 f1 f2 f5 g1) (lay2 c M1 M2 M5 f1 f2 f5 0 A)
      ∧ Edges 17 495 (0 : EReal) (run2.sl.G1_3 (F := Ideal) c M0 M1 M2 M5 f0 f1 f2 f5 g1) := by
  unfold run2.sl.G1_3
  refine store_wide (lo := 17) (hi := 495) (M := 478) _ _ _ _ _ rfl rfl rfl (edge2_1 c g1)
    ?_ layer_off ?_
  · intro j hj
    refine load_edge (off := 16) (M := 480) (v := (Memref.whole cc2_scratch1).view) (edge2_1 c g1) _ _ j ?_
    rcases hj with h | h <;> rw [h] <;> decide
  intro j
  simp only [run2.sl.G3_1, run2.sl.G3_2, run2.sl.G3_3, run2.sl.G3_4, run2.sl.G3_5, run2.sl.G3_6, run2.sl.G3_7, run2.sl.G3_8,
    run2.sl.G3_9, run2.sl.r, run2.sl.r_1, run2.sl.r_2, run2.sl.r_3, run2.sl.v21, run2.sl.v28, run2.sl.v32, run2.sl.v37,
    run2.sl.v41, run2.sl.v46, run2.sl.v50, run2.sl.v55, run2.sl.v59, run2.sl.v64, run2.sl.v68, run2.sl.v73, run2.sl.v77,
    run2.sl.v82, run2.sl.v86, run2.sl.v91, run2.sl.v95, run2.sl.v100, k2_pay10, k2_pay11, k2_pay12, k2_pay13, k2_pay14,
    k2_pay15, k2_pay16, k2_pay17, k2_pay18, k2_pay19, k2_pay20, k2_pay21, k2_pay22, View.readCov_cons_toLoadRect, shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held2_2 {A : ℕ → ℕ → EReal} (hA : Holds (run2.sl.G1_3 (F := Ideal) c M0 M1 M2 M5 f0 f1 f2 f5 g1) A) :
    Holds (run2.sl.G2_3 (F := Ideal) c M0 M1 M2 M5 f0 f1 f2 f5 g1 g2) (lay2 c M1 M2 M5 f1 f2 f5 1 A)
      ∧ Edges 17 495 (0 : EReal) (run2.sl.G2_3 (F := Ideal) c M0 M1 M2 M5 f0 f1 f2 f5 g1 g2) := by
  unfold run2.sl.G2_3
  refine store_wide (lo := 17) (hi := 495) (M := 478) _ _ _ _ _ rfl rfl rfl (edge2_2 c g2)
    ?_ layer_off ?_
  · intro j hj
    refine load_edge (off := 16) (M := 480) (v := (Memref.whole cc2_scratch2).view) (edge2_2 c g2) _ _ j ?_
    rcases hj with h | h <;> rw [h] <;> decide
  intro j
  simp only [run2.sl.G3_10, run2.sl.G3_11, run2.sl.G3_12, run2.sl.G3_13, run2.sl.G3_14, run2.sl.G3_15, run2.sl.G3_16,
    run2.sl.G3_17, run2.sl.G3_18, run2.sl.r, run2.sl.r_4, run2.sl.r_5, run2.sl.r_6, run2.sl.v112, run2.sl.v119,
    run2.sl.v123, run2.sl.v128, run2.sl.v132, run2.sl.v137, run2.sl.v141, run2.sl.v146, run2.sl.v150, run2.sl.v155,
    run2.sl.v159, run2.sl.v164, run2.sl.v168, run2.sl.v173, run2.sl.v177, run2.sl.v182, run2.sl.v186, run2.sl.v191,
    k2_pay23, k2_pay24, k2_pay25, k2_pay26, k2_pay27, k2_pay28, k2_pay29, k2_pay30, k2_pay31, k2_pay32, k2_pay33,
    k2_pay34, k2_pay35, View.readCov_cons_toLoadRect, shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held2_3 {A : ℕ → ℕ → EReal} (hA : Holds (run2.sl.G2_3 (F := Ideal) c M0 M1 M2 M5 f0 f1 f2 f5 g1 g2) A)
    {B : ℕ → ℕ → EReal} (hP : Holds (run2.sl.G1_3 (F := Ideal) c M0 M1 M2 M5 f0 f1 f2 f5 g1) B) (hB : ∀ r k, (r < 17 ∨ 495 ≤ r) → B r k = 0)
    (hE : Edges 17 495 (0 : EReal) (run2.sl.G1_3 (F := Ideal) c M0 M1 M2 M5 f0 f1 f2 f5 g1)) :
    Holds (run2.sl.G1_4 (F := Ideal) c M0 M1 M2 M5 f0 f1 f2 f5 g1 g2) (lay2 c M1 M2 M5 f1 f2 f5 2 A)
      ∧ Edges 17 495 (0 : EReal) (run2.sl.G1_4 (F := Ideal) c M0 M1 M2 M5 f0 f1 f2 f5 g1 g2) := by
  unfold run2.sl.G1_4
  unfold run2.sl.old_2
  refine store_wide (lo := 17) (hi := 495) (M := 478) _ _ _ _ _ rfl rfl rfl hE
    ?_ layer_off ?_
  · intro j hj
    exact (load_rows (off := 16) hP _ j).trans (hB _ _ (by rcases hj with h | h <;> rw [h] <;> decide))
  intro j
  simp only [run2.sl.G3_19, run2.sl.G3_20, run2.sl.G3_21, run2.sl.G3_22, run2.sl.G3_23, run2.sl.G3_24, run2.sl.G3_25,
    run2.sl.G3_26, run2.sl.G3_27, run2.sl.r, run2.sl.r_7, run2.sl.r_8, run2.sl.v203, run2.sl.v210, run2.sl.v214,
    run2.sl.v219, run2.sl.v223, run2.sl.v228, run2.sl.v232, run2.sl.v237, run2.sl.v241, run2.sl.v246, run2.sl.v250,
    run2.sl.v255, run2.sl.v259, run2.sl.v264, run2.sl.v268, run2.sl.v273, run2.sl.v277, run2.sl.v282, k2_pay36,
    k2_pay37, k2_pay38, k2_pay39, k2_pay40, k2_pay41, k2_pay42, k2_pay43, k2_pay44, k2_pay45, k2_pay46,
    View.readCov_cons_toLoadRect, shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held2_4 {A : ℕ → ℕ → EReal} (hA : Holds (run2.sl.G1_4 (F := Ideal) c M0 M1 M2 M5 f0 f1 f2 f5 g1 g2) A)
    {B : ℕ → ℕ → EReal} (hP : Holds (run2.sl.G2_3 (F := Ideal) c M0 M1 M2 M5 f0 f1 f2 f5 g1 g2) B) (hB : ∀ r k, (r < 17 ∨ 495 ≤ r) → B r k = 0)
    (hE : Edges 17 495 (0 : EReal) (run2.sl.G2_3 (F := Ideal) c M0 M1 M2 M5 f0 f1 f2 f5 g1 g2)) :
    Holds (run2.sl.G2_4 (F := Ideal) c M0 M1 M2 M5 f0 f1 f2 f5 g1 g2) (lay2 c M1 M2 M5 f1 f2 f5 3 A)
      ∧ Edges 17 495 (0 : EReal) (run2.sl.G2_4 (F := Ideal) c M0 M1 M2 M5 f0 f1 f2 f5 g1 g2) := by
  unfold run2.sl.G2_4
  unfold run2.sl.old_3
  refine store_wide (lo := 17) (hi := 495) (M := 478) _ _ _ _ _ rfl rfl rfl hE
    ?_ layer_off ?_
  · intro j hj
    exact (load_rows (off := 16) hP _ j).trans (hB _ _ (by rcases hj with h | h <;> rw [h] <;> decide))
  intro j
  simp only [run2.sl.G3_28, run2.sl.G3_29, run2.sl.G3_30, run2.sl.G3_31, run2.sl.G3_32, run2.sl.G3_33, run2.sl.G3_34,
    run2.sl.G3_35, run2.sl.G3_36, run2.sl.r, run2.sl.r_9, run2.sl.v, run2.sl.v301, run2.sl.v305, run2.sl.v310,
    run2.sl.v314, run2.sl.v319, run2.sl.v323, run2.sl.v328, run2.sl.v332, run2.sl.v337, run2.sl.v341, run2.sl.v346,
    run2.sl.v350, run2.sl.v355, run2.sl.v359, run2.sl.v364, run2.sl.v368, run2.sl.v373, k2_pay47, k2_pay48, k2_pay49,
    k2_pay50, k2_pay51, k2_pay52, k2_pay53, k2_pay54, k2_pay55, k2_pay56, k2_pay57, View.readCov_cons_toLoadRect,
    shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

/-- The rows stored last. -/
theorem last2 {A : ℕ → ℕ → EReal} (hA : Holds (run2.sl.G2_4 (F := Ideal) c M0 M1 M2 M5 f0 f1 f2 f5 g1 g2) A) (j : S478x720.Idx) :
    k2_pay2 (F := Ideal) (run2.sl.v454 c M0 M1 M2 M3 M5 M6 f0 f1 f2 f3 f5 g1 g2)
      (M4.view.readAt (Elt Ideal) (Rect.unit (s := S1x720) ![0, 0] S1x720.size inb_S1x720_S1x720_0_0).toLoadRect f4) j
      = conv 16 A (nat3 (M3.view.read (Elt Ideal) f3)) (j 0).val (j 1).val + nat2 (M4.view.read (Elt Ideal) f4) 0 (j 1).val := by
  simp only [run2.sl.H6_1, run2.sl.H6_2, run2.sl.H6_3, run2.sl.H6_4, run2.sl.H6_5, run2.sl.H6_6, run2.sl.H6_7,
    run2.sl.H6_8, run2.sl.H6_9, run2.sl.r_10, run2.sl.r_11, run2.sl.v385, run2.sl.v390, run2.sl.v394, run2.sl.v398,
    run2.sl.v402, run2.sl.v406, run2.sl.v410, run2.sl.v414, run2.sl.v418, run2.sl.v422, run2.sl.v426, run2.sl.v430,
    run2.sl.v434, run2.sl.v438, run2.sl.v442, run2.sl.v446, run2.sl.v450, run2.sl.v454, k2_pay1, k2_pay2, k2_pay58,
    k2_pay59, k2_pay60, k2_pay61, k2_pay62, k2_pay63, k2_pay64, k2_pay65, k2_pay66, k2_pay67,
    View.readCov_cons_toLoadRect, shapeCast_self]
  exact last_term (conv_term rfl 16
    (load_rows hA _) (load_rows hA _) (load_rows hA _) (load_rows hA _) (load_rows hA _) (load_rows hA _) (load_rows hA _)
    (load_rows hA _) (load_rows hA _) (load_w3 (.inl rfl) _ _ _ _) (load_w3 (.inl rfl) _ _ _ _) (load_w3 (.inl rfl) _ _ _ _)
    (load_w3 (.inl rfl) _ _ _ _) (load_w3 (.inl rfl) _ _ _ _) (load_w3 (.inl rfl) _ _ _ _) (load_w3 (.inl rfl) _ _ _ _)
    (load_w3 (.inl rfl) _ _ _ _) (load_w3 (.inl rfl) _ _ _ _)) (fun k => load_2 _ _ _ _ k) _ j

/-- What the body leaves on the rows it writes is the flat tower of its operands. -/
theorem link2 {x0 : S512x256.Idx → EReal} {x1 : S4x9x256x256.Idx → EReal} {x2 : S4x256.Idx → EReal} {x3 : S9x256x720.Idx → EReal}
    {x4 : S1x720.Idx → EReal} {x5 : S512x1.Idx → EReal} {X : S512x720.Idx → EReal} (h : Out2 (F := Ideal) c x0 x1 x2 x3 x4 x5 X)
    (i : S512x720.Idx) (hi : 17 ≤ (i 0).val ∧ (i 0).val < 495) :
    X i = tower 16 17 495 x0 x1 x2 x3 x4 x5 ((i 0).val - 17) (i 1).val := by
  obtain ⟨f0, f1, f2, f3, f4, f5, g0, g1, g2, g3, f6, h0, h1, h2, h3, h4, h5, h6⟩ := h
  subst h0 h1 h2 h3 h4 h5 h6
  have a0 := held2_0 c (stage2_0 0) f0
  have a1 := held2_1 c (stage2_0 0) (stage2_1 0) (stage2_2 0) (stage2_5 0) f0 f1 f2 f5 g1 a0
  have a2 := held2_2 c (stage2_0 0) (stage2_1 0) (stage2_2 0) (stage2_5 0) f0 f1 f2 f5 g1 g2 a1.1
  have a3 := held2_3 c (stage2_0 0) (stage2_1 0) (stage2_2 0) (stage2_5 0) f0 f1 f2 f5 g1 g2 a2.1 a1.1 layer_off a1.2
  have a4 := held2_4 c (stage2_0 0) (stage2_1 0) (stage2_2 0) (stage2_5 0) f0 f1 f2 f5 g1 g2 a3.1 a2.1 layer_off a2.2
  refine Eq.trans ?_ (last2 c (stage2_0 0) (stage2_1 0) (stage2_2 0) (stage2_3 0) (stage2_4 0) (stage2_5 0) (stage2_6 0)
    f0 f1 f2 f3 f4 f5 g1 g2 a4.1 (ix2 ⟨(i 0).val - 17, by omega⟩ (i 1)))
  exact read_rows (M := 478) (stage2_6 0).view inb_S512x720_S478x720_17_0 _ _ f6 i hi

end Link2

end Cert.KernelIdeal.Tower
-- ==== Proof.Value.Link3.lean ====
/-
  Kernel call 3: the rows that its body leaves are the flat tower's.
-/
module

public import proofs.«01_k».proof.Proof.Value.Taps
public import proofs.«01_k».proof.Proof.Ideal.Pipe

@[expose] public section

set_option maxRecDepth 16384

noncomputable section

namespace Cert.KernelIdeal.Tower

open Cert.KernelIdeal Cert.KernelIdeal.Gen Cert.Rows
open Idealize.ShloMosaic

section Link3

variable (c : Dev nD)
  (M0 : Memref sig .tc .vmem S512x256 .f32) (M1 : Memref sig .tc .vmem S4x9x256x256 .bf16)
  (M2 : Memref sig .tc .vmem S4x256 .f32) (M3 : Memref sig .tc .vmem S9x256x36 .bf16)
  (M4 : Memref sig .tc .vmem S1x36 .f32) (M5 : Memref sig .tc .vmem S512x1 .f32) (M6 : Memref sig .tc .vmem S512x36 .f32)
  (f0 : Bf Ideal c M0) (f1 : Bf Ideal c M1) (f2 : Bf Ideal c M2) (f3 : Bf Ideal c M3) (f4 : Bf Ideal c M4) (f5 : Bf Ideal c M5)
  (g1 : Bf Ideal c (Memref.whole cc3_scratch1)) (g2 : Bf Ideal c (Memref.whole cc3_scratch2))

/-- Layer `i` of this call over a table. -/
abbrev lay3 (i : ℕ) (A : ℕ → ℕ → EReal) : ℕ → ℕ → EReal :=
  layer 16 17 495 (nat4 (M1.view.read (Elt Ideal) f1) i) (nat2 (M2.view.read (Elt Ideal) f2) i)
    (fun r => nat2 (M5.view.read (Elt Ideal) f5) r 0) A

theorem held3_0 : Holds (run3.sl.G0_1 (F := Ideal) c M0 f0) (nat2 (M0.view.read (Elt Ideal) f0)) := by
  unfold run3.sl.G0_1
  refine holds_all _ _ _ ?_ _
  intro i
  simp only [k3_pay3, shapeCast_self]
  exact load_all M0.view _ f0 _ i

theorem edge3_1 : Edges 17 495 (0 : EReal) (run3.sl.G1_2 (F := Ideal) c g1) :=
  edges_two (a := 18) (b := 18) (m := 494) _ _ _ _ (by decide) (by decide) (by decide) (by decide)
    (fun j hj => slice_const (m := 17) _ _ _
      (fun _ => by simp only [k3_pay7, k3_pay5, shapeCast_self]; exact Ideal.ofBits_zero_bf16) j
      ⟨by omega, by have h : (j 0).val < 18 := (j 0).isLt; omega⟩)
    (fun j hj => slice_const (m := 17) _ _ _
      (fun _ => by simp only [k3_pay6, k3_pay4, shapeCast_self]; exact Ideal.ofBits_zero_bf16) j
      ⟨Nat.zero_le _, by omega⟩) (by decide)

theorem edge3_2 : Edges 17 495 (0 : EReal) (run3.sl.G2_2 (F := Ideal) c g2) :=
  edges_two (a := 18) (b := 18) (m := 494) _ _ _ _ (by decide) (by decide) (by decide) (by decide)
    (fun j hj => slice_const (m := 17) _ _ _
      (fun _ => by simp only [k3_pay9, k3_pay5, shapeCast_self]; exact Ideal.ofBits_zero_bf16) j
      ⟨by omega, by have h : (j 0).val < 18 := (j 0).isLt; omega⟩)
    (fun j hj => slice_const (m := 17) _ _ _
      (fun _ => by simp only [k3_pay8, k3_pay4, shapeCast_self]; exact Ideal.ofBits_zero_bf16) j
      ⟨Nat.zero_le _, by omega⟩) (by decide)

set_option maxHeartbeats 1000000 in
theorem held3_1 {A : ℕ → ℕ → EReal} (hA : Holds (run3.sl.G0_1 (F := Ideal) c M0 f0) A) :
    Holds (run3.sl.G1_3 (F := Ideal) c M0 M1 M2 M5 f0 f1 f2 f5 g1) (lay3 c M1 M2 M5 f1 f2 f5 0 A)
      ∧ Edges 17 495 (0 : EReal) (run3.sl.G1_3 (F := Ideal) c M0 M1 M2 M5 f0 f1 f2 f5 g1) := by
  unfold run3.sl.G1_3
  refine store_wide (lo := 17) (hi := 495) (M := 478) _ _ _ _ _ rfl rfl rfl (edge3_1 c g1)
    ?_ layer_off ?_
  · intro j hj
    refine load_edge (off := 16) (M := 480) (v := (Memref.whole cc3_scratch1).view) (edge3_1 c g1) _ _ j ?_
    rcases hj with h | h <;> rw [h] <;> decide
  intro j
  simp only [run3.sl.G3_1, run3.sl.G3_2, run3.sl.G3_3, run3.sl.G3_4, run3.sl.G3_5, run3.sl.G3_6, run3.sl.G3_7, run3.sl.G3_8,
    run3.sl.G3_9, run3.sl.r, run3.sl.r_1, run3.sl.r_2, run3.sl.r_3, run3.sl.v21, run3.sl.v28, run3.sl.v32, run3.sl.v37,
    run3.sl.v41, run3.sl.v46, run3.sl.v50, run3.sl.v55, run3.sl.v59, run3.sl.v64, run3.sl.v68, run3.sl.v73, run3.sl.v77,
    run3.sl.v82, run3.sl.v86, run3.sl.v91, run3.sl.v95, run3.sl.v100, k3_pay10, k3_pay11, k3_pay12, k3_pay13, k3_pay14,
    k3_pay15, k3_pay16, k3_pay17, k3_pay18, k3_pay19, k3_pay20, k3_pay21, k3_pay22, View.readCov_cons_toLoadRect, shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held3_2 {A : ℕ → ℕ → EReal} (hA : Holds (run3.sl.G1_3 (F := Ideal) c M0 M1 M2 M5 f0 f1 f2 f5 g1) A) :
    Holds (run3.sl.G2_3 (F := Ideal) c M0 M1 M2 M5 f0 f1 f2 f5 g1 g2) (lay3 c M1 M2 M5 f1 f2 f5 1 A)
      ∧ Edges 17 495 (0 : EReal) (run3.sl.G2_3 (F := Ideal) c M0 M1 M2 M5 f0 f1 f2 f5 g1 g2) := by
  unfold run3.sl.G2_3
  refine store_wide (lo := 17) (hi := 495) (M := 478) _ _ _ _ _ rfl rfl rfl (edge3_2 c g2)
    ?_ layer_off ?_
  · intro j hj
    refine load_edge (off := 16) (M := 480) (v := (Memref.whole cc3_scratch2).view) (edge3_2 c g2) _ _ j ?_
    rcases hj with h | h <;> rw [h] <;> decide
  intro j
  simp only [run3.sl.G3_10, run3.sl.G3_11, run3.sl.G3_12, run3.sl.G3_13, run3.sl.G3_14, run3.sl.G3_15, run3.sl.G3_16,
    run3.sl.G3_17, run3.sl.G3_18, run3.sl.r, run3.sl.r_4, run3.sl.r_5, run3.sl.r_6, run3.sl.v112, run3.sl.v119,
    run3.sl.v123, run3.sl.v128, run3.sl.v132, run3.sl.v137, run3.sl.v141, run3.sl.v146, run3.sl.v150, run3.sl.v155,
    run3.sl.v159, run3.sl.v164, run3.sl.v168, run3.sl.v173, run3.sl.v177, run3.sl.v182, run3.sl.v186, run3.sl.v191,
    k3_pay23, k3_pay24, k3_pay25, k3_pay26, k3_pay27, k3_pay28, k3_pay29, k3_pay30, k3_pay31, k3_pay32, k3_pay33,
    k3_pay34, k3_pay35, View.readCov_cons_toLoadRect, shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held3_3 {A : ℕ → ℕ → EReal} (hA : Holds (run3.sl.G2_3 (F := Ideal) c M0 M1 M2 M5 f0 f1 f2 f5 g1 g2) A)
    {B : ℕ → ℕ → EReal} (hP : Holds (run3.sl.G1_3 (F := Ideal) c M0 M1 M2 M5 f0 f1 f2 f5 g1) B) (hB : ∀ r k, (r < 17 ∨ 495 ≤ r) → B r k = 0)
    (hE : Edges 17 495 (0 : EReal) (run3.sl.G1_3 (F := Ideal) c M0 M1 M2 M5 f0 f1 f2 f5 g1)) :
    Holds (run3.sl.G1_4 (F := Ideal) c M0 M1 M2 M5 f0 f1 f2 f5 g1 g2) (lay3 c M1 M2 M5 f1 f2 f5 2 A)
      ∧ Edges 17 495 (0 : EReal) (run3.sl.G1_4 (F := Ideal) c M0 M1 M2 M5 f0 f1 f2 f5 g1 g2) := by
  unfold run3.sl.G1_4
  unfold run3.sl.old_2
  refine store_wide (lo := 17) (hi := 495) (M := 478) _ _ _ _ _ rfl rfl rfl hE
    ?_ layer_off ?_
  · intro j hj
    exact (load_rows (off := 16) hP _ j).trans (hB _ _ (by rcases hj with h | h <;> rw [h] <;> decide))
  intro j
  simp only [run3.sl.G3_19, run3.sl.G3_20, run3.sl.G3_21, run3.sl.G3_22, run3.sl.G3_23, run3.sl.G3_24, run3.sl.G3_25,
    run3.sl.G3_26, run3.sl.G3_27, run3.sl.r, run3.sl.r_7, run3.sl.r_8, run3.sl.v203, run3.sl.v210, run3.sl.v214,
    run3.sl.v219, run3.sl.v223, run3.sl.v228, run3.sl.v232, run3.sl.v237, run3.sl.v241, run3.sl.v246, run3.sl.v250,
    run3.sl.v255, run3.sl.v259, run3.sl.v264, run3.sl.v268, run3.sl.v273, run3.sl.v277, run3.sl.v282, k3_pay36,
    k3_pay37, k3_pay38, k3_pay39, k3_pay40, k3_pay41, k3_pay42, k3_pay43, k3_pay44, k3_pay45, k3_pay46,
    View.readCov_cons_toLoadRect, shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held3_4 {A : ℕ → ℕ → EReal} (hA : Holds (run3.sl.G1_4 (F := Ideal) c M0 M1 M2 M5 f0 f1 f2 f5 g1 g2) A)
    {B : ℕ → ℕ → EReal} (hP : Holds (run3.sl.G2_3 (F := Ideal) c M0 M1 M2 M5 f0 f1 f2 f5 g1 g2) B) (hB : ∀ r k, (r < 17 ∨ 495 ≤ r) → B r k = 0)
    (hE : Edges 17 495 (0 : EReal) (run3.sl.G2_3 (F := Ideal) c M0 M1 M2 M5 f0 f1 f2 f5 g1 g2)) :
    Holds (run3.sl.G2_4 (F := Ideal) c M0 M1 M2 M5 f0 f1 f2 f5 g1 g2) (lay3 c M1 M2 M5 f1 f2 f5 3 A)
      ∧ Edges 17 495 (0 : EReal) (run3.sl.G2_4 (F := Ideal) c M0 M1 M2 M5 f0 f1 f2 f5 g1 g2) := by
  unfold run3.sl.G2_4
  unfold run3.sl.old_3
  refine store_wide (lo := 17) (hi := 495) (M := 478) _ _ _ _ _ rfl rfl rfl hE
    ?_ layer_off ?_
  · intro j hj
    exact (load_rows (off := 16) hP _ j).trans (hB _ _ (by rcases hj with h | h <;> rw [h] <;> decide))
  intro j
  simp only [run3.sl.G3_28, run3.sl.G3_29, run3.sl.G3_30, run3.sl.G3_31, run3.sl.G3_32, run3.sl.G3_33, run3.sl.G3_34,
    run3.sl.G3_35, run3.sl.G3_36, run3.sl.r, run3.sl.r_9, run3.sl.v, run3.sl.v301, run3.sl.v305, run3.sl.v310,
    run3.sl.v314, run3.sl.v319, run3.sl.v323, run3.sl.v328, run3.sl.v332, run3.sl.v337, run3.sl.v341, run3.sl.v346,
    run3.sl.v350, run3.sl.v355, run3.sl.v359, run3.sl.v364, run3.sl.v368, run3.sl.v373, k3_pay47, k3_pay48, k3_pay49,
    k3_pay50, k3_pay51, k3_pay52, k3_pay53, k3_pay54, k3_pay55, k3_pay56, k3_pay57, View.readCov_cons_toLoadRect,
    shapeCast_self]
  refine layer_term (M := 478) rfl (conv_term rfl 16
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

/-- The rows stored last. -/
theorem last3 {A : ℕ → ℕ → EReal} (hA : Holds (run3.sl.G2_4 (F := Ideal) c M0 M1 M2 M5 f0 f1 f2 f5 g1 g2) A) (j : S478x36.Idx) :
    k3_pay2 (F := Ideal) (run3.sl.v454 c M0 M1 M2 M3 M5 M6 f0 f1 f2 f3 f5 g1 g2)
      (M4.view.readAt (Elt Ideal) (Rect.unit (s := S1x36) ![0, 0] S1x36.size inb_S1x36_S1x36_0_0).toLoadRect f4) j
      = conv 16 A (nat3 (M3.view.read (Elt Ideal) f3)) (j 0).val (j 1).val + nat2 (M4.view.read (Elt Ideal) f4) 0 (j 1).val := by
  simp only [run3.sl.H6_1, run3.sl.H6_2, run3.sl.H6_3, run3.sl.H6_4, run3.sl.H6_5, run3.sl.H6_6, run3.sl.H6_7,
    run3.sl.H6_8, run3.sl.H6_9, run3.sl.r_10, run3.sl.r_11, run3.sl.v385, run3.sl.v390, run3.sl.v394, run3.sl.v398,
    run3.sl.v402, run3.sl.v406, run3.sl.v410, run3.sl.v414, run3.sl.v418, run3.sl.v422, run3.sl.v426, run3.sl.v430,
    run3.sl.v434, run3.sl.v438, run3.sl.v442, run3.sl.v446, run3.sl.v450, run3.sl.v454, k3_pay1, k3_pay2, k3_pay58,
    k3_pay59, k3_pay60, k3_pay61, k3_pay62, k3_pay63, k3_pay64, k3_pay65, k3_pay66, k3_pay67,
    View.readCov_cons_toLoadRect, shapeCast_self]
  exact last_term (conv_term rfl 16
    (load_rows hA _) (load_rows hA _) (load_rows hA _) (load_rows hA _) (load_rows hA _) (load_rows hA _) (load_rows hA _)
    (load_rows hA _) (load_rows hA _) (load_w3 (.inr rfl) _ _ _ _) (load_w3 (.inr rfl) _ _ _ _) (load_w3 (.inr rfl) _ _ _ _)
    (load_w3 (.inr rfl) _ _ _ _) (load_w3 (.inr rfl) _ _ _ _) (load_w3 (.inr rfl) _ _ _ _) (load_w3 (.inr rfl) _ _ _ _)
    (load_w3 (.inr rfl) _ _ _ _) (load_w3 (.inr rfl) _ _ _ _)) (fun k => load_2 _ _ _ _ k) _ j

/-- What the body leaves on the rows it writes is the flat tower of its operands. -/
theorem link3 {x0 : S512x256.Idx → EReal} {x1 : S4x9x256x256.Idx → EReal} {x2 : S4x256.Idx → EReal} {x3 : S9x256x36.Idx → EReal}
    {x4 : S1x36.Idx → EReal} {x5 : S512x1.Idx → EReal} {X : S512x36.Idx → EReal} (h : Out3 (F := Ideal) c x0 x1 x2 x3 x4 x5 X)
    (i : S512x36.Idx) (hi : 17 ≤ (i 0).val ∧ (i 0).val < 495) :
    X i = tower 16 17 495 x0 x1 x2 x3 x4 x5 ((i 0).val - 17) (i 1).val := by
  obtain ⟨f0, f1, f2, f3, f4, f5, g0, g1, g2, g3, f6, h0, h1, h2, h3, h4, h5, h6⟩ := h
  subst h0 h1 h2 h3 h4 h5 h6
  have a0 := held3_0 c (stage3_0 0) f0
  have a1 := held3_1 c (stage3_0 0) (stage3_1 0) (stage3_2 0) (stage3_5 0) f0 f1 f2 f5 g1 a0
  have a2 := held3_2 c (stage3_0 0) (stage3_1 0) (stage3_2 0) (stage3_5 0) f0 f1 f2 f5 g1 g2 a1.1
  have a3 := held3_3 c (stage3_0 0) (stage3_1 0) (stage3_2 0) (stage3_5 0) f0 f1 f2 f5 g1 g2 a2.1 a1.1 layer_off a1.2
  have a4 := held3_4 c (stage3_0 0) (stage3_1 0) (stage3_2 0) (stage3_5 0) f0 f1 f2 f5 g1 g2 a3.1 a2.1 layer_off a2.2
  refine Eq.trans ?_ (last3 c (stage3_0 0) (stage3_1 0) (stage3_2 0) (stage3_3 0) (stage3_4 0) (stage3_5 0) (stage3_6 0)
    f0 f1 f2 f3 f4 f5 g1 g2 a4.1 (ix2 ⟨(i 0).val - 17, by omega⟩ (i 1)))
  exact read_rows (M := 478) (stage3_6 0).view inb_S512x36_S478x36_17_0 _ _ f6 i hi

end Link3

end Cert.KernelIdeal.Tower
-- ==== Proof.Value.Link4.lean ====
/-
  Kernel call 4: the rows that its body leaves are the flat tower's.
-/
module

public import proofs.«01_k».proof.Proof.Value.Taps
public import proofs.«01_k».proof.Proof.Ideal.Pipe

@[expose] public section

set_option maxRecDepth 16384

noncomputable section

namespace Cert.KernelIdeal.Tower

open Cert.KernelIdeal Cert.KernelIdeal.Gen Cert.Rows
open Idealize.ShloMosaic

section Link4

variable (c : Dev nD)
  (M0 : Memref sig .tc .vmem S162x256 .f32) (M1 : Memref sig .tc .vmem S4x9x256x256 .bf16)
  (M2 : Memref sig .tc .vmem S4x256 .f32) (M3 : Memref sig .tc .vmem S9x256x720 .bf16)
  (M4 : Memref sig .tc .vmem S1x720 .f32) (M5 : Memref sig .tc .vmem S162x1 .f32) (M6 : Memref sig .tc .vmem S162x720 .f32)
  (f0 : Bf Ideal c M0) (f1 : Bf Ideal c M1) (f2 : Bf Ideal c M2) (f3 : Bf Ideal c M3) (f4 : Bf Ideal c M4) (f5 : Bf Ideal c M5)

/-- Layer `i` of this call over a table. -/
abbrev lay4 (i : ℕ) (A : ℕ → ℕ → EReal) : ℕ → ℕ → EReal :=
  layer 9 10 152 (nat4 (M1.view.read (Elt Ideal) f1) i) (nat2 (M2.view.read (Elt Ideal) f2) i)
    (fun r => nat2 (M5.view.read (Elt Ideal) f5) r 0) A

theorem held4_0 : Holds (run4.sl.G0_1 (F := Ideal) c M0 f0) (nat2 (M0.view.read (Elt Ideal) f0)) := by
  unfold run4.sl.G0_1
  refine holds_all _ _ _ ?_ _
  intro i
  simp only [k4_pay3, shapeCast_self]
  exact load_all M0.view _ f0 _ i

theorem edge4_1 : Edges 10 152 (0 : EReal) (run4.sl.G1_2 (F := Ideal)) :=
  edges_two (a := 10) (b := 10) (m := 152) _ _ _ _ (by decide) (by decide) (by decide) (by decide)
    (fun _ _ => by simp only [k4_pay7, k4_pay5, shapeCast_self]; exact Ideal.ofBits_zero_bf16)
    (fun _ _ => by simp only [k4_pay6, k4_pay4, shapeCast_self]; exact Ideal.ofBits_zero_bf16) (by decide)

theorem edge4_2 : Edges 10 152 (0 : EReal) (run4.sl.G2_2 (F := Ideal)) :=
  edges_two (a := 10) (b := 10) (m := 152) _ _ _ _ (by decide) (by decide) (by decide) (by decide)
    (fun _ _ => by simp only [k4_pay9, k4_pay5, shapeCast_self]; exact Ideal.ofBits_zero_bf16)
    (fun _ _ => by simp only [k4_pay8, k4_pay4, shapeCast_self]; exact Ideal.ofBits_zero_bf16) (by decide)

set_option maxHeartbeats 1000000 in
theorem held4_1 {A : ℕ → ℕ → EReal} (hA : Holds (run4.sl.G0_1 (F := Ideal) c M0 f0) A) :
    Holds (run4.sl.G1_3 (F := Ideal) c M0 M1 M2 M5 f0 f1 f2 f5) (lay4 c M1 M2 M5 f1 f2 f5 0 A)
      ∧ Edges 10 152 (0 : EReal) (run4.sl.G1_3 (F := Ideal) c M0 M1 M2 M5 f0 f1 f2 f5) := by
  unfold run4.sl.G1_3
  refine store_mid (lo := 10) (hi := 152) (M := 142) _ _ _ rfl edge4_1 layer_off ?_
  intro j
  simp only [run4.sl.G3_1, run4.sl.G3_2, run4.sl.G3_3, run4.sl.G3_4, run4.sl.G3_5, run4.sl.G3_6, run4.sl.G3_7, run4.sl.G3_8,
    run4.sl.G3_9, run4.sl.r, run4.sl.r_1, run4.sl.r_2, run4.sl.r_3, run4.sl.v21, run4.sl.v28, run4.sl.v32, run4.sl.v37,
    run4.sl.v41, run4.sl.v46, run4.sl.v50, run4.sl.v55, run4.sl.v59, run4.sl.v64, run4.sl.v68, run4.sl.v73, run4.sl.v77,
    run4.sl.v82, run4.sl.v86, run4.sl.v91, run4.sl.v95, run4.sl.v100, k4_pay10, k4_pay11, k4_pay12, k4_pay13, k4_pay14,
    k4_pay15, k4_pay16, k4_pay17, k4_pay18, k4_pay19, k4_pay20, k4_pay21, k4_pay22, View.readCov_cons_toLoadRect, shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held4_2 {A : ℕ → ℕ → EReal} (hA : Holds (run4.sl.G1_3 (F := Ideal) c M0 M1 M2 M5 f0 f1 f2 f5) A) :
    Holds (run4.sl.G2_3 (F := Ideal) c M0 M1 M2 M5 f0 f1 f2 f5) (lay4 c M1 M2 M5 f1 f2 f5 1 A)
      ∧ Edges 10 152 (0 : EReal) (run4.sl.G2_3 (F := Ideal) c M0 M1 M2 M5 f0 f1 f2 f5) := by
  unfold run4.sl.G2_3
  refine store_mid (lo := 10) (hi := 152) (M := 142) _ _ _ rfl edge4_2 layer_off ?_
  intro j
  simp only [run4.sl.G3_10, run4.sl.G3_11, run4.sl.G3_12, run4.sl.G3_13, run4.sl.G3_14, run4.sl.G3_15, run4.sl.G3_16,
    run4.sl.G3_17, run4.sl.G3_18, run4.sl.r, run4.sl.r_4, run4.sl.r_5, run4.sl.r_6, run4.sl.v112, run4.sl.v119,
    run4.sl.v123, run4.sl.v128, run4.sl.v132, run4.sl.v137, run4.sl.v141, run4.sl.v146, run4.sl.v150, run4.sl.v155,
    run4.sl.v159, run4.sl.v164, run4.sl.v168, run4.sl.v173, run4.sl.v177, run4.sl.v182, run4.sl.v186, run4.sl.v191,
    k4_pay23, k4_pay24, k4_pay25, k4_pay26, k4_pay27, k4_pay28, k4_pay29, k4_pay30, k4_pay31, k4_pay32, k4_pay33,
    k4_pay34, k4_pay35, View.readCov_cons_toLoadRect, shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held4_3 {A : ℕ → ℕ → EReal} (hA : Holds (run4.sl.G2_3 (F := Ideal) c M0 M1 M2 M5 f0 f1 f2 f5) A)
    (hE : Edges 10 152 (0 : EReal) (run4.sl.G1_3 (F := Ideal) c M0 M1 M2 M5 f0 f1 f2 f5)) :
    Holds (run4.sl.G1_4 (F := Ideal) c M0 M1 M2 M5 f0 f1 f2 f5) (lay4 c M1 M2 M5 f1 f2 f5 2 A)
      ∧ Edges 10 152 (0 : EReal) (run4.sl.G1_4 (F := Ideal) c M0 M1 M2 M5 f0 f1 f2 f5) := by
  unfold run4.sl.G1_4
  refine store_mid (lo := 10) (hi := 152) (M := 142) _ _ _ rfl hE layer_off ?_
  intro j
  simp only [run4.sl.G3_19, run4.sl.G3_20, run4.sl.G3_21, run4.sl.G3_22, run4.sl.G3_23, run4.sl.G3_24, run4.sl.G3_25,
    run4.sl.G3_26, run4.sl.G3_27, run4.sl.r, run4.sl.r_7, run4.sl.r_8, run4.sl.v203, run4.sl.v210, run4.sl.v214,
    run4.sl.v219, run4.sl.v223, run4.sl.v228, run4.sl.v232, run4.sl.v237, run4.sl.v241, run4.sl.v246, run4.sl.v250,
    run4.sl.v255, run4.sl.v259, run4.sl.v264, run4.sl.v268, run4.sl.v273, run4.sl.v277, run4.sl.v282, k4_pay36,
    k4_pay37, k4_pay38, k4_pay39, k4_pay40, k4_pay41, k4_pay42, k4_pay43, k4_pay44, k4_pay45, k4_pay46,
    View.readCov_cons_toLoadRect, shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held4_4 {A : ℕ → ℕ → EReal} (hA : Holds (run4.sl.G1_4 (F := Ideal) c M0 M1 M2 M5 f0 f1 f2 f5) A)
    (hE : Edges 10 152 (0 : EReal) (run4.sl.G2_3 (F := Ideal) c M0 M1 M2 M5 f0 f1 f2 f5)) :
    Holds (run4.sl.G2_4 (F := Ideal) c M0 M1 M2 M5 f0 f1 f2 f5) (lay4 c M1 M2 M5 f1 f2 f5 3 A)
      ∧ Edges 10 152 (0 : EReal) (run4.sl.G2_4 (F := Ideal) c M0 M1 M2 M5 f0 f1 f2 f5) := by
  unfold run4.sl.G2_4
  refine store_mid (lo := 10) (hi := 152) (M := 142) _ _ _ rfl hE layer_off ?_
  intro j
  simp only [run4.sl.G3_28, run4.sl.G3_29, run4.sl.G3_30, run4.sl.G3_31, run4.sl.G3_32, run4.sl.G3_33, run4.sl.G3_34,
    run4.sl.G3_35, run4.sl.G3_36, run4.sl.r, run4.sl.r_9, run4.sl.v, run4.sl.v301, run4.sl.v305, run4.sl.v310,
    run4.sl.v314, run4.sl.v319, run4.sl.v323, run4.sl.v328, run4.sl.v332, run4.sl.v337, run4.sl.v341, run4.sl.v346,
    run4.sl.v350, run4.sl.v355, run4.sl.v359, run4.sl.v364, run4.sl.v368, run4.sl.v373, k4_pay47, k4_pay48, k4_pay49,
    k4_pay50, k4_pay51, k4_pay52, k4_pay53, k4_pay54, k4_pay55, k4_pay56, k4_pay57, View.readCov_cons_toLoadRect,
    shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

/-- The rows stored last. -/
theorem last4 {A : ℕ → ℕ → EReal} (hA : Holds (run4.sl.G2_4 (F := Ideal) c M0 M1 M2 M5 f0 f1 f2 f5) A) (j : S142x720.Idx) :
    k4_pay2 (F := Ideal) (run4.sl.v454 c M0 M1 M2 M3 M5 M6 f0 f1 f2 f3 f5)
      (M4.view.readAt (Elt Ideal) (Rect.unit (s := S1x720) ![0, 0] S1x720.size inb_S1x720_S1x720_0_0).toLoadRect f4) j
      = conv 9 A (nat3 (M3.view.read (Elt Ideal) f3)) (j 0).val (j 1).val + nat2 (M4.view.read (Elt Ideal) f4) 0 (j 1).val := by
  simp only [run4.sl.H6_1, run4.sl.H6_2, run4.sl.H6_3, run4.sl.H6_4, run4.sl.H6_5, run4.sl.H6_6, run4.sl.H6_7,
    run4.sl.H6_8, run4.sl.H6_9, run4.sl.r_10, run4.sl.r_11, run4.sl.v385, run4.sl.v390, run4.sl.v394, run4.sl.v398,
    run4.sl.v402, run4.sl.v406, run4.sl.v410, run4.sl.v414, run4.sl.v418, run4.sl.v422, run4.sl.v426, run4.sl.v430,
    run4.sl.v434, run4.sl.v438, run4.sl.v442, run4.sl.v446, run4.sl.v450, run4.sl.v454, k4_pay1, k4_pay2, k4_pay58,
    k4_pay59, k4_pay60, k4_pay61, k4_pay62, k4_pay63, k4_pay64, k4_pay65, k4_pay66, k4_pay67,
    View.readCov_cons_toLoadRect, shapeCast_self]
  exact last_term (conv_term rfl 9
    (load_rows hA _) (load_rows hA _) (load_rows hA _) (load_rows hA _) (load_rows hA _) (load_rows hA _) (load_rows hA _)
    (load_rows hA _) (load_rows hA _) (load_w3 (.inl rfl) _ _ _ _) (load_w3 (.inl rfl) _ _ _ _) (load_w3 (.inl rfl) _ _ _ _)
    (load_w3 (.inl rfl) _ _ _ _) (load_w3 (.inl rfl) _ _ _ _) (load_w3 (.inl rfl) _ _ _ _) (load_w3 (.inl rfl) _ _ _ _)
    (load_w3 (.inl rfl) _ _ _ _) (load_w3 (.inl rfl) _ _ _ _)) (fun k => load_2 _ _ _ _ k) _ j

/-- What the body leaves on the rows it writes is the flat tower of its operands. -/
theorem link4 {x0 : S162x256.Idx → EReal} {x1 : S4x9x256x256.Idx → EReal} {x2 : S4x256.Idx → EReal} {x3 : S9x256x720.Idx → EReal}
    {x4 : S1x720.Idx → EReal} {x5 : S162x1.Idx → EReal} {X : S162x720.Idx → EReal} (h : Out4 (F := Ideal) c x0 x1 x2 x3 x4 x5 X)
    (i : S162x720.Idx) (hi : 10 ≤ (i 0).val ∧ (i 0).val < 152) :
    X i = tower 9 10 152 x0 x1 x2 x3 x4 x5 ((i 0).val - 10) (i 1).val := by
  obtain ⟨f0, f1, f2, f3, f4, f5, g0, g1, g2, g3, f6, h0, h1, h2, h3, h4, h5, h6⟩ := h
  subst h0 h1 h2 h3 h4 h5 h6
  have a0 := held4_0 c (stage4_0 0) f0
  have a1 := held4_1 c (stage4_0 0) (stage4_1 0) (stage4_2 0) (stage4_5 0) f0 f1 f2 f5 a0
  have a2 := held4_2 c (stage4_0 0) (stage4_1 0) (stage4_2 0) (stage4_5 0) f0 f1 f2 f5 a1.1
  have a3 := held4_3 c (stage4_0 0) (stage4_1 0) (stage4_2 0) (stage4_5 0) f0 f1 f2 f5 a2.1 a1.2
  have a4 := held4_4 c (stage4_0 0) (stage4_1 0) (stage4_2 0) (stage4_5 0) f0 f1 f2 f5 a3.1 a2.2
  refine Eq.trans ?_ (last4 c (stage4_0 0) (stage4_1 0) (stage4_2 0) (stage4_3 0) (stage4_4 0) (stage4_5 0) (stage4_6 0)
    f0 f1 f2 f3 f4 f5 a4.1 (ix2 ⟨(i 0).val - 10, by omega⟩ (i 1)))
  exact read_rows (M := 142) (stage4_6 0).view inb_S162x720_S142x720_10_0 _ _ f6 i hi

end Link4

end Cert.KernelIdeal.Tower
-- ==== Proof.Value.Link5.lean ====
/-
  Kernel call 5: the rows that its body leaves are the flat tower's.
-/
module

public import proofs.«01_k».proof.Proof.Value.Taps
public import proofs.«01_k».proof.Proof.Ideal.Pipe

@[expose] public section

set_option maxRecDepth 16384

noncomputable section

namespace Cert.KernelIdeal.Tower

open Cert.KernelIdeal Cert.KernelIdeal.Gen Cert.Rows
open Idealize.ShloMosaic

section Link5

variable (c : Dev nD)
  (M0 : Memref sig .tc .vmem S162x256 .f32) (M1 : Memref sig .tc .vmem S4x9x256x256 .bf16)
  (M2 : Memref sig .tc .vmem S4x256 .f32) (M3 : Memref sig .tc .vmem S9x256x36 .bf16)
  (M4 : Memref sig .tc .vmem S1x36 .f32) (M5 : Memref sig .tc .vmem S162x1 .f32) (M6 : Memref sig .tc .vmem S162x36 .f32)
  (f0 : Bf Ideal c M0) (f1 : Bf Ideal c M1) (f2 : Bf Ideal c M2) (f3 : Bf Ideal c M3) (f4 : Bf Ideal c M4) (f5 : Bf Ideal c M5)

/-- Layer `i` of this call over a table. -/
abbrev lay5 (i : ℕ) (A : ℕ → ℕ → EReal) : ℕ → ℕ → EReal :=
  layer 9 10 152 (nat4 (M1.view.read (Elt Ideal) f1) i) (nat2 (M2.view.read (Elt Ideal) f2) i)
    (fun r => nat2 (M5.view.read (Elt Ideal) f5) r 0) A

theorem held5_0 : Holds (run5.sl.G0_1 (F := Ideal) c M0 f0) (nat2 (M0.view.read (Elt Ideal) f0)) := by
  unfold run5.sl.G0_1
  refine holds_all _ _ _ ?_ _
  intro i
  simp only [k5_pay3, shapeCast_self]
  exact load_all M0.view _ f0 _ i

theorem edge5_1 : Edges 10 152 (0 : EReal) (run5.sl.G1_2 (F := Ideal)) :=
  edges_two (a := 10) (b := 10) (m := 152) _ _ _ _ (by decide) (by decide) (by decide) (by decide)
    (fun _ _ => by simp only [k5_pay7, k5_pay5, shapeCast_self]; exact Ideal.ofBits_zero_bf16)
    (fun _ _ => by simp only [k5_pay6, k5_pay4, shapeCast_self]; exact Ideal.ofBits_zero_bf16) (by decide)

theorem edge5_2 : Edges 10 152 (0 : EReal) (run5.sl.G2_2 (F := Ideal)) :=
  edges_two (a := 10) (b := 10) (m := 152) _ _ _ _ (by decide) (by decide) (by decide) (by decide)
    (fun _ _ => by simp only [k5_pay9, k5_pay5, shapeCast_self]; exact Ideal.ofBits_zero_bf16)
    (fun _ _ => by simp only [k5_pay8, k5_pay4, shapeCast_self]; exact Ideal.ofBits_zero_bf16) (by decide)

set_option maxHeartbeats 1000000 in
theorem held5_1 {A : ℕ → ℕ → EReal} (hA : Holds (run5.sl.G0_1 (F := Ideal) c M0 f0) A) :
    Holds (run5.sl.G1_3 (F := Ideal) c M0 M1 M2 M5 f0 f1 f2 f5) (lay5 c M1 M2 M5 f1 f2 f5 0 A)
      ∧ Edges 10 152 (0 : EReal) (run5.sl.G1_3 (F := Ideal) c M0 M1 M2 M5 f0 f1 f2 f5) := by
  unfold run5.sl.G1_3
  refine store_mid (lo := 10) (hi := 152) (M := 142) _ _ _ rfl edge5_1 layer_off ?_
  intro j
  simp only [run5.sl.G3_1, run5.sl.G3_2, run5.sl.G3_3, run5.sl.G3_4, run5.sl.G3_5, run5.sl.G3_6, run5.sl.G3_7, run5.sl.G3_8,
    run5.sl.G3_9, run5.sl.r, run5.sl.r_1, run5.sl.r_2, run5.sl.r_3, run5.sl.v21, run5.sl.v28, run5.sl.v32, run5.sl.v37,
    run5.sl.v41, run5.sl.v46, run5.sl.v50, run5.sl.v55, run5.sl.v59, run5.sl.v64, run5.sl.v68, run5.sl.v73, run5.sl.v77,
    run5.sl.v82, run5.sl.v86, run5.sl.v91, run5.sl.v95, run5.sl.v100, k5_pay10, k5_pay11, k5_pay12, k5_pay13, k5_pay14,
    k5_pay15, k5_pay16, k5_pay17, k5_pay18, k5_pay19, k5_pay20, k5_pay21, k5_pay22, View.readCov_cons_toLoadRect, shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held5_2 {A : ℕ → ℕ → EReal} (hA : Holds (run5.sl.G1_3 (F := Ideal) c M0 M1 M2 M5 f0 f1 f2 f5) A) :
    Holds (run5.sl.G2_3 (F := Ideal) c M0 M1 M2 M5 f0 f1 f2 f5) (lay5 c M1 M2 M5 f1 f2 f5 1 A)
      ∧ Edges 10 152 (0 : EReal) (run5.sl.G2_3 (F := Ideal) c M0 M1 M2 M5 f0 f1 f2 f5) := by
  unfold run5.sl.G2_3
  refine store_mid (lo := 10) (hi := 152) (M := 142) _ _ _ rfl edge5_2 layer_off ?_
  intro j
  simp only [run5.sl.G3_10, run5.sl.G3_11, run5.sl.G3_12, run5.sl.G3_13, run5.sl.G3_14, run5.sl.G3_15, run5.sl.G3_16,
    run5.sl.G3_17, run5.sl.G3_18, run5.sl.r, run5.sl.r_4, run5.sl.r_5, run5.sl.r_6, run5.sl.v112, run5.sl.v119,
    run5.sl.v123, run5.sl.v128, run5.sl.v132, run5.sl.v137, run5.sl.v141, run5.sl.v146, run5.sl.v150, run5.sl.v155,
    run5.sl.v159, run5.sl.v164, run5.sl.v168, run5.sl.v173, run5.sl.v177, run5.sl.v182, run5.sl.v186, run5.sl.v191,
    k5_pay23, k5_pay24, k5_pay25, k5_pay26, k5_pay27, k5_pay28, k5_pay29, k5_pay30, k5_pay31, k5_pay32, k5_pay33,
    k5_pay34, k5_pay35, View.readCov_cons_toLoadRect, shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held5_3 {A : ℕ → ℕ → EReal} (hA : Holds (run5.sl.G2_3 (F := Ideal) c M0 M1 M2 M5 f0 f1 f2 f5) A)
    (hE : Edges 10 152 (0 : EReal) (run5.sl.G1_3 (F := Ideal) c M0 M1 M2 M5 f0 f1 f2 f5)) :
    Holds (run5.sl.G1_4 (F := Ideal) c M0 M1 M2 M5 f0 f1 f2 f5) (lay5 c M1 M2 M5 f1 f2 f5 2 A)
      ∧ Edges 10 152 (0 : EReal) (run5.sl.G1_4 (F := Ideal) c M0 M1 M2 M5 f0 f1 f2 f5) := by
  unfold run5.sl.G1_4
  refine store_mid (lo := 10) (hi := 152) (M := 142) _ _ _ rfl hE layer_off ?_
  intro j
  simp only [run5.sl.G3_19, run5.sl.G3_20, run5.sl.G3_21, run5.sl.G3_22, run5.sl.G3_23, run5.sl.G3_24, run5.sl.G3_25,
    run5.sl.G3_26, run5.sl.G3_27, run5.sl.r, run5.sl.r_7, run5.sl.r_8, run5.sl.v203, run5.sl.v210, run5.sl.v214,
    run5.sl.v219, run5.sl.v223, run5.sl.v228, run5.sl.v232, run5.sl.v237, run5.sl.v241, run5.sl.v246, run5.sl.v250,
    run5.sl.v255, run5.sl.v259, run5.sl.v264, run5.sl.v268, run5.sl.v273, run5.sl.v277, run5.sl.v282, k5_pay36,
    k5_pay37, k5_pay38, k5_pay39, k5_pay40, k5_pay41, k5_pay42, k5_pay43, k5_pay44, k5_pay45, k5_pay46,
    View.readCov_cons_toLoadRect, shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

set_option maxHeartbeats 1000000 in
theorem held5_4 {A : ℕ → ℕ → EReal} (hA : Holds (run5.sl.G1_4 (F := Ideal) c M0 M1 M2 M5 f0 f1 f2 f5) A)
    (hE : Edges 10 152 (0 : EReal) (run5.sl.G2_3 (F := Ideal) c M0 M1 M2 M5 f0 f1 f2 f5)) :
    Holds (run5.sl.G2_4 (F := Ideal) c M0 M1 M2 M5 f0 f1 f2 f5) (lay5 c M1 M2 M5 f1 f2 f5 3 A)
      ∧ Edges 10 152 (0 : EReal) (run5.sl.G2_4 (F := Ideal) c M0 M1 M2 M5 f0 f1 f2 f5) := by
  unfold run5.sl.G2_4
  refine store_mid (lo := 10) (hi := 152) (M := 142) _ _ _ rfl hE layer_off ?_
  intro j
  simp only [run5.sl.G3_28, run5.sl.G3_29, run5.sl.G3_30, run5.sl.G3_31, run5.sl.G3_32, run5.sl.G3_33, run5.sl.G3_34,
    run5.sl.G3_35, run5.sl.G3_36, run5.sl.r, run5.sl.r_9, run5.sl.v, run5.sl.v301, run5.sl.v305, run5.sl.v310,
    run5.sl.v314, run5.sl.v319, run5.sl.v323, run5.sl.v328, run5.sl.v332, run5.sl.v337, run5.sl.v341, run5.sl.v346,
    run5.sl.v350, run5.sl.v355, run5.sl.v359, run5.sl.v364, run5.sl.v368, run5.sl.v373, k5_pay47, k5_pay48, k5_pay49,
    k5_pay50, k5_pay51, k5_pay52, k5_pay53, k5_pay54, k5_pay55, k5_pay56, k5_pay57, View.readCov_cons_toLoadRect,
    shapeCast_self]
  refine layer_term (M := 142) rfl (conv_term rfl 9
    (load_rows hA _) (load_rows hA _) (load_rows hA _) (load_rows hA _) (load_rows hA _) (load_rows hA _) (load_rows hA _)
    (load_rows hA _) (load_rows hA _) (load_w4 _ _ _ _) (load_w4 _ _ _ _) (load_w4 _ _ _ _) (load_w4 _ _ _ _) (load_w4 _ _ _ _)
    (load_w4 _ _ _ _) (load_w4 _ _ _ _) (load_w4 _ _ _ _) (load_w4 _ _ _ _)) (fun k => load_2 _ _ _ _ k)
    (fun r => load_2 _ _ _ r 0) _ _ _ j

/-- The rows stored last. -/
theorem last5 {A : ℕ → ℕ → EReal} (hA : Holds (run5.sl.G2_4 (F := Ideal) c M0 M1 M2 M5 f0 f1 f2 f5) A) (j : S142x36.Idx) :
    k5_pay2 (F := Ideal) (run5.sl.v454 c M0 M1 M2 M3 M5 M6 f0 f1 f2 f3 f5)
      (M4.view.readAt (Elt Ideal) (Rect.unit (s := S1x36) ![0, 0] S1x36.size inb_S1x36_S1x36_0_0).toLoadRect f4) j
      = conv 9 A (nat3 (M3.view.read (Elt Ideal) f3)) (j 0).val (j 1).val + nat2 (M4.view.read (Elt Ideal) f4) 0 (j 1).val := by
  simp only [run5.sl.H6_1, run5.sl.H6_2, run5.sl.H6_3, run5.sl.H6_4, run5.sl.H6_5, run5.sl.H6_6, run5.sl.H6_7,
    run5.sl.H6_8, run5.sl.H6_9, run5.sl.r_10, run5.sl.r_11, run5.sl.v385, run5.sl.v390, run5.sl.v394, run5.sl.v398,
    run5.sl.v402, run5.sl.v406, run5.sl.v410, run5.sl.v414, run5.sl.v418, run5.sl.v422, run5.sl.v426, run5.sl.v430,
    run5.sl.v434, run5.sl.v438, run5.sl.v442, run5.sl.v446, run5.sl.v450, run5.sl.v454, k5_pay1, k5_pay2, k5_pay58,
    k5_pay59, k5_pay60, k5_pay61, k5_pay62, k5_pay63, k5_pay64, k5_pay65, k5_pay66, k5_pay67,
    View.readCov_cons_toLoadRect, shapeCast_self]
  exact last_term (conv_term rfl 9
    (load_rows hA _) (load_rows hA _) (load_rows hA _) (load_rows hA _) (load_rows hA _) (load_rows hA _) (load_rows hA _)
    (load_rows hA _) (load_rows hA _) (load_w3 (.inr rfl) _ _ _ _) (load_w3 (.inr rfl) _ _ _ _) (load_w3 (.inr rfl) _ _ _ _)
    (load_w3 (.inr rfl) _ _ _ _) (load_w3 (.inr rfl) _ _ _ _) (load_w3 (.inr rfl) _ _ _ _) (load_w3 (.inr rfl) _ _ _ _)
    (load_w3 (.inr rfl) _ _ _ _) (load_w3 (.inr rfl) _ _ _ _)) (fun k => load_2 _ _ _ _ k) _ j

/-- What the body leaves on the rows it writes is the flat tower of its operands. -/
theorem link5 {x0 : S162x256.Idx → EReal} {x1 : S4x9x256x256.Idx → EReal} {x2 : S4x256.Idx → EReal} {x3 : S9x256x36.Idx → EReal}
    {x4 : S1x36.Idx → EReal} {x5 : S162x1.Idx → EReal} {X : S162x36.Idx → EReal} (h : Out5 (F := Ideal) c x0 x1 x2 x3 x4 x5 X)
    (i : S162x36.Idx) (hi : 10 ≤ (i 0).val ∧ (i 0).val < 152) :
    X i = tower 9 10 152 x0 x1 x2 x3 x4 x5 ((i 0).val - 10) (i 1).val := by
  obtain ⟨f0, f1, f2, f3, f4, f5, g0, g1, g2, g3, f6, h0, h1, h2, h3, h4, h5, h6⟩ := h
  subst h0 h1 h2 h3 h4 h5 h6
  have a0 := held5_0 c (stage5_0 0) f0
  have a1 := held5_1 c (stage5_0 0) (stage5_1 0) (stage5_2 0) (stage5_5 0) f0 f1 f2 f5 a0
  have a2 := held5_2 c (stage5_0 0) (stage5_1 0) (stage5_2 0) (stage5_5 0) f0 f1 f2 f5 a1.1
  have a3 := held5_3 c (stage5_0 0) (stage5_1 0) (stage5_2 0) (stage5_5 0) f0 f1 f2 f5 a2.1 a1.2
  have a4 := held5_4 c (stage5_0 0) (stage5_1 0) (stage5_2 0) (stage5_5 0) f0 f1 f2 f5 a3.1 a2.2
  refine Eq.trans ?_ (last5 c (stage5_0 0) (stage5_1 0) (stage5_2 0) (stage5_3 0) (stage5_4 0) (stage5_5 0) (stage5_6 0)
    f0 f1 f2 f3 f4 f5 a4.1 (ix2 ⟨(i 0).val - 10, by omega⟩ (i 1)))
  exact read_rows (M := 142) (stage5_6 0).view inb_S162x36_S142x36_10_0 _ _ f6 i hi

end Link5

end Cert.KernelIdeal.Tower
-- ==== Proof.Value.Crops.lean ====
/-
  Each kernel call's rows, cropped to the level, are the reference's tower on that level.
-/
module

public import proofs.«01_k».proof.Proof.Value.Arrays
public import proofs.«01_k».proof.Proof.Value.Link0
public import proofs.«01_k».proof.Proof.Value.Link1
public import proofs.«01_k».proof.Proof.Value.Link2
public import proofs.«01_k».proof.Proof.Value.Link3
public import proofs.«01_k».proof.Proof.Value.Link4
public import proofs.«01_k».proof.Proof.Value.Link5
public import proofs.«01_k».proof.Proof.Ideal.Launch

@[expose] public section

set_option maxRecDepth 16384

noncomputable section

namespace Cert.KernelIdeal.Tower

open Cert.KernelIdeal Cert.KernelIdeal.Gen Cert.Rows Cert.ReferenceIdeal.Tower
open Idealize.ShloMosaic
open Idealize.ShloMosaic.TcCoe

variable (m : (ℓ : Loc nD τ sig) → Buf (Elt Ideal) ℓ) (c : Dev nD) (o : Outs (F := Ideal))

/-- The class tower on the first level. -/
theorem crop0 (h : Good m 6 c o) : extractStridedSlice (α := EReal) S2x28x28x720 ![0, 1, 1, 0]
      (shapeCast S2x30x30x720 (o 4 main_v15 c) shapeCasts_S1800x720_S2x30x30x720) slices_S2x30x30x720_S2x28x28x720_0_1_1_0
    = refG layers28 sizes28_720 (V0 m c main_arg3) (V0 m c main_arg4) (V0 m c main_arg5) (V0 m c main_arg6) (padG layers28 (V0 m c main_arg0)) := by
  have h0 := h.1 (by decide)
  obtain ⟨e0, e1, e2, e3, e4, e5⟩ := blk0 m c
  rw [e0, e1, e2, e3, e4, e5, VA_v14, VA_v4, VA_arg4, VA_v8, VA_v11] at h0
  exact crop_tower (R := 1800) (H := 28) (Or.inl rfl) rfl layers28 sizes28_720 _ _ _ _ _ _ _ _ _ (masks28 m c) _ (fun i hi => link0 c h0 i hi) _ _

/-- The box tower on the first level. -/
theorem crop1 (h : Good m 6 c o) : extractStridedSlice (α := EReal) S2x28x28x36 ![0, 1, 1, 0]
      (shapeCast S2x30x30x36 (o 5 main_v16 c) shapeCasts_S1800x36_S2x30x30x36) slices_S2x30x30x36_S2x28x28x36_0_1_1_0
    = refG layers28 sizes28_36 (V0 m c main_arg7) (V0 m c main_arg8) (V0 m c main_arg9) (V0 m c main_arg10) (padG layers28 (V0 m c main_arg0)) := by
  have h0 := h.2.1 (by decide)
  obtain ⟨e0, e1, e2, e3, e4, e5⟩ := blk1 m c
  rw [e0, e1, e2, e3, e4, e5, VA_v14, VA_v6, VA_arg8, VA_v10, VA_v12] at h0
  exact crop_tower (R := 1800) (H := 28) (Or.inl rfl) rfl layers28 sizes28_36 _ _ _ _ _ _ _ _ _ (masks28 m c) _ (fun i hi => link1 c h0 i hi) _ _

/-- The class tower on the second level. -/
theorem crop2 (h : Good m 6 c o) : extractStridedSlice (α := EReal) S2x14x14x720 ![0, 1, 1, 0]
      (shapeCast S2x16x16x720 (o 9 main_v25 c) shapeCasts_S512x720_S2x16x16x720) slices_S2x16x16x720_S2x14x14x720_0_1_1_0
    = refG layers14 sizes14_720 (V0 m c main_arg3) (V0 m c main_arg4) (V0 m c main_arg5) (V0 m c main_arg6) (padG layers14 (V0 m c main_arg1)) := by
  have h0 := h.2.2.1 (by decide)
  obtain ⟨e0, e1, e2, e3, e4, e5⟩ := blk2 m c
  rw [e0, e1, e2, e3, e4, e5, VA_24, VA_v4, VA_arg4, VA_v8, VA_v11] at h0
  exact crop_tower (R := 512) (H := 14) (Or.inr (Or.inl rfl)) rfl layers14 sizes14_720 _ _ _ _ _ _ _ _ _ (masks14 m c) _ (fun i hi => link2 c h0 i hi) _ _

/-- The box tower on the second level. -/
theorem crop3 (h : Good m 6 c o) : extractStridedSlice (α := EReal) S2x14x14x36 ![0, 1, 1, 0]
      (shapeCast S2x16x16x36 (o 10 main_v26 c) shapeCasts_S512x36_S2x16x16x36) slices_S2x16x16x36_S2x14x14x36_0_1_1_0
    = refG layers14 sizes14_36 (V0 m c main_arg7) (V0 m c main_arg8) (V0 m c main_arg9) (V0 m c main_arg10) (padG layers14 (V0 m c main_arg1)) := by
  have h0 := h.2.2.2.1 (by decide)
  obtain ⟨e0, e1, e2, e3, e4, e5⟩ := blk3 m c
  rw [e0, e1, e2, e3, e4, e5, VA_24, VA_v6, VA_arg8, VA_v10, VA_v12] at h0
  exact crop_tower (R := 512) (H := 14) (Or.inr (Or.inl rfl)) rfl layers14 sizes14_36 _ _ _ _ _ _ _ _ _ (masks14 m c) _ (fun i hi => link3 c h0 i hi) _ _

/-- The class tower on the third level. -/
theorem crop4 (h : Good m 6 c o) : extractStridedSlice (α := EReal) S2x7x7x720 ![0, 1, 1, 0]
      (shapeCast S2x9x9x720 (o 14 main_v35 c) shapeCasts_S162x720_S2x9x9x720) slices_S2x9x9x720_S2x7x7x720_0_1_1_0
    = refG layers7 sizes7_720 (V0 m c main_arg3) (V0 m c main_arg4) (V0 m c main_arg5) (V0 m c main_arg6) (padG layers7 (V0 m c main_arg2)) := by
  have h0 := h.2.2.2.2.1 (by decide)
  obtain ⟨e0, e1, e2, e3, e4, e5⟩ := blk4 m c
  rw [e0, e1, e2, e3, e4, e5, VA_34, VA_v4, VA_arg4, VA_v8, VA_v11] at h0
  exact crop_tower (R := 162) (H := 7) (Or.inr (Or.inr rfl)) rfl layers7 sizes7_720 _ _ _ _ _ _ _ _ _ (masks7 m c) _ (fun i hi => link4 c h0 i hi) _ _

/-- The box tower on the third level. -/
theorem crop5 (h : Good m 6 c o) : extractStridedSlice (α := EReal) S2x7x7x36 ![0, 1, 1, 0]
      (shapeCast S2x9x9x36 (o 15 main_v36 c) shapeCasts_S162x36_S2x9x9x36) slices_S2x9x9x36_S2x7x7x36_0_1_1_0
    = refG layers7 sizes7_36 (V0 m c main_arg7) (V0 m c main_arg8) (V0 m c main_arg9) (V0 m c main_arg10) (padG layers7 (V0 m c main_arg2)) := by
  have h0 := h.2.2.2.2.2 (by decide)
  obtain ⟨e0, e1, e2, e3, e4, e5⟩ := blk5 m c
  rw [e0, e1, e2, e3, e4, e5, VA_34, VA_v6, VA_arg8, VA_v10, VA_v12] at h0
  exact crop_tower (R := 162) (H := 7) (Or.inr (Or.inr rfl)) rfl layers7 sizes7_36 _ _ _ _ _ _ _ _ _ (masks7 m c) _ (fun i hi => link5 c h0 i hi) _ _

end Cert.KernelIdeal.Tower
-- ==== Proof.Value.Tail.lean ====
/-
  What follows the towers: the anchors shifted and scaled by the box values, the classes' scores, the two hundred best
  places of each image and their boxes. One function of the class values, the box values and the anchors.
-/
module

public import proofs.«01_k».proof.Proof.Ideal.Pipe
public import Idealize.ShloMosaic.Lib.StableHlo.RunRead

@[expose] public section

set_option maxRecDepth 16384

noncomputable section

namespace Cert.KernelIdeal.Tower

open Cert.KernelIdeal Cert.KernelIdeal.Gen
open Idealize.ShloMosaic
open Idealize.ShloMosaic.TcCoe

variable {F : FTy → Type} [FloatOps F]

/-- The anchors' widths. -/
def wide (a : (⟨S1x9261x4, .f32⟩ : BufTy).Contents (Elt F)) : (⟨S1x9261, .f32⟩ : BufTy).Contents (Elt F) :=
  subf (F := F) (φ := .f32) (shapeCast S1x9261 (extractStridedSlice S1x9261x1 ![0, 0, 2] a slices_S1x9261x4_S1x9261x1_0_0_2) shapeCasts_S1x9261x1_S1x9261)
    (shapeCast S1x9261 (extractStridedSlice S1x9261x1 ![0, 0, 0] a slices_S1x9261x4_S1x9261x1_0_0_0) shapeCasts_S1x9261x1_S1x9261)

/-- The anchors' heights. -/
def high (a : (⟨S1x9261x4, .f32⟩ : BufTy).Contents (Elt F)) : (⟨S1x9261, .f32⟩ : BufTy).Contents (Elt F) :=
  subf (F := F) (φ := .f32) (shapeCast S1x9261 (extractStridedSlice S1x9261x1 ![0, 0, 3] a slices_S1x9261x4_S1x9261x1_0_0_3) shapeCasts_S1x9261x1_S1x9261)
    (shapeCast S1x9261 (extractStridedSlice S1x9261x1 ![0, 0, 1] a slices_S1x9261x4_S1x9261x1_0_0_1) shapeCasts_S1x9261x1_S1x9261)

/-- The boxes' middles across. -/
def midX (b : (⟨S2x9261x4, .f32⟩ : BufTy).Contents (Elt F)) (a : (⟨S1x9261x4, .f32⟩ : BufTy).Contents (Elt F)) :
    (⟨S2x9261, .f32⟩ : BufTy).Contents (Elt F) :=
  addf (F := F) (φ := .f32) (mulf (shapeCast S2x9261 (extractStridedSlice S2x9261x1 ![0, 0, 0] b slices_S2x9261x4_S2x9261x1_0_0_0) shapeCasts_S2x9261x1_S2x9261)
      (broadcastInDim S2x9261 ![0, 1] bcast_S1x9261_S2x9261_0_1 (wide a)))
    (broadcastInDim S2x9261 ![0, 1] bcast_S1x9261_S2x9261_0_1
      (addf (shapeCast S1x9261 (extractStridedSlice S1x9261x1 ![0, 0, 0] a slices_S1x9261x4_S1x9261x1_0_0_0) shapeCasts_S1x9261x1_S1x9261)
        (Host.divf (wide a) (broadcastInDim S1x9261 ![] bcast_S_S1x9261 (constant S_ .f32 0x40000000#32)))))

/-- The boxes' middles down. -/
def midY (b : (⟨S2x9261x4, .f32⟩ : BufTy).Contents (Elt F)) (a : (⟨S1x9261x4, .f32⟩ : BufTy).Contents (Elt F)) :
    (⟨S2x9261, .f32⟩ : BufTy).Contents (Elt F) :=
  addf (F := F) (φ := .f32) (mulf (shapeCast S2x9261 (extractStridedSlice S2x9261x1 ![0, 0, 1] b slices_S2x9261x4_S2x9261x1_0_0_1) shapeCasts_S2x9261x1_S2x9261)
      (broadcastInDim S2x9261 ![0, 1] bcast_S1x9261_S2x9261_0_1 (high a)))
    (broadcastInDim S2x9261 ![0, 1] bcast_S1x9261_S2x9261_0_1
      (addf (shapeCast S1x9261 (extractStridedSlice S1x9261x1 ![0, 0, 1] a slices_S1x9261x4_S1x9261x1_0_0_1) shapeCasts_S1x9261x1_S1x9261)
        (Host.divf (high a) (broadcastInDim S1x9261 ![] bcast_S_S1x9261 (constant S_ .f32 0x40000000#32)))))

/-- A size value, kept between its bounds. -/
def kept (x : (⟨S2x9261, .f32⟩ : BufTy).Contents (Elt F)) : (⟨S2x9261, .f32⟩ : BufTy).Contents (Elt F) :=
  minimumf (F := F) (φ := .f32) (broadcastInDim S2x9261 ![] bcast_S_S2x9261 (id (constant S_ .f32 0x40800000#32)))
    (maximumf (broadcastInDim S2x9261 ![] bcast_S_S2x9261 (id (constant S_ .f32 0xC1200000#32))) x)

/-- The boxes' widths. -/
def boxW (b : (⟨S2x9261x4, .f32⟩ : BufTy).Contents (Elt F)) (a : (⟨S1x9261x4, .f32⟩ : BufTy).Contents (Elt F)) :
    (⟨S2x9261, .f32⟩ : BufTy).Contents (Elt F) :=
  mulf (F := F) (φ := .f32) (Host.exp (kept (shapeCast S2x9261 (extractStridedSlice S2x9261x1 ![0, 0, 2] b slices_S2x9261x4_S2x9261x1_0_0_2) shapeCasts_S2x9261x1_S2x9261)))
    (broadcastInDim S2x9261 ![0, 1] bcast_S1x9261_S2x9261_0_1 (wide a))

/-- The boxes' heights. -/
def boxH (b : (⟨S2x9261x4, .f32⟩ : BufTy).Contents (Elt F)) (a : (⟨S1x9261x4, .f32⟩ : BufTy).Contents (Elt F)) :
    (⟨S2x9261, .f32⟩ : BufTy).Contents (Elt F) :=
  mulf (F := F) (φ := .f32) (Host.exp (kept (shapeCast S2x9261 (extractStridedSlice S2x9261x1 ![0, 0, 3] b slices_S2x9261x4_S2x9261x1_0_0_3) shapeCasts_S2x9261x1_S2x9261)))
    (broadcastInDim S2x9261 ![0, 1] bcast_S1x9261_S2x9261_0_1 (high a))

/-- The half of a size. -/
def halfOf (x : (⟨S2x9261, .f32⟩ : BufTy).Contents (Elt F)) : (⟨S2x9261, .f32⟩ : BufTy).Contents (Elt F) :=
  Host.divf (F := F) (φ := .f32) x (broadcastInDim S2x9261 ![] bcast_S_S2x9261 (constant S_ .f32 0x40000000#32))

/-- The four edges of every box, from middles and sizes. -/
def edgesOf (x y w h : (⟨S2x9261, .f32⟩ : BufTy).Contents (Elt F)) : (⟨S2x9261x4, .f32⟩ : BufTy).Contents (Elt F) :=
  concatenate S2x9261x4 2
    [⟨S2x9261x1, broadcastInDim S2x9261x1 ![0, 1] bcast_S2x9261_S2x9261x1_0_1 (subf (F := F) (φ := .f32) x (halfOf w))⟩,
     ⟨S2x9261x1, broadcastInDim S2x9261x1 ![0, 1] bcast_S2x9261_S2x9261x1_0_1 (subf (F := F) (φ := .f32) y (halfOf h))⟩,
     ⟨S2x9261x1, broadcastInDim S2x9261x1 ![0, 1] bcast_S2x9261_S2x9261x1_0_1 (addf (F := F) (φ := .f32) x (halfOf w))⟩,
     ⟨S2x9261x1, broadcastInDim S2x9261x1 ![0, 1] bcast_S2x9261_S2x9261x1_0_1 (addf (F := F) (φ := .f32) y (halfOf h))⟩]
    concatenates_S2x9261x1_S2x9261x1_S2x9261x1_S2x9261x1_S2x9261x4_d2

/-- The best score of every place. -/
def scores (k : (⟨S2x9261x80, .f32⟩ : BufTy).Contents (Elt F)) : (⟨S2x9261, .f32⟩ : BufTy).Contents (Elt F) :=
  Host.reduce (FloatOps.maximumf (F := F) (φ := .f32)) (Host.divf (F := F) (φ := .f32) (broadcastInDim S2x9261x80 ![] bcast_S_S2x9261x80 (constant S_ .f32 0x3F800000#32))
    (addf (broadcastInDim S2x9261x80 ![] bcast_S_S2x9261x80 (constant S_ .f32 0x3F800000#32)) (Host.exp (Host.negf k))))
    (constant (F := F) S_ .f32 0xFF800000#32) reducesTo_S2x9261x80_S2x9261_d2 h_S_

/-- The best two hundred scores. -/
def bestOf (s : (⟨S2x9261, .f32⟩ : BufTy).Contents (Elt F)) : (⟨S2x200, .f32⟩ : BufTy).Contents (Elt F) :=
  (Host.topK S2x200 1 (FloatOps.cmpfTotal (F := F) (φ := .f32) .gt) s sliceFits_S2x9261_S2x200).1

/-- The places of the best two hundred scores. -/
def placesOf (s : (⟨S2x9261, .f32⟩ : BufTy).Contents (Elt F)) : (⟨S2x200x1, .i32⟩ : BufTy).Contents (Elt F) :=
  broadcastInDim S2x200x1 ![0, 1] bcast_S2x200_S2x200x1_0_1 (Host.topK S2x200 1 (FloatOps.cmpfTotal (F := F) (φ := .f32) .gt) s sliceFits_S2x9261_S2x200).2

/-- A place counted from the end is counted from the start. -/
def wrapped (i : (⟨S2x200x1, .i32⟩ : BufTy).Contents (Elt F)) : (⟨S2x200x1, .i32⟩ : BufTy).Contents (Elt F) :=
  select (cmpi .slt i (broadcastInDim S2x200x1 ![] bcast_S_S2x200x1 (constantI S_ 32 0#32)))
    (addi i (broadcastInDim S2x200x1 ![] bcast_S_S2x200x1 (constantI S_ 32 9261#32))) i

/-- The boxes at the given places. -/
def taken (b : (⟨S2x9261x4, .f32⟩ : BufTy).Contents (Elt F)) (i : (⟨S2x200x1, .i32⟩ : BufTy).Contents (Elt F)) :
    (⟨S2x200x4, .f32⟩ : BufTy).Contents (Elt F) :=
  select (broadcastInDim S2x200x4 ![0, 1] bcast_S2x200_S2x200x4_0_1
      (Host.reduce IntOp.andi (andi (cmpi .sge (wrapped (F := F) i) (broadcastInDim S2x200x1 ![] bcast_S_S2x200x1 (constantI S_ 32 0#32)))
        (cmpi .sle (wrapped (F := F) i) (broadcastInDim S2x200x1 ![0, 1, 2] bcast_S1x1x1_S2x200x1_0_1_2
          (broadcastInDim S1x1x1 ![2] bcast_S1_S1x1x1_2 (constantI S1 32 9260#32))))) (constantI S_ 1 1#1) reducesTo_S2x200x1_S2x200_d2 h_S_))
    (Host.gather gather_S2x9261x4_S2x200x1_S2x200x4_2_1_0_0_1_2_114 b (wrapped (F := F) i))
    (broadcastInDim S2x200x4 ![] bcast_S_S2x200x4 (constant (F := F) S_ .f32 0x7FC00000#32))

/-- The result, from the class values, the box values and the anchors. -/
def resultOf (k : (⟨S2x9261x80, .f32⟩ : BufTy).Contents (Elt F)) (b : (⟨S2x9261x4, .f32⟩ : BufTy).Contents (Elt F))
    (a : (⟨S1x9261x4, .f32⟩ : BufTy).Contents (Elt F)) : (⟨S2x200x5, .f32⟩ : BufTy).Contents (Elt F) :=
  concatenate S2x200x5 2 [⟨S2x200x4, taken (edgesOf (midX b a) (midY b a) (boxW b a) (boxH b a)) (placesOf (scores k))⟩,
    ⟨S2x200x1, broadcastInDim S2x200x1 ![0, 1] bcast_S2x200_S2x200x1_0_1 (bestOf (scores k))⟩] concatenates_S2x200x4_S2x200x1_S2x200x5_d2

/-! ### The operations after the last tower, read stretch by stretch -/

section Stretches
variable (X : Valuation τ sig (Elt F))

theorem read6_50 : StableHlo.after hostOps6 X main_v50 = wide (StableHlo.after hostOps6 X main_v45) := by
  after_reads_simp; rfl
theorem read6_55 : StableHlo.after hostOps6 X main_v55 = high (StableHlo.after hostOps6 X main_v45) := by
  after_reads_simp; rfl
theorem read6_71 : StableHlo.after hostOps6 X main_v71
    = shapeCast S2x9261 (extractStridedSlice S2x9261x1 ![0, 0, 2] (StableHlo.after hostOps6 X main_v44) slices_S2x9261x4_S2x9261x1_0_0_2) shapeCasts_S2x9261x1_S2x9261 := by
  after_reads_simp; rfl
theorem read6_73 : StableHlo.after hostOps6 X main_v73
    = shapeCast S2x9261 (extractStridedSlice S2x9261x1 ![0, 0, 3] (StableHlo.after hostOps6 X main_v44) slices_S2x9261x4_S2x9261x1_0_0_3) shapeCasts_S2x9261x1_S2x9261 := by
  after_reads_simp; rfl
theorem read6_77 : StableHlo.after hostOps6 X main_v77 = midX (StableHlo.after hostOps6 X main_v44) (StableHlo.after hostOps6 X main_v45) := by
  after_reads_simp; rfl
theorem read6_81 : StableHlo.after hostOps6 X main_v81 = midY (StableHlo.after hostOps6 X main_v44) (StableHlo.after hostOps6 X main_v45) := by
  after_reads_simp; rfl
theorem read6_c7 : StableHlo.after hostOps6 X main_cst_7 = constant S_ .f32 0xC1200000#32 := by
  after_reads_simp
theorem read6_c8 : StableHlo.after hostOps6 X main_cst_8 = constant S_ .f32 0x40800000#32 := by
  after_reads_simp
theorem read6_1 : StableHlo.after hostOps6_1 X main_v82 = minimumf (F := F) (φ := .f32) (broadcastInDim S2x9261 ![] bcast_S_S2x9261 (id (X main_cst_8)))
    (maximumf (broadcastInDim S2x9261 ![] bcast_S_S2x9261 (id (X main_cst_7))) (X main_v71)) := by
  after_reads_simp; rfl
theorem read6_2 : StableHlo.after hostOps6_2 X main_v85
    = mulf (F := F) (φ := .f32) (Host.exp (X main_v82)) (broadcastInDim S2x9261 ![0, 1] bcast_S1x9261_S2x9261_0_1 (X main_v50)) := by
  after_reads_simp
theorem read6_c9 : StableHlo.after hostOps6_2 X main_cst_9 = constant S_ .f32 0xC1200000#32 := by
  after_reads_simp
theorem read6_c10 : StableHlo.after hostOps6_2 X main_cst_10 = constant S_ .f32 0x40800000#32 := by
  after_reads_simp
theorem read6_3 : StableHlo.after hostOps6_3 X main_v86 = minimumf (F := F) (φ := .f32) (broadcastInDim S2x9261 ![] bcast_S_S2x9261 (id (X main_cst_10)))
    (maximumf (broadcastInDim S2x9261 ![] bcast_S_S2x9261 (id (X main_cst_9))) (X main_v73)) := by
  after_reads_simp; rfl
theorem read6_106 : StableHlo.after hostOps6_4 X main_v106
    = edgesOf (X main_v77) (X main_v81) (X main_v85) (mulf (F := F) (φ := .f32) (Host.exp (X main_v86)) (broadcastInDim S2x9261 ![0, 1] bcast_S1x9261_S2x9261_0_1 (X main_v55))) := by
  after_reads_simp; rfl
theorem read6_114 : StableHlo.after hostOps6_4 X main_v114 = placesOf (scores (X main_v43)) := by
  after_reads_simp; rfl
theorem read6_values : StableHlo.after hostOps6_4 X main_values = bestOf (scores (X main_v43)) := by
  after_reads_simp; rfl
theorem read6_5 : StableHlo.after hostOps6_5 X main_v115 = taken (X main_v106) (X main_v114) := by
  after_reads_simp; rfl
theorem read6_6 : StableHlo.after hostOps6_6 X main_v117 = concatenate S2x200x5 2 [⟨S2x200x4, X main_v115⟩,
    ⟨S2x200x1, broadcastInDim S2x200x1 ![0, 1] bcast_S2x200_S2x200x1_0_1 (X main_values)⟩] concatenates_S2x200x4_S2x200x1_S2x200x5_d2 := by
  after_reads_simp; rfl

end Stretches

variable (m : (ℓ : Loc nD τ sig) → Buf (Elt F) ℓ) (o : Outs (F := F)) (c : Dev nD)

/-- The kernel program's result is the tail's function of the towers' values. -/
theorem V22_v117 : V22 m o c main_v117 = resultOf (V16 m o c main_v43) (V16 m o c main_v44) (V16 m o c main_v45) := by
  have k43 : V19 m o c main_v43 = V16 m o c main_v43 :=
    (V19_of m o c _ (by decide)).trans ((V18_of m o c _ (by decide)).trans (V17_of m o c _ (by decide)))
  have k77 : V19 m o c main_v77 = V16 m o c main_v77 :=
    (V19_of m o c _ (by decide)).trans ((V18_of m o c _ (by decide)).trans (V17_of m o c _ (by decide)))
  have k81 : V19 m o c main_v81 = V16 m o c main_v81 :=
    (V19_of m o c _ (by decide)).trans ((V18_of m o c _ (by decide)).trans (V17_of m o c _ (by decide)))
  have k55 : V19 m o c main_v55 = V16 m o c main_v55 :=
    (V19_of m o c _ (by decide)).trans ((V18_of m o c _ (by decide)).trans (V17_of m o c _ (by decide)))
  have k73 : V18 m o c main_v73 = V16 m o c main_v73 := (V18_of m o c _ (by decide)).trans (V17_of m o c _ (by decide))
  have k50 : V17 m o c main_v50 = V16 m o c main_v50 := V17_of m o c _ (by decide)
  have e82 : V17 m o c main_v82 = _ := read6_1 (V16 m o c)
  have e85 : V18 m o c main_v85 = _ := read6_2 (V17 m o c)
  have f85 : V19 m o c main_v85 = V18 m o c main_v85 := V19_of m o c _ (by decide)
  have e86 : V19 m o c main_v86 = _ := read6_3 (V18 m o c)
  have c9 : V18 m o c main_cst_9 = _ := read6_c9 (V17 m o c)
  have c10 : V18 m o c main_cst_10 = _ := read6_c10 (V17 m o c)
  have c7 : V16 m o c main_cst_7 = _ := read6_c7 (V15 m o c)
  have c8 : V16 m o c main_cst_8 = _ := read6_c8 (V15 m o c)
  have e50 : V16 m o c main_v50 = wide (V16 m o c main_v45) := read6_50 (V15 m o c)
  have e55 : V16 m o c main_v55 = high (V16 m o c main_v45) := read6_55 (V15 m o c)
  have e71 : V16 m o c main_v71 = shapeCast S2x9261 (extractStridedSlice S2x9261x1 ![0, 0, 2] (V16 m o c main_v44) slices_S2x9261x4_S2x9261x1_0_0_2) shapeCasts_S2x9261x1_S2x9261 := read6_71 (V15 m o c)
  have e73 : V16 m o c main_v73 = shapeCast S2x9261 (extractStridedSlice S2x9261x1 ![0, 0, 3] (V16 m o c main_v44) slices_S2x9261x4_S2x9261x1_0_0_3) shapeCasts_S2x9261x1_S2x9261 := read6_73 (V15 m o c)
  have e77 : V16 m o c main_v77 = midX (V16 m o c main_v44) (V16 m o c main_v45) := read6_77 (V15 m o c)
  have e81 : V16 m o c main_v81 = midY (V16 m o c main_v44) (V16 m o c main_v45) := read6_81 (V15 m o c)
  have e106 : V20 m o c main_v106 = _ := read6_106 (V19 m o c)
  have e114 : V20 m o c main_v114 = _ := read6_114 (V19 m o c)
  have ev : V20 m o c main_values = _ := read6_values (V19 m o c)
  have fv : V21 m o c main_values = V20 m o c main_values := V21_of m o c _ (by decide)
  have e115 : V21 m o c main_v115 = _ := read6_5 (V20 m o c)
  refine (read6_6 (V21 m o c)).trans ?_
  rw [fv, ev, e115, e114, e106, k43, k77, k81, k55, f85, e85, e86, c9, c10, k73, k50, e82, c7, c8, e50, e55, e71, e73, e77, e81]
  rfl

end Cert.KernelIdeal.Tower

end
-- ==== Proof.Value.Joined.lean ====
/-
  The kernel program's class values, box values and anchors, before the tail, are the reference's.
-/
module

public import proofs.«01_k».proof.Proof.Value.Crops
public import proofs.«01_k».proof.Proof.Value.Tail

@[expose] public section

set_option maxRecDepth 16384

noncomputable section

namespace Cert.KernelIdeal.Tower

open Cert.KernelIdeal Cert.KernelIdeal.Gen Cert.Rows Cert.ReferenceIdeal.Tower
open Idealize.ShloMosaic
open Idealize.ShloMosaic.TcCoe

section Reads

variable (X : Valuation τ sig (Elt Ideal))

/-- After a level's two calls: the rows cropped, the positions and anchors in one axis. -/
theorem read2_21 : StableHlo.after hostOps2 X main_v21 = shapeCast (α := EReal) S2x7056x80 (extractStridedSlice S2x28x28x720 ![0, 1, 1, 0]
      (shapeCast S2x30x30x720 (X main_v15) shapeCasts_S1800x720_S2x30x30x720) slices_S2x30x30x720_S2x28x28x720_0_1_1_0) shapeCasts_S2x28x28x720_S2x7056x80 := by
  after_reads_simp; rfl
theorem read2_22 : StableHlo.after hostOps2 X main_v22 = shapeCast (α := EReal) S2x7056x4 (extractStridedSlice S2x28x28x36 ![0, 1, 1, 0]
      (shapeCast S2x30x30x36 (X main_v16) shapeCasts_S1800x36_S2x30x30x36) slices_S2x30x30x36_S2x28x28x36_0_1_1_0) shapeCasts_S2x28x28x36_S2x7056x4 := by
  after_reads_simp; rfl
theorem read4_31 : StableHlo.after hostOps4 X main_v31 = shapeCast (α := EReal) S2x1764x80 (extractStridedSlice S2x14x14x720 ![0, 1, 1, 0]
      (shapeCast S2x16x16x720 (X main_v25) shapeCasts_S512x720_S2x16x16x720) slices_S2x16x16x720_S2x14x14x720_0_1_1_0) shapeCasts_S2x14x14x720_S2x1764x80 := by
  after_reads_simp; rfl
theorem read4_32 : StableHlo.after hostOps4 X main_v32 = shapeCast (α := EReal) S2x1764x4 (extractStridedSlice S2x14x14x36 ![0, 1, 1, 0]
      (shapeCast S2x16x16x36 (X main_v26) shapeCasts_S512x36_S2x16x16x36) slices_S2x16x16x36_S2x14x14x36_0_1_1_0) shapeCasts_S2x14x14x36_S2x1764x4 := by
  after_reads_simp; rfl
theorem read6_43 : StableHlo.after hostOps6 X main_v43 = concatenate (α := EReal) S2x9261x80 1 [⟨S2x7056x80, X main_v21⟩, ⟨S2x1764x80, X main_v31⟩,
    ⟨S2x441x80, shapeCast S2x441x80 (extractStridedSlice S2x7x7x720 ![0, 1, 1, 0]
      (shapeCast S2x9x9x720 (X main_v35) shapeCasts_S162x720_S2x9x9x720) slices_S2x9x9x720_S2x7x7x720_0_1_1_0) shapeCasts_S2x7x7x720_S2x441x80⟩]
    concatenates_S2x7056x80_S2x1764x80_S2x441x80_S2x9261x80_d1 := by
  after_reads_simp; rfl
theorem read6_44 : StableHlo.after hostOps6 X main_v44 = concatenate (α := EReal) S2x9261x4 1 [⟨S2x7056x4, X main_v22⟩, ⟨S2x1764x4, X main_v32⟩,
    ⟨S2x441x4, shapeCast S2x441x4 (extractStridedSlice S2x7x7x36 ![0, 1, 1, 0]
      (shapeCast S2x9x9x36 (X main_v36) shapeCasts_S162x36_S2x9x9x36) slices_S2x9x9x36_S2x7x7x36_0_1_1_0) shapeCasts_S2x7x7x36_S2x441x4⟩]
    concatenates_S2x7056x4_S2x1764x4_S2x441x4_S2x9261x4_d1 := by
  after_reads_simp; rfl
theorem read6_45 : StableHlo.after hostOps6 X main_v45 = broadcastInDim (α := EReal) S1x9261x4 ![1, 2] bcast_S9261x4_S1x9261x4_1_2 (X main_cst_2) := by
  after_reads_simp

end Reads

variable (m : (ℓ : Loc nD τ sig) → Buf (Elt Ideal) ℓ) (c : Dev nD) (o : Outs (F := Ideal))

theorem V5_v15 : V5 m o c main_v15 = o 4 main_v15 c :=
  (V5_of m o c _ (by decide)).trans (Function.update_self ..)
theorem V5_v16 : V5 m o c main_v16 = o 5 main_v16 c := Function.update_self ..
theorem V10_v25 : V10 m o c main_v25 = o 9 main_v25 c :=
  (V10_of m o c _ (by decide)).trans (Function.update_self ..)
theorem V10_v26 : V10 m o c main_v26 = o 10 main_v26 c := Function.update_self ..
theorem V15_v35 : V15 m o c main_v35 = o 14 main_v35 c :=
  (V15_of m o c _ (by decide)).trans (Function.update_self ..)
theorem V15_v36 : V15 m o c main_v36 = o 15 main_v36 c := Function.update_self ..

/-- What no operation between the fourth call and the tail writes is as the stretch after the fourth call left it. -/
theorem V15_mid (r : Ref sig .tc) (h : r ∉ hostOps4_1_W ++ (hostOps4_2_W ++ [main_v35, main_v36])) : V15 m o c r = V11 m o c r := by
  simp only [List.mem_append, List.mem_cons, List.not_mem_nil, or_false, not_or] at h
  obtain ⟨h1, h2, h3, h4⟩ := h
  exact (V15_of m o c r (by simpa using h4)).trans <| (V14_of m o c r (by simpa using h3)).trans <|
    (V13_of m o c r (by simpa using h2)).trans (V12_of m o c r (by simpa using h1))

/-- Likewise from the second call on. -/
theorem V11_mid (r : Ref sig .tc) (h : r ∉ hostOps2_1_W ++ (hostOps2_2_W ++ (hostOps4_W ++ [main_v25, main_v26]))) : V11 m o c r = V6 m o c r := by
  simp only [List.mem_append, List.mem_cons, List.not_mem_nil, or_false, not_or] at h
  obtain ⟨h1, h2, h3, h4, h5⟩ := h
  exact (V11_of m o c r (by simpa using h3)).trans <| (V10_of m o c r (by simpa using h5)).trans <| (V9_of m o c r (by simpa using h4)).trans <|
    (V8_of m o c r (by simpa using h2)).trans (V7_of m o c r (by simpa using h1))

theorem V15_v21 : V15 m o c main_v21 = shapeCast (α := EReal) S2x7056x80 (extractStridedSlice S2x28x28x720 ![0, 1, 1, 0]
      (shapeCast S2x30x30x720 (o 4 main_v15 c) shapeCasts_S1800x720_S2x30x30x720) slices_S2x30x30x720_S2x28x28x720_0_1_1_0) shapeCasts_S2x28x28x720_S2x7056x80 :=
  (V15_mid m c o _ (by decide)).trans <| (V11_mid m c o _ (by decide)).trans <| (read2_21 (V5 m o c)).trans (by rw [V5_v15])
theorem V15_v22 : V15 m o c main_v22 = shapeCast (α := EReal) S2x7056x4 (extractStridedSlice S2x28x28x36 ![0, 1, 1, 0]
      (shapeCast S2x30x30x36 (o 5 main_v16 c) shapeCasts_S1800x36_S2x30x30x36) slices_S2x30x30x36_S2x28x28x36_0_1_1_0) shapeCasts_S2x28x28x36_S2x7056x4 :=
  (V15_mid m c o _ (by decide)).trans <| (V11_mid m c o _ (by decide)).trans <| (read2_22 (V5 m o c)).trans (by rw [V5_v16])
theorem V15_v31 : V15 m o c main_v31 = shapeCast (α := EReal) S2x1764x80 (extractStridedSlice S2x14x14x720 ![0, 1, 1, 0]
      (shapeCast S2x16x16x720 (o 9 main_v25 c) shapeCasts_S512x720_S2x16x16x720) slices_S2x16x16x720_S2x14x14x720_0_1_1_0) shapeCasts_S2x14x14x720_S2x1764x80 :=
  (V15_mid m c o _ (by decide)).trans <| (read4_31 (V10 m o c)).trans (by rw [V10_v25])
theorem V15_v32 : V15 m o c main_v32 = shapeCast (α := EReal) S2x1764x4 (extractStridedSlice S2x14x14x36 ![0, 1, 1, 0]
      (shapeCast S2x16x16x36 (o 10 main_v26 c) shapeCasts_S512x36_S2x16x16x36) slices_S2x16x16x36_S2x14x14x36_0_1_1_0) shapeCasts_S2x14x14x36_S2x1764x4 :=
  (V15_mid m c o _ (by decide)).trans <| (read4_32 (V10 m o c)).trans (by rw [V10_v26])

/-- The class values are the reference's. -/
theorem classes_joined (h : Good m 6 c o) (V : Valuation Cert.ReferenceIdeal.τ Cert.ReferenceIdeal.sig (Elt Ideal))
    (a0 : V (Proc.devRef .tc Cert.ReferenceIdeal.main_arg0) = V0 m c main_arg0) (a1 : V (Proc.devRef .tc Cert.ReferenceIdeal.main_arg1) = V0 m c main_arg1)
    (a2 : V (Proc.devRef .tc Cert.ReferenceIdeal.main_arg2) = V0 m c main_arg2) (a3 : V (Proc.devRef .tc Cert.ReferenceIdeal.main_arg3) = V0 m c main_arg3)
    (a4 : V (Proc.devRef .tc Cert.ReferenceIdeal.main_arg4) = V0 m c main_arg4) (a5 : V (Proc.devRef .tc Cert.ReferenceIdeal.main_arg5) = V0 m c main_arg5)
    (a6 : V (Proc.devRef .tc Cert.ReferenceIdeal.main_arg6) = V0 m c main_arg6) :
    V16 m o c main_v43 = Cert.ReferenceIdeal.Value.res_main_v1626 V := by
  refine (read6_43 (V15 m o c)).trans ?_
  rw [V15_v21, V15_v31, V15_v35, crop0 m c o h, crop2 m c o h, crop4 m c o h, classes, cls28, cls14, cls7, a0, a1, a2, a3, a4, a5, a6]
  rfl

/-- The box values are the reference's. -/
theorem boxes_joined (h : Good m 6 c o) (V : Valuation Cert.ReferenceIdeal.τ Cert.ReferenceIdeal.sig (Elt Ideal))
    (a0 : V (Proc.devRef .tc Cert.ReferenceIdeal.main_arg0) = V0 m c main_arg0) (a1 : V (Proc.devRef .tc Cert.ReferenceIdeal.main_arg1) = V0 m c main_arg1)
    (a2 : V (Proc.devRef .tc Cert.ReferenceIdeal.main_arg2) = V0 m c main_arg2) (a7 : V (Proc.devRef .tc Cert.ReferenceIdeal.main_arg7) = V0 m c main_arg7)
    (a8 : V (Proc.devRef .tc Cert.ReferenceIdeal.main_arg8) = V0 m c main_arg8) (a9 : V (Proc.devRef .tc Cert.ReferenceIdeal.main_arg9) = V0 m c main_arg9)
    (a10 : V (Proc.devRef .tc Cert.ReferenceIdeal.main_arg10) = V0 m c main_arg10) :
    V16 m o c main_v44 = Cert.ReferenceIdeal.Value.res_main_v1627 V := by
  refine (read6_44 (V15 m o c)).trans ?_
  rw [V15_v22, V15_v32, V15_v36, crop1 m c o h, crop3 m c o h, crop5 m c o h, boxes, box28, box14, box7, a0, a1, a2, a7, a8, a9, a10]
  rfl

/-- The anchors are the reference's. -/
theorem anchors_joined (V : Valuation Cert.ReferenceIdeal.τ Cert.ReferenceIdeal.sig (Elt Ideal)) :
    V16 m o c main_v45 = Cert.ReferenceIdeal.Value.res_main_v1628 V := by
  have e : V15 m o c main_cst_2 = fun i => Ideal.ofBits .f32 (lit3 (S9261x4.rowMajor i)) :=
    (V15_mid m c o _ (by decide)).trans <| (V11_mid m c o _ (by decide)).trans <| (V6_of m o c _ (by decide)).trans <|
      (V5_of m o c _ (by decide)).trans <| (V4_of m o c _ (by decide)).trans <| (V3_of m c _ (by decide)).trans <|
        (V2_of m c _ (by decide)).trans (read0_c2 (V0 m c))
  refine (read6_45 (V15 m o c)).trans ?_
  rw [e]
  have t : (fun i => Ideal.ofBits .f32 (lit3 (S9261x4.rowMajor i))) = fun i => Ideal.ofBits .f32 (Cert.ReferenceIdeal.lit0 (S9261x4.rowMajor i)) :=
    funext fun i => congrArg (Ideal.ofBits .f32) (congrFun anchor_words _)
  rw [t]
  rfl

end Cert.KernelIdeal.Tower
-- ==== Proof.Value.RefResult.lean ====
/-
  The reference's result is the tail of its class values, box values and anchors.
-/
module

public import proofs.«01_k».proof.Proof.Value.Tail
public import proofs.«01_k».proof.Proof.Value.RefChain

@[expose] public section

set_option maxRecDepth 16384

noncomputable section

namespace Cert.ReferenceIdeal.Tower

open Idealize.ShloMosaic Idealize.ShloMosaic.StableHlo Idealize.SL.Sem Cert.ReferenceIdeal Cert.ReferenceIdeal.Gen Cert.ReferenceIdeal.Value Cert.Rows

variable (V : Valuation τ sig (Elt Ideal))

theorem anchors_eq : res_main_v1633 V = Cert.KernelIdeal.Tower.wide (F := Ideal) (res_main_v1628 V) := rfl
theorem heights_eq : res_main_v1638 V = Cert.KernelIdeal.Tower.high (F := Ideal) (res_main_v1628 V) := rfl
theorem midX_eq : res_main_v1660 V = Cert.KernelIdeal.Tower.midX (F := Ideal) (res_main_v1627 V) (res_main_v1628 V) := rfl
theorem midY_eq : res_main_v1664 V = Cert.KernelIdeal.Tower.midY (F := Ideal) (res_main_v1627 V) (res_main_v1628 V) := rfl
theorem boxW_eq : res_main_v1668 V = Cert.KernelIdeal.Tower.boxW (F := Ideal) (res_main_v1627 V) (res_main_v1628 V) := rfl
theorem boxH_eq : res_main_v1672 V = Cert.KernelIdeal.Tower.boxH (F := Ideal) (res_main_v1627 V) (res_main_v1628 V) := rfl
theorem scores_eq : res_main_v1696 V = Cert.KernelIdeal.Tower.scores (F := Ideal) (res_main_v1626 V) := rfl

theorem places_eq : res_main_v1697 V = Cert.KernelIdeal.Tower.placesOf (F := Ideal) (res_main_v1696 V) := rfl
theorem wrapped_eq : res_main_call56_v4 V = Cert.KernelIdeal.Tower.wrapped (F := Ideal) (res_main_v1697 V) := rfl

/-- The reference's result is the same function of its values, and its arguments are as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1700) = Cert.KernelIdeal.Tower.resultOf (F := Ideal) (res_main_v1626 (launchContents m c))
        (res_main_v1627 (launchContents m c)) (res_main_v1628 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ?_) (Cert.ReferenceIdeal.Value.run (F := Ideal) m ρ)
  have h1 := (h c).1
  rw [wrapped_eq, places_eq, scores_eq, midX_eq, midY_eq, boxW_eq, boxH_eq] at h1
  exact ⟨h1, (h c).2⟩

end Cert.ReferenceIdeal.Tower

end
-- ==== Proof.Value.Algebraic.lean ====
/-
  The kernel program and the reference give one result, over the extended reals.
-/
module

public import proofs.«01_k».proof.Proof.Ideal.Frame
public import proofs.«01_k».proof.Proof.Value.Joined
public import proofs.«01_k».proof.Proof.Value.RefResult

@[expose] public section

set_option maxRecDepth 16384

noncomputable section

namespace Cert.KernelIdeal.Tower

open Idealize.ShloMosaic Idealize.ShloMosaic.StableHlo Idealize.SL.Sem Cert.KernelIdeal Cert.KernelIdeal.Gen

/-- What both programs leave: the tail of the reference's class values, box values and anchors. -/
def answer (m' : (ℓ : Loc Cert.ReferenceIdeal.nD Cert.ReferenceIdeal.τ Cert.ReferenceIdeal.sig) → Buf (Elt Ideal) ℓ) (c : Dev nD) :
    FVec Ideal S2x200x5 .f32 :=
  resultOf (F := Ideal) (Cert.ReferenceIdeal.Value.res_main_v1626 (launchContents m' c))
    (Cert.ReferenceIdeal.Value.res_main_v1627 (launchContents m' c)) (Cert.ReferenceIdeal.Value.res_main_v1628 (launchContents m' c))

theorem algebraic : Cert.algebraic_KernelIdeal_ReferenceIdeal := by
  intro m g m' g' _ ha
  refine ⟨fun c => answer m' c, ?_, ?_⟩
  · refine (θ_run defs _ _).mono (fun r h c => ?_) (run_main (F := Ideal) m g)
    obtain ⟨o, hg, ho⟩ := h.1 c
    refine ⟨?_, args_kept m c o r.2 ho⟩
    refine (ho (Proc.devRef .tc main_v117) (Finset.mem_filter.mpr ⟨StableHlo.devRef_mem_tcRefs main_v117, by decide⟩)).trans ?_
    obtain ⟨a0, a1, a2, a3, a4, a5, a6, a7, a8, a9, a10⟩ := ha c
    refine (V22_v117 m o c).trans ?_
    rw [classes_joined m c o hg (launchContents m' c) a0 a1 a2 a3 a4 a5 a6,
      boxes_joined m c o hg (launchContents m' c) a0 a1 a2 a7 a8 a9 a10, anchors_joined m c o (launchContents m' c)]
    rfl
  · exact Cert.ReferenceIdeal.Tower.run_result m' g'

end Cert.KernelIdeal.Tower
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Bits.Frame
public import proofs.«01_k».proof.Proof.Ideal.Frame
public import proofs.«01_k».proof.Proof.Ref.Frame
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The certificate: the three frames, the ideal pass rewrote nothing, and the kernel program gives the reference's result. -/
theorem claim : Cert.Claim := ⟨Cert.Kernel.Gen.facts, Cert.KernelIdeal.Gen.facts, Cert.ReferenceIdeal.Gen.facts,
  Cert.Kernel.Tower.frame, Cert.KernelIdeal.Tower.frame, Cert.ReferenceIdeal.Tower.frame, trivial, Cert.KernelIdeal.Tower.algebraic⟩

end Cert.Proof

end
